-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_codes_in_range [hPre_codes_in_range : Cert.Pre_codes_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_codes_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_codes_in_range [hPre_codes_in_range : Cert.Pre_codes_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_codes_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_codes_in_range [hKernelIdeal : Cert.KernelIdeal.Facts] [hPre_codes_in_range : Cert.Pre_codes_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_codes_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_codes_in_range [hReferenceIdeal : Cert.ReferenceIdeal.Facts] [hPre_codes_in_range : Cert.Pre_codes_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_codes_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.bf16_pack.Statement Cert.KernelIdeal.S32x256

def algebraic_KernelIdeal_ReferenceIdeal_on_fde_only_pre_codes_in_range [hKernelIdeal : Cert.KernelIdeal.Facts] [hReferenceIdeal : Cert.ReferenceIdeal.Facts] [hPre_codes_in_range : Cert.Pre_codes_in_range.Facts] [hOn_fde_only : Cert.On_fde_only.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_codes_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)) (v2 : (c : Dev Cert.KernelIdeal.nD) → Buf (Elt Ideal) ((c.tc : Thread Cert.KernelIdeal.nD Cert.KernelIdeal.τ).loc Cert.KernelIdeal.main_v5_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![2000, 5120]⟩ : Shape).Idx, (Cert.On_fde_only.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 i = 1#1 → r.2.mem ((c.tc : Thread Cert.KernelIdeal.nD Cert.KernelIdeal.τ).loc Cert.KernelIdeal.main_v5_0) i = v0 c i)
          ∧ (∀ i : (⟨2, ![640, 2000]⟩ : Shape).Idx, (Cert.On_fde_only.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 i = 1#1 → r.2.mem ((c.tc : Thread Cert.KernelIdeal.nD Cert.KernelIdeal.τ).loc Cert.KernelIdeal.main_v5_1) i = v1 c i)
          ∧ (∀ i : (⟨2, ![640, 2000]⟩ : Shape).Idx, (Cert.On_fde_only.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 i = 1#1 → r.2.mem ((c.tc : Thread Cert.KernelIdeal.nD Cert.KernelIdeal.τ).loc Cert.KernelIdeal.main_v5_2) i = v2 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![2000, 5120]⟩ : Shape).Idx, (Cert.On_fde_only.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 i = 1#1 → r.2.mem ((c.tc : Thread Cert.ReferenceIdeal.nD Cert.ReferenceIdeal.τ).loc Cert.ReferenceIdeal.main_v73) i = v0 c i)
          ∧ (∀ i : (⟨2, ![640, 2000]⟩ : Shape).Idx, (Cert.On_fde_only.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 i = 1#1 → r.2.mem ((c.tc : Thread Cert.ReferenceIdeal.nD Cert.ReferenceIdeal.τ).loc Cert.ReferenceIdeal.main_v75) i = v1 c i)
          ∧ (∀ i : (⟨2, ![640, 2000]⟩ : Shape).Idx, (Cert.On_fde_only.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 i = 1#1 → r.2.mem ((c.tc : Thread Cert.ReferenceIdeal.nD Cert.ReferenceIdeal.τ).loc Cert.ReferenceIdeal.main_v77) i = v2 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_codes_in_range : Cert.Pre_codes_in_range.Facts) (hOn_fde_only : Cert.On_fde_only.Facts),
    quiescent_Kernel (hKernel := hKernel)
    ∧ quiescent_KernelIdeal (hKernelIdeal := hKernelIdeal)
    ∧ quiescent_KernelIdeal_pre_codes_in_range (hKernelIdeal := hKernelIdeal) (hPre_codes_in_range := hPre_codes_in_range)
    ∧ quiescent_ReferenceIdeal (hReferenceIdeal := hReferenceIdeal)
    ∧ quiescent_ReferenceIdeal_pre_codes_in_range (hReferenceIdeal := hReferenceIdeal) (hPre_codes_in_range := hPre_codes_in_range)
    ∧ preserves_Kernel_KernelIdeal
    ∧ algebraic_KernelIdeal_ReferenceIdeal_on_fde_only_pre_codes_in_range (hKernelIdeal := hKernelIdeal) (hReferenceIdeal := hReferenceIdeal) (hPre_codes_in_range := hPre_codes_in_range) (hOn_fde_only := hOn_fde_only)
-- ==== On_fde_only.lean ====
abbrev S2000x256x128 : Shape := ⟨3, ![2000, 256, 128]⟩
abbrev S2000x256x4 : Shape := ⟨3, ![2000, 256, 4]⟩
abbrev S2000 : Shape := ⟨1, ![2000]⟩
abbrev S2000x256x20 : Shape := ⟨3, ![2000, 256, 20]⟩
abbrev S20x128x8 : Shape := ⟨3, ![20, 128, 8]⟩
abbrev S_ : Shape := ⟨0, ![]⟩
abbrev S2000x5120 : Shape := ⟨2, ![2000, 5120]⟩
abbrev S640x2000 : Shape := ⟨2, ![640, 2000]⟩

class Facts : Prop where
  bcast_S_S2000x5120 : S_.BroadcastsInDim S2000x5120 (![] : Fin 0 → Fin S2000x5120.rank)
  bcast_S_S640x2000 : S_.BroadcastsInDim S640x2000 (![] : Fin 0 → Fin S640x2000.rank)

variable [Facts]

def fn {F : FTy → Type} [FloatOps F] (main_arg0 : FVec F S2000x256x128 .fp8e4m3) (main_arg1 : FVec F S2000x256x4 .f32) (main_arg2 : IVec S2000 32) (main_arg3 : IVec S2000x256x20 32) (main_arg4 : FVec F S20x128x8 .fp8e4m3) : IVec S2000x5120 1 × IVec S640x2000 1 × IVec S640x2000 1 :=
  let main_c : IVec S_ 1 := constantI S_ 1 1#1
  let main_v0 : IVec S2000x5120 1 := broadcastInDim S2000x5120 ![] bcast_S_S2000x5120 main_c
  let main_c_0 : IVec S_ 1 := constantI S_ 1 0#1
  let main_v1 : IVec S640x2000 1 := broadcastInDim S640x2000 ![] bcast_S_S640x2000 main_c_0
  let main_c_1 : IVec S_ 1 := constantI S_ 1 0#1
  let main_v2 : IVec S640x2000 1 := broadcastInDim S640x2000 ![] bcast_S_S640x2000 main_c_1
  (main_v0, main_v1, main_v2)
-- ==== Pre_codes_in_range.lean ====
abbrev S2000x256x128 : Shape := ⟨3, ![2000, 256, 128]⟩
abbrev S2000x256x4 : Shape := ⟨3, ![2000, 256, 4]⟩
abbrev S2000 : Shape := ⟨1, ![2000]⟩
abbrev S2000x256x20 : Shape := ⟨3, ![2000, 256, 20]⟩
abbrev S20x128x8 : Shape := ⟨3, ![20, 128, 8]⟩
abbrev S_ : Shape := ⟨0, ![]⟩

class Facts : Prop where
  bcast_S_S2000x256x20 : S_.BroadcastsInDim S2000x256x20 (![] : Fin 0 → Fin S2000x256x20.rank)
  reducesTo_S2000x256x20_S_d0_1_2 : S2000x256x20.ReducesTo [0, 1, 2] S_
  h_S_ : 0 < S_.numel

variable [Facts]

def fn {F : FTy → Type} [FloatOps F] (main_arg0 : FVec F S2000x256x128 .fp8e4m3) (main_arg1 : FVec F S2000x256x4 .f32) (main_arg2 : IVec S2000 32) (main_arg3 : IVec S2000x256x20 32) (main_arg4 : FVec F S20x128x8 .fp8e4m3) : IVec S_ 1 :=
  let main_c : IVec S_ 32 := constantI S_ 32 0#32
  let main_v0 : IVec S2000x256x20 32 := broadcastInDim S2000x256x20 ![] bcast_S_S2000x256x20 main_c
  let main_v1 : IVec S2000x256x20 1 := cmpi .sge main_arg3 main_v0
  let main_c_0 : IVec S_ 32 := constantI S_ 32 32#32
  let main_v2 : IVec S2000x256x20 32 := broadcastInDim S2000x256x20 ![] bcast_S_S2000x256x20 main_c_0
  let main_v3 : IVec S2000x256x20 1 := cmpi .slt main_arg3 main_v2
  let main_v4 : IVec S2000x256x20 1 := andi main_v1 main_v3
  let main_c_1 : IVec S_ 1 := constantI S_ 1 1#1
  let main_v5 : IVec S_ 1 := (fun x v => Host.reduce IntOp.andi x v reducesTo_S2000x256x20_S_d0_1_2 h_S_) main_v4 main_c_1
  main_v5
-- ==== Kernel.lean ====
abbrev S2000x256x128 : Shape := ⟨3, ![2000, 256, 128]⟩
abbrev S2000x256x4 : Shape := ⟨3, ![2000, 256, 4]⟩
abbrev S2000 : Shape := ⟨1, ![2000]⟩
abbrev S2000x256x20 : Shape := ⟨3, ![2000, 256, 20]⟩
abbrev S20x128x8 : Shape := ⟨3, ![20, 128, 8]⟩
abbrev S16x256 : Shape := ⟨2, ![16, 256]⟩
abbrev S2000x4x256 : Shape := ⟨3, ![2000, 4, 256]⟩
abbrev S20x2000x256 : Shape := ⟨3, ![20, 2000, 256]⟩
abbrev S20x8x128 : Shape := ⟨3, ![20, 8, 128]⟩
abbrev S160x128 : Shape := ⟨2, ![160, 128]⟩
abbrev S2000x1 : Shape := ⟨2, ![2000, 1]⟩
abbrev S2000x5120 : Shape := ⟨2, ![2000, 5120]⟩
abbrev S640x2000 : Shape := ⟨2, ![640, 2000]⟩
abbrev S16x256x128 : Shape := ⟨3, ![16, 256, 128]⟩
abbrev S16x4x256 : Shape := ⟨3, ![16, 4, 256]⟩
abbrev S16x1 : Shape := ⟨2, ![16, 1]⟩
abbrev S20x16x256 : Shape := ⟨3, ![20, 16, 256]⟩
abbrev S16x5120 : Shape := ⟨2, ![16, 5120]⟩
abbrev S640x128 : Shape := ⟨2, ![640, 128]⟩
abbrev S16x160x256 : Shape := ⟨3, ![16, 160, 256]⟩
abbrev S5x128x128 : Shape := ⟨3, ![5, 128, 128]⟩
abbrev S5x5x16x128 : Shape := ⟨4, ![5, 5, 16, 128]⟩
abbrev S5x16x128 : Shape := ⟨3, ![5, 16, 128]⟩
abbrev S8x128 : Shape := ⟨2, ![8, 128]⟩
abbrev S1x16x256 : Shape := ⟨3, ![1, 16, 256]⟩
abbrev S1x256x128 : Shape := ⟨3, ![1, 256, 128]⟩
abbrev S256x128 : Shape := ⟨2, ![256, 128]⟩
abbrev S128x256 : Shape := ⟨2, ![128, 256]⟩
abbrev S1x4x256 : Shape := ⟨3, ![1, 4, 256]⟩
abbrev S4x256 : Shape := ⟨2, ![4, 256]⟩
abbrev S1x256 : Shape := ⟨2, ![1, 256]⟩
abbrev S32x256 : Shape := ⟨2, ![32, 256]⟩
abbrev S160x256 : Shape := ⟨2, ![160, 256]⟩
abbrev S1x160x256 : Shape := ⟨3, ![1, 160, 256]⟩
abbrev S1x1x256 : Shape := ⟨3, ![1, 1, 256]⟩
abbrev S1x128 : Shape := ⟨2, ![1, 128]⟩
abbrev S32x128 : Shape := ⟨2, ![32, 128]⟩
abbrev S16x128 : Shape := ⟨2, ![16, 128]⟩
abbrev S1x8x128 : Shape := ⟨3, ![1, 8, 128]⟩
abbrev S1x1x1x128 : Shape := ⟨4, ![1, 1, 1, 128]⟩
abbrev S1x1x8x128 : Shape := ⟨4, ![1, 1, 8, 128]⟩
abbrev S256x8x128 : Shape := ⟨3, ![256, 8, 128]⟩
abbrev S1x1x128 : Shape := ⟨3, ![1, 1, 128]⟩
abbrev S8x128x1 : Shape := ⟨3, ![8, 128, 1]⟩
abbrev S1x128x128 : Shape := ⟨3, ![1, 128, 128]⟩
abbrev S128x128 : Shape := ⟨2, ![128, 128]⟩

abbrev nBuf : Space → Nat
  | .hbm => 13
  | .vmem => 24
  | .smem => 1
  | _ => 0

abbrev bufTy : (tb : Table) → Fin (tcTables nBuf tb) → BufTy
  | .hbm, ⟨0, _⟩ => ⟨S2000x256x128, .fp8e4m3⟩
  | .hbm, ⟨1, _⟩ => ⟨S2000x256x4, .f32⟩
  | .hbm, ⟨2, _⟩ => ⟨S2000x256x20, .i32⟩
  | .hbm, ⟨3, _⟩ => ⟨S20x128x8, .fp8e4m3⟩
  | .hbm, ⟨4, _⟩ => ⟨S16x256, .bf16⟩
  | .hbm, ⟨5, _⟩ => ⟨S2000x4x256, .f32⟩
  | .hbm, ⟨6, _⟩ => ⟨S20x2000x256, .i32⟩
  | .hbm, ⟨7, _⟩ => ⟨S20x8x128, .fp8e4m3⟩
  | .hbm, ⟨8, _⟩ => ⟨S160x128, .fp8e4m3⟩
  | .hbm, ⟨9, _⟩ => ⟨S2000x1, .i32⟩
  | .hbm, ⟨10, _⟩ => ⟨S2000x5120, .bf16⟩
  | .hbm, ⟨11, _⟩ => ⟨S640x2000, .i32⟩
  | .hbm, ⟨12, _⟩ => ⟨S640x2000, .i32⟩
  | .local _ .vmem, ⟨0, _⟩ => ⟨S16x256x128, .fp8e4m3⟩
  | .local _ .vmem, ⟨1, _⟩ => ⟨S16x256x128, .fp8e4m3⟩
  | .local _ .vmem, ⟨2, _⟩ => ⟨S16x4x256, .f32⟩
  | .local _ .vmem, ⟨3, _⟩ => ⟨S16x4x256, .f32⟩
  | .local _ .vmem, ⟨4, _⟩ => ⟨S16x1, .i32⟩
  | .local _ .vmem, ⟨5, _⟩ => ⟨S16x1, .i32⟩
  | .local _ .vmem, ⟨6, _⟩ => ⟨S20x16x256, .i32⟩
  | .local _ .vmem, ⟨7, _⟩ => ⟨S20x16x256, .i32⟩
  | .local _ .vmem, ⟨8, _⟩ => ⟨S160x128, .fp8e4m3⟩
  | .local _ .vmem, ⟨9, _⟩ => ⟨S16x256, .bf16⟩
  | .local _ .vmem, ⟨10, _⟩ => ⟨S16x5120, .bf16⟩
  | .local _ .vmem, ⟨11, _⟩ => ⟨S16x5120, .bf16⟩
  | .local _ .vmem, ⟨12, _⟩ => ⟨S640x128, .i32⟩
  | .local _ .vmem, ⟨13, _⟩ => ⟨S640x128, .i32⟩
  | .local _ .vmem, ⟨14, _⟩ => ⟨S640x128, .i32⟩
  | .local _ .vmem, ⟨15, _⟩ => ⟨S640x128, .i32⟩
  | .local _ .vmem, ⟨16, _⟩ => ⟨S20x16x256, .i32⟩
  | .local _ .vmem, ⟨17, _⟩ => ⟨S16x160x256, .f32⟩
  | .local _ .vmem, ⟨18, _⟩ => ⟨S5x128x128, .f32⟩
  | .local _ .vmem, ⟨19, _⟩ => ⟨S5x5x16x128, .f32⟩
  | .local _ .vmem, ⟨20, _⟩ => ⟨S5x16x128, .i32⟩
  | .local _ .vmem, ⟨21, _⟩ => ⟨S5x16x128, .f32⟩
  | .local _ .vmem, ⟨22, _⟩ => ⟨S5x128x128, .i32⟩
  | .local _ .vmem, ⟨23, _⟩ => ⟨S5x128x128, .i32⟩
  | .local _ .smem, ⟨0, _⟩ => ⟨S2000, .i32⟩
  | _, _ => ⟨S2000x256x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_arg4 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_scratch5 : Ref sig .tc := ⟨.vmem, 21, rfl⟩
abbrev cc0_scratch6 : Ref sig .tc := ⟨.vmem, 22, rfl⟩
abbrev cc0_scratch7 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [BitOps F]

abbrev grid0 : Pipeline.Grid := ⟨1, ![125], ![false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

@[reducible] def k0_t1_loop : Scf.Loop 32 :=
  let c0_i32_202 : BitVec 32 := 0#32
  let c16_i32 : BitVec 32 := 16#32
  let v331 : BitVec 32 := Scalar.addi c0_i32_202 c16_i32
  let c1_i32_203 : BitVec 32 := 1#32
  ⟨c0_i32_202, v331, c1_i32_203⟩
def k0_off1 (k0_t1 : Fin k0_t1_loop.trips) : Fin 3 → Nat :=
  let c0_i32_202 : BitVec 32 := 0#32
  let c1_i32_203 : BitVec 32 := 1#32
  let arg19 : BitVec 32 := Scf.iv c0_i32_202 c1_i32_203 k0_t1
  let v3848 : Index := Scalar.indexCast arg19
  let c0_2077 : Index := 0#32
  let c0_2078 : Index := 0#32
  ![v3848.toNat, 0, 0]
def k0_off2 (k0_t1 : Fin k0_t1_loop.trips) : Fin 3 → Nat :=
  let c0_i32_202 : BitVec 32 := 0#32
  let c1_i32_203 : BitVec 32 := 1#32
  let arg19 : BitVec 32 := Scf.iv c0_i32_202 c1_i32_203 k0_t1
  let v3853 : Index := Scalar.indexCast arg19
  let c0_2079 : Index := 0#32
  let c0_2080 : Index := 0#32
  ![v3853.toNat, 0, 0]
def k0_off3 (k0_t1 : Fin k0_t1_loop.trips) : Fin 3 → Nat :=
  let c0_i32_202 : BitVec 32 := 0#32
  let c1_i32_203 : BitVec 32 := 1#32
  let arg19 : BitVec 32 := Scf.iv c0_i32_202 c1_i32_203 k0_t1
  let v3872 : Index := Scalar.indexCast arg19
  let c0_2082 : Index := 0#32
  let c0_2083 : Index := 0#32
  ![v3872.toNat, 0, 0]
def k0_off4 (k0_t1 : Fin k0_t1_loop.trips) : Fin 3 → Nat :=
  let c0_2085 : Index := 0#32
  let c0_i32_202 : BitVec 32 := 0#32
  let c1_i32_203 : BitVec 32 := 1#32
  let arg19 : BitVec 32 := Scf.iv c0_i32_202 c1_i32_203 k0_t1
  let v3887 : Index := Scalar.indexCast arg19
  let c0_2086 : Index := 0#32
  ![0, v3887.toNat, 0]
def k0_off5 (k0_t1 : Fin k0_t1_loop.trips) : Fin 3 → Nat :=
  let c1_2088 : Index := 1#32
  let c0_i32_202 : BitVec 32 := 0#32
  let c1_i32_203 : BitVec 32 := 1#32
  let arg19 : BitVec 32 := Scf.iv c0_i32_202 c1_i32_203 k0_t1
  let v3905 : Index := Scalar.indexCast arg19
  let c0_2089 : Index := 0#32
  ![1, v3905.toNat, 0]
def k0_off6 (k0_t1 : Fin k0_t1_loop.trips) : Fin 3 → Nat :=
  let c2_2092 : Index := 2#32
  let c0_i32_202 : BitVec 32 := 0#32
  let c1_i32_203 : BitVec 32 := 1#32
  let arg19 : BitVec 32 := Scf.iv c0_i32_202 c1_i32_203 k0_t1
  let v3923 : Index := Scalar.indexCast arg19
  let c0_2093 : Index := 0#32
  ![2, v3923.toNat, 0]
def k0_off7 (k0_t1 : Fin k0_t1_loop.trips) : Fin 3 → Nat :=
  let c3_2096 : Index := 3#32
  let c0_i32_202 : BitVec 32 := 0#32
  let c1_i32_203 : BitVec 32 := 1#32
  let arg19 : BitVec 32 := Scf.iv c0_i32_202 c1_i32_203 k0_t1
  let v3941 : Index := Scalar.indexCast arg19
  let c0_2097 : Index := 0#32
  ![3, v3941.toNat, 0]
def k0_mult1 (k0_t1 : Fin k0_t1_loop.trips) : BitVec 32 :=
  let c0_i32_202 : BitVec 32 := 0#32
  let c1_i32_203 : BitVec 32 := 1#32
  let arg19 : BitVec 32 := Scf.iv c0_i32_202 c1_i32_203 k0_t1
  let c8_i32_2128 : BitVec 32 := 8#32
  let v4054 : BitVec 32 := Scalar.muli arg19 c8_i32_2128
  v4054
def k0_off8 (k0_t1 : Fin k0_t1_loop.trips) : Fin 3 → Nat :=
  let c0_2129 : Index := 0#32
  let c0_i32_202 : BitVec 32 := 0#32
  let c1_i32_203 : BitVec 32 := 1#32
  let arg19 : BitVec 32 := Scf.iv c0_i32_202 c1_i32_203 k0_t1
  let c8_i32_2128 : BitVec 32 := 8#32
  let v4054 : BitVec 32 := Scalar.muli arg19 c8_i32_2128
  let v4055 : BitVec 32 := v4054
  let v4056 : Index := Scalar.indexCast v4055
  let c0_2130 : Index := 0#32
  ![0, v4056.toNat, 0]
def k0_off9 (k0_t1 : Fin k0_t1_loop.trips) : Fin 4 → Nat :=
  let c0_2131 : Index := 0#32
  let c0_2132 : Index := 0#32
  let c0_i32_202 : BitVec 32 := 0#32
  let c1_i32_203 : BitVec 32 := 1#32
  let arg19 : BitVec 32 := Scf.iv c0_i32_202 c1_i32_203 k0_t1
  let v4061 : Index := Scalar.indexCast arg19
  let c0_2133 : Index := 0#32
  ![0, 0, v4061.toNat, 0]
def k0_off10 (k0_t1 : Fin k0_t1_loop.trips) : Fin 4 → Nat :=
  let c1_2134 : Index := 1#32
  let c0_2135 : Index := 0#32
  let c0_i32_202 : BitVec 32 := 0#32
  let c1_i32_203 : BitVec 32 := 1#32
  let arg19 : BitVec 32 := Scf.iv c0_i32_202 c1_i32_203 k0_t1
  let v4066 : Index := Scalar.indexCast arg19
  let c0_2136 : Index := 0#32
  ![1, 0, v4066.toNat, 0]
def k0_off11 (k0_t1 : Fin k0_t1_loop.trips) : Fin 4 → Nat :=
  let c2_2137 : Index := 2#32
  let c0_2138 : Index := 0#32
  let c0_i32_202 : BitVec 32 := 0#32
  let c1_i32_203 : BitVec 32 := 1#32
  let arg19 : BitVec 32 := Scf.iv c0_i32_202 c1_i32_203 k0_t1
  let v4071 : Index := Scalar.indexCast arg19
  let c0_2139 : Index := 0#32
  ![2, 0, v4071.toNat, 0]
def k0_off12 (k0_t1 : Fin k0_t1_loop.trips) : Fin 4 → Nat :=
  let c3_2140 : Index := 3#32
  let c0_2141 : Index := 0#32
  let c0_i32_202 : BitVec 32 := 0#32
  let c1_i32_203 : BitVec 32 := 1#32
  let arg19 : BitVec 32 := Scf.iv c0_i32_202 c1_i32_203 k0_t1
  let v4076 : Index := Scalar.indexCast arg19
  let c0_2142 : Index := 0#32
  ![3, 0, v4076.toNat, 0]
def k0_off13 (k0_t1 : Fin k0_t1_loop.trips) : Fin 4 → Nat :=
  let c4_2143 : Index := 4#32
  let c0_2144 : Index := 0#32
  let c0_i32_202 : BitVec 32 := 0#32
  let c1_i32_203 : BitVec 32 := 1#32
  let arg19 : BitVec 32 := Scf.iv c0_i32_202 c1_i32_203 k0_t1
  let v4081 : Index := Scalar.indexCast arg19
  let c0_2145 : Index := 0#32
  ![4, 0, v4081.toNat, 0]
def k0_off14 (k0_t1 : Fin k0_t1_loop.trips) : Fin 3 → Nat :=
  let c4_2148 : Index := 4#32
  let c0_i32_202 : BitVec 32 := 0#32
  let c1_i32_203 : BitVec 32 := 1#32
  let arg19 : BitVec 32 := Scf.iv c0_i32_202 c1_i32_203 k0_t1
  let v4096 : Index := Scalar.indexCast arg19
  let c0_2149 : Index := 0#32
  ![4, v4096.toNat, 0]
def k0_off15 (k0_t1 : Fin k0_t1_loop.trips) : Fin 3 → Nat :=
  let c5_2152 : Index := 5#32
  let c0_i32_202 : BitVec 32 := 0#32
  let c1_i32_203 : BitVec 32 := 1#32
  let arg19 : BitVec 32 := Scf.iv c0_i32_202 c1_i32_203 k0_t1
  let v4114 : Index := Scalar.indexCast arg19
  let c0_2153 : Index := 0#32
  ![5, v4114.toNat, 0]
def k0_off16 (k0_t1 : Fin k0_t1_loop.trips) : Fin 3 → Nat :=
  let c6_2156 : Index := 6#32
  let c0_i32_202 : BitVec 32 := 0#32
  let c1_i32_203 : BitVec 32 := 1#32
  let arg19 : BitVec 32 := Scf.iv c0_i32_202 c1_i32_203 k0_t1
  let v4132 : Index := Scalar.indexCast arg19
  let c0_2157 : Index := 0#32
  ![6, v4132.toNat, 0]
def k0_off17 (k0_t1 : Fin k0_t1_loop.trips) : Fin 3 → Nat :=
  let c7_2160 : Index := 7#32
  let c0_i32_202 : BitVec 32 := 0#32
  let c1_i32_203 : BitVec 32 := 1#32
  let arg19 : BitVec 32 := Scf.iv c0_i32_202 c1_i32_203 k0_t1
  let v4150 : Index := Scalar.indexCast arg19
  let c0_2161 : Index := 0#32
  ![7, v4150.toNat, 0]
def k0_mult2 (k0_t1 : Fin k0_t1_loop.trips) : BitVec 32 :=
  let c0_i32_202 : BitVec 32 := 0#32
  let c1_i32_203 : BitVec 32 := 1#32
  let arg19 : BitVec 32 := Scf.iv c0_i32_202 c1_i32_203 k0_t1
  let c8_i32_2192 : BitVec 32 := 8#32
  let v4263 : BitVec 32 := Scalar.muli arg19 c8_i32_2192
  v4263
def k0_off18 (k0_t1 : Fin k0_t1_loop.trips) : Fin 3 → Nat :=
  let c1_2193 : Index := 1#32
  let c0_i32_202 : BitVec 32 := 0#32
  let c1_i32_203 : BitVec 32 := 1#32
  let arg19 : BitVec 32 := Scf.iv c0_i32_202 c1_i32_203 k0_t1
  let c8_i32_2192 : BitVec 32 := 8#32
  let v4263 : BitVec 32 := Scalar.muli arg19 c8_i32_2192
  let v4264 : BitVec 32 := v4263
  let v4265 : Index := Scalar.indexCast v4264
  let c0_2194 : Index := 0#32
  ![1, v4265.toNat, 0]
def k0_off19 (k0_t1 : Fin k0_t1_loop.trips) : Fin 4 → Nat :=
  let c0_2195 : Index := 0#32
  let c1_2196 : Index := 1#32
  let c0_i32_202 : BitVec 32 := 0#32
  let c1_i32_203 : BitVec 32 := 1#32
  let arg19 : BitVec 32 := Scf.iv c0_i32_202 c1_i32_203 k0_t1
  let v4270 : Index := Scalar.indexCast arg19
  let c0_2197 : Index := 0#32
  ![0, 1, v4270.toNat, 0]
def k0_off20 (k0_t1 : Fin k0_t1_loop.trips) : Fin 4 → Nat :=
  let c1_2198 : Index := 1#32
  let c1_2199 : Index := 1#32
  let c0_i32_202 : BitVec 32 := 0#32
  let c1_i32_203 : BitVec 32 := 1#32
  let arg19 : BitVec 32 := Scf.iv c0_i32_202 c1_i32_203 k0_t1
  let v4275 : Index := Scalar.indexCast arg19
  let c0_2200 : Index := 0#32
  ![1, 1, v4275.toNat, 0]
def k0_off21 (k0_t1 : Fin k0_t1_loop.trips) : Fin 4 → Nat :=
  let c2_2201 : Index := 2#32
  let c1_2202 : Index := 1#32
  let c0_i32_202 : BitVec 32 := 0#32
  let c1_i32_203 : BitVec 32 := 1#32
  let arg19 : BitVec 32 := Scf.iv c0_i32_202 c1_i32_203 k0_t1
  let v4280 : Index := Scalar.indexCast arg19
  let c0_2203 : Index := 0#32
  ![2, 1, v4280.toNat, 0]
def k0_off22 (k0_t1 : Fin k0_t1_loop.trips) : Fin 4 → Nat :=
  let c3_2204 : Index := 3#32
  let c1_2205 : Index := 1#32
  let c0_i32_202 : BitVec 32 := 0#32
  let c1_i32_203 : BitVec 32 := 1#32
  let arg19 : BitVec 32 := Scf.iv c0_i32_202 c1_i32_203 k0_t1
  let v4285 : Index := Scalar.indexCast arg19
  let c0_2206 : Index := 0#32
  ![3, 1, v4285.toNat, 0]
def k0_off23 (k0_t1 : Fin k0_t1_loop.trips) : Fin 4 → Nat :=
  let c4_2207 : Index := 4#32
  let c1_2208 : Index := 1#32
  let c0_i32_202 : BitVec 32 := 0#32
  let c1_i32_203 : BitVec 32 := 1#32
  let arg19 : BitVec 32 := Scf.iv c0_i32_202 c1_i32_203 k0_t1
  let v4290 : Index := Scalar.indexCast arg19
  let c0_2209 : Index := 0#32
  ![4, 1, v4290.toNat, 0]
def k0_off24 (k0_t1 : Fin k0_t1_loop.trips) : Fin 3 → Nat :=
  let c8_2212 : Index := 8#32
  let c0_i32_202 : BitVec 32 := 0#32
  let c1_i32_203 : BitVec 32 := 1#32
  let arg19 : BitVec 32 := Scf.iv c0_i32_202 c1_i32_203 k0_t1
  let v4305 : Index := Scalar.indexCast arg19
  let c0_2213 : Index := 0#32
  ![8, v4305.toNat, 0]
def k0_off25 (k0_t1 : Fin k0_t1_loop.trips) : Fin 3 → Nat :=
  let c9_2216 : Index := 9#32
  let c0_i32_202 : BitVec 32 := 0#32
  let c1_i32_203 : BitVec 32 := 1#32
  let arg19 : BitVec 32 := Scf.iv c0_i32_202 c1_i32_203 k0_t1
  let v4323 : Index := Scalar.indexCast arg19
  let c0_2217 : Index := 0#32
  ![9, v4323.toNat, 0]
def k0_off26 (k0_t1 : Fin k0_t1_loop.trips) : Fin 3 → Nat :=
  let c10_2220 : Index := 10#32
  let c0_i32_202 : BitVec 32 := 0#32
  let c1_i32_203 : BitVec 32 := 1#32
  let arg19 : BitVec 32 := Scf.iv c0_i32_202 c1_i32_203 k0_t1
  let v4341 : Index := Scalar.indexCast arg19
  let c0_2221 : Index := 0#32
  ![10, v4341.toNat, 0]
def k0_off27 (k0_t1 : Fin k0_t1_loop.trips) : Fin 3 → Nat :=
  let c11_2224 : Index := 11#32
  let c0_i32_202 : BitVec 32 := 0#32
  let c1_i32_203 : BitVec 32 := 1#32
  let arg19 : BitVec 32 := Scf.iv c0_i32_202 c1_i32_203 k0_t1
  let v4359 : Index := Scalar.indexCast arg19
  let c0_2225 : Index := 0#32
  ![11, v4359.toNat, 0]
def k0_mult3 (k0_t1 : Fin k0_t1_loop.trips) : BitVec 32 :=
  let c0_i32_202 : BitVec 32 := 0#32
  let c1_i32_203 : BitVec 32 := 1#32
  let arg19 : BitVec 32 := Scf.iv c0_i32_202 c1_i32_203 k0_t1
  let c8_i32_2256 : BitVec 32 := 8#32
  let v4472 : BitVec 32 := Scalar.muli arg19 c8_i32_2256
  v4472
def k0_off28 (k0_t1 : Fin k0_t1_loop.trips) : Fin 3 → Nat :=
  let c2_2257 : Index := 2#32
  let c0_i32_202 : BitVec 32 := 0#32
  let c1_i32_203 : BitVec 32 := 1#32
  let arg19 : BitVec 32 := Scf.iv c0_i32_202 c1_i32_203 k0_t1
  let c8_i32_2256 : BitVec 32 := 8#32
  let v4472 : BitVec 32 := Scalar.muli arg19 c8_i32_2256
  let v4473 : BitVec 32 := v4472
  let v4474 : Index := Scalar.indexCast v4473
  let c0_2258 : Index := 0#32
  ![2, v4474.toNat, 0]
def k0_off29 (k0_t1 : Fin k0_t1_loop.trips) : Fin 4 → Nat :=
  let c0_2259 : Index := 0#32
  let c2_2260 : Index := 2#32
  let c0_i32_202 : BitVec 32 := 0#32
  let c1_i32_203 : BitVec 32 := 1#32
  let arg19 : BitVec 32 := Scf.iv c0_i32_202 c1_i32_203 k0_t1
  let v4479 : Index := Scalar.indexCast arg19
  let c0_2261 : Index := 0#32
  ![0, 2, v4479.toNat, 0]
def k0_off30 (k0_t1 : Fin k0_t1_loop.trips) : Fin 4 → Nat :=
  let c1_2262 : Index := 1#32
  let c2_2263 : Index := 2#32
  let c0_i32_202 : BitVec 32 := 0#32
  let c1_i32_203 : BitVec 32 := 1#32
  let arg19 : BitVec 32 := Scf.iv c0_i32_202 c1_i32_203 k0_t1
  let v4484 : Index := Scalar.indexCast arg19
  let c0_2264 : Index := 0#32
  ![1, 2, v4484.toNat, 0]
def k0_off31 (k0_t1 : Fin k0_t1_loop.trips) : Fin 4 → Nat :=
  let c2_2265 : Index := 2#32
  let c2_2266 : Index := 2#32
  let c0_i32_202 : BitVec 32 := 0#32
  let c1_i32_203 : BitVec 32 := 1#32
  let arg19 : BitVec 32 := Scf.iv c0_i32_202 c1_i32_203 k0_t1
  let v4489 : Index := Scalar.indexCast arg19
  let c0_2267 : Index := 0#32
  ![2, 2, v4489.toNat, 0]
def k0_off32 (k0_t1 : Fin k0_t1_loop.trips) : Fin 4 → Nat :=
  let c3_2268 : Index := 3#32
  let c2_2269 : Index := 2#32
  let c0_i32_202 : BitVec 32 := 0#32
  let c1_i32_203 : BitVec 32 := 1#32
  let arg19 : BitVec 32 := Scf.iv c0_i32_202 c1_i32_203 k0_t1
  let v4494 : Index := Scalar.indexCast arg19
  let c0_2270 : Index := 0#32
  ![3, 2, v4494.toNat, 0]
def k0_off33 (k0_t1 : Fin k0_t1_loop.trips) : Fin 4 → Nat :=
  let c4_2271 : Index := 4#32
  let c2_2272 : Index := 2#32
  let c0_i32_202 : BitVec 32 := 0#32
  let c1_i32_203 : BitVec 32 := 1#32
  let arg19 : BitVec 32 := Scf.iv c0_i32_202 c1_i32_203 k0_t1
  let v4499 : Index := Scalar.indexCast arg19
  let c0_2273 : Index := 0#32
  ![4, 2, v4499.toNat, 0]
def k0_off34 (k0_t1 : Fin k0_t1_loop.trips) : Fin 3 → Nat :=
  let c12_2276 : Index := 12#32
  let c0_i32_202 : BitVec 32 := 0#32
  let c1_i32_203 : BitVec 32 := 1#32
  let arg19 : BitVec 32 := Scf.iv c0_i32_202 c1_i32_203 k0_t1
  let v4514 : Index := Scalar.indexCast arg19
  let c0_2277 : Index := 0#32
  ![12, v4514.toNat, 0]
def k0_off35 (k0_t1 : Fin k0_t1_loop.trips) : Fin 3 → Nat :=
  let c13_2280 : Index := 13#32
  let c0_i32_202 : BitVec 32 := 0#32
  let c1_i32_203 : BitVec 32 := 1#32
  let arg19 : BitVec 32 := Scf.iv c0_i32_202 c1_i32_203 k0_t1
  let v4532 : Index := Scalar.indexCast arg19
  let c0_2281 : Index := 0#32
  ![13, v4532.toNat, 0]
def k0_off36 (k0_t1 : Fin k0_t1_loop.trips) : Fin 3 → Nat :=
  let c14_2284 : Index := 14#32
  let c0_i32_202 : BitVec 32 := 0#32
  let c1_i32_203 : BitVec 32 := 1#32
  let arg19 : BitVec 32 := Scf.iv c0_i32_202 c1_i32_203 k0_t1
  let v4550 : Index := Scalar.indexCast arg19
  let c0_2285 : Index := 0#32
  ![14, v4550.toNat, 0]
def k0_off37 (k0_t1 : Fin k0_t1_loop.trips) : Fin 3 → Nat :=
  let c15_2288 : Index := 15#32
  let c0_i32_202 : BitVec 32 := 0#32
  let c1_i32_203 : BitVec 32 := 1#32
  let arg19 : BitVec 32 := Scf.iv c0_i32_202 c1_i32_203 k0_t1
  let v4568 : Index := Scalar.indexCast arg19
  let c0_2289 : Index := 0#32
  ![15, v4568.toNat, 0]
def k0_mult4 (k0_t1 : Fin k0_t1_loop.trips) : BitVec 32 :=
  let c0_i32_202 : BitVec 32 := 0#32
  let c1_i32_203 : BitVec 32 := 1#32
  let arg19 : BitVec 32 := Scf.iv c0_i32_202 c1_i32_203 k0_t1
  let c8_i32_2320 : BitVec 32 := 8#32
  let v4681 : BitVec 32 := Scalar.muli arg19 c8_i32_2320
  v4681
def k0_off38 (k0_t1 : Fin k0_t1_loop.trips) : Fin 3 → Nat :=
  let c3_2321 : Index := 3#32
  let c0_i32_202 : BitVec 32 := 0#32
  let c1_i32_203 : BitVec 32 := 1#32
  let arg19 : BitVec 32 := Scf.iv c0_i32_202 c1_i32_203 k0_t1
  let c8_i32_2320 : BitVec 32 := 8#32
  let v4681 : BitVec 32 := Scalar.muli arg19 c8_i32_2320
  let v4682 : BitVec 32 := v4681
  let v4683 : Index := Scalar.indexCast v4682
  let c0_2322 : Index := 0#32
  ![3, v4683.toNat, 0]
def k0_off39 (k0_t1 : Fin k0_t1_loop.trips) : Fin 4 → Nat :=
  let c0_2323 : Index := 0#32
  let c3_2324 : Index := 3#32
  let c0_i32_202 : BitVec 32 := 0#32
  let c1_i32_203 : BitVec 32 := 1#32
  let arg19 : BitVec 32 := Scf.iv c0_i32_202 c1_i32_203 k0_t1
  let v4688 : Index := Scalar.indexCast arg19
  let c0_2325 : Index := 0#32
  ![0, 3, v4688.toNat, 0]
def k0_off40 (k0_t1 : Fin k0_t1_loop.trips) : Fin 4 → Nat :=
  let c1_2326 : Index := 1#32
  let c3_2327 : Index := 3#32
  let c0_i32_202 : BitVec 32 := 0#32
  let c1_i32_203 : BitVec 32 := 1#32
  let arg19 : BitVec 32 := Scf.iv c0_i32_202 c1_i32_203 k0_t1
  let v4693 : Index := Scalar.indexCast arg19
  let c0_2328 : Index := 0#32
  ![1, 3, v4693.toNat, 0]
def k0_off41 (k0_t1 : Fin k0_t1_loop.trips) : Fin 4 → Nat :=
  let c2_2329 : Index := 2#32
  let c3_2330 : Index := 3#32
  let c0_i32_202 : BitVec 32 := 0#32
  let c1_i32_203 : BitVec 32 := 1#32
  let arg19 : BitVec 32 := Scf.iv c0_i32_202 c1_i32_203 k0_t1
  let v4698 : Index := Scalar.indexCast arg19
  let c0_2331 : Index := 0#32
  ![2, 3, v4698.toNat, 0]
def k0_off42 (k0_t1 : Fin k0_t1_loop.trips) : Fin 4 → Nat :=
  let c3_2332 : Index := 3#32
  let c3_2333 : Index := 3#32
  let c0_i32_202 : BitVec 32 := 0#32
  let c1_i32_203 : BitVec 32 := 1#32
  let arg19 : BitVec 32 := Scf.iv c0_i32_202 c1_i32_203 k0_t1
  let v4703 : Index := Scalar.indexCast arg19
  let c0_2334 : Index := 0#32
  ![3, 3, v4703.toNat, 0]
def k0_off43 (k0_t1 : Fin k0_t1_loop.trips) : Fin 4 → Nat :=
  let c4_2335 : Index := 4#32
  let c3_2336 : Index := 3#32
  let c0_i32_202 : BitVec 32 := 0#32
  let c1_i32_203 : BitVec 32 := 1#32
  let arg19 : BitVec 32 := Scf.iv c0_i32_202 c1_i32_203 k0_t1
  let v4708 : Index := Scalar.indexCast arg19
  let c0_2337 : Index := 0#32
  ![4, 3, v4708.toNat, 0]
def k0_off44 (k0_t1 : Fin k0_t1_loop.trips) : Fin 3 → Nat :=
  let c16_2340 : Index := 16#32
  let c0_i32_202 : BitVec 32 := 0#32
  let c1_i32_203 : BitVec 32 := 1#32
  let arg19 : BitVec 32 := Scf.iv c0_i32_202 c1_i32_203 k0_t1
  let v4723 : Index := Scalar.indexCast arg19
  let c0_2341 : Index := 0#32
  ![16, v4723.toNat, 0]
def k0_off45 (k0_t1 : Fin k0_t1_loop.trips) : Fin 3 → Nat :=
  let c17_2344 : Index := 17#32
  let c0_i32_202 : BitVec 32 := 0#32
  let c1_i32_203 : BitVec 32 := 1#32
  let arg19 : BitVec 32 := Scf.iv c0_i32_202 c1_i32_203 k0_t1
  let v4741 : Index := Scalar.indexCast arg19
  let c0_2345 : Index := 0#32
  ![17, v4741.toNat, 0]
def k0_off46 (k0_t1 : Fin k0_t1_loop.trips) : Fin 3 → Nat :=
  let c18_2348 : Index := 18#32
  let c0_i32_202 : BitVec 32 := 0#32
  let c1_i32_203 : BitVec 32 := 1#32
  let arg19 : BitVec 32 := Scf.iv c0_i32_202 c1_i32_203 k0_t1
  let v4759 : Index := Scalar.indexCast arg19
  let c0_2349 : Index := 0#32
  ![18, v4759.toNat, 0]
def k0_off47 (k0_t1 : Fin k0_t1_loop.trips) : Fin 3 → Nat :=
  let c19_2352 : Index := 19#32
  let c0_i32_202 : BitVec 32 := 0#32
  let c1_i32_203 : BitVec 32 := 1#32
  let arg19 : BitVec 32 := Scf.iv c0_i32_202 c1_i32_203 k0_t1
  let v4777 : Index := Scalar.indexCast arg19
  let c0_2353 : Index := 0#32
  ![19, v4777.toNat, 0]
def k0_mult5 (k0_t1 : Fin k0_t1_loop.trips) : BitVec 32 :=
  let c0_i32_202 : BitVec 32 := 0#32
  let c1_i32_203 : BitVec 32 := 1#32
  let arg19 : BitVec 32 := Scf.iv c0_i32_202 c1_i32_203 k0_t1
  let c8_i32_2384 : BitVec 32 := 8#32
  let v4890 : BitVec 32 := Scalar.muli arg19 c8_i32_2384
  v4890
def k0_off48 (k0_t1 : Fin k0_t1_loop.trips) : Fin 3 → Nat :=
  let c4_2385 : Index := 4#32
  let c0_i32_202 : BitVec 32 := 0#32
  let c1_i32_203 : BitVec 32 := 1#32
  let arg19 : BitVec 32 := Scf.iv c0_i32_202 c1_i32_203 k0_t1
  let c8_i32_2384 : BitVec 32 := 8#32
  let v4890 : BitVec 32 := Scalar.muli arg19 c8_i32_2384
  let v4891 : BitVec 32 := v4890
  let v4892 : Index := Scalar.indexCast v4891
  let c0_2386 : Index := 0#32
  ![4, v4892.toNat, 0]
def k0_off49 (k0_t1 : Fin k0_t1_loop.trips) : Fin 4 → Nat :=
  let c0_2387 : Index := 0#32
  let c4_2388 : Index := 4#32
  let c0_i32_202 : BitVec 32 := 0#32
  let c1_i32_203 : BitVec 32 := 1#32
  let arg19 : BitVec 32 := Scf.iv c0_i32_202 c1_i32_203 k0_t1
  let v4897 : Index := Scalar.indexCast arg19
  let c0_2389 : Index := 0#32
  ![0, 4, v4897.toNat, 0]
def k0_off50 (k0_t1 : Fin k0_t1_loop.trips) : Fin 4 → Nat :=
  let c1_2390 : Index := 1#32
  let c4_2391 : Index := 4#32
  let c0_i32_202 : BitVec 32 := 0#32
  let c1_i32_203 : BitVec 32 := 1#32
  let arg19 : BitVec 32 := Scf.iv c0_i32_202 c1_i32_203 k0_t1
  let v4902 : Index := Scalar.indexCast arg19
  let c0_2392 : Index := 0#32
  ![1, 4, v4902.toNat, 0]
def k0_off51 (k0_t1 : Fin k0_t1_loop.trips) : Fin 4 → Nat :=
  let c2_2393 : Index := 2#32
  let c4_2394 : Index := 4#32
  let c0_i32_202 : BitVec 32 := 0#32
  let c1_i32_203 : BitVec 32 := 1#32
  let arg19 : BitVec 32 := Scf.iv c0_i32_202 c1_i32_203 k0_t1
  let v4907 : Index := Scalar.indexCast arg19
  let c0_2395 : Index := 0#32
  ![2, 4, v4907.toNat, 0]
def k0_off52 (k0_t1 : Fin k0_t1_loop.trips) : Fin 4 → Nat :=
  let c3_2396 : Index := 3#32
  let c4_2397 : Index := 4#32
  let c0_i32_202 : BitVec 32 := 0#32
  let c1_i32_203 : BitVec 32 := 1#32
  let arg19 : BitVec 32 := Scf.iv c0_i32_202 c1_i32_203 k0_t1
  let v4912 : Index := Scalar.indexCast arg19
  let c0_2398 : Index := 0#32
  ![3, 4, v4912.toNat, 0]
def k0_off53 (k0_t1 : Fin k0_t1_loop.trips) : Fin 4 → Nat :=
  let c4_2399 : Index := 4#32
  let c4_2400 : Index := 4#32
  let c0_i32_202 : BitVec 32 := 0#32
  let c1_i32_203 : BitVec 32 := 1#32
  let arg19 : BitVec 32 := Scf.iv c0_i32_202 c1_i32_203 k0_t1
  let v4917 : Index := Scalar.indexCast arg19
  let c0_2401 : Index := 0#32
  ![4, 4, v4917.toNat, 0]
def k0_mult6 (i : grid0.Coords) : BitVec 32 :=
  let arg0 : BitVec 32 := BitVec.ofNat 32 (i 0).val
  let c8_i32 : BitVec 32 := 8#32
  let c0_i32_205 : BitVec 32 := 0#32
  let v332 : BitVec 1 := Scalar.cmpi .eq c8_i32 c0_i32_205
  let c1_i32_206 : BitVec 32 := 1#32
  let v333 : BitVec 32 := Scalar.select v332 c1_i32_206 c8_i32
  let v334 : BitVec 32 := Scalar.remsi arg0 v333
  let c0_i32_208 : BitVec 32 := 0#32
  let v336 : BitVec 1 := Scalar.cmpi .slt v334 c0_i32_208
  let c0_i32_209 : BitVec 32 := 0#32
  let v337 : BitVec 1 := Scalar.cmpi .slt v333 c0_i32_209
  let v338 : BitVec 1 := Scalar.xori v336 v337
  let c0_i32_207 : BitVec 32 := 0#32
  let v335 : BitVec 1 := Scalar.cmpi .ne v334 c0_i32_207
  let v339 : BitVec 1 := Scalar.andi v338 v335
  let v340 : BitVec 32 := Scalar.addi v334 v333
  let v341 : BitVec 32 := Scalar.select v339 v340 v334
  let c16_i32_210 : BitVec 32 := 16#32
  let v342 : BitVec 32 := Scalar.muli v341 c16_i32_210
  let c0_i32_295 : BitVec 32 := 0#32
  let v520 : BitVec 32 := Scalar.addi v342 c0_i32_295
  v520
def k0_off54 (i : grid0.Coords) (c0_i32_295 : BitVec 32) : Fin 3 → Nat :=
  let c0_296 : Index := 0#32
  let arg0 : BitVec 32 := BitVec.ofNat 32 (i 0).val
  let c8_i32 : BitVec 32 := 8#32
  let c0_i32_205 : BitVec 32 := 0#32
  let v332 : BitVec 1 := Scalar.cmpi .eq c8_i32 c0_i32_205
  let c1_i32_206 : BitVec 32 := 1#32
  let v333 : BitVec 32 := Scalar.select v332 c1_i32_206 c8_i32
  let v334 : BitVec 32 := Scalar.remsi arg0 v333
  let c0_i32_208 : BitVec 32 := 0#32
  let v336 : BitVec 1 := Scalar.cmpi .slt v334 c0_i32_208
  let c0_i32_209 : BitVec 32 := 0#32
  let v337 : BitVec 1 := Scalar.cmpi .slt v333 c0_i32_209
  let v338 : BitVec 1 := Scalar.xori v336 v337
  let c0_i32_207 : BitVec 32 := 0#32
  let v335 : BitVec 1 := Scalar.cmpi .ne v334 c0_i32_207
  let v339 : BitVec 1 := Scalar.andi v338 v335
  let v340 : BitVec 32 := Scalar.addi v334 v333
  let v341 : BitVec 32 := Scalar.select v339 v340 v334
  let c16_i32_210 : BitVec 32 := 16#32
  let v342 : BitVec 32 := Scalar.muli v341 c16_i32_210
  let v520 : BitVec 32 := Scalar.addi v342 c0_i32_295
  let v521 : BitVec 32 := v520
  let v523 : Index := Scalar.indexCast v521
  let c0_297 : Index := 0#32
  ![0, v523.toNat, 0]
def k0_mult7 (i : grid0.Coords) : BitVec 32 :=
  let arg0 : BitVec 32 := BitVec.ofNat 32 (i 0).val
  let c8_i32 : BitVec 32 := 8#32
  let c0_i32_205 : BitVec 32 := 0#32
  let v332 : BitVec 1 := Scalar.cmpi .eq c8_i32 c0_i32_205
  let c1_i32_206 : BitVec 32 := 1#32
  let v333 : BitVec 32 := Scalar.select v332 c1_i32_206 c8_i32
  let v334 : BitVec 32 := Scalar.remsi arg0 v333
  let c0_i32_208 : BitVec 32 := 0#32
  let v336 : BitVec 1 := Scalar.cmpi .slt v334 c0_i32_208
  let c0_i32_209 : BitVec 32 := 0#32
  let v337 : BitVec 1 := Scalar.cmpi .slt v333 c0_i32_209
  let v338 : BitVec 1 := Scalar.xori v336 v337
  let c0_i32_207 : BitVec 32 := 0#32
  let v335 : BitVec 1 := Scalar.cmpi .ne v334 c0_i32_207
  let v339 : BitVec 1 := Scalar.andi v338 v335
  let v340 : BitVec 32 := Scalar.addi v334 v333
  let v341 : BitVec 32 := Scalar.select v339 v340 v334
  let c16_i32_210 : BitVec 32 := 16#32
  let v342 : BitVec 32 := Scalar.muli v341 c16_i32_210
  let c0_i32_399 : BitVec 32 := 0#32
  let v710 : BitVec 32 := Scalar.addi v342 c0_i32_399
  v710
def k0_off55 (i : grid0.Coords) (c0_i32_399 : BitVec 32) : Fin 3 → Nat :=
  let c1_400 : Index := 1#32
  let arg0 : BitVec 32 := BitVec.ofNat 32 (i 0).val
  let c8_i32 : BitVec 32 := 8#32
  let c0_i32_205 : BitVec 32 := 0#32
  let v332 : BitVec 1 := Scalar.cmpi .eq c8_i32 c0_i32_205
  let c1_i32_206 : BitVec 32 := 1#32
  let v333 : BitVec 32 := Scalar.select v332 c1_i32_206 c8_i32
  let v334 : BitVec 32 := Scalar.remsi arg0 v333
  let c0_i32_208 : BitVec 32 := 0#32
  let v336 : BitVec 1 := Scalar.cmpi .slt v334 c0_i32_208
  let c0_i32_209 : BitVec 32 := 0#32
  let v337 : BitVec 1 := Scalar.cmpi .slt v333 c0_i32_209
  let v338 : BitVec 1 := Scalar.xori v336 v337
  let c0_i32_207 : BitVec 32 := 0#32
  let v335 : BitVec 1 := Scalar.cmpi .ne v334 c0_i32_207
  let v339 : BitVec 1 := Scalar.andi v338 v335
  let v340 : BitVec 32 := Scalar.addi v334 v333
  let v341 : BitVec 32 := Scalar.select v339 v340 v334
  let c16_i32_210 : BitVec 32 := 16#32
  let v342 : BitVec 32 := Scalar.muli v341 c16_i32_210
  let v710 : BitVec 32 := Scalar.addi v342 c0_i32_399
  let v711 : BitVec 32 := v710
  let v713 : Index := Scalar.indexCast v711
  let c0_401 : Index := 0#32
  ![1, v713.toNat, 0]
def k0_mult8 (i : grid0.Coords) : BitVec 32 :=
  let arg0 : BitVec 32 := BitVec.ofNat 32 (i 0).val
  let c8_i32 : BitVec 32 := 8#32
  let c0_i32_205 : BitVec 32 := 0#32
  let v332 : BitVec 1 := Scalar.cmpi .eq c8_i32 c0_i32_205
  let c1_i32_206 : BitVec 32 := 1#32
  let v333 : BitVec 32 := Scalar.select v332 c1_i32_206 c8_i32
  let v334 : BitVec 32 := Scalar.remsi arg0 v333
  let c0_i32_208 : BitVec 32 := 0#32
  let v336 : BitVec 1 := Scalar.cmpi .slt v334 c0_i32_208
  let c0_i32_209 : BitVec 32 := 0#32
  let v337 : BitVec 1 := Scalar.cmpi .slt v333 c0_i32_209
  let v338 : BitVec 1 := Scalar.xori v336 v337
  let c0_i32_207 : BitVec 32 := 0#32
  let v335 : BitVec 1 := Scalar.cmpi .ne v334 c0_i32_207
  let v339 : BitVec 1 := Scalar.andi v338 v335
  let v340 : BitVec 32 := Scalar.addi v334 v333
  let v341 : BitVec 32 := Scalar.select v339 v340 v334
  let c16_i32_210 : BitVec 32 := 16#32
  let v342 : BitVec 32 := Scalar.muli v341 c16_i32_210
  let c0_i32_504 : BitVec 32 := 0#32
  let v900 : BitVec 32 := Scalar.addi v342 c0_i32_504
  v900
def k0_off56 (i : grid0.Coords) (c0_i32_504 : BitVec 32) : Fin 3 → Nat :=
  let c2_505 : Index := 2#32
  let arg0 : BitVec 32 := BitVec.ofNat 32 (i 0).val
  let c8_i32 : BitVec 32 := 8#32
  let c0_i32_205 : BitVec 32 := 0#32
  let v332 : BitVec 1 := Scalar.cmpi .eq c8_i32 c0_i32_205
  let c1_i32_206 : BitVec 32 := 1#32
  let v333 : BitVec 32 := Scalar.select v332 c1_i32_206 c8_i32
  let v334 : BitVec 32 := Scalar.remsi arg0 v333
  let c0_i32_208 : BitVec 32 := 0#32
  let v336 : BitVec 1 := Scalar.cmpi .slt v334 c0_i32_208
  let c0_i32_209 : BitVec 32 := 0#32
  let v337 : BitVec 1 := Scalar.cmpi .slt v333 c0_i32_209
  let v338 : BitVec 1 := Scalar.xori v336 v337
  let c0_i32_207 : BitVec 32 := 0#32
  let v335 : BitVec 1 := Scalar.cmpi .ne v334 c0_i32_207
  let v339 : BitVec 1 := Scalar.andi v338 v335
  let v340 : BitVec 32 := Scalar.addi v334 v333
  let v341 : BitVec 32 := Scalar.select v339 v340 v334
  let c16_i32_210 : BitVec 32 := 16#32
  let v342 : BitVec 32 := Scalar.muli v341 c16_i32_210
  let v900 : BitVec 32 := Scalar.addi v342 c0_i32_504
  let v901 : BitVec 32 := v900
  let v903 : Index := Scalar.indexCast v901
  let c0_506 : Index := 0#32
  ![2, v903.toNat, 0]
def k0_mult9 (i : grid0.Coords) : BitVec 32 :=
  let arg0 : BitVec 32 := BitVec.ofNat 32 (i 0).val
  let c8_i32 : BitVec 32 := 8#32
  let c0_i32_205 : BitVec 32 := 0#32
  let v332 : BitVec 1 := Scalar.cmpi .eq c8_i32 c0_i32_205
  let c1_i32_206 : BitVec 32 := 1#32
  let v333 : BitVec 32 := Scalar.select v332 c1_i32_206 c8_i32
  let v334 : BitVec 32 := Scalar.remsi arg0 v333
  let c0_i32_208 : BitVec 32 := 0#32
  let v336 : BitVec 1 := Scalar.cmpi .slt v334 c0_i32_208
  let c0_i32_209 : BitVec 32 := 0#32
  let v337 : BitVec 1 := Scalar.cmpi .slt v333 c0_i32_209
  let v338 : BitVec 1 := Scalar.xori v336 v337
  let c0_i32_207 : BitVec 32 := 0#32
  let v335 : BitVec 1 := Scalar.cmpi .ne v334 c0_i32_207
  let v339 : BitVec 1 := Scalar.andi v338 v335
  let v340 : BitVec 32 := Scalar.addi v334 v333
  let v341 : BitVec 32 := Scalar.select v339 v340 v334
  let c16_i32_210 : BitVec 32 := 16#32
  let v342 : BitVec 32 := Scalar.muli v341 c16_i32_210
  let c0_i32_609 : BitVec 32 := 0#32
  let v1090 : BitVec 32 := Scalar.addi v342 c0_i32_609
  v1090
def k0_off57 (i : grid0.Coords) (c0_i32_609 : BitVec 32) : Fin 3 → Nat :=
  let c3_610 : Index := 3#32
  let arg0 : BitVec 32 := BitVec.ofNat 32 (i 0).val
  let c8_i32 : BitVec 32 := 8#32
  let c0_i32_205 : BitVec 32 := 0#32
  let v332 : BitVec 1 := Scalar.cmpi .eq c8_i32 c0_i32_205
  let c1_i32_206 : BitVec 32 := 1#32
  let v333 : BitVec 32 := Scalar.select v332 c1_i32_206 c8_i32
  let v334 : BitVec 32 := Scalar.remsi arg0 v333
  let c0_i32_208 : BitVec 32 := 0#32
  let v336 : BitVec 1 := Scalar.cmpi .slt v334 c0_i32_208
  let c0_i32_209 : BitVec 32 := 0#32
  let v337 : BitVec 1 := Scalar.cmpi .slt v333 c0_i32_209
  let v338 : BitVec 1 := Scalar.xori v336 v337
  let c0_i32_207 : BitVec 32 := 0#32
  let v335 : BitVec 1 := Scalar.cmpi .ne v334 c0_i32_207
  let v339 : BitVec 1 := Scalar.andi v338 v335
  let v340 : BitVec 32 := Scalar.addi v334 v333
  let v341 : BitVec 32 := Scalar.select v339 v340 v334
  let c16_i32_210 : BitVec 32 := 16#32
  let v342 : BitVec 32 := Scalar.muli v341 c16_i32_210
  let v1090 : BitVec 32 := Scalar.addi v342 c0_i32_609
  let v1091 : BitVec 32 := v1090
  let v1093 : Index := Scalar.indexCast v1091
  let c0_611 : Index := 0#32
  ![3, v1093.toNat, 0]
def k0_mult10 (i : grid0.Coords) : BitVec 32 :=
  let arg0 : BitVec 32 := BitVec.ofNat 32 (i 0).val
  let c8_i32 : BitVec 32 := 8#32
  let c0_i32_205 : BitVec 32 := 0#32
  let v332 : BitVec 1 := Scalar.cmpi .eq c8_i32 c0_i32_205
  let c1_i32_206 : BitVec 32 := 1#32
  let v333 : BitVec 32 := Scalar.select v332 c1_i32_206 c8_i32
  let v334 : BitVec 32 := Scalar.remsi arg0 v333
  let c0_i32_208 : BitVec 32 := 0#32
  let v336 : BitVec 1 := Scalar.cmpi .slt v334 c0_i32_208
  let c0_i32_209 : BitVec 32 := 0#32
  let v337 : BitVec 1 := Scalar.cmpi .slt v333 c0_i32_209
  let v338 : BitVec 1 := Scalar.xori v336 v337
  let c0_i32_207 : BitVec 32 := 0#32
  let v335 : BitVec 1 := Scalar.cmpi .ne v334 c0_i32_207
  let v339 : BitVec 1 := Scalar.andi v338 v335
  let v340 : BitVec 32 := Scalar.addi v334 v333
  let v341 : BitVec 32 := Scalar.select v339 v340 v334
  let c16_i32_210 : BitVec 32 := 16#32
  let v342 : BitVec 32 := Scalar.muli v341 c16_i32_210
  let c0_i32_714 : BitVec 32 := 0#32
  let v1280 : BitVec 32 := Scalar.addi v342 c0_i32_714
  v1280
def k0_off58 (i : grid0.Coords) (c0_i32_714 : BitVec 32) : Fin 3 → Nat :=
  let c4_715 : Index := 4#32
  let arg0 : BitVec 32 := BitVec.ofNat 32 (i 0).val
  let c8_i32 : BitVec 32 := 8#32
  let c0_i32_205 : BitVec 32 := 0#32
  let v332 : BitVec 1 := Scalar.cmpi .eq c8_i32 c0_i32_205
  let c1_i32_206 : BitVec 32 := 1#32
  let v333 : BitVec 32 := Scalar.select v332 c1_i32_206 c8_i32
  let v334 : BitVec 32 := Scalar.remsi arg0 v333
  let c0_i32_208 : BitVec 32 := 0#32
  let v336 : BitVec 1 := Scalar.cmpi .slt v334 c0_i32_208
  let c0_i32_209 : BitVec 32 := 0#32
  let v337 : BitVec 1 := Scalar.cmpi .slt v333 c0_i32_209
  let v338 : BitVec 1 := Scalar.xori v336 v337
  let c0_i32_207 : BitVec 32 := 0#32
  let v335 : BitVec 1 := Scalar.cmpi .ne v334 c0_i32_207
  let v339 : BitVec 1 := Scalar.andi v338 v335
  let v340 : BitVec 32 := Scalar.addi v334 v333
  let v341 : BitVec 32 := Scalar.select v339 v340 v334
  let c16_i32_210 : BitVec 32 := 16#32
  let v342 : BitVec 32 := Scalar.muli v341 c16_i32_210
  let v1280 : BitVec 32 := Scalar.addi v342 c0_i32_714
  let v1281 : BitVec 32 := v1280
  let v1283 : Index := Scalar.indexCast v1281
  let c0_716 : Index := 0#32
  ![4, v1283.toNat, 0]
def k0_mult11 (i : grid0.Coords) : BitVec 32 :=
  let arg0 : BitVec 32 := BitVec.ofNat 32 (i 0).val
  let c8_i32 : BitVec 32 := 8#32
  let c0_i32_205 : BitVec 32 := 0#32
  let v332 : BitVec 1 := Scalar.cmpi .eq c8_i32 c0_i32_205
  let c1_i32_206 : BitVec 32 := 1#32
  let v333 : BitVec 32 := Scalar.select v332 c1_i32_206 c8_i32
  let v334 : BitVec 32 := Scalar.remsi arg0 v333
  let c0_i32_208 : BitVec 32 := 0#32
  let v336 : BitVec 1 := Scalar.cmpi .slt v334 c0_i32_208
  let c0_i32_209 : BitVec 32 := 0#32
  let v337 : BitVec 1 := Scalar.cmpi .slt v333 c0_i32_209
  let v338 : BitVec 1 := Scalar.xori v336 v337
  let c0_i32_207 : BitVec 32 := 0#32
  let v335 : BitVec 1 := Scalar.cmpi .ne v334 c0_i32_207
  let v339 : BitVec 1 := Scalar.andi v338 v335
  let v340 : BitVec 32 := Scalar.addi v334 v333
  let v341 : BitVec 32 := Scalar.select v339 v340 v334
  let c16_i32_210 : BitVec 32 := 16#32
  let v342 : BitVec 32 := Scalar.muli v341 c16_i32_210
  let c8_i32_819 : BitVec 32 := 8#32
  let v1470 : BitVec 32 := Scalar.addi v342 c8_i32_819
  v1470
def k0_mult12 (i : grid0.Coords) : BitVec 32 :=
  let arg0 : BitVec 32 := BitVec.ofNat 32 (i 0).val
  let c8_i32 : BitVec 32 := 8#32
  let c0_i32_205 : BitVec 32 := 0#32
  let v332 : BitVec 1 := Scalar.cmpi .eq c8_i32 c0_i32_205
  let c1_i32_206 : BitVec 32 := 1#32
  let v333 : BitVec 32 := Scalar.select v332 c1_i32_206 c8_i32
  let v334 : BitVec 32 := Scalar.remsi arg0 v333
  let c0_i32_208 : BitVec 32 := 0#32
  let v336 : BitVec 1 := Scalar.cmpi .slt v334 c0_i32_208
  let c0_i32_209 : BitVec 32 := 0#32
  let v337 : BitVec 1 := Scalar.cmpi .slt v333 c0_i32_209
  let v338 : BitVec 1 := Scalar.xori v336 v337
  let c0_i32_207 : BitVec 32 := 0#32
  let v335 : BitVec 1 := Scalar.cmpi .ne v334 c0_i32_207
  let v339 : BitVec 1 := Scalar.andi v338 v335
  let v340 : BitVec 32 := Scalar.addi v334 v333
  let v341 : BitVec 32 := Scalar.select v339 v340 v334
  let c16_i32_210 : BitVec 32 := 16#32
  let v342 : BitVec 32 := Scalar.muli v341 c16_i32_210
  let c8_i32_924 : BitVec 32 := 8#32
  let v1660 : BitVec 32 := Scalar.addi v342 c8_i32_924
  v1660
def k0_mult13 (i : grid0.Coords) : BitVec 32 :=
  let arg0 : BitVec 32 := BitVec.ofNat 32 (i 0).val
  let c8_i32 : BitVec 32 := 8#32
  let c0_i32_205 : BitVec 32 := 0#32
  let v332 : BitVec 1 := Scalar.cmpi .eq c8_i32 c0_i32_205
  let c1_i32_206 : BitVec 32 := 1#32
  let v333 : BitVec 32 := Scalar.select v332 c1_i32_206 c8_i32
  let v334 : BitVec 32 := Scalar.remsi arg0 v333
  let c0_i32_208 : BitVec 32 := 0#32
  let v336 : BitVec 1 := Scalar.cmpi .slt v334 c0_i32_208
  let c0_i32_209 : BitVec 32 := 0#32
  let v337 : BitVec 1 := Scalar.cmpi .slt v333 c0_i32_209
  let v338 : BitVec 1 := Scalar.xori v336 v337
  let c0_i32_207 : BitVec 32 := 0#32
  let v335 : BitVec 1 := Scalar.cmpi .ne v334 c0_i32_207
  let v339 : BitVec 1 := Scalar.andi v338 v335
  let v340 : BitVec 32 := Scalar.addi v334 v333
  let v341 : BitVec 32 := Scalar.select v339 v340 v334
  let c16_i32_210 : BitVec 32 := 16#32
  let v342 : BitVec 32 := Scalar.muli v341 c16_i32_210
  let c8_i32_1029 : BitVec 32 := 8#32
  let v1850 : BitVec 32 := Scalar.addi v342 c8_i32_1029
  v1850
def k0_mult14 (i : grid0.Coords) : BitVec 32 :=
  let arg0 : BitVec 32 := BitVec.ofNat 32 (i 0).val
  let c8_i32 : BitVec 32 := 8#32
  let c0_i32_205 : BitVec 32 := 0#32
  let v332 : BitVec 1 := Scalar.cmpi .eq c8_i32 c0_i32_205
  let c1_i32_206 : BitVec 32 := 1#32
  let v333 : BitVec 32 := Scalar.select v332 c1_i32_206 c8_i32
  let v334 : BitVec 32 := Scalar.remsi arg0 v333
  let c0_i32_208 : BitVec 32 := 0#32
  let v336 : BitVec 1 := Scalar.cmpi .slt v334 c0_i32_208
  let c0_i32_209 : BitVec 32 := 0#32
  let v337 : BitVec 1 := Scalar.cmpi .slt v333 c0_i32_209
  let v338 : BitVec 1 := Scalar.xori v336 v337
  let c0_i32_207 : BitVec 32 := 0#32
  let v335 : BitVec 1 := Scalar.cmpi .ne v334 c0_i32_207
  let v339 : BitVec 1 := Scalar.andi v338 v335
  let v340 : BitVec 32 := Scalar.addi v334 v333
  let v341 : BitVec 32 := Scalar.select v339 v340 v334
  let c16_i32_210 : BitVec 32 := 16#32
  let v342 : BitVec 32 := Scalar.muli v341 c16_i32_210
  let c8_i32_1134 : BitVec 32 := 8#32
  let v2040 : BitVec 32 := Scalar.addi v342 c8_i32_1134
  v2040
def k0_mult15 (i : grid0.Coords) : BitVec 32 :=
  let arg0 : BitVec 32 := BitVec.ofNat 32 (i 0).val
  let c8_i32 : BitVec 32 := 8#32
  let c0_i32_205 : BitVec 32 := 0#32
  let v332 : BitVec 1 := Scalar.cmpi .eq c8_i32 c0_i32_205
  let c1_i32_206 : BitVec 32 := 1#32
  let v333 : BitVec 32 := Scalar.select v332 c1_i32_206 c8_i32
  let v334 : BitVec 32 := Scalar.remsi arg0 v333
  let c0_i32_208 : BitVec 32 := 0#32
  let v336 : BitVec 1 := Scalar.cmpi .slt v334 c0_i32_208
  let c0_i32_209 : BitVec 32 := 0#32
  let v337 : BitVec 1 := Scalar.cmpi .slt v333 c0_i32_209
  let v338 : BitVec 1 := Scalar.xori v336 v337
  let c0_i32_207 : BitVec 32 := 0#32
  let v335 : BitVec 1 := Scalar.cmpi .ne v334 c0_i32_207
  let v339 : BitVec 1 := Scalar.andi v338 v335
  let v340 : BitVec 32 := Scalar.addi v334 v333
  let v341 : BitVec 32 := Scalar.select v339 v340 v334
  let c16_i32_210 : BitVec 32 := 16#32
  let v342 : BitVec 32 := Scalar.muli v341 c16_i32_210
  let c8_i32_1239 : BitVec 32 := 8#32
  let v2230 : BitVec 32 := Scalar.addi v342 c8_i32_1239
  v2230
@[reducible] def k0_t2_loop : Scf.Loop 32 :=
  let c0_i32_1245 : BitVec 32 := 0#32
  let c16_i32_1246 : BitVec 32 := 16#32
  let v2243 : BitVec 32 := Scalar.addi c0_i32_1245 c16_i32_1246
  let c1_i32_1247 : BitVec 32 := 1#32
  ⟨c0_i32_1245, v2243, c1_i32_1247⟩
def k0_off59 (k0_t2 : Fin k0_t2_loop.trips) : Fin 3 → Nat :=
  let c0_2077 : Index := 0#32
  let c0_i32_1245 : BitVec 32 := 0#32
  let c1_i32_1247 : BitVec 32 := 1#32
  let arg19 : BitVec 32 := Scf.iv c0_i32_1245 c1_i32_1247 k0_t2
  let v3848 : Index := Scalar.indexCast arg19
  let c0_2078 : Index := 0#32
  ![0, v3848.toNat, 0]
def k0_off60 (k0_t2 : Fin k0_t2_loop.trips) : Fin 3 → Nat :=
  let c0_i32_1245 : BitVec 32 := 0#32
  let c1_i32_1247 : BitVec 32 := 1#32
  let arg19 : BitVec 32 := Scf.iv c0_i32_1245 c1_i32_1247 k0_t2
  let v3860 : Index := Scalar.indexCast arg19
  let c0_2082 : Index := 0#32
  let c0_2083 : Index := 0#32
  ![v3860.toNat, 0, 0]
def k0_off61 (k0_t2 : Fin k0_t2_loop.trips) : Fin 3 → Nat :=
  let c0_i32_1245 : BitVec 32 := 0#32
  let c1_i32_1247 : BitVec 32 := 1#32
  let arg19 : BitVec 32 := Scf.iv c0_i32_1245 c1_i32_1247 k0_t2
  let v3871 : Index := Scalar.indexCast arg19
  let c8_2086 : Index := 8#32
  let c0_2087 : Index := 0#32
  ![v3871.toNat, 8, 0]
def k0_off62 (k0_t2 : Fin k0_t2_loop.trips) : Fin 3 → Nat :=
  let c0_i32_1245 : BitVec 32 := 0#32
  let c1_i32_1247 : BitVec 32 := 1#32
  let arg19 : BitVec 32 := Scf.iv c0_i32_1245 c1_i32_1247 k0_t2
  let v3909 : Index := Scalar.indexCast arg19
  let c16_2098 : Index := 16#32
  let c0_2099 : Index := 0#32
  ![v3909.toNat, 16, 0]
def k0_off63 (k0_t2 : Fin k0_t2_loop.trips) : Fin 3 → Nat :=
  let c0_i32_1245 : BitVec 32 := 0#32
  let c1_i32_1247 : BitVec 32 := 1#32
  let arg19 : BitVec 32 := Scf.iv c0_i32_1245 c1_i32_1247 k0_t2
  let v3947 : Index := Scalar.indexCast arg19
  let c24 : Index := 24#32
  let c0_2110 : Index := 0#32
  ![v3947.toNat, 24, 0]
def k0_off64 (k0_t2 : Fin k0_t2_loop.trips) : Fin 3 → Nat :=
  let c0_i32_1245 : BitVec 32 := 0#32
  let c1_i32_1247 : BitVec 32 := 1#32
  let arg19 : BitVec 32 := Scf.iv c0_i32_1245 c1_i32_1247 k0_t2
  let v3985 : Index := Scalar.indexCast arg19
  let c0_2121 : Index := 0#32
  let c128_2122 : Index := 128#32
  ![v3985.toNat, 0, 128]
def k0_off65 (k0_t2 : Fin k0_t2_loop.trips) : Fin 3 → Nat :=
  let c0_i32_1245 : BitVec 32 := 0#32
  let c1_i32_1247 : BitVec 32 := 1#32
  let arg19 : BitVec 32 := Scf.iv c0_i32_1245 c1_i32_1247 k0_t2
  let v3996 : Index := Scalar.indexCast arg19
  let c8_2125 : Index := 8#32
  let c128_2126 : Index := 128#32
  ![v3996.toNat, 8, 128]
def k0_off66 (k0_t2 : Fin k0_t2_loop.trips) : Fin 3 → Nat :=
  let c0_i32_1245 : BitVec 32 := 0#32
  let c1_i32_1247 : BitVec 32 := 1#32
  let arg19 : BitVec 32 := Scf.iv c0_i32_1245 c1_i32_1247 k0_t2
  let v4034 : Index := Scalar.indexCast arg19
  let c16_2137 : Index := 16#32
  let c128_2138 : Index := 128#32
  ![v4034.toNat, 16, 128]
def k0_off67 (k0_t2 : Fin k0_t2_loop.trips) : Fin 3 → Nat :=
  let c0_i32_1245 : BitVec 32 := 0#32
  let c1_i32_1247 : BitVec 32 := 1#32
  let arg19 : BitVec 32 := Scf.iv c0_i32_1245 c1_i32_1247 k0_t2
  let v4072 : Index := Scalar.indexCast arg19
  let c24_2149 : Index := 24#32
  let c128_2150 : Index := 128#32
  ![v4072.toNat, 24, 128]
def k0_mult16 (k0_t2 : Fin k0_t2_loop.trips) : BitVec 32 :=
  let c0_i32_1245 : BitVec 32 := 0#32
  let c1_i32_1247 : BitVec 32 := 1#32
  let arg19 : BitVec 32 := Scf.iv c0_i32_1245 c1_i32_1247 k0_t2
  let c8_i32_2163 : BitVec 32 := 8#32
  let v4115 : BitVec 32 := Scalar.muli arg19 c8_i32_2163
  v4115
def k0_off68 (k0_t2 : Fin k0_t2_loop.trips) : Fin 3 → Nat :=
  let c0_2165 : Index := 0#32
  let c0_i32_1245 : BitVec 32 := 0#32
  let c1_i32_1247 : BitVec 32 := 1#32
  let arg19 : BitVec 32 := Scf.iv c0_i32_1245 c1_i32_1247 k0_t2
  let c8_i32_2163 : BitVec 32 := 8#32
  let v4115 : BitVec 32 := Scalar.muli arg19 c8_i32_2163
  let v4116 : BitVec 32 := v4115
  let v4119 : Index := Scalar.indexCast v4116
  let c0_2166 : Index := 0#32
  ![0, v4119.toNat, 0]
def k0_off69 (k0_t2 : Fin k0_t2_loop.trips) : Fin 3 → Nat :=
  let c1_2169 : Index := 1#32
  let c0_i32_1245 : BitVec 32 := 0#32
  let c1_i32_1247 : BitVec 32 := 1#32
  let arg19 : BitVec 32 := Scf.iv c0_i32_1245 c1_i32_1247 k0_t2
  let v4128 : Index := Scalar.indexCast arg19
  let c0_2170 : Index := 0#32
  ![1, v4128.toNat, 0]
def k0_off70 (k0_t2 : Fin k0_t2_loop.trips) : Fin 3 → Nat :=
  let c0_i32_1245 : BitVec 32 := 0#32
  let c1_i32_1247 : BitVec 32 := 1#32
  let arg19 : BitVec 32 := Scf.iv c0_i32_1245 c1_i32_1247 k0_t2
  let v4140 : Index := Scalar.indexCast arg19
  let c32 : Index := 32#32
  let c0_2174 : Index := 0#32
  ![v4140.toNat, 32, 0]
def k0_off71 (k0_t2 : Fin k0_t2_loop.trips) : Fin 3 → Nat :=
  let c0_i32_1245 : BitVec 32 := 0#32
  let c1_i32_1247 : BitVec 32 := 1#32
  let arg19 : BitVec 32 := Scf.iv c0_i32_1245 c1_i32_1247 k0_t2
  let v4151 : Index := Scalar.indexCast arg19
  let c40 : Index := 40#32
  let c0_2177 : Index := 0#32
  ![v4151.toNat, 40, 0]
def k0_off72 (k0_t2 : Fin k0_t2_loop.trips) : Fin 3 → Nat :=
  let c0_i32_1245 : BitVec 32 := 0#32
  let c1_i32_1247 : BitVec 32 := 1#32
  let arg19 : BitVec 32 := Scf.iv c0_i32_1245 c1_i32_1247 k0_t2
  let v4189 : Index := Scalar.indexCast arg19
  let c48 : Index := 48#32
  let c0_2188 : Index := 0#32
  ![v4189.toNat, 48, 0]
def k0_off73 (k0_t2 : Fin k0_t2_loop.trips) : Fin 3 → Nat :=
  let c0_i32_1245 : BitVec 32 := 0#32
  let c1_i32_1247 : BitVec 32 := 1#32
  let arg19 : BitVec 32 := Scf.iv c0_i32_1245 c1_i32_1247 k0_t2
  let v4227 : Index := Scalar.indexCast arg19
  let c56 : Index := 56#32
  let c0_2199 : Index := 0#32
  ![v4227.toNat, 56, 0]
def k0_off74 (k0_t2 : Fin k0_t2_loop.trips) : Fin 3 → Nat :=
  let c0_i32_1245 : BitVec 32 := 0#32
  let c1_i32_1247 : BitVec 32 := 1#32
  let arg19 : BitVec 32 := Scf.iv c0_i32_1245 c1_i32_1247 k0_t2
  let v4265 : Index := Scalar.indexCast arg19
  let c32_2210 : Index := 32#32
  let c128_2211 : Index := 128#32
  ![v4265.toNat, 32, 128]
def k0_off75 (k0_t2 : Fin k0_t2_loop.trips) : Fin 3 → Nat :=
  let c0_i32_1245 : BitVec 32 := 0#32
  let c1_i32_1247 : BitVec 32 := 1#32
  let arg19 : BitVec 32 := Scf.iv c0_i32_1245 c1_i32_1247 k0_t2
  let v4276 : Index := Scalar.indexCast arg19
  let c40_2214 : Index := 40#32
  let c128_2215 : Index := 128#32
  ![v4276.toNat, 40, 128]
def k0_off76 (k0_t2 : Fin k0_t2_loop.trips) : Fin 3 → Nat :=
  let c0_i32_1245 : BitVec 32 := 0#32
  let c1_i32_1247 : BitVec 32 := 1#32
  let arg19 : BitVec 32 := Scf.iv c0_i32_1245 c1_i32_1247 k0_t2
  let v4314 : Index := Scalar.indexCast arg19
  let c48_2226 : Index := 48#32
  let c128_2227 : Index := 128#32
  ![v4314.toNat, 48, 128]
def k0_off77 (k0_t2 : Fin k0_t2_loop.trips) : Fin 3 → Nat :=
  let c0_i32_1245 : BitVec 32 := 0#32
  let c1_i32_1247 : BitVec 32 := 1#32
  let arg19 : BitVec 32 := Scf.iv c0_i32_1245 c1_i32_1247 k0_t2
  let v4352 : Index := Scalar.indexCast arg19
  let c56_2238 : Index := 56#32
  let c128_2239 : Index := 128#32
  ![v4352.toNat, 56, 128]
def k0_mult17 (k0_t2 : Fin k0_t2_loop.trips) : BitVec 32 :=
  let c0_i32_1245 : BitVec 32 := 0#32
  let c1_i32_1247 : BitVec 32 := 1#32
  let arg19 : BitVec 32 := Scf.iv c0_i32_1245 c1_i32_1247 k0_t2
  let c8_i32_2252 : BitVec 32 := 8#32
  let v4395 : BitVec 32 := Scalar.muli arg19 c8_i32_2252
  v4395
def k0_off78 (k0_t2 : Fin k0_t2_loop.trips) : Fin 3 → Nat :=
  let c1_2254 : Index := 1#32
  let c0_i32_1245 : BitVec 32 := 0#32
  let c1_i32_1247 : BitVec 32 := 1#32
  let arg19 : BitVec 32 := Scf.iv c0_i32_1245 c1_i32_1247 k0_t2
  let c8_i32_2252 : BitVec 32 := 8#32
  let v4395 : BitVec 32 := Scalar.muli arg19 c8_i32_2252
  let v4396 : BitVec 32 := v4395
  let v4399 : Index := Scalar.indexCast v4396
  let c0_2255 : Index := 0#32
  ![1, v4399.toNat, 0]
def k0_off79 (k0_t2 : Fin k0_t2_loop.trips) : Fin 3 → Nat :=
  let c2_2258 : Index := 2#32
  let c0_i32_1245 : BitVec 32 := 0#32
  let c1_i32_1247 : BitVec 32 := 1#32
  let arg19 : BitVec 32 := Scf.iv c0_i32_1245 c1_i32_1247 k0_t2
  let v4408 : Index := Scalar.indexCast arg19
  let c0_2259 : Index := 0#32
  ![2, v4408.toNat, 0]
def k0_off80 (k0_t2 : Fin k0_t2_loop.trips) : Fin 3 → Nat :=
  let c0_i32_1245 : BitVec 32 := 0#32
  let c1_i32_1247 : BitVec 32 := 1#32
  let arg19 : BitVec 32 := Scf.iv c0_i32_1245 c1_i32_1247 k0_t2
  let v4420 : Index := Scalar.indexCast arg19
  let c64_2263 : Index := 64#32
  let c0_2264 : Index := 0#32
  ![v4420.toNat, 64, 0]
def k0_off81 (k0_t2 : Fin k0_t2_loop.trips) : Fin 3 → Nat :=
  let c0_i32_1245 : BitVec 32 := 0#32
  let c1_i32_1247 : BitVec 32 := 1#32
  let arg19 : BitVec 32 := Scf.iv c0_i32_1245 c1_i32_1247 k0_t2
  let v4431 : Index := Scalar.indexCast arg19
  let c72 : Index := 72#32
  let c0_2267 : Index := 0#32
  ![v4431.toNat, 72, 0]
def k0_off82 (k0_t2 : Fin k0_t2_loop.trips) : Fin 3 → Nat :=
  let c0_i32_1245 : BitVec 32 := 0#32
  let c1_i32_1247 : BitVec 32 := 1#32
  let arg19 : BitVec 32 := Scf.iv c0_i32_1245 c1_i32_1247 k0_t2
  let v4469 : Index := Scalar.indexCast arg19
  let c80 : Index := 80#32
  let c0_2278 : Index := 0#32
  ![v4469.toNat, 80, 0]
def k0_off83 (k0_t2 : Fin k0_t2_loop.trips) : Fin 3 → Nat :=
  let c0_i32_1245 : BitVec 32 := 0#32
  let c1_i32_1247 : BitVec 32 := 1#32
  let arg19 : BitVec 32 := Scf.iv c0_i32_1245 c1_i32_1247 k0_t2
  let v4507 : Index := Scalar.indexCast arg19
  let c88 : Index := 88#32
  let c0_2289 : Index := 0#32
  ![v4507.toNat, 88, 0]
def k0_off84 (k0_t2 : Fin k0_t2_loop.trips) : Fin 3 → Nat :=
  let c0_i32_1245 : BitVec 32 := 0#32
  let c1_i32_1247 : BitVec 32 := 1#32
  let arg19 : BitVec 32 := Scf.iv c0_i32_1245 c1_i32_1247 k0_t2
  let v4545 : Index := Scalar.indexCast arg19
  let c64_2300 : Index := 64#32
  let c128_2301 : Index := 128#32
  ![v4545.toNat, 64, 128]
def k0_off85 (k0_t2 : Fin k0_t2_loop.trips) : Fin 3 → Nat :=
  let c0_i32_1245 : BitVec 32 := 0#32
  let c1_i32_1247 : BitVec 32 := 1#32
  let arg19 : BitVec 32 := Scf.iv c0_i32_1245 c1_i32_1247 k0_t2
  let v4556 : Index := Scalar.indexCast arg19
  let c72_2304 : Index := 72#32
  let c128_2305 : Index := 128#32
  ![v4556.toNat, 72, 128]
def k0_off86 (k0_t2 : Fin k0_t2_loop.trips) : Fin 3 → Nat :=
  let c0_i32_1245 : BitVec 32 := 0#32
  let c1_i32_1247 : BitVec 32 := 1#32
  let arg19 : BitVec 32 := Scf.iv c0_i32_1245 c1_i32_1247 k0_t2
  let v4594 : Index := Scalar.indexCast arg19
  let c80_2316 : Index := 80#32
  let c128_2317 : Index := 128#32
  ![v4594.toNat, 80, 128]
def k0_off87 (k0_t2 : Fin k0_t2_loop.trips) : Fin 3 → Nat :=
  let c0_i32_1245 : BitVec 32 := 0#32
  let c1_i32_1247 : BitVec 32 := 1#32
  let arg19 : BitVec 32 := Scf.iv c0_i32_1245 c1_i32_1247 k0_t2
  let v4632 : Index := Scalar.indexCast arg19
  let c88_2328 : Index := 88#32
  let c128_2329 : Index := 128#32
  ![v4632.toNat, 88, 128]
def k0_mult18 (k0_t2 : Fin k0_t2_loop.trips) : BitVec 32 :=
  let c0_i32_1245 : BitVec 32 := 0#32
  let c1_i32_1247 : BitVec 32 := 1#32
  let arg19 : BitVec 32 := Scf.iv c0_i32_1245 c1_i32_1247 k0_t2
  let c8_i32_2342 : BitVec 32 := 8#32
  let v4675 : BitVec 32 := Scalar.muli arg19 c8_i32_2342
  v4675
def k0_off88 (k0_t2 : Fin k0_t2_loop.trips) : Fin 3 → Nat :=
  let c2_2344 : Index := 2#32
  let c0_i32_1245 : BitVec 32 := 0#32
  let c1_i32_1247 : BitVec 32 := 1#32
  let arg19 : BitVec 32 := Scf.iv c0_i32_1245 c1_i32_1247 k0_t2
  let c8_i32_2342 : BitVec 32 := 8#32
  let v4675 : BitVec 32 := Scalar.muli arg19 c8_i32_2342
  let v4676 : BitVec 32 := v4675
  let v4679 : Index := Scalar.indexCast v4676
  let c0_2345 : Index := 0#32
  ![2, v4679.toNat, 0]
def k0_off89 (k0_t2 : Fin k0_t2_loop.trips) : Fin 3 → Nat :=
  let c3_2348 : Index := 3#32
  let c0_i32_1245 : BitVec 32 := 0#32
  let c1_i32_1247 : BitVec 32 := 1#32
  let arg19 : BitVec 32 := Scf.iv c0_i32_1245 c1_i32_1247 k0_t2
  let v4688 : Index := Scalar.indexCast arg19
  let c0_2349 : Index := 0#32
  ![3, v4688.toNat, 0]
def k0_off90 (k0_t2 : Fin k0_t2_loop.trips) : Fin 3 → Nat :=
  let c0_i32_1245 : BitVec 32 := 0#32
  let c1_i32_1247 : BitVec 32 := 1#32
  let arg19 : BitVec 32 := Scf.iv c0_i32_1245 c1_i32_1247 k0_t2
  let v4700 : Index := Scalar.indexCast arg19
  let c96 : Index := 96#32
  let c0_2353 : Index := 0#32
  ![v4700.toNat, 96, 0]
def k0_off91 (k0_t2 : Fin k0_t2_loop.trips) : Fin 3 → Nat :=
  let c0_i32_1245 : BitVec 32 := 0#32
  let c1_i32_1247 : BitVec 32 := 1#32
  let arg19 : BitVec 32 := Scf.iv c0_i32_1245 c1_i32_1247 k0_t2
  let v4711 : Index := Scalar.indexCast arg19
  let c104 : Index := 104#32
  let c0_2356 : Index := 0#32
  ![v4711.toNat, 104, 0]
def k0_off92 (k0_t2 : Fin k0_t2_loop.trips) : Fin 3 → Nat :=
  let c0_i32_1245 : BitVec 32 := 0#32
  let c1_i32_1247 : BitVec 32 := 1#32
  let arg19 : BitVec 32 := Scf.iv c0_i32_1245 c1_i32_1247 k0_t2
  let v4749 : Index := Scalar.indexCast arg19
  let c112 : Index := 112#32
  let c0_2367 : Index := 0#32
  ![v4749.toNat, 112, 0]
def k0_off93 (k0_t2 : Fin k0_t2_loop.trips) : Fin 3 → Nat :=
  let c0_i32_1245 : BitVec 32 := 0#32
  let c1_i32_1247 : BitVec 32 := 1#32
  let arg19 : BitVec 32 := Scf.iv c0_i32_1245 c1_i32_1247 k0_t2
  let v4787 : Index := Scalar.indexCast arg19
  let c120 : Index := 120#32
  let c0_2378 : Index := 0#32
  ![v4787.toNat, 120, 0]
def k0_off94 (k0_t2 : Fin k0_t2_loop.trips) : Fin 3 → Nat :=
  let c0_i32_1245 : BitVec 32 := 0#32
  let c1_i32_1247 : BitVec 32 := 1#32
  let arg19 : BitVec 32 := Scf.iv c0_i32_1245 c1_i32_1247 k0_t2
  let v4825 : Index := Scalar.indexCast arg19
  let c96_2389 : Index := 96#32
  let c128_2390 : Index := 128#32
  ![v4825.toNat, 96, 128]
def k0_off95 (k0_t2 : Fin k0_t2_loop.trips) : Fin 3 → Nat :=
  let c0_i32_1245 : BitVec 32 := 0#32
  let c1_i32_1247 : BitVec 32 := 1#32
  let arg19 : BitVec 32 := Scf.iv c0_i32_1245 c1_i32_1247 k0_t2
  let v4836 : Index := Scalar.indexCast arg19
  let c104_2393 : Index := 104#32
  let c128_2394 : Index := 128#32
  ![v4836.toNat, 104, 128]
def k0_off96 (k0_t2 : Fin k0_t2_loop.trips) : Fin 3 → Nat :=
  let c0_i32_1245 : BitVec 32 := 0#32
  let c1_i32_1247 : BitVec 32 := 1#32
  let arg19 : BitVec 32 := Scf.iv c0_i32_1245 c1_i32_1247 k0_t2
  let v4874 : Index := Scalar.indexCast arg19
  let c112_2405 : Index := 112#32
  let c128_2406 : Index := 128#32
  ![v4874.toNat, 112, 128]
def k0_off97 (k0_t2 : Fin k0_t2_loop.trips) : Fin 3 → Nat :=
  let c0_i32_1245 : BitVec 32 := 0#32
  let c1_i32_1247 : BitVec 32 := 1#32
  let arg19 : BitVec 32 := Scf.iv c0_i32_1245 c1_i32_1247 k0_t2
  let v4912 : Index := Scalar.indexCast arg19
  let c120_2417 : Index := 120#32
  let c128_2418 : Index := 128#32
  ![v4912.toNat, 120, 128]
def k0_mult19 (k0_t2 : Fin k0_t2_loop.trips) : BitVec 32 :=
  let c0_i32_1245 : BitVec 32 := 0#32
  let c1_i32_1247 : BitVec 32 := 1#32
  let arg19 : BitVec 32 := Scf.iv c0_i32_1245 c1_i32_1247 k0_t2
  let c8_i32_2431 : BitVec 32 := 8#32
  let v4955 : BitVec 32 := Scalar.muli arg19 c8_i32_2431
  v4955
def k0_off98 (k0_t2 : Fin k0_t2_loop.trips) : Fin 3 → Nat :=
  let c3_2433 : Index := 3#32
  let c0_i32_1245 : BitVec 32 := 0#32
  let c1_i32_1247 : BitVec 32 := 1#32
  let arg19 : BitVec 32 := Scf.iv c0_i32_1245 c1_i32_1247 k0_t2
  let c8_i32_2431 : BitVec 32 := 8#32
  let v4955 : BitVec 32 := Scalar.muli arg19 c8_i32_2431
  let v4956 : BitVec 32 := v4955
  let v4959 : Index := Scalar.indexCast v4956
  let c0_2434 : Index := 0#32
  ![3, v4959.toNat, 0]
def k0_off99 (k0_t2 : Fin k0_t2_loop.trips) : Fin 3 → Nat :=
  let c4_2437 : Index := 4#32
  let c0_i32_1245 : BitVec 32 := 0#32
  let c1_i32_1247 : BitVec 32 := 1#32
  let arg19 : BitVec 32 := Scf.iv c0_i32_1245 c1_i32_1247 k0_t2
  let v4968 : Index := Scalar.indexCast arg19
  let c0_2438 : Index := 0#32
  ![4, v4968.toNat, 0]
def k0_off100 (k0_t2 : Fin k0_t2_loop.trips) : Fin 3 → Nat :=
  let c0_i32_1245 : BitVec 32 := 0#32
  let c1_i32_1247 : BitVec 32 := 1#32
  let arg19 : BitVec 32 := Scf.iv c0_i32_1245 c1_i32_1247 k0_t2
  let v4980 : Index := Scalar.indexCast arg19
  let c128_2442 : Index := 128#32
  let c0_2443 : Index := 0#32
  ![v4980.toNat, 128, 0]
def k0_off101 (k0_t2 : Fin k0_t2_loop.trips) : Fin 3 → Nat :=
  let c0_i32_1245 : BitVec 32 := 0#32
  let c1_i32_1247 : BitVec 32 := 1#32
  let arg19 : BitVec 32 := Scf.iv c0_i32_1245 c1_i32_1247 k0_t2
  let v4991 : Index := Scalar.indexCast arg19
  let c136 : Index := 136#32
  let c0_2446 : Index := 0#32
  ![v4991.toNat, 136, 0]
def k0_off102 (k0_t2 : Fin k0_t2_loop.trips) : Fin 3 → Nat :=
  let c0_i32_1245 : BitVec 32 := 0#32
  let c1_i32_1247 : BitVec 32 := 1#32
  let arg19 : BitVec 32 := Scf.iv c0_i32_1245 c1_i32_1247 k0_t2
  let v5029 : Index := Scalar.indexCast arg19
  let c144 : Index := 144#32
  let c0_2457 : Index := 0#32
  ![v5029.toNat, 144, 0]
def k0_off103 (k0_t2 : Fin k0_t2_loop.trips) : Fin 3 → Nat :=
  let c0_i32_1245 : BitVec 32 := 0#32
  let c1_i32_1247 : BitVec 32 := 1#32
  let arg19 : BitVec 32 := Scf.iv c0_i32_1245 c1_i32_1247 k0_t2
  let v5067 : Index := Scalar.indexCast arg19
  let c152 : Index := 152#32
  let c0_2468 : Index := 0#32
  ![v5067.toNat, 152, 0]
def k0_off104 (k0_t2 : Fin k0_t2_loop.trips) : Fin 3 → Nat :=
  let c0_i32_1245 : BitVec 32 := 0#32
  let c1_i32_1247 : BitVec 32 := 1#32
  let arg19 : BitVec 32 := Scf.iv c0_i32_1245 c1_i32_1247 k0_t2
  let v5105 : Index := Scalar.indexCast arg19
  let c128_2479 : Index := 128#32
  let c128_2480 : Index := 128#32
  ![v5105.toNat, 128, 128]
def k0_off105 (k0_t2 : Fin k0_t2_loop.trips) : Fin 3 → Nat :=
  let c0_i32_1245 : BitVec 32 := 0#32
  let c1_i32_1247 : BitVec 32 := 1#32
  let arg19 : BitVec 32 := Scf.iv c0_i32_1245 c1_i32_1247 k0_t2
  let v5116 : Index := Scalar.indexCast arg19
  let c136_2483 : Index := 136#32
  let c128_2484 : Index := 128#32
  ![v5116.toNat, 136, 128]
def k0_off106 (k0_t2 : Fin k0_t2_loop.trips) : Fin 3 → Nat :=
  let c0_i32_1245 : BitVec 32 := 0#32
  let c1_i32_1247 : BitVec 32 := 1#32
  let arg19 : BitVec 32 := Scf.iv c0_i32_1245 c1_i32_1247 k0_t2
  let v5154 : Index := Scalar.indexCast arg19
  let c144_2495 : Index := 144#32
  let c128_2496 : Index := 128#32
  ![v5154.toNat, 144, 128]
def k0_off107 (k0_t2 : Fin k0_t2_loop.trips) : Fin 3 → Nat :=
  let c0_i32_1245 : BitVec 32 := 0#32
  let c1_i32_1247 : BitVec 32 := 1#32
  let arg19 : BitVec 32 := Scf.iv c0_i32_1245 c1_i32_1247 k0_t2
  let v5192 : Index := Scalar.indexCast arg19
  let c152_2507 : Index := 152#32
  let c128_2508 : Index := 128#32
  ![v5192.toNat, 152, 128]
def k0_mult20 (k0_t2 : Fin k0_t2_loop.trips) : BitVec 32 :=
  let c0_i32_1245 : BitVec 32 := 0#32
  let c1_i32_1247 : BitVec 32 := 1#32
  let arg19 : BitVec 32 := Scf.iv c0_i32_1245 c1_i32_1247 k0_t2
  let c8_i32_2521 : BitVec 32 := 8#32
  let v5235 : BitVec 32 := Scalar.muli arg19 c8_i32_2521
  v5235
def k0_off108 (k0_t2 : Fin k0_t2_loop.trips) : Fin 3 → Nat :=
  let c4_2523 : Index := 4#32
  let c0_i32_1245 : BitVec 32 := 0#32
  let c1_i32_1247 : BitVec 32 := 1#32
  let arg19 : BitVec 32 := Scf.iv c0_i32_1245 c1_i32_1247 k0_t2
  let c8_i32_2521 : BitVec 32 := 8#32
  let v5235 : BitVec 32 := Scalar.muli arg19 c8_i32_2521
  let v5236 : BitVec 32 := v5235
  let v5239 : Index := Scalar.indexCast v5236
  let c0_2524 : Index := 0#32
  ![4, v5239.toNat, 0]
def k0_cond1 (i : grid0.Coords) : BitVec 1 :=
  let arg0 : BitVec 32 := BitVec.ofNat 32 (i 0).val
  let c8_i32_2068 : BitVec 32 := 8#32
  let c0_i32_2069 : BitVec 32 := 0#32
  let v3833 : BitVec 1 := Scalar.cmpi .eq c8_i32_2068 c0_i32_2069
  let c1_i32_2070 : BitVec 32 := 1#32
  let v3834 : BitVec 32 := Scalar.select v3833 c1_i32_2070 c8_i32_2068
  let v3835 : BitVec 32 := Scalar.remsi arg0 v3834
  let c0_i32_2072 : BitVec 32 := 0#32
  let v3837 : BitVec 1 := Scalar.cmpi .slt v3835 c0_i32_2072
  let c0_i32_2073 : BitVec 32 := 0#32
  let v3838 : BitVec 1 := Scalar.cmpi .slt v3834 c0_i32_2073
  let v3839 : BitVec 1 := Scalar.xori v3837 v3838
  let c0_i32_2071 : BitVec 32 := 0#32
  let v3836 : BitVec 1 := Scalar.cmpi .ne v3835 c0_i32_2071
  let v3840 : BitVec 1 := Scalar.andi v3839 v3836
  let v3841 : BitVec 32 := Scalar.addi v3835 v3834
  let v3842 : BitVec 32 := Scalar.select v3840 v3841 v3835
  let c7_i32_2074 : BitVec 32 := 7#32
  let v3843 : BitVec 1 := Scalar.cmpi .eq v3842 c7_i32_2074
  let c124_i32_2075 : BitVec 32 := 124#32
  let v3844 : BitVec 1 := Scalar.cmpi .eq arg0 c124_i32_2075
  let v3845 : BitVec 1 := Scalar.ori v3843 v3844
  let v3846 : BitVec 32 := Scalar.extui v3845
  let c0_i32_2076 : BitVec 32 := 0#32
  let v3847 : BitVec 1 := Scalar.cmpi .ne v3846 c0_i32_2076
  v3847

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![c0_i32_4.toNat, v16.toNat]

def cc0_transform_8 (i : grid0.Coords) : Fin 2 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![c0_i32_4.toNat, v16.toNat]

abbrev stage0_0 : Fin 2 → Memref sig .tc .vmem S16x256x128 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x4x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S20x16x256 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S160x128 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S16x5120 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S640x128 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S640x128 .i32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== KernelIdeal.lean ====
variable {F : FTy → Type} [FloatOps F]
-- ==== ReferenceIdeal.lean ====
abbrev S2000x256x128 : Shape := ⟨3, ![2000, 256, 128]⟩
abbrev S2000x256x4 : Shape := ⟨3, ![2000, 256, 4]⟩
abbrev S2000 : Shape := ⟨1, ![2000]⟩
abbrev S2000x256x20 : Shape := ⟨3, ![2000, 256, 20]⟩
abbrev S20x128x8 : Shape := ⟨3, ![20, 128, 8]⟩
abbrev S2000x256x4x32 : Shape := ⟨4, ![2000, 256, 4, 32]⟩
abbrev S2000x256x4x1 : Shape := ⟨4, ![2000, 256, 4, 1]⟩
abbrev S2000x256x20x8 : Shape := ⟨4, ![2000, 256, 20, 8]⟩
abbrev S_ : Shape := ⟨0, ![]⟩
abbrev S256 : Shape := ⟨1, ![256]⟩
abbrev S1x256 : Shape := ⟨2, ![1, 256]⟩
abbrev S2000x1 : Shape := ⟨2, ![2000, 1]⟩
abbrev S2000x256 : Shape := ⟨2, ![2000, 256]⟩
abbrev S32 : Shape := ⟨1, ![32]⟩
abbrev S2000x256x1x1 : Shape := ⟨4, ![2000, 256, 1, 1]⟩
abbrev S2000x256x20x1 : Shape := ⟨4, ![2000, 256, 20, 1]⟩
abbrev S1x1x1x32 : Shape := ⟨4, ![1, 1, 1, 32]⟩
abbrev S2000x256x20x32 : Shape := ⟨4, ![2000, 256, 20, 32]⟩
abbrev S2000x20x32x8 : Shape := ⟨4, ![2000, 20, 32, 8]⟩
abbrev S2000x20x32 : Shape := ⟨3, ![2000, 20, 32]⟩
abbrev S2000x20x32x1 : Shape := ⟨4, ![2000, 20, 32, 1]⟩
abbrev S1x256x1x1 : Shape := ⟨4, ![1, 256, 1, 1]⟩
abbrev S32x1 : Shape := ⟨2, ![32, 1]⟩
abbrev S1x32 : Shape := ⟨2, ![1, 32]⟩
abbrev S32x32 : Shape := ⟨2, ![32, 32]⟩
abbrev S2000x20x1x32 : Shape := ⟨4, ![2000, 20, 1, 32]⟩
abbrev S1x1x32x32 : Shape := ⟨4, ![1, 1, 32, 32]⟩
abbrev S2000x20x32x32 : Shape := ⟨4, ![2000, 20, 32, 32]⟩
abbrev S1x1x1x256 : Shape := ⟨4, ![1, 1, 1, 256]⟩
abbrev S2000x20x32x256 : Shape := ⟨4, ![2000, 20, 32, 256]⟩
abbrev S2000x5120 : Shape := ⟨2, ![2000, 5120]⟩
abbrev S2000x640 : Shape := ⟨2, ![2000, 640]⟩
abbrev S640x2000 : Shape := ⟨2, ![640, 2000]⟩

abbrev nBuf : Space → Nat
  | .hbm => 128
  | .vmem => 4
  | .smem => 0
  | _ => 0

abbrev bufTy : (tb : Table) → Fin (tcTables nBuf tb) → BufTy
  | .hbm, ⟨0, _⟩ => ⟨S2000x256x128, .fp8e4m3⟩
  | .hbm, ⟨1, _⟩ => ⟨S2000x256x4, .f32⟩
  | .hbm, ⟨2, _⟩ => ⟨S2000, .i32⟩
  | .hbm, ⟨3, _⟩ => ⟨S2000x256x20, .i32⟩
  | .hbm, ⟨4, _⟩ => ⟨S20x128x8, .fp8e4m3⟩
  | .hbm, ⟨5, _⟩ => ⟨S2000x256x128, .bf16⟩
  | .hbm, ⟨6, _⟩ => ⟨S20x128x8, .bf16⟩
  | .hbm, ⟨7, _⟩ => ⟨S2000x256x4x32, .bf16⟩
  | .hbm, ⟨8, _⟩ => ⟨S2000x256x4, .bf16⟩
  | .hbm, ⟨9, _⟩ => ⟨S2000x256x4x1, .bf16⟩
  | .hbm, ⟨10, _⟩ => ⟨S2000x256x4x32, .bf16⟩
  | .hbm, ⟨11, _⟩ => ⟨S2000x256x4x32, .bf16⟩
  | .hbm, ⟨12, _⟩ => ⟨S2000x256x128, .bf16⟩
  | .hbm, ⟨13, _⟩ => ⟨S2000x256x20x8, .f32⟩
  | .hbm, ⟨14, _⟩ => ⟨S_, .f32⟩
  | .hbm, ⟨15, _⟩ => ⟨S2000x256x20x8, .f32⟩
  | .hbm, ⟨16, _⟩ => ⟨S2000x256x20x8, .f32⟩
  | .hbm, ⟨17, _⟩ => ⟨S256, .i32⟩
  | .hbm, ⟨18, _⟩ => ⟨S1x256, .i32⟩
  | .hbm, ⟨19, _⟩ => ⟨S2000x1, .i32⟩
  | .hbm, ⟨20, _⟩ => ⟨S2000x256, .i32⟩
  | .hbm, ⟨21, _⟩ => ⟨S2000x256, .i32⟩
  | .hbm, ⟨22, _⟩ => ⟨S2000x256, .i1⟩
  | .hbm, ⟨23, _⟩ => ⟨S32, .i32⟩
  | .hbm, ⟨24, _⟩ => ⟨S2000x256x1x1, .i1⟩
  | .hbm, ⟨25, _⟩ => ⟨S2000x256x20x1, .i32⟩
  | .hbm, ⟨26, _⟩ => ⟨S1x1x1x32, .i32⟩
  | .hbm, ⟨27, _⟩ => ⟨S2000x256x20x32, .i32⟩
  | .hbm, ⟨28, _⟩ => ⟨S2000x256x20x32, .i32⟩
  | .hbm, ⟨29, _⟩ => ⟨S2000x256x20x32, .i1⟩
  | .hbm, ⟨30, _⟩ => ⟨S2000x256x20x32, .i1⟩
  | .hbm, ⟨31, _⟩ => ⟨S2000x256x20x32, .i1⟩
  | .hbm, ⟨32, _⟩ => ⟨S2000x256x20x8, .f32⟩
  | .hbm, ⟨33, _⟩ => ⟨S_, .f32⟩
  | .hbm, ⟨34, _⟩ => ⟨S2000x256x20x8, .f32⟩
  | .hbm, ⟨35, _⟩ => ⟨S2000x256x20x8, .i1⟩
  | .hbm, ⟨36, _⟩ => ⟨S_, .f32⟩
  | .hbm, ⟨37, _⟩ => ⟨S_, .f32⟩
  | .hbm, ⟨38, _⟩ => ⟨S2000x256x20x8, .f32⟩
  | .hbm, ⟨39, _⟩ => ⟨S2000x256x20x8, .f32⟩
  | .hbm, ⟨40, _⟩ => ⟨S2000x256x20x32, .f32⟩
  | .hbm, ⟨41, _⟩ => ⟨S2000x20x32x8, .f32⟩
  | .hbm, ⟨42, _⟩ => ⟨S2000x256x20x32, .i32⟩
  | .hbm, ⟨43, _⟩ => ⟨S_, .i32⟩
  | .hbm, ⟨44, _⟩ => ⟨S2000x20x32, .i32⟩
  | .hbm, ⟨45, _⟩ => ⟨S_, .i32⟩
  | .hbm, ⟨46, _⟩ => ⟨S2000x20x32, .i32⟩
  | .hbm, ⟨47, _⟩ => ⟨S2000x20x32, .i1⟩
  | .hbm, ⟨48, _⟩ => ⟨S_, .i32⟩
  | .hbm, ⟨49, _⟩ => ⟨S2000x20x32, .i32⟩
  | .hbm, ⟨50, _⟩ => ⟨S2000x20x32, .i32⟩
  | .hbm, ⟨51, _⟩ => ⟨S2000x20x32, .f32⟩
  | .hbm, ⟨52, _⟩ => ⟨S2000x20x32x1, .f32⟩
  | .hbm, ⟨53, _⟩ => ⟨S2000x20x32x8, .f32⟩
  | .hbm, ⟨54, _⟩ => ⟨S2000x20x32x8, .f32⟩
  | .hbm, ⟨55, _⟩ => ⟨S256, .i32⟩
  | .hbm, ⟨56, _⟩ => ⟨S1x256x1x1, .i32⟩
  | .hbm, ⟨57, _⟩ => ⟨S_, .i32⟩
  | .hbm, ⟨58, _⟩ => ⟨S_, .i32⟩
  | .hbm, ⟨59, _⟩ => ⟨S2000x256x20x32, .i32⟩
  | .hbm, ⟨60, _⟩ => ⟨S2000x256x20x32, .i32⟩
  | .hbm, ⟨61, _⟩ => ⟨S2000x256x20x32, .i32⟩
  | .hbm, ⟨62, _⟩ => ⟨S_, .i32⟩
  | .hbm, ⟨63, _⟩ => ⟨S2000x20x32, .i32⟩
  | .hbm, ⟨64, _⟩ => ⟨S32x1, .i32⟩
  | .hbm, ⟨65, _⟩ => ⟨S1x32, .i32⟩
  | .hbm, ⟨66, _⟩ => ⟨S32x32, .i32⟩
  | .hbm, ⟨67, _⟩ => ⟨S32x32, .i32⟩
  | .hbm, ⟨68, _⟩ => ⟨S32x32, .i32⟩
  | .hbm, ⟨69, _⟩ => ⟨S32x32, .i32⟩
  | .hbm, ⟨70, _⟩ => ⟨S2000x20x1x32, .i1⟩
  | .hbm, ⟨71, _⟩ => ⟨S1x1x32x32, .i32⟩
  | .hbm, ⟨72, _⟩ => ⟨S_, .i32⟩
  | .hbm, ⟨73, _⟩ => ⟨S1x1x32x32, .i32⟩
  | .hbm, ⟨74, _⟩ => ⟨S1x1x32x32, .i32⟩
  | .hbm, ⟨75, _⟩ => ⟨S2000x20x1x32, .i32⟩
  | .hbm, ⟨76, _⟩ => ⟨S2000x20x32x32, .i32⟩
  | .hbm, ⟨77, _⟩ => ⟨S2000x20x32x32, .i32⟩
  | .hbm, ⟨78, _⟩ => ⟨S2000x20x32x32, .i32⟩
  | .hbm, ⟨79, _⟩ => ⟨S_, .i32⟩
  | .hbm, ⟨80, _⟩ => ⟨S_, .i32⟩
  | .hbm, ⟨81, _⟩ => ⟨S2000x20x32x32, .i1⟩
  | .hbm, ⟨82, _⟩ => ⟨S2000x20x32x32, .i32⟩
  | .hbm, ⟨83, _⟩ => ⟨S2000x20x32x32, .i32⟩
  | .hbm, ⟨84, _⟩ => ⟨S_, .i32⟩
  | .hbm, ⟨85, _⟩ => ⟨S2000x20x32, .i32⟩
  | .hbm, ⟨86, _⟩ => ⟨S_, .i32⟩
  | .hbm, ⟨87, _⟩ => ⟨S_, .i32⟩
  | .hbm, ⟨88, _⟩ => ⟨S_, .i32⟩
  | .hbm, ⟨89, _⟩ => ⟨S_, .i1⟩
  | .hbm, ⟨90, _⟩ => ⟨S_, .i32⟩
  | .hbm, ⟨91, _⟩ => ⟨S_, .i32⟩
  | .hbm, ⟨92, _⟩ => ⟨S2000x20x32, .i32⟩
  | .hbm, ⟨93, _⟩ => ⟨S2000x20x32, .i32⟩
  | .hbm, ⟨94, _⟩ => ⟨S_, .i32⟩
  | .hbm, ⟨95, _⟩ => ⟨S2000x20x32, .i32⟩
  | .hbm, ⟨96, _⟩ => ⟨S2000x20x32, .i1⟩
  | .hbm, ⟨97, _⟩ => ⟨S_, .i32⟩
  | .hbm, ⟨98, _⟩ => ⟨S2000x20x32, .i32⟩
  | .hbm, ⟨99, _⟩ => ⟨S2000x20x32, .i1⟩
  | .hbm, ⟨100, _⟩ => ⟨S_, .i32⟩
  | .hbm, ⟨101, _⟩ => ⟨S_, .i1⟩
  | .hbm, ⟨102, _⟩ => ⟨S2000x20x32, .i1⟩
  | .hbm, ⟨103, _⟩ => ⟨S2000x20x32, .i1⟩
  | .hbm, ⟨104, _⟩ => ⟨S2000x20x32, .i1⟩
  | .hbm, ⟨105, _⟩ => ⟨S2000x20x32, .i32⟩
  | .hbm, ⟨106, _⟩ => ⟨S2000x20x32, .i32⟩
  | .hbm, ⟨107, _⟩ => ⟨S2000x20x32, .i32⟩
  | .hbm, ⟨108, _⟩ => ⟨S2000x20x32x1, .i32⟩
  | .hbm, ⟨109, _⟩ => ⟨S1x1x1x256, .i32⟩
  | .hbm, ⟨110, _⟩ => ⟨S2000x20x32x256, .i32⟩
  | .hbm, ⟨111, _⟩ => ⟨S2000x20x32x256, .i32⟩
  | .hbm, ⟨112, _⟩ => ⟨S2000x20x32x256, .i1⟩
  | .hbm, ⟨113, _⟩ => ⟨S2000x20x32x256, .f32⟩
  | .hbm, ⟨114, _⟩ => ⟨S2000x20x32x8, .f32⟩
  | .hbm, ⟨115, _⟩ => ⟨S2000x20x32x1, .i1⟩
  | .hbm, ⟨116, _⟩ => ⟨S2000x20x32x8, .i1⟩
  | .hbm, ⟨117, _⟩ => ⟨S2000x20x32x8, .f32⟩
  | .hbm, ⟨118, _⟩ => ⟨S_, .i32⟩
  | .hbm, ⟨119, _⟩ => ⟨S_, .i32⟩
  | .hbm, ⟨120, _⟩ => ⟨S2000x20x32, .i32⟩
  | .hbm, ⟨121, _⟩ => ⟨S2000x20x32, .i32⟩
  | .hbm, ⟨122, _⟩ => ⟨S2000x5120, .f32⟩
  | .hbm, ⟨123, _⟩ => ⟨S2000x5120, .bf16⟩
  | .hbm, ⟨124, _⟩ => ⟨S2000x640, .i32⟩
  | .hbm, ⟨125, _⟩ => ⟨S640x2000, .i32⟩
  | .hbm, ⟨126, _⟩ => ⟨S2000x640, .i32⟩
  | .hbm, ⟨127, _⟩ => ⟨S640x2000, .i32⟩
  | .local _ .vmem, ⟨0, _⟩ => ⟨S2000x256x128, .fp8e4m3⟩
  | .local _ .vmem, ⟨1, _⟩ => ⟨S20x128x8, .fp8e4m3⟩
  | .local _ .vmem, ⟨2, _⟩ => ⟨S2000x256x128, .bf16⟩
  | .local _ .vmem, ⟨3, _⟩ => ⟨S20x128x8, .bf16⟩
  | _, _ => ⟨S2000x256x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_0 : Ref sig .tc := ⟨.hbm, 33, rfl⟩
abbrev main_v26 : Ref sig .tc := ⟨.hbm, 34, rfl⟩
abbrev main_v27 : Ref sig .tc := ⟨.hbm, 35, rfl⟩
abbrev main_cst_1 : Ref sig .tc := ⟨.hbm, 36, rfl⟩
abbrev main_call0_v0 : Ref sig .tc := ⟨.hbm, 37, rfl⟩
abbrev main_call0_v1 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_c : Ref sig .tc := ⟨.hbm, 43, rfl⟩
abbrev main_v32 : Ref sig .tc := ⟨.hbm, 44, rfl⟩
abbrev main_c_2 : Ref sig .tc := ⟨.hbm, 45, rfl⟩
abbrev main_v33 : Ref sig .tc := ⟨.hbm, 46, rfl⟩
abbrev main_v34 : Ref sig .tc := ⟨.hbm, 47, rfl⟩
abbrev main_c_3 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_c_4 : Ref sig .tc := ⟨.hbm, 57, rfl⟩
abbrev main_call1_v0 : Ref sig .tc := ⟨.hbm, 58, rfl⟩
abbrev main_call1_v1 : Ref sig .tc := ⟨.hbm, 59, rfl⟩
abbrev main_call1_v2 : Ref sig .tc := ⟨.hbm, 60, rfl⟩
abbrev main_v43 : Ref sig .tc := ⟨.hbm, 61, rfl⟩
abbrev main_c_5 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_c_6 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_c_7 : Ref sig .tc := ⟨.hbm, 79, rfl⟩
abbrev main_call2_v0 : Ref sig .tc := ⟨.hbm, 80, rfl⟩
abbrev main_call2_v1 : Ref sig .tc := ⟨.hbm, 81, rfl⟩
abbrev main_call2_v2 : Ref sig .tc := ⟨.hbm, 82, rfl⟩
abbrev main_v59 : Ref sig .tc := ⟨.hbm, 83, rfl⟩
abbrev main_c_8 : Ref sig .tc := ⟨.hbm, 84, rfl⟩
abbrev main_v60 : Ref sig .tc := ⟨.hbm, 85, rfl⟩
abbrev main_c_9 : Ref sig .tc := ⟨.hbm, 86, rfl⟩
abbrev main_call3_v0 : Ref sig .tc := ⟨.hbm, 87, rfl⟩
abbrev main_call3_c : Ref sig .tc := ⟨.hbm, 88, rfl⟩
abbrev main_call3_v1 : Ref sig .tc := ⟨.hbm, 89, rfl⟩
abbrev main_call3_c_0 : Ref sig .tc := ⟨.hbm, 90, rfl⟩
abbrev main_call3_v2 : Ref sig .tc := ⟨.hbm, 91, rfl⟩
abbrev main_call3_v3 : Ref sig .tc := ⟨.hbm, 92, rfl⟩
abbrev main_call3_v4 : Ref sig .tc := ⟨.hbm, 93, rfl⟩
abbrev main_call3_c_1 : Ref sig .tc := ⟨.hbm, 94, rfl⟩
abbrev main_call3_v5 : Ref sig .tc := ⟨.hbm, 95, rfl⟩
abbrev main_call3_v6 : Ref sig .tc := ⟨.hbm, 96, rfl⟩
abbrev main_call3_c_2 : Ref sig .tc := ⟨.hbm, 97, rfl⟩
abbrev main_call3_v7 : Ref sig .tc := ⟨.hbm, 98, rfl⟩
abbrev main_call3_v8 : Ref sig .tc := ⟨.hbm, 99, rfl⟩
abbrev main_call3_c_3 : Ref sig .tc := ⟨.hbm, 100, rfl⟩
abbrev main_call3_v9 : Ref sig .tc := ⟨.hbm, 101, rfl⟩
abbrev main_call3_v10 : Ref sig .tc := ⟨.hbm, 102, rfl⟩
abbrev main_call3_v11 : Ref sig .tc := ⟨.hbm, 103, rfl⟩
abbrev main_call3_v12 : Ref sig .tc := ⟨.hbm, 104, rfl⟩
abbrev main_call3_v13 : Ref sig .tc := ⟨.hbm, 105, rfl⟩
abbrev main_call3_v14 : Ref sig .tc := ⟨.hbm, 106, rfl⟩
abbrev main_v61 : Ref sig .tc := ⟨.hbm, 107, rfl⟩
abbrev main_v62 : Ref sig .tc := ⟨.hbm, 108, rfl⟩
abbrev main_v63 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_call4_v0 : Ref sig .tc := ⟨.hbm, 116, rfl⟩
abbrev main_v70 : Ref sig .tc := ⟨.hbm, 117, rfl⟩
abbrev main_c_10 : Ref sig .tc := ⟨.hbm, 118, rfl⟩
abbrev main_call5_v0 : Ref sig .tc := ⟨.hbm, 119, rfl⟩
abbrev main_call5_v1 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩
abbrev main_v74 : Ref sig .tc := ⟨.hbm, 124, rfl⟩
abbrev main_v75 : Ref sig .tc := ⟨.hbm, 125, rfl⟩
abbrev main_v76 : Ref sig .tc := ⟨.hbm, 126, rfl⟩
abbrev main_v77 : Ref sig .tc := ⟨.hbm, 127, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S2000x256x128 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S20x128x8 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2000x256x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S20x128x8 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.Kernel.Points.lean ====
/- The schedule of the call: at which points each window is fetched and written back, the staging buffer a
   window is on at a point, the body at a point, and where a point's rows lie in the two accumulators. -/
module

public import proofs.«01_k».proof.Proof.Gen.Kernel
public import Idealize.ShloMosaic.Lib.Pipeline.Kit

@[expose] public section

noncomputable section

namespace Cert.Kernel.Gen

open Idealize.ShloMosaic Idealize.ShloMosaic.TcCoe
open Idealize.SL Idealize.SL.Sem

variable {F : FTy → Type} [BitOps F]
/-- Where a point's rows of group 0 lie in the two accumulators: row block `i % 8`, half `r`. -/
theorem off54_eq : ∀ i : grid0.Coords, ∀ (r : Fin 2), k0_off54 i (BitVec.ofNat 32 (8 * r.val)) = ![0, 16 * ((i 0).val % 8) + 8 * r.val, 0] := by decide +kernel
instance closedOff54_0 (i : grid0.Coords) : ClosedOff (k0_off54 i (BitVec.ofNat 32 0)) := ⟨![0, 16 * ((i 0).val % 8) + 8 * 0, 0], off54_eq i ⟨0, by decide⟩⟩
instance closedOff54_1 (i : grid0.Coords) : ClosedOff (k0_off54 i (BitVec.ofNat 32 8)) := ⟨![0, 16 * ((i 0).val % 8) + 8 * 1, 0], off54_eq i ⟨1, by decide⟩⟩
/-- Where a point's rows of group 1 lie in the two accumulators: row block `i % 8`, half `r`. -/
theorem off55_eq : ∀ i : grid0.Coords, ∀ (r : Fin 2), k0_off55 i (BitVec.ofNat 32 (8 * r.val)) = ![1, 16 * ((i 0).val % 8) + 8 * r.val, 0] := by decide +kernel
instance closedOff55_0 (i : grid0.Coords) : ClosedOff (k0_off55 i (BitVec.ofNat 32 0)) := ⟨![1, 16 * ((i 0).val % 8) + 8 * 0, 0], off55_eq i ⟨0, by decide⟩⟩
instance closedOff55_1 (i : grid0.Coords) : ClosedOff (k0_off55 i (BitVec.ofNat 32 8)) := ⟨![1, 16 * ((i 0).val % 8) + 8 * 1, 0], off55_eq i ⟨1, by decide⟩⟩
/-- Where a point's rows of group 2 lie in the two accumulators: row block `i % 8`, half `r`. -/
theorem off56_eq : ∀ i : grid0.Coords, ∀ (r : Fin 2), k0_off56 i (BitVec.ofNat 32 (8 * r.val)) = ![2, 16 * ((i 0).val % 8) + 8 * r.val, 0] := by decide +kernel
instance closedOff56_0 (i : grid0.Coords) : ClosedOff (k0_off56 i (BitVec.ofNat 32 0)) := ⟨![2, 16 * ((i 0).val % 8) + 8 * 0, 0], off56_eq i ⟨0, by decide⟩⟩
instance closedOff56_1 (i : grid0.Coords) : ClosedOff (k0_off56 i (BitVec.ofNat 32 8)) := ⟨![2, 16 * ((i 0).val % 8) + 8 * 1, 0], off56_eq i ⟨1, by decide⟩⟩
/-- Where a point's rows of group 3 lie in the two accumulators: row block `i % 8`, half `r`. -/
theorem off57_eq : ∀ i : grid0.Coords, ∀ (r : Fin 2), k0_off57 i (BitVec.ofNat 32 (8 * r.val)) = ![3, 16 * ((i 0).val % 8) + 8 * r.val, 0] := by decide +kernel
instance closedOff57_0 (i : grid0.Coords) : ClosedOff (k0_off57 i (BitVec.ofNat 32 0)) := ⟨![3, 16 * ((i 0).val % 8) + 8 * 0, 0], off57_eq i ⟨0, by decide⟩⟩
instance closedOff57_1 (i : grid0.Coords) : ClosedOff (k0_off57 i (BitVec.ofNat 32 8)) := ⟨![3, 16 * ((i 0).val % 8) + 8 * 1, 0], off57_eq i ⟨1, by decide⟩⟩
/-- Where a point's rows of group 4 lie in the two accumulators: row block `i % 8`, half `r`. -/
theorem off58_eq : ∀ i : grid0.Coords, ∀ (r : Fin 2), k0_off58 i (BitVec.ofNat 32 (8 * r.val)) = ![4, 16 * ((i 0).val % 8) + 8 * r.val, 0] := by decide +kernel
instance closedOff58_0 (i : grid0.Coords) : ClosedOff (k0_off58 i (BitVec.ofNat 32 0)) := ⟨![4, 16 * ((i 0).val % 8) + 8 * 0, 0], off58_eq i ⟨0, by decide⟩⟩
instance closedOff58_1 (i : grid0.Coords) : ClosedOff (k0_off58 i (BitVec.ofNat 32 8)) := ⟨![4, 16 * ((i 0).val % 8) + 8 * 1, 0], off58_eq i ⟨1, by decide⟩⟩

/-! ## custom_call 0 -/

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

/-- Window 0 (operand 1 (%arg0)) is fetched at every point, at any contents of the tables (its index map reads none). -/
theorem fetch0_0 (a : (pcfg0 (F := F)).Adm) : ∀ t : Fin (cfg0 a).N, ((cfg0 a).win 0).fetch t = true :=
  (fun t => (Pipeline.Window.fetchOf_reads cc0_transform_0 reads0_0 hreads0_0 0 (by decide) (by decide) (Pipeline.Window.sep_of_coord cc0_transform_0 0 0 (fun _ => rfl) (by decide)) (P := 1) (by decide) t).mpr (Nat.mod_one _) : ∀ t : Fin grid0.N, Pipeline.Window.fetchOf grid0 false cc0_transform_0 t = true)
/-- Window 1 (operand 2 (%0)) is fetched at every point, at any contents of the tables (its index map reads none). -/
theorem fetch0_1 (a : (pcfg0 (F := F)).Adm) : ∀ t : Fin (cfg0 a).N, ((cfg0 a).win 1).fetch t = true :=
  (fun t => (Pipeline.Window.fetchOf_reads cc0_transform_1 reads0_1 hreads0_1 0 (by decide) (by decide) (Pipeline.Window.sep_of_coord cc0_transform_1 0 0 (fun _ => rfl) (by decide)) (P := 1) (by decide) t).mpr (Nat.mod_one _) : ∀ t : Fin grid0.N, Pipeline.Window.fetchOf grid0 false cc0_transform_1 t = true)
/-- Window 2 (operand 3 (%4)) is fetched at every point, at any contents of the tables (its index map reads none). -/
theorem fetch0_2 (a : (pcfg0 (F := F)).Adm) : ∀ t : Fin (cfg0 a).N, ((cfg0 a).win 2).fetch t = true :=
  (fun t => (Pipeline.Window.fetchOf_reads cc0_transform_2 reads0_2 hreads0_2 0 (by decide) (by decide) (Pipeline.Window.sep_of_coord cc0_transform_2 0 0 (fun _ => rfl) (by decide)) (P := 1) (by decide) t).mpr (Nat.mod_one _) : ∀ t : Fin grid0.N, Pipeline.Window.fetchOf grid0 false cc0_transform_2 t = true)
/-- Window 3 (operand 4 (%1)) is fetched at every point, at any contents of the tables (its index map reads none). -/
theorem fetch0_3 (a : (pcfg0 (F := F)).Adm) : ∀ t : Fin (cfg0 a).N, ((cfg0 a).win 3).fetch t = true :=
  (fun t => (Pipeline.Window.fetchOf_reads cc0_transform_3 reads0_3 hreads0_3 0 (by decide) (by decide) (Pipeline.Window.sep_of_coord cc0_transform_3 0 1 (fun _ => rfl) (by decide)) (P := 1) (by decide) t).mpr (Nat.mod_one _) : ∀ t : Fin grid0.N, Pipeline.Window.fetchOf grid0 false cc0_transform_3 t = true)
/-- Window 4 (operand 5 (%3)) is fetched at the first point only, at any contents of the tables (its index map reads none). -/
theorem fetch0_4 (a : (pcfg0 (F := F)).Adm) : ∀ t : Fin (cfg0 a).N, ((cfg0 a).win 4).fetch t = true ↔ t.val % 125 = 0 :=
  (fun t => Pipeline.Window.fetchOf_const cc0_transform_4 (fun _ _ => rfl) (n := 125) (by decide) t : ∀ t : Fin grid0.N, Pipeline.Window.fetchOf grid0 false cc0_transform_4 t = true ↔ t.val % 125 = 0)
/-- Window 5 (operand 6 (%cst)) is fetched at the first point only, at any contents of the tables (its index map reads none). -/
theorem fetch0_5 (a : (pcfg0 (F := F)).Adm) : ∀ t : Fin (cfg0 a).N, ((cfg0 a).win 5).fetch t = true ↔ t.val % 125 = 0 :=
  (fun t => Pipeline.Window.fetchOf_const cc0_transform_5 (fun _ _ => rfl) (n := 125) (by decide) t : ∀ t : Fin grid0.N, Pipeline.Window.fetchOf grid0 false cc0_transform_5 t = true ↔ t.val % 125 = 0)
/-- Window 6 (result 0 (%5#0)) is written back at every point, at any contents of the tables (its index map reads none). -/
theorem flush0_6 (a : (pcfg0 (F := F)).Adm) : ∀ t : Fin (cfg0 a).N, ((cfg0 a).win 6).flush t = true :=
  (fun t => (Pipeline.Window.flushOf_reads cc0_transform_6 reads0_6 hreads0_6 0 (by decide) (by decide) (Pipeline.Window.sep_of_coord cc0_transform_6 0 0 (fun _ => rfl) (by decide)) (P := 1) (m := 0) (by decide) rfl t).mpr (Nat.mod_one _) : ∀ t : Fin grid0.N, Pipeline.Window.flushOf grid0 true cc0_transform_6 t = true)
-- window 7 is written back at points [7, 15, 23, 31, 39, 47, 55, 63, 71, 79, 87, 95]…: no closed form stated
-- window 8 is written back at points [7, 15, 23, 31, 39, 47, 55, 63, 71, 79, 87, 95]…: no closed form stated

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)
abbrev st0_7 (a : (pcfg0 (F := F)).Adm) (t : Fin (cfg0 a).N) := ((cfg0 a).win 7).stage ((cfg0 a).slots t 7)
abbrev st0_8 (a : (pcfg0 (F := F)).Adm) (t : Fin (cfg0 a).N) := ((cfg0 a).win 8).stage ((cfg0 a).slots t 8)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_muvera_fde (grid0.coords t) (Memref.whole main_arg2) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _)

end Cert.Kernel.Gen

end
-- ==== Proof.Kernel.Frame.Runs.lean ====
/- What the runs of the body share: the grid, the tests of the body, the tables. -/
module

public import proofs.«01_k».proof.Proof.Gen.Kernel.Launch
public import proofs.«01_k».proof.Proof.Gen.Kernel.Skeleton
public import proofs.«01_k».proof.Proof.Gen.Kernel.Loops
public import proofs.«01_k».proof.Proof.Kernel.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S2000 .i32 := Memref.whole main_arg2
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(Pipeline.RDat.FramePost.arr_in h c 0 rfl).trans ((hA c 0).trans (V_main_arg0 m c)),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).2 main_arg4 (by decide : main_arg4 ∈ Pipeline.restRefs sig spec0)).trans (V_main_arg4 m c)⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at points 7, 15, 23, 31, 39, 47, 55, 63, 71, 79, 87, 95, 103, 111, 119 and 124 only — decided over the grid. -/
theorem hcond0_0 : ∀ t : Fin grid0.N, cond0_0 (grid0.coords t) ↔ (t.val % 125 = 7 ∨ t.val % 125 = 15 ∨ t.val % 125 = 23 ∨ t.val % 125 = 31 ∨ t.val % 125 = 39 ∨ t.val % 125 = 47 ∨ t.val % 125 = 55 ∨ t.val % 125 = 63 ∨ t.val % 125 = 71 ∨ t.val % 125 = 79 ∨ t.val % 125 = 87 ∨ t.val % 125 = 95 ∨ t.val % 125 = 103 ∨ t.val % 125 = 111 ∨ t.val % 125 = 119 ∨ t.val % 125 = 124) :=
  (by decide +kernel : ∀ t : Fin grid0.N, cond0_0 (grid0.coords t) ↔ (t.val % 125 = 7 ∨ t.val % 125 = 15 ∨ t.val % 125 = 23 ∨ t.val % 125 = 31 ∨ t.val % 125 = 39 ∨ t.val % 125 = 47 ∨ t.val % 125 = 55 ∨ t.val % 125 = 63 ∨ t.val % 125 = 71 ∨ t.val % 125 = 79 ∨ t.val % 125 = 87 ∨ t.val % 125 = 95 ∨ t.val % 125 = 103 ∨ t.val % 125 = 111 ∨ t.val % 125 = 119 ∨ t.val % 125 = 124))

/-! ## Where the windows are idle (the printed configuration's table `Cfg.idle`) -/

/-- Window 0 is never idle (an input). -/
theorem liveAt0_0 (hO : Ok m) : ∀ t : Fin (cfgM m hO).N, (cfgM m hO).idle 0 (grid0.coords t) = false :=
  (fun _ => rfl : ∀ t : Fin grid0.N, idle0 0 (grid0.coords t) = false)
/-- Window 1 is never idle (an input). -/
theorem liveAt0_1 (hO : Ok m) : ∀ t : Fin (cfgM m hO).N, (cfgM m hO).idle 1 (grid0.coords t) = false :=
  (fun _ => rfl : ∀ t : Fin grid0.N, idle0 1 (grid0.coords t) = false)
/-- Window 2 is never idle (an input). -/
theorem liveAt0_2 (hO : Ok m) : ∀ t : Fin (cfgM m hO).N, (cfgM m hO).idle 2 (grid0.coords t) = false :=
  (fun _ => rfl : ∀ t : Fin grid0.N, idle0 2 (grid0.coords t) = false)
/-- Window 3 is never idle (an input). -/
theorem liveAt0_3 (hO : Ok m) : ∀ t : Fin (cfgM m hO).N, (cfgM m hO).idle 3 (grid0.coords t) = false :=
  (fun _ => rfl : ∀ t : Fin grid0.N, idle0 3 (grid0.coords t) = false)
/-- Window 4 is never idle (an input). -/
theorem liveAt0_4 (hO : Ok m) : ∀ t : Fin (cfgM m hO).N, (cfgM m hO).idle 4 (grid0.coords t) = false :=
  (fun _ => rfl : ∀ t : Fin grid0.N, idle0 4 (grid0.coords t) = false)
/-- Window 5 is never idle (an input). -/
theorem liveAt0_5 (hO : Ok m) : ∀ t : Fin (cfgM m hO).N, (cfgM m hO).idle 5 (grid0.coords t) = false :=
  (fun _ => rfl : ∀ t : Fin grid0.N, idle0 5 (grid0.coords t) = false)
/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .vmem S16x256x128 .fp8e4m3 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S16x4x256 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S16x1 .i32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S20x16x256 .i32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S160x128 .fp8e4m3 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S16x256 .bf16 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S16x5120 .bf16 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S640x128 .i32 := spec0_7.stage ((cfgM m hO).slots t 7)
abbrev hs0_7 (hO : Ok m) (t : Fin (cfgM m hO).N) : (ms0_7 m hO t).IsWhole := hstage0_7 (((cfgM m hO).slots t 7).cast nbuf0_7)
abbrev ms0_8 (hO : Ok m) (t : Fin (cfgM m hO).N) : Memref sig .tc .vmem S640x128 .i32 := spec0_8.stage ((cfgM m hO).slots t 8)
abbrev hs0_8 (hO : Ok m) (t : Fin (cfgM m hO).N) : (ms0_8 m hO t).IsWhole := hstage0_8 (((cfgM m hO).slots t 8).cast nbuf0_8)
/-- The scratch operands: whole scoped buffers of the kernel's own, passed beside the windows. -/
abbrev scM0_0 : Memref sig .tc .vmem S20x16x256 .i32 := Memref.whole cc0_scratch0
abbrev scM0_1 : Memref sig .tc .vmem S16x160x256 .f32 := Memref.whole cc0_scratch1
abbrev scM0_2 : Memref sig .tc .vmem S5x128x128 .f32 := Memref.whole cc0_scratch2
abbrev scM0_3 : Memref sig .tc .vmem S5x5x16x128 .f32 := Memref.whole cc0_scratch3
abbrev scM0_4 : Memref sig .tc .vmem S5x16x128 .i32 := Memref.whole cc0_scratch4
abbrev scM0_5 : Memref sig .tc .vmem S5x16x128 .f32 := Memref.whole cc0_scratch5
abbrev scM0_6 : Memref sig .tc .vmem S5x128x128 .i32 := Memref.whole cc0_scratch6
abbrev scM0_7 : Memref sig .tc .vmem S5x128x128 .i32 := Memref.whole cc0_scratch7

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d)) ∗ (∃ r, prngReg c r)) := by
  unfold Pipeline.ΦA; rw [scopedRest0_eq]; simp only [scM0_0, scM0_1, scM0_2, scM0_3, scM0_4, scM0_5, scM0_6, scM0_7, owns_whole]; try rfl

end Cert.Kernel.Gen

end
-- ==== Proof.Kernel.Frame.RunA.lean ====
/- The run of the body at the points that do not store the count and fill blocks. -/
module

public import proofs.«01_k».proof.Proof.Kernel.Frame.Runs

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 3488000 in
/-- The body's triple IN CASE A (`scf.if` 0 not taken: points 0, 1, … 123: 109 of 125): on whole staging memrefs — the inputs' at their contents,
    the FORGOTTEN outputs' (6, 7, 8) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_A (c : Dev nD) (i : grid0.Coords) (arg2 : Memref sig .tc .vmem S16x256x128 .fp8e4m3) (harg2 : arg2.IsWhole) (arg3 : Memref sig .tc .vmem S16x4x256 .f32) (harg3 : arg3.IsWhole) (arg4 : Memref sig .tc .vmem S16x1 .i32) (harg4 : arg4.IsWhole) (arg5 : Memref sig .tc .vmem S20x16x256 .i32) (harg5 : arg5.IsWhole) (arg6 : Memref sig .tc .vmem S160x128 .fp8e4m3) (harg6 : arg6.IsWhole) (arg7 : Memref sig .tc .vmem S16x256 .bf16) (harg7 : arg7.IsWhole) (arg8 : Memref sig .tc .vmem S16x5120 .bf16) (harg8 : arg8.IsWhole) (arg9 : Memref sig .tc .vmem S640x128 .i32) (harg9 : arg9.IsWhole) (arg10 : Memref sig .tc .vmem S640x128 .i32) (harg10 : arg10.IsWhole) (arg11 : Memref sig .tc .vmem S20x16x256 .i32) (harg11 : arg11.IsWhole) (arg12 : Memref sig .tc .vmem S16x160x256 .f32) (harg12 : arg12.IsWhole) (arg13 : Memref sig .tc .vmem S5x128x128 .f32) (harg13 : arg13.IsWhole) (arg14 : Memref sig .tc .vmem S5x5x16x128 .f32) (harg14 : arg14.IsWhole) (arg15 : Memref sig .tc .vmem S5x16x128 .i32) (harg15 : arg15.IsWhole) (arg16 : Memref sig .tc .vmem S5x16x128 .f32) (harg16 : arg16.IsWhole) (arg17 : Memref sig .tc .vmem S5x128x128 .i32) (harg17 : arg17.IsWhole) (arg18 : Memref sig .tc .vmem S5x128x128 .i32) (harg18 : arg18.IsWhole) (hc0 : ¬cond0_0 i)
    (x0 : Vec F S16x256x128 .fp8e4m3) (x1 : Vec F S16x4x256 .f32) (x2 : Vec F S16x1 .i32) (x3 : Vec F S20x16x256 .i32) (x4 : Vec F S160x128 .fp8e4m3) (x5 : Vec F S16x256 .bf16) (xt0 : TbBuf0 (F := F) c tbM0_0) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ tbPt0 c tbM0_0 xt0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ tbPt0 c tbM0_0 xt0) -∗ K ⟨⟩))
          ⊢ wp frame (wpE (defs₀ (F := F)) Variants.none c none) E (cc0_muvera_fde i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
    intro E K
    simp only [cc0_muvera_fde_eq_skeleton]; unfold cc0_muvera_fde_skel
    simp only [k0_part159_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part160_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, HT0, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    isplitl [HS6]
    · iexists _, _; isplitr; swap; · iexact HS6
      ipureintro; rfl
    isplitl [HS7]
    · iexists _, _; isplitr; swap; · iexact HS7
      ipureintro; rfl
    iexact HT0

end Cert.Kernel.Gen

end
-- ==== Proof.Kernel.Frame.RunB.lean ====
/- The run of the body at the points that store the count and fill blocks. -/
module

public import proofs.«01_k».proof.Proof.Kernel.Frame.RunA

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 3616000 in
/-- The body's triple IN CASE B (`scf.if` 0 taken: points 7, 15, … 124: 16 of 125): on whole staging memrefs — the inputs' at their contents,
    the FORGOTTEN outputs' (6, 7, 8) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_B (c : Dev nD) (i : grid0.Coords) (arg2 : Memref sig .tc .vmem S16x256x128 .fp8e4m3) (harg2 : arg2.IsWhole) (arg3 : Memref sig .tc .vmem S16x4x256 .f32) (harg3 : arg3.IsWhole) (arg4 : Memref sig .tc .vmem S16x1 .i32) (harg4 : arg4.IsWhole) (arg5 : Memref sig .tc .vmem S20x16x256 .i32) (harg5 : arg5.IsWhole) (arg6 : Memref sig .tc .vmem S160x128 .fp8e4m3) (harg6 : arg6.IsWhole) (arg7 : Memref sig .tc .vmem S16x256 .bf16) (harg7 : arg7.IsWhole) (arg8 : Memref sig .tc .vmem S16x5120 .bf16) (harg8 : arg8.IsWhole) (arg9 : Memref sig .tc .vmem S640x128 .i32) (harg9 : arg9.IsWhole) (arg10 : Memref sig .tc .vmem S640x128 .i32) (harg10 : arg10.IsWhole) (arg11 : Memref sig .tc .vmem S20x16x256 .i32) (harg11 : arg11.IsWhole) (arg12 : Memref sig .tc .vmem S16x160x256 .f32) (harg12 : arg12.IsWhole) (arg13 : Memref sig .tc .vmem S5x128x128 .f32) (harg13 : arg13.IsWhole) (arg14 : Memref sig .tc .vmem S5x5x16x128 .f32) (harg14 : arg14.IsWhole) (arg15 : Memref sig .tc .vmem S5x16x128 .i32) (harg15 : arg15.IsWhole) (arg16 : Memref sig .tc .vmem S5x16x128 .f32) (harg16 : arg16.IsWhole) (arg17 : Memref sig .tc .vmem S5x128x128 .i32) (harg17 : arg17.IsWhole) (arg18 : Memref sig .tc .vmem S5x128x128 .i32) (harg18 : arg18.IsWhole) (hc0 : cond0_0 i)
    (x0 : Vec F S16x256x128 .fp8e4m3) (x1 : Vec F S16x4x256 .f32) (x2 : Vec F S16x1 .i32) (x3 : Vec F S20x16x256 .i32) (x4 : Vec F S160x128 .fp8e4m3) (x5 : Vec F S16x256 .bf16) (xt0 : TbBuf0 (F := F) c tbM0_0) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ tbPt0 c tbM0_0 xt0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ tbPt0 c tbM0_0 xt0) -∗ K ⟨⟩))
          ⊢ wp frame (wpE (defs₀ (F := F)) Variants.none c none) E (cc0_muvera_fde i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
    intro E K
    simp only [cc0_muvera_fde_eq_skeleton]; unfold cc0_muvera_fde_skel
    simp only [k0_part159_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part160_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part56_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, HT0, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    isplitl [HS6]
    · iexists _, _; isplitr; swap; · iexact HS6
      ipureintro; rfl
    isplitl [HS7]
    · iexists _, _; isplitr; swap; · iexact HS7
      ipureintro; rfl
    iexact HT0

end Cert.Kernel.Gen

end
-- ==== Proof.Kernel.Frame.lean ====
/- The frame: the program runs to completion from every admissible start and returns its resources.
   The contents of the three results are not stated here. -/
module

public import proofs.«01_k».proof.Proof.Kernel.Frame.RunB
public import Idealize.ShloMosaic.Lib.Claim

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (6, 7, 8): nothing reads what the kernel leaves in them, so nothing
    of it is named (Lib/Pipeline/Dat.lean `Dat.toRForget`). -/
def forgets0 : Fin 9 → Bool := fun w => w.val == 6 || w.val == 7 || w.val == 8

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register) and the tables' halves (`ΦT`); nothing owed;
    full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, h⟩ => Pipeline.Dat.unnamed (cfg := (cfgM m hO)) ⟨6, h⟩ t
    | ⟨7, h⟩ => Pipeline.Dat.unnamed (cfg := (cfgM m hO)) ⟨7, h⟩ t
    | ⟨8, h⟩ => Pipeline.Dat.unnamed (cfg := (cfgM m hO)) ⟨8, h⟩ t
  Φ _ := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare d)
    ∗ (∃ d, owns (c : Thread nD τ) (ms0_7 m hO t) fullShare d)
    ∗ (∃ d, owns (c : Thread nD τ) (ms0_8 m hO t) fullShare d))

/-- and what it returns. -/
def bodyPost (hO : Ok m) (c : Dev nD) (t : Fin (cfgM m hO).N) : sProp 𝕄 :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t
    ∗ (dats m hO 0 c).leavesExact 4 t
    ∗ (dats m hO 0 c).leavesExact 5 t
    ∗ (∃ d, owns (c : Thread nD τ) (ms0_6 m hO t) fullShare d)
    ∗ (∃ d, owns (c : Thread nD τ) (ms0_7 m hO t) fullShare d)
    ∗ (∃ d, owns (c : Thread nD τ) (ms0_8 m hO t) fullShare d))

set_option maxHeartbeats 3200000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5]
  rw [show (dats m hO 0 c).Φ t.succ = (dats m hO 0 c).Φ t.castSucc from rfl,
    show (dats m hO 0 c).owesAt () t.succ = (dats m hO 0 c).owesAt () t.castSucc from rfl]
  rw [show (dats m hO 0 c).Φ t.castSucc = iprop(Pipeline.ΦA spec0 c ∗ Pipeline.ΦT pre0 (tbl m) c) from rfl, PhiT0_eq, PhiA0_eq]
  have hN : t.val < 125 := lt_of_lt_of_eq t.isLt (show (cfgM m hO).N = 125 from N_0)
  by_cases h0 : (t.val % 125 = 7 ∨ t.val % 125 = 15 ∨ t.val % 125 = 23 ∨ t.val % 125 = 31 ∨ t.val % 125 = 39 ∨ t.val % 125 = 47 ∨ t.val % 125 = 55 ∨ t.val % 125 = 63 ∨ t.val % 125 = 71 ∨ t.val % 125 = 79 ∨ t.val % 125 = 87 ∨ t.val % 125 = 95 ∨ t.val % 125 = 103 ∨ t.val % 125 = 111 ∨ t.val % 125 = 119 ∨ t.val % 125 = 124)
  · rw [show (dats m hO 0 c).leavesExact 0 t = owns (c : Thread nD τ) (ms0_0 m hO t) fullShare ((dats m hO 0 c).after 0 t) from by
      unfold Dat.leavesExact; rw [liveAt0_0 m hO t]; try rfl, after0_0]
    rw [show (dats m hO 0 c).leavesExact 1 t = owns (c : Thread nD τ) (ms0_1 m hO t) fullShare ((dats m hO 0 c).after 1 t) from by
      unfold Dat.leavesExact; rw [liveAt0_1 m hO t]; try rfl, after0_1]
    rw [show (dats m hO 0 c).leavesExact 2 t = owns (c : Thread nD τ) (ms0_2 m hO t) fullShare ((dats m hO 0 c).after 2 t) from by
      unfold Dat.leavesExact; rw [liveAt0_2 m hO t]; try rfl, after0_2]
    rw [show (dats m hO 0 c).leavesExact 3 t = owns (c : Thread nD τ) (ms0_3 m hO t) fullShare ((dats m hO 0 c).after 3 t) from by
      unfold Dat.leavesExact; rw [liveAt0_3 m hO t]; try rfl, after0_3]
    rw [show (dats m hO 0 c).leavesExact 4 t = owns (c : Thread nD τ) (ms0_4 m hO t) fullShare ((dats m hO 0 c).after 4 t) from by
      unfold Dat.leavesExact; rw [liveAt0_4 m hO t]; try rfl, after0_4]
    rw [show (dats m hO 0 c).leavesExact 5 t = owns (c : Thread nD τ) (ms0_5 m hO t) fullShare ((dats m hO 0 c).after 5 t) from by
      unfold Dat.leavesExact; rw [liveAt0_5 m hO t]; try rfl, after0_5]
    iintro ⟨⟨⟨⟨HS0, HS1, HS2, HS3, HS4, HS5, HS6, HS7⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun0_B c (grid0.coords t) _ _ _ _ _ _ _ _ _ _ _ _ _ _ _ _ _ _ _ _ _ _ _ _ _ _ _ _ _ _ _ _ _ _ ((hcond0_0 t).mpr h0) (iblk m hO c 0 t) (iblk m hO c 1 t) (iblk m hO c 2 t) (iblk m hO c 3 t) (iblk m hO c 4 t) (iblk m hO c 5 t) (tbl m 0)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    isplitl [HT0]; · iexact HT0
    iintro ⟨H0, H1, H2, H3, H4, H5, H6, H7, H8, HS0, HS1, HS2, HS3, HS4, HS5, HS6, HS7, HT0⟩
    isplitl [HS0 HS1 HS2 HS3 HS4 HS5 HS6 HS7 Hg HT0]
    · isplitl [HS0 HS1 HS2 HS3 HS4 HS5 HS6 HS7 Hg]
      · isplitl [HS0 HS1 HS2 HS3 HS4 HS5 HS6 HS7]
        · isplitl [HS0]
          · iexact HS0
          isplitl [HS1]
          · iexact HS1
          isplitl [HS2]
          · iexact HS2
          isplitl [HS3]
          · iexact HS3
          isplitl [HS4]
          · iexact HS4
          isplitl [HS5]
          · iexact HS5
          isplitl [HS6]
          · iexact HS6
          iexact HS7
        iexact Hg
      iexact HT0
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · rw [show (dats m hO 0 c).leavesExact 0 t = owns (c : Thread nD τ) (ms0_0 m hO t) fullShare ((dats m hO 0 c).after 0 t) from by
      unfold Dat.leavesExact; rw [liveAt0_0 m hO t]; try rfl, after0_0]
    rw [show (dats m hO 0 c).leavesExact 1 t = owns (c : Thread nD τ) (ms0_1 m hO t) fullShare ((dats m hO 0 c).after 1 t) from by
      unfold Dat.leavesExact; rw [liveAt0_1 m hO t]; try rfl, after0_1]
    rw [show (dats m hO 0 c).leavesExact 2 t = owns (c : Thread nD τ) (ms0_2 m hO t) fullShare ((dats m hO 0 c).after 2 t) from by
      unfold Dat.leavesExact; rw [liveAt0_2 m hO t]; try rfl, after0_2]
    rw [show (dats m hO 0 c).leavesExact 3 t = owns (c : Thread nD τ) (ms0_3 m hO t) fullShare ((dats m hO 0 c).after 3 t) from by
      unfold Dat.leavesExact; rw [liveAt0_3 m hO t]; try rfl, after0_3]
    rw [show (dats m hO 0 c).leavesExact 4 t = owns (c : Thread nD τ) (ms0_4 m hO t) fullShare ((dats m hO 0 c).after 4 t) from by
      unfold Dat.leavesExact; rw [liveAt0_4 m hO t]; try rfl, after0_4]
    rw [show (dats m hO 0 c).leavesExact 5 t = owns (c : Thread nD τ) (ms0_5 m hO t) fullShare ((dats m hO 0 c).after 5 t) from by
      unfold Dat.leavesExact; rw [liveAt0_5 m hO t]; try rfl, after0_5]
    iintro ⟨⟨⟨⟨HS0, HS1, HS2, HS3, HS4, HS5, HS6, HS7⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun0_A c (grid0.coords t) _ _ _ _ _ _ _ _ _ _ _ _ _ _ _ _ _ _ _ _ _ _ _ _ _ _ _ _ _ _ _ _ _ _ (fun h => h0 ((hcond0_0 t).mp h)) (iblk m hO c 0 t) (iblk m hO c 1 t) (iblk m hO c 2 t) (iblk m hO c 3 t) (iblk m hO c 4 t) (iblk m hO c 5 t) (tbl m 0)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    isplitl [HT0]; · iexact HT0
    iintro ⟨H0, H1, H2, H3, H4, H5, H6, H7, H8, HS0, HS1, HS2, HS3, HS4, HS5, HS6, HS7, HT0⟩
    isplitl [HS0 HS1 HS2 HS3 HS4 HS5 HS6 HS7 Hg HT0]
    · isplitl [HS0 HS1 HS2 HS3 HS4 HS5 HS6 HS7 Hg]
      · isplitl [HS0 HS1 HS2 HS3 HS4 HS5 HS6 HS7]
        · isplitl [HS0]
          · iexact HS0
          isplitl [HS1]
          · iexact HS1
          isplitl [HS2]
          · iexact HS2
          isplitl [HS3]
          · iexact HS3
          isplitl [HS4]
          · iexact HS4
          isplitl [HS5]
          · iexact HS5
          isplitl [HS6]
          · iexact HS6
          iexact HS7
        iexact Hg
      iexact HT0
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (c : Dev nD) : BodyObligation (dats (F := F) m hO 0 c) (defs₀ (F := F)) Variants.none () Set.univ forgets0 := fun t => by
  rw [bigSep_W0, bigSep_W0, defs₀_row m hO]
  exact triple_restated (sound_body m hO c t) rfl .rfl fun _ => .rfl

/-! ## The run and the frame -/

-- `θ_run_frameP_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) : θ_run defs (onTc (τ := τ) (main (F := F))) (s₀ m ρ) (fun r => (Pipeline.RDat.FramePost ((Pipeline.pin pcfgs fun _ => adm m hO) 0) (fun c => (dats m hO 0 c).toRForget forgets0) (V m)) r ∧ r.2.sem = fun _ => 0) :=
  Pipeline.θ_run_frameP_forget (Q' := _) pcfgs (fun _ => adm m hO) (dats m hO) (0 : Fin 1) launch0 defs₀ Variants.none forgets0 m ρ main
    (hbody := fun c => (body_obligation m hO c).loose) (hshare := fun c => (dats m hO 0 c).share_full fun _ => rfl)
    (howed := fun _ _ => rfl) (V := V m) (hmain := hmain m Variants.none) (hA := A_eq m hO) (hpf := V_pre m) (hΦ := fun _ _ => rfl)

/-- At the compiled mesh, for any values, from any memory with zero counters: every weakly fair execution of @main on the
    TensorCores terminates, and every final state has every INPUT array of the pipeline unchanged, nothing stated of the
    FORGOTTEN outputs (windows 6, 7, 8) (Lib/Pipeline/Frame.lean `RDat.FramePost` over the proof data with those windows
    forgotten, Dat.lean `Dat.toRForget`), and every other unscoped buffer at its region-entry contents. -/
theorem run_main (hO : Ok m) : θ_run defs (onTc (τ := τ) (main (F := F))) (s₀ m ρ) (Pipeline.RDat.FramePost ((Pipeline.pin pcfgs fun _ => adm m hO) 0) (fun c => (dats m hO 0 c).toRForget forgets0) (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ hO (fun c => (dats m hO 0 c).toRForget forgets0) (A_eq m hO) (run_main m ρ hO)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`; here for every contents of the PREFETCHED TABLES, UNDER `Gen.Ok m` (the pipeline's side condition of
    them), which Proof.lean proves from the precondition: `⟨…, fun m ρ h => Cert.Kernel.Gen.frame m ρ (ok_of_pre m h)⟩`. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ hO) ((θ_run defs _ _).mono (fun _ h => h.2) (run_main_quiescent m ρ hO))

end Cert.Kernel.Gen

end
-- ==== Proof.Value.Trips.lean ====
/- One trip of each of the two loops over the documents: what it holds, and the pieces that it writes. -/
module

public import proofs.«01_k».proof.Proof.Gen.KernelIdeal.Loops

@[expose] public section

set_option maxRecDepth 8192
set_option maxHeartbeats 4000000

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the frame kit. -/
local notation "𝕄G" => MT nD τ sig Unit (Elt F) ℕ (UR sig nD τ) ℕ

/-- One trip's resources: what the region reads (arg2, arg3, arg11) at its contents, what it writes
   (arg12, arg13, arg14) at any. -/
abbrev Trip_k0_t1 (c : Dev nD) (arg2 : Memref sig .tc .vmem S16x256x128 .fp8e4m3) (arg3 : Memref sig .tc .vmem S16x4x256 .f32) (arg11 : Memref sig .tc .vmem S20x16x256 .i32) (arg12 : Memref sig .tc .vmem S16x160x256 .f32) (arg13 : Memref sig .tc .vmem S5x128x128 .f32) (arg14 : Memref sig .tc .vmem S5x5x16x128 .f32) (X_arg2 : BufTy.Contents (Elt F) arg2.view.ty) (X_arg3 : BufTy.Contents (Elt F) arg3.view.ty) (X_arg11 : BufTy.Contents (Elt F) arg11.view.ty) (f_arg12 : BufTy.Contents (Elt F) arg12.view.ty) (f_arg13 : BufTy.Contents (Elt F) arg13.view.ty) (f_arg14 : BufTy.Contents (Elt F) arg14.view.ty) : sProp 𝕄G :=
  iprop((arg2.view.loc (c : Thread nD τ) ↦[arg2.view.set]{fullShare} X_arg2) ∗ (arg3.view.loc (c : Thread nD τ) ↦[arg3.view.set]{fullShare} X_arg3) ∗ (arg11.view.loc (c : Thread nD τ) ↦[arg11.view.set]{fullShare} X_arg11) ∗ (arg12.view.loc (c : Thread nD τ) ↦[arg12.view.set]{fullShare} f_arg12) ∗ (arg13.view.loc (c : Thread nD τ) ↦[arg13.view.set]{fullShare} f_arg13) ∗ (arg14.view.loc (c : Thread nD τ) ↦[arg14.view.set]{fullShare} f_arg14))

/-- ONE TRIP of `k0_t1_loop` at a symbolic `k`, run by `sl_exec` (its rectangles' offsets closed
   forms of `k`, their geometry linear arithmetic): the pieces it writes into arg12, arg13, arg14
   are the run's own finds — the witnesses `sl_close` assigns handing the buffers to the
   continuation. `@[irreducible]`: cited, never unfolded. -/
@[irreducible] def trip_k0_t1 (𝒱 : Variants) (c : Dev nD) (bd : Option 𝒱.V) (i : grid0.Coords) (arg1 : Memref sig .tc .smem S2000 .i32) (harg1 : arg1.IsWhole) (arg2 : Memref sig .tc .vmem S16x256x128 .fp8e4m3) (harg2 : arg2.IsWhole) (arg3 : Memref sig .tc .vmem S16x4x256 .f32) (harg3 : arg3.IsWhole) (arg4 : Memref sig .tc .vmem S16x1 .i32) (harg4 : arg4.IsWhole) (arg5 : Memref sig .tc .vmem S20x16x256 .i32) (harg5 : arg5.IsWhole) (arg6 : Memref sig .tc .vmem S160x128 .fp8e4m3) (harg6 : arg6.IsWhole) (arg7 : Memref sig .tc .vmem S16x256 .bf16) (harg7 : arg7.IsWhole) (arg8 : Memref sig .tc .vmem S16x5120 .bf16) (harg8 : arg8.IsWhole) (arg9 : Memref sig .tc .vmem S640x128 .i32) (harg9 : arg9.IsWhole) (arg10 : Memref sig .tc .vmem S640x128 .i32) (harg10 : arg10.IsWhole) (arg11 : Memref sig .tc .vmem S20x16x256 .i32) (harg11 : arg11.IsWhole) (arg12 : Memref sig .tc .vmem S16x160x256 .f32) (harg12 : arg12.IsWhole) (arg13 : Memref sig .tc .vmem S5x128x128 .f32) (harg13 : arg13.IsWhole) (arg14 : Memref sig .tc .vmem S5x5x16x128 .f32) (harg14 : arg14.IsWhole) (arg15 : Memref sig .tc .vmem S5x16x128 .i32) (harg15 : arg15.IsWhole) (arg16 : Memref sig .tc .vmem S5x16x128 .f32) (harg16 : arg16.IsWhole) (arg17 : Memref sig .tc .vmem S5x128x128 .i32) (harg17 : arg17.IsWhole) (arg18 : Memref sig .tc .vmem S5x128x128 .i32) (harg18 : arg18.IsWhole) (arg0 : BitVec 32) (v0 : IVec S8x128 32) (v1 : IVec S8x128 32) (v6 : IVec S16x256 1) (v307 : IVec S16x256 32) (v327 : Vec F S160x128 .fp8e4m3) (v330 : Vec F S16x256 .bf16) (X_arg2 : BufTy.Contents (Elt F) arg2.view.ty) (X_arg3 : BufTy.Contents (Elt F) arg3.view.ty) (X_arg11 : BufTy.Contents (Elt F) arg11.view.ty) (k : Fin k0_t1_loop.trips) :
    Σ' (L_arg12 : List (View.Piece (Elt F) S16x160x256 .f32)) (L_arg13 : List (View.Piece (Elt F) S5x128x128 .f32)) , { L_arg14 : List (View.Piece (Elt F) S5x5x16x128 .f32) // ∀ (E : Set ℕ) (f_arg12 : BufTy.Contents (Elt F) arg12.view.ty) (f_arg13 : BufTy.Contents (Elt F) arg13.view.ty) (f_arg14 : BufTy.Contents (Elt F) arg14.view.ty),
      Trip_k0_t1 (F := F) c arg2 arg3 arg11 arg12 arg13 arg14 X_arg2 X_arg3 X_arg11 f_arg12 f_arg13 f_arg14
      ⊢ wp frame (wpE (defs₀ (F := F)) 𝒱 (c : Thread nD τ) bd) E (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v0 v1 v6 v307 v327 v330 k PUnit.unit)
          (fun _ => Trip_k0_t1 (F := F) c arg2 arg3 arg11 arg12 arg13 arg14 X_arg2 X_arg3 X_arg11 (arg12.view.writes (Elt F) f_arg12 L_arg12) (arg13.view.writes (Elt F) f_arg13 L_arg13) (arg14.view.writes (Elt F) f_arg14 L_arg14)) } := by
  have hk : k.val < 16 := Nat.lt_of_lt_of_le k.isLt k0_t1_abs.2.1
  refine ⟨?_, ?_, ?_, fun E f_arg12 f_arg13 f_arg14 => ?run⟩
  case run =>
    unfold k0_t1_body
    iintro ⟨HR_arg2, HR_arg3, HR_arg11, HW_arg12, HW_arg13, HW_arg14⟩
    sl_exec
    sl_step
    sl_close

/-- One trip's resources: what the region reads (arg12, arg15, arg16) at its contents, what it
   writes (arg13) at any. -/
abbrev Trip_k0_t2 (c : Dev nD) (arg12 : Memref sig .tc .vmem S16x160x256 .f32) (arg15 : Memref sig .tc .vmem S5x16x128 .i32) (arg16 : Memref sig .tc .vmem S5x16x128 .f32) (arg13 : Memref sig .tc .vmem S5x128x128 .f32) (X_arg12 : BufTy.Contents (Elt F) arg12.view.ty) (X_arg15 : BufTy.Contents (Elt F) arg15.view.ty) (X_arg16 : BufTy.Contents (Elt F) arg16.view.ty) (f_arg13 : BufTy.Contents (Elt F) arg13.view.ty) : sProp 𝕄G :=
  iprop((arg12.view.loc (c : Thread nD τ) ↦[arg12.view.set]{fullShare} X_arg12) ∗ (arg15.view.loc (c : Thread nD τ) ↦[arg15.view.set]{fullShare} X_arg15) ∗ (arg16.view.loc (c : Thread nD τ) ↦[arg16.view.set]{fullShare} X_arg16) ∗ (arg13.view.loc (c : Thread nD τ) ↦[arg13.view.set]{fullShare} f_arg13))

/-- ONE TRIP of `k0_t2_loop` at a symbolic `k`, run by `sl_exec` (its rectangles' offsets closed
   forms of `k`, their geometry linear arithmetic): the pieces it writes into arg13 are the run's
   own finds — the witnesses `sl_close` assigns handing the buffers to the continuation, as
   functions of the contents the trip finds in the memrefs it writes (the region loads some of them
   back). `@[irreducible]`: cited, never unfolded. -/
@[irreducible] def trip_k0_t2 (𝒱 : Variants) (c : Dev nD) (bd : Option 𝒱.V) (i : grid0.Coords) (arg1 : Memref sig .tc .smem S2000 .i32) (harg1 : arg1.IsWhole) (arg2 : Memref sig .tc .vmem S16x256x128 .fp8e4m3) (harg2 : arg2.IsWhole) (arg3 : Memref sig .tc .vmem S16x4x256 .f32) (harg3 : arg3.IsWhole) (arg4 : Memref sig .tc .vmem S16x1 .i32) (harg4 : arg4.IsWhole) (arg5 : Memref sig .tc .vmem S20x16x256 .i32) (harg5 : arg5.IsWhole) (arg6 : Memref sig .tc .vmem S160x128 .fp8e4m3) (harg6 : arg6.IsWhole) (arg7 : Memref sig .tc .vmem S16x256 .bf16) (harg7 : arg7.IsWhole) (arg8 : Memref sig .tc .vmem S16x5120 .bf16) (harg8 : arg8.IsWhole) (arg9 : Memref sig .tc .vmem S640x128 .i32) (harg9 : arg9.IsWhole) (arg10 : Memref sig .tc .vmem S640x128 .i32) (harg10 : arg10.IsWhole) (arg11 : Memref sig .tc .vmem S20x16x256 .i32) (harg11 : arg11.IsWhole) (arg12 : Memref sig .tc .vmem S16x160x256 .f32) (harg12 : arg12.IsWhole) (arg13 : Memref sig .tc .vmem S5x128x128 .f32) (harg13 : arg13.IsWhole) (arg14 : Memref sig .tc .vmem S5x5x16x128 .f32) (harg14 : arg14.IsWhole) (arg15 : Memref sig .tc .vmem S5x16x128 .i32) (harg15 : arg15.IsWhole) (arg16 : Memref sig .tc .vmem S5x16x128 .f32) (harg16 : arg16.IsWhole) (arg17 : Memref sig .tc .vmem S5x128x128 .i32) (harg17 : arg17.IsWhole) (arg18 : Memref sig .tc .vmem S5x128x128 .i32) (harg18 : arg18.IsWhole) (v1 : IVec S8x128 32) (v342 : BitVec 32) (v2054 : FVec F S8x128 .f32) (v2209 : IVec S8x128 32) (v2211 : IVec S8x128 1) (c0_i32_1227 : BitVec 32) (X_arg12 : BufTy.Contents (Elt F) arg12.view.ty) (X_arg15 : BufTy.Contents (Elt F) arg15.view.ty) (X_arg16 : BufTy.Contents (Elt F) arg16.view.ty) (k : Fin k0_t2_loop.trips) :
    { L_arg13 : (BufTy.Contents (Elt F) arg13.view.ty → List (View.Piece (Elt F) S5x128x128 .f32)) // ∀ (E : Set ℕ) (f_arg13 : BufTy.Contents (Elt F) arg13.view.ty),
      Trip_k0_t2 (F := F) c arg12 arg15 arg16 arg13 X_arg12 X_arg15 X_arg16 f_arg13
      ⊢ wp frame (wpE (defs₀ (F := F)) 𝒱 (c : Thread nD τ) bd) E (k0_t2_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 v342 v2054 v2209 v2211 c0_i32_1227 k PUnit.unit)
          (fun _ => Trip_k0_t2 (F := F) c arg12 arg15 arg16 arg13 X_arg12 X_arg15 X_arg16 (arg13.view.writes (Elt F) f_arg13 (L_arg13 f_arg13))) } := by
  have hk : k.val < 16 := Nat.lt_of_lt_of_le k.isLt k0_t2_abs.2.1
  refine ⟨?_, fun E f_arg13 => ?run⟩
  case run =>
    unfold k0_t2_body
    iintro ⟨HR_arg12, HR_arg15, HR_arg16, HW_arg13⟩
    sl_exec
    sl_step
    sl_close

end Cert.KernelIdeal.Gen

end
-- ==== Proof.Value.Blocks.lean ====
/- The payloads of the first loop (the projection block, the one-hot block, the segment sums), read at an index. -/
module
public import proofs.«01_k».proof.Proof.Gen.KernelIdeal.Skeleton
public import Idealize.ShloMosaic.Lib.Pointwise
@[expose] public section
set_option maxRecDepth 8192
noncomputable section
namespace Cert.KernelIdeal.Gen
open Idealize.ShloMosaic Idealize.ShloMosaic.TcCoe Idealize.ShloMosaic.Tactic

/-- The sublane number of every place of a register. -/
def sub0 : IVec S8x128 32 := iota .tc S8x128 32 [0] iota_S8x128_d0_w32
/-- The lane number of every place of a register. -/
def lane0 : IVec S8x128 32 := iota .tc S8x128 32 [1] iota_S8x128_d1_w32

/-- The entry of the one-hot block that row `n` of a repetition's 32 rows reads from the word `M`. -/
def ohv (M : BitVec 32) (n : ℕ) : EReal := if M.getLsbD (8 * (n % 4) + n / 4) then (((2 : ℝ) ^ (-9 : Int) : ℝ) : EReal) else 0

/-- The one-hot block of a group: 32 rows for each of its four repetitions, made of the four rows of words. -/
def ohBlock (v0 : IVec S8x128 32) (w0 w1 w2 w3 : Vec Ideal S1x1x256 .i32) : FVec Ideal S128x256 .fp8e4m3 :=
  concatenate S128x256 0 [⟨S32x256, k0_pay16 v0 w0⟩, ⟨S32x256, k0_pay16 v0 w1⟩, ⟨S32x256, k0_pay16 v0 w2⟩, ⟨S32x256, k0_pay16 v0 w3⟩] concatenates_S32x256_S32x256_S32x256_S32x256_S128x256_d0

/-- The segment sums of a group: the products of the three parts of `p` with the one-hot block, added. -/
def resBlock (p : FVec Ideal S32x256 .f32) (oh : FVec Ideal S128x256 .fp8e4m3) : FVec Ideal S32x128 .f32 :=
  let hi : FVec Ideal S32x256 .f32 := extf .f32 (truncf .bf16 p)
  let r1 : FVec Ideal S32x256 .f32 := subf p hi
  let mid : FVec Ideal S32x256 .f32 := extf .f32 (truncf .bf16 r1)
  let lo : FVec Ideal S32x256 .f32 := subf r1 mid
  addf (addf (matmul dot_S32x256_S128x256_S32x128_1_1_0_0_n_n none (truncf .bf16 hi bitsLt_bf16_f32) oh (constant S32x128 .f32 0x00000000#32))
    (matmul dot_S32x256_S128x256_S32x128_1_1_0_0_n_n none (truncf .bf16 mid bitsLt_bf16_f32) oh (constant S32x128 .f32 0x00000000#32)))
    (matmul dot_S32x256_S128x256_S32x128_1_1_0_0_n_n none (truncf .bf16 lo bitsLt_bf16_f32) oh (constant S32x128 .f32 0x00000000#32))

/-- The product of the weights (counts, powers of two) with the one-hot block. -/
def auxBlock (aux : FVec Ideal S16x256 .bf16) (oh : FVec Ideal S128x256 .fp8e4m3) : FVec Ideal S16x128 .f32 :=
  matmul dot_S16x256_S128x256_S16x128_1_1_0_0_n_n none aux oh (constant S16x128 .f32 0x00000000#32)

/-- Of the 32 rows of sums, for each lane the 8 of the lane's own repetition. -/
def selBlock (v1 : IVec S8x128 32) (res : FVec Ideal S32x128 .f32) : FVec Ideal S8x128 .f32 :=
  select (cmpi .eq (k0_pay24 v1) (broadcast S8x128 3#32)) (extractStridedSlice S8x128 ![24, 0] res slices_S32x128_o24_0_S8x128)
   (select (cmpi .eq (k0_pay24 v1) (broadcast S8x128 2#32)) (extractStridedSlice S8x128 ![16, 0] res slices_S32x128_o16_0_S8x128)
    (select (cmpi .eq (k0_pay24 v1) (broadcast S8x128 1#32)) (extractStridedSlice S8x128 ![8, 0] res slices_S32x128_o8_0_S8x128)
     (extractStridedSlice S8x128 ![0, 0] res slices_S32x128_o0_0_S8x128)))

/-- `resBlock` at an index: three sums over the tokens. -/
theorem resBlock_apply (p : FVec Ideal S32x256 .f32) (oh : FVec Ideal S128x256 .fp8e4m3) (r : Fin 32) (n : Fin 128) :
   resBlock p oh (ix2 r n) = (∑ x : Fin 256, p (ix2 r x) * oh (ix2 n x) + ∑ x : Fin 256, (p (ix2 r x) - p (ix2 r x)) * oh (ix2 n x) +
      ∑ x : Fin 256, (p (ix2 r x) - p (ix2 r x) - (p (ix2 r x) - p (ix2 r x))) * oh (ix2 n x) : EReal) := by
  pointwise [resBlock]
/-- `auxBlock` at an index: one sum over the tokens. -/
theorem auxBlock_apply (aux : FVec Ideal S16x256 .bf16) (oh : FVec Ideal S128x256 .fp8e4m3) (r : Fin 16) (n : Fin 128) :
   auxBlock aux oh (ix2 r n) = (∑ x : Fin 256, aux (ix2 r x) * oh (ix2 n x) : EReal) := by
  pointwise [auxBlock]

/-- `sub0` at an index is the row. -/
theorem sub0_apply (r : Fin 8) (n : Fin 128) : sub0 (ix2 r n) = BitVec.ofNat 32 r.val := by
  pointwise [sub0]
/-- `lane0` at an index is the column. -/
theorem lane0_apply (r : Fin 8) (n : Fin 128) : lane0 (ix2 r n) = BitVec.ofNat 32 n.val := by
  pointwise [lane0]

/-- The quotient of the lane by 32, at an index. -/
theorem lq_apply (r : Fin 8) (n : Fin 128) : k0_pay24 lane0 (ix2 r n) = BitVec.ofNat 32 (n.val / 32) := by
  pointwise [k0_pay24]
  rw [lane0_apply]
  revert n; decide +kernel

/-- `selBlock` at an index: row `8 * (n / 32) + r`. -/
theorem selBlock_apply (res : FVec Ideal S32x128 .f32) (r : Fin 8) (n : Fin 128) :
   selBlock lane0 res (ix2 r n) = res (ix2 ⟨8 * (n.val / 32) + r.val, by omega⟩ n) := by
  pointwise [selBlock]
  rw [lq_apply]
  have h : n.val / 32 < 4 := by omega
  simp only [Scalar.select, IntOp.cmpi]
  rcases (by omega : n.val / 32 = 0 ∨ n.val / 32 = 1 ∨ n.val / 32 = 2 ∨ n.val / 32 = 3) with h | h | h | h <;> simp [h]

/-- Eight bits put together one after another are the byte that has them. -/
theorem foldBits (f : Fin 8 → Bool) (M : BitVec 8) (h : ∀ q : Fin 8, f q = M.getLsbD q.val) :
   (List.finRange 8).foldl (fun acc (q : Fin 8) => if f q then acc ||| BitVec.twoPow 8 q.val else acc) 0 = M := by
  obtain rfl : f = fun q => M.getLsbD q.val := funext h
  revert M; decide +kernel

/-- A block of words read as bytes: row `r` is byte `r % 4` of the words of row `r / 4`. -/
theorem bitcast8_apply (x : IVec S8x128 32) (r : Fin 32) (n : Fin 128) :
   bitcast S32x128 8 x bitcasts_S8x128_w32_S32x128_w8 (ix2 r n) = (x (ix2 ⟨r.val / 4, by omega⟩ n)).extractLsb' (8 * (r.val % 4)) 8 := by
  unfold bitcast
  apply foldBits (fun q => _)
  intro q
  rw [BitVec.getLsbD_extractLsb']
  have hq := q.isLt
  simp only [hq, decide_true, Bool.true_and]
  have e : S32x128.row (ix2 r n) = r.val := rfl
  congr 1
  · congr 1
    funext a
    match a with
    | ⟨0, _⟩ => apply Fin.ext; show (S32x128.row (ix2 r n) * 8 + q.val) / 32 = r.val / 4; rw [e]; omega
    | ⟨1, _⟩ => rfl
  · rw [e]; omega

/-- The byte that the one-hot block reads is the smallest positive number of its format, or zero, by one bit of the word. -/
theorem ohw (M : BitVec 32) (s k : ℕ) (hs : s < 8) (hk : k < 4) :
   Ideal.ofBits .fp8e4m3 ((IntOp.andi (IntOp.shrui .vector M (BitVec.ofNat 32 s)) 16843009#32).extractLsb' (8 * k) 8)
    = if M.getLsbD (8 * k + s) then (((2 : ℝ) ^ (-9 : Int) : ℝ) : EReal) else 0 := by
  have e : (IntOp.andi (IntOp.shrui .vector M (BitVec.ofNat 32 s)) 16843009#32).extractLsb' (8 * k) 8 = if M.getLsbD (8 * k + s) then 1#8 else 0#8 := by
    have hs' : (BitVec.ofNat 32 s).toNat = s := by rw [BitVec.toNat_ofNat]; omega
    have hm : ∀ k' : Fin 4, ∀ q : Fin 8, (16843009#32).getLsbD (8 * k'.val + q.val) = decide (q.val = 0) := by decide
    have hsh : IntOp.shrui .vector M (BitVec.ofNat 32 s) = M >>> s := by
      unfold IntOp.shrui
      rw [if_pos (by omega), BitVec.ushiftRight_eq', hs']
    apply BitVec.eq_of_getLsbD_eq
    intro q hq
    rw [BitVec.getLsbD_extractLsb', hsh]
    simp only [IntOp.andi, hq, decide_true, Bool.true_and]
    rw [BitVec.getLsbD_and, BitVec.getLsbD_ushiftRight, hm ⟨k, hk⟩ ⟨q, hq⟩]
    by_cases h0 : q = 0
    · subst h0
      rw [show s + (8 * k + 0) = 8 * k + s by omega]
      cases M.getLsbD (8 * k + s) <;> simp
    · have : (1#8).getLsbD q = false := by
        have : ∀ q : Fin 8, q.val ≠ 0 → (1#8).getLsbD q.val = false := by decide
        exact this ⟨q, hq⟩ h0
      cases M.getLsbD (8 * k + s) <;> simp [h0, this]
  rw [e]
  split
  · show Ideal.e4m3fn 1#8 = _
    unfold Ideal.e4m3fn; simp
  · show Ideal.e4m3fn 0#8 = _
    unfold Ideal.e4m3fn; simp

/-- The 32 rows of one repetition, at an index. -/
theorem oh16_apply (w : Vec Ideal S1x1x256 .i32) (r : Fin 32) (n : Fin 256) :
   k0_pay16 (F := Ideal) sub0 w (ix2 r n) = ohv (w (ix3 0 0 n)) r.val := by
  pointwise [k0_pay16]
  simp only [bitcast8_apply]
  pointwise
  simp only [sub0_apply]
  have e : ∀ M : BitVec 32, Ideal.ofBits .fp8e4m3 ((IntOp.andi (IntOp.shrui .vector M (BitVec.ofNat 32 (r.val / 4))) 16843009#32).extractLsb' (8 * (r.val % 4)) 8) = ohv M r.val := fun M => ohw M _ _ (by omega) (by omega)
  split
  · exact e _
  · rw [e]
    congr 2
    congr 1
    apply Fin.ext; show 128 + (n.val - 128) = n.val; omega

/-- `ohBlock` at an index. -/
theorem ohBlock_apply (w0 w1 w2 w3 : Vec Ideal S1x1x256 .i32) (r : Fin 128) (n : Fin 256) :
   ohBlock sub0 w0 w1 w2 w3 (ix2 r n) = ohv ((if r.val < 32 then w0 else if r.val < 64 then w1 else if r.val < 96 then w2 else w3) (ix3 0 0 n)) (r.val % 32) := by
  pointwise [ohBlock]
  simp only [oh16_apply]
  split_ifs <;> first | omega | (congr 1; omega)

/-- The projection block at an index: the sum over the 128 channels. -/
theorem pBlock_apply (v327 : Vec Ideal S160x128 .fp8e4m3) (a) (b) (r : Fin 160) (n : Fin 256) :
   k0_pay5 (k0_pay290 v327) a b (ix2 r n) = (∑ x : Fin 128, v327 (ix2 r x) * (a (ix3 0 n x) * b (ix3 0 ⟨x.val / 32, by omega⟩ n)) : EReal) := by
  pointwise [k0_pay5, k0_pay290]
  apply Finset.sum_congr rfl
  intro x _
  congr 2
  split_ifs <;> (congr 2; apply Fin.ext; simp; omega)
end Cert.KernelIdeal.Gen
end
-- ==== Proof.Value.Sums.lean ====
/- What the first loop leaves in the scratch arrays: the projections, the segment sums, the counts and the sums of powers of two. -/
module
public import proofs.«01_k».proof.Proof.Value.Blocks
@[expose] public section
set_option maxRecDepth 8192
set_option maxHeartbeats 4000000
noncomputable section
namespace Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- The projection of token `t` of document `d` on row `r`. -/
def PTv (xs : S16x256x128.Idx → EReal) (ss : S16x4x256.Idx → EReal) (pj : S160x128.Idx → EReal) (d : Fin 16) (r : Fin 160) (t : Fin 256) : EReal :=
  ∑ x : Fin 128, pj (ix2 r x) * (xs (ix3 d t x) * ss (ix3 d ⟨x.val / 32, by omega⟩ t))

/-- The one-hot entry of token `t` of document `d` for lane `n` of group `g`. -/
def OHv (M : S20x16x256.Idx → BitVec 32) (g : Fin 5) (d : Fin 16) (n : Fin 128) (t : Fin 256) : EReal :=
  ohv (M (ix3 ⟨4 * g.val + n.val / 32, by omega⟩ d t)) (n.val % 32)

/-- The segment sum of column `p` at lane `n` of group `g`, from the projections `P`. -/
def SMv (P : Fin 16 → Fin 160 → Fin 256 → EReal) (M : S20x16x256.Idx → BitVec 32) (g : Fin 5) (d : Fin 16) (p : Fin 8) (n : Fin 128) : EReal :=
  ∑ t : Fin 256, P d ⟨32 * g.val + 8 * (n.val / 32) + p.val, by omega⟩ t * OHv M g d n t
  + ∑ t : Fin 256, (P d ⟨32 * g.val + 8 * (n.val / 32) + p.val, by omega⟩ t - P d ⟨32 * g.val + 8 * (n.val / 32) + p.val, by omega⟩ t) * OHv M g d n t
  + ∑ t : Fin 256, (P d ⟨32 * g.val + 8 * (n.val / 32) + p.val, by omega⟩ t - P d ⟨32 * g.val + 8 * (n.val / 32) + p.val, by omega⟩ t
      - (P d ⟨32 * g.val + 8 * (n.val / 32) + p.val, by omega⟩ t - P d ⟨32 * g.val + 8 * (n.val / 32) + p.val, by omega⟩ t)) * OHv M g d n t

/-- The sum of the weights of row `q` over the tokens of lane `n` of group `g`. -/
def AXv (aux : S16x256.Idx → EReal) (M : S20x16x256.Idx → BitVec 32) (q : Fin 5) (g : Fin 5) (d : Fin 16) (n : Fin 128) : EReal :=
  ∑ t : Fin 256, aux (ix2 ⟨q.val, by omega⟩ t) * OHv M g d n t

/-- A load through a unit-stride rectangle, read at an index. -/
theorem readAt_unit {sig : RefSig} {κ : Kind} {sp : Space} {s : Shape} {e : EltTy} {Val : EltTy → Type} (v : View sig κ sp s e) (X : v.ty.Contents Val)
    {off off' size : Fin s.rank → ℕ} (inb : ∀ a, off a + size a ≤ s.size a) (x : (Rect.unit off size inb).shape.Idx) (y : s.Idx)
    (h : off = off') (hy : ∀ a, (y a).val = off' a + (x a).val) :
    v.readAt Val (Rect.unit off size inb).toLoadRect X x = v.read Val X y := by
  subst h
  rw [View.readAt_apply]
  congr 1
  funext a
  apply Fin.ext
  show off a + 1 * (x a).val = (y a).val
  rw [hy a, Nat.one_mul]

/-- The one-hot block of a group, its rows of words being those of the group's four repetitions. -/
theorem ohBlock_group (M : S20x16x256.Idx → BitVec 32) (g : Fin 5) (d : Fin 16) (n : Fin 128) (w0 w1 w2 w3 : Vec Ideal S1x1x256 .i32)
  (h0 : ∀ t, w0 (ix3 0 0 t) = M (ix3 ⟨4 * g.val, by omega⟩ d t)) (h1 : ∀ t, w1 (ix3 0 0 t) = M (ix3 ⟨4 * g.val + 1, by omega⟩ d t))
  (h2 : ∀ t, w2 (ix3 0 0 t) = M (ix3 ⟨4 * g.val + 2, by omega⟩ d t)) (h3 : ∀ t, w3 (ix3 0 0 t) = M (ix3 ⟨4 * g.val + 3, by omega⟩ d t)) (t : Fin 256) :
  ohBlock sub0 w0 w1 w2 w3 (ix2 n t) = OHv M g d n t := by
  rw [ohBlock_apply]
  unfold OHv
  congr 1
  have hn : n.val / 32 < 4 := by omega
  split_ifs with a b c
  · rw [h0]; congr 2; apply Fin.ext; show 4 * g.val = 4 * g.val + n.val / 32; omega
  · rw [h1]; congr 2; apply Fin.ext; show 4 * g.val + 1 = 4 * g.val + n.val / 32; omega
  · rw [h2]; congr 2; apply Fin.ext; show 4 * g.val + 2 = 4 * g.val + n.val / 32; omega
  · rw [h3]; congr 2; apply Fin.ext; show 4 * g.val + 3 = 4 * g.val + n.val / 32; omega

/-- The 8 by 128 sums a trip stores for group `g`. -/
theorem sum_payload (P : Fin 16 → Fin 160 → Fin 256 → EReal) (M : S20x16x256.Idx → BitVec 32) (g : Fin 5) (d : Fin 16)
    (pt : FVec Ideal S160x256 .f32) (w0 w1 w2 w3 : Vec Ideal S1x1x256 .i32) (hs : S160x256.Slices ![32 * g.val, 0] S32x256)
    (hp : ∀ r t, pt (ix2 r t) = P d r t)
    (h0 : ∀ t, w0 (ix3 0 0 t) = M (ix3 ⟨4 * g.val, by omega⟩ d t)) (h1 : ∀ t, w1 (ix3 0 0 t) = M (ix3 ⟨4 * g.val + 1, by omega⟩ d t))
    (h2 : ∀ t, w2 (ix3 0 0 t) = M (ix3 ⟨4 * g.val + 2, by omega⟩ d t)) (h3 : ∀ t, w3 (ix3 0 0 t) = M (ix3 ⟨4 * g.val + 3, by omega⟩ d t))
    (z : Fin 1) (p : Fin 8) (n : Fin 128) :
    shapeCast S1x8x128 (selBlock lane0 (resBlock (extractStridedSlice S32x256 ![32 * g.val, 0] pt hs) (ohBlock sub0 w0 w1 w2 w3))) shapeCasts_S8x128_S1x8x128 (ix3 z p n)
      = SMv P M g d p n := by
  have hoh := ohBlock_group M g d n w0 w1 w2 w3 h0 h1 h2 h3
  have hpp : ∀ (r : Fin 32) (t : Fin 256), extractStridedSlice S32x256 ![32 * g.val, 0] pt hs (ix2 r t) = P d ⟨32 * g.val + r.val, by omega⟩ t := by
    intro r t
    rw [← hp]
    pointwise
  pointwise
  rw [selBlock_apply, resBlock_apply]
  unfold SMv
  simp only [hoh, hpp, ← Nat.add_assoc]

/-- The row of weighted sums a trip stores for row `q` and group `g`. -/
theorem aux_payload (aux : S16x256.Idx → EReal) (M : S20x16x256.Idx → BitVec 32) (q g : Fin 5) (d : Fin 16)
    (w0 w1 w2 w3 : Vec Ideal S1x1x256 .i32) (hs : S16x128.Slices ![q.val, 0] S1x128)
    (h0 : ∀ t, w0 (ix3 0 0 t) = M (ix3 ⟨4 * g.val, by omega⟩ d t)) (h1 : ∀ t, w1 (ix3 0 0 t) = M (ix3 ⟨4 * g.val + 1, by omega⟩ d t))
    (h2 : ∀ t, w2 (ix3 0 0 t) = M (ix3 ⟨4 * g.val + 2, by omega⟩ d t)) (h3 : ∀ t, w3 (ix3 0 0 t) = M (ix3 ⟨4 * g.val + 3, by omega⟩ d t))
    (z z' z'' : Fin 1) (n : Fin 128) :
    shapeCast S1x1x1x128 (extractStridedSlice S1x128 ![q.val, 0] (auxBlock aux (ohBlock sub0 w0 w1 w2 w3)) hs) shapeCasts_S1x128_S1x1x1x128 (ix4 z z' z'' n)
      = AXv aux M q g d n := by
  have hoh := ohBlock_group M g d n w0 w1 w2 w3 h0 h1 h2 h3
  pointwise
  rw [auxBlock_apply]
  unfold AXv
  simp only [hoh]

end Cert.KernelIdeal.Gen
end
-- ==== Proof.Value.Loop1.lean ====
/- One trip of the first loop, and the loop: what it leaves in the scratch arrays. -/
module
public import proofs.«01_k».proof.Proof.Value.Trips
public import proofs.«01_k».proof.Proof.Value.Sums
public import Idealize.ShloMosaic.Lib.WritesUnit
@[expose] public section
set_option maxRecDepth 8192
set_option maxHeartbeats 4000000
noncomputable section
namespace Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄G" => MT nD τ sig Unit (Elt Ideal) ℕ (UR sig nD τ) ℕ

/-- A store that misses an index leaves what the earlier stores put there. -/
theorem wmiss {sig : RefSig} {κ : Kind} {sp : Space} {s : Shape} {e : EltTy} {Val : EltTy → Type} {v : View sig κ sp s e} {f : v.ty.Contents Val}
    {off off' size : Fin s.rank → ℕ} {inb : ∀ a, off a + size a ≤ s.size a}
    {w : (Rect.unit off size inb).shape.Idx → Val e} {L : List (View.Piece Val s e)} (y : s.Idx) (heq : off = off')
    (a : Fin s.rank) (ha : (y a).val < off' a ∨ off' a + size a ≤ (y a).val) :
    v.read Val (v.writes Val f ((⟨Rect.unit off size inb, w⟩ : View.Piece Val s e) :: L)) y = v.read Val (v.writes Val f L) y :=
  View.read_writes_cons_unit_of_not_mem v f inb w L y heq a ha

/-- A store that covers an index puts its own value there. -/
theorem wmem {sig : RefSig} {κ : Kind} {sp : Space} (s : Shape) {e : EltTy} {Val : EltTy → Type} {v : View sig κ sp s e} {f : v.ty.Contents Val}
    {off off' : Fin s.rank → ℕ} (size : Fin s.rank → ℕ) {inb : ∀ a, off a + size a ≤ s.size a}
    {w : (Rect.unit off size inb).shape.Idx → Val e} {L : List (View.Piece Val s e)} (y : s.Idx)
    (x : (Rect.unit off size inb).shape.Idx) (heq : off = off') (hx : ∀ a, (y a).val = off' a + (x a).val) :
    v.read Val (v.writes Val f ((⟨Rect.unit off size inb, w⟩ : View.Piece Val s e) :: L)) y = w x :=
  View.read_writes_cons_unit_of_mem v f inb w L y x heq hx

/-- The projections of the documents before `k` are in place. -/
def I12 (P : Fin 16 → Fin 160 → Fin 256 → EReal) (k : ℕ) (f : S16x160x256.Idx → EReal) : Prop :=
  ∀ d r t, d.val < k → f (ix3 d r t) = P d r t

/-- The segment sums of the documents before `k` are in place. -/
def I13 (P : Fin 16 → Fin 160 → Fin 256 → EReal) (M : S20x16x256.Idx → BitVec 32) (k : ℕ) (f : S5x128x128.Idx → EReal) : Prop :=
  ∀ (g : Fin 5) (d : Fin 16) (p : Fin 8) (n : Fin 128), d.val < k → f (ix3 g ⟨8 * d.val + p.val, by omega⟩ n) = SMv P M g d p n

/-- The weighted sums of the documents before `k` are in place. -/
def I14 (aux : S16x256.Idx → EReal) (M : S20x16x256.Idx → BitVec 32) (k : ℕ) (f : S5x5x16x128.Idx → EReal) : Prop :=
  ∀ q g d n, d.val < k → f (ix4 q g d n) = AXv aux M q g d n

/-- The trip of document `k` takes the three statements from `k` to `k + 1`. -/
theorem trip1 (𝒱 : Variants) (c : Dev nD) (bd : Option 𝒱.V) (i : grid0.Coords) (arg1 : Memref sig .tc .smem S2000 .i32) (harg1 : arg1.IsWhole) (arg2 : Memref sig .tc .vmem S16x256x128 .fp8e4m3) (harg2 : arg2.IsWhole) (arg3 : Memref sig .tc .vmem S16x4x256 .f32) (harg3 : arg3.IsWhole) (arg4 : Memref sig .tc .vmem S16x1 .i32) (harg4 : arg4.IsWhole) (arg5 : Memref sig .tc .vmem S20x16x256 .i32) (harg5 : arg5.IsWhole) (arg6 : Memref sig .tc .vmem S160x128 .fp8e4m3) (harg6 : arg6.IsWhole) (arg7 : Memref sig .tc .vmem S16x256 .bf16) (harg7 : arg7.IsWhole) (arg8 : Memref sig .tc .vmem S16x5120 .bf16) (harg8 : arg8.IsWhole) (arg9 : Memref sig .tc .vmem S640x128 .i32) (harg9 : arg9.IsWhole) (arg10 : Memref sig .tc .vmem S640x128 .i32) (harg10 : arg10.IsWhole) (arg11 : Memref sig .tc .vmem S20x16x256 .i32) (harg11 : arg11.IsWhole) (arg12 : Memref sig .tc .vmem S16x160x256 .f32) (harg12 : arg12.IsWhole) (arg13 : Memref sig .tc .vmem S5x128x128 .f32) (harg13 : arg13.IsWhole) (arg14 : Memref sig .tc .vmem S5x5x16x128 .f32) (harg14 : arg14.IsWhole) (arg15 : Memref sig .tc .vmem S5x16x128 .i32) (harg15 : arg15.IsWhole) (arg16 : Memref sig .tc .vmem S5x16x128 .f32) (harg16 : arg16.IsWhole) (arg17 : Memref sig .tc .vmem S5x128x128 .i32) (harg17 : arg17.IsWhole) (arg18 : Memref sig .tc .vmem S5x128x128 .i32) (harg18 : arg18.IsWhole) (arg0 : BitVec 32) (v6 : IVec S16x256 1) (v307 : IVec S16x256 32) (v327 : Vec Ideal S160x128 .fp8e4m3) (v330 : Vec Ideal S16x256 .bf16) (X_arg2 : BufTy.Contents (Elt Ideal) arg2.view.ty) (X_arg3 : BufTy.Contents (Elt Ideal) arg3.view.ty) (X_arg11 : BufTy.Contents (Elt Ideal) arg11.view.ty)
    (P : Fin 16 → Fin 160 → Fin 256 → EReal) (M : S20x16x256.Idx → BitVec 32)
    (hP : P = PTv (arg2.view.read (Elt Ideal) X_arg2) (arg3.view.read (Elt Ideal) X_arg3) v327) (hM : M = arg11.view.read (Elt Ideal) X_arg11)
    (k : Fin k0_t1_loop.trips) (E : Set ℕ) (f_arg12 : BufTy.Contents (Elt Ideal) arg12.view.ty) (f_arg13 : BufTy.Contents (Elt Ideal) arg13.view.ty) (f_arg14 : BufTy.Contents (Elt Ideal) arg14.view.ty)
    (h12 : I12 P k.val (arg12.view.read (Elt Ideal) f_arg12)) (h13 : I13 P M k.val (arg13.view.read (Elt Ideal) f_arg13)) (h14 : I14 v330 M k.val (arg14.view.read (Elt Ideal) f_arg14)) :
      Trip_k0_t1 (F := Ideal) c arg2 arg3 arg11 arg12 arg13 arg14 X_arg2 X_arg3 X_arg11 f_arg12 f_arg13 f_arg14
      ⊢ wp frame (wpE (defs₀ (F := Ideal)) 𝒱 (c : Thread nD τ) bd) E (k0_t1_body (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 sub0 lane0 v6 v307 v327 v330 k PUnit.unit)
          (fun _ => iprop((arg2.view.loc (c : Thread nD τ) ↦[arg2.view.set]{fullShare} X_arg2) ∗ (arg3.view.loc (c : Thread nD τ) ↦[arg3.view.set]{fullShare} X_arg3) ∗ (arg11.view.loc (c : Thread nD τ) ↦[arg11.view.set]{fullShare} X_arg11) ∗ (∃ f, (arg12.view.loc (c : Thread nD τ) ↦[arg12.view.set]{fullShare} f) ∗ ⌜I12 P (k.val + 1) (arg12.view.read (Elt Ideal) f)⌝) ∗ (∃ f, (arg13.view.loc (c : Thread nD τ) ↦[arg13.view.set]{fullShare} f) ∗ ⌜I13 P M (k.val + 1) (arg13.view.read (Elt Ideal) f)⌝) ∗ (∃ f, (arg14.view.loc (c : Thread nD τ) ↦[arg14.view.set]{fullShare} f) ∗ ⌜I14 v330 M (k.val + 1) (arg14.view.read (Elt Ideal) f)⌝))) := by
  have hk : k.val < 16 := Nat.lt_of_lt_of_le k.isLt k0_t1_abs.2.1
  unfold k0_t1_body
  iintro ⟨HR_arg2, HR_arg3, HR_arg11, HW_arg12, HW_arg13, HW_arg14⟩
  sl_exec
  sl_step
  isplitl [HR_arg2]; · iexact HR_arg2
  isplitl [HR_arg3]; · iexact HR_arg3
  isplitl [HR_arg11]; · iexact HR_arg11
  -- the projections: what the three loads of the trip read
  have hpt : ∀ r t, k0_pay5 (k0_pay290 v327) (arg2.view.readAt (Elt Ideal) (Rect.unit (s := S16x256x128) (k0_off1 k) S1x256x128.size (k0_off1_inb k)).toLoadRect X_arg2)
      (arg3.view.readAt (Elt Ideal) (Rect.unit (s := S16x4x256) (k0_off2 k) S1x4x256.size (k0_off2_inb k)).toLoadRect X_arg3) (ix2 r t) = P ⟨k.val, hk⟩ r t := by
    intro r t
    rw [pBlock_apply, hP]
    unfold PTv
    refine Finset.sum_congr rfl fun x _ => ?_
    congr 2
    · exact readAt_unit arg2.view X_arg2 _ _ (ix3 ⟨k.val, hk⟩ t x) (k0_off1_eq k) (fun a => by fin_cases a <;> simp)
    · exact readAt_unit arg3.view X_arg3 _ _ (ix3 ⟨k.val, hk⟩ ⟨x.val / 32, by omega⟩ t) (k0_off2_eq k) (fun a => by fin_cases a <;> simp)
  have hw0 : ∀ t : Fin 256, arg11.view.readAt (Elt Ideal) (Rect.unit (s := S20x16x256) (k0_off4 k) S1x1x256.size (k0_off4_inb k)).toLoadRect X_arg11 (ix3 0 0 t) = M (ix3 0 ⟨k.val, hk⟩ t) := by
    intro t; rw [hM]; exact readAt_unit arg11.view X_arg11 _ _ (ix3 0 ⟨k.val, hk⟩ t) (k0_off4_eq k) (fun a => by fin_cases a <;> simp)
  have hw1 : ∀ t : Fin 256, arg11.view.readAt (Elt Ideal) (Rect.unit (s := S20x16x256) (k0_off5 k) S1x1x256.size (k0_off5_inb k)).toLoadRect X_arg11 (ix3 0 0 t) = M (ix3 1 ⟨k.val, hk⟩ t) := by
    intro t; rw [hM]; exact readAt_unit arg11.view X_arg11 _ _ (ix3 1 ⟨k.val, hk⟩ t) (k0_off5_eq k) (fun a => by fin_cases a <;> simp)
  have hw2 : ∀ t : Fin 256, arg11.view.readAt (Elt Ideal) (Rect.unit (s := S20x16x256) (k0_off6 k) S1x1x256.size (k0_off6_inb k)).toLoadRect X_arg11 (ix3 0 0 t) = M (ix3 2 ⟨k.val, hk⟩ t) := by
    intro t; rw [hM]; exact readAt_unit arg11.view X_arg11 _ _ (ix3 2 ⟨k.val, hk⟩ t) (k0_off6_eq k) (fun a => by fin_cases a <;> simp)
  have hw3 : ∀ t : Fin 256, arg11.view.readAt (Elt Ideal) (Rect.unit (s := S20x16x256) (k0_off7 k) S1x1x256.size (k0_off7_inb k)).toLoadRect X_arg11 (ix3 0 0 t) = M (ix3 3 ⟨k.val, hk⟩ t) := by
    intro t; rw [hM]; exact readAt_unit arg11.view X_arg11 _ _ (ix3 3 ⟨k.val, hk⟩ t) (k0_off7_eq k) (fun a => by fin_cases a <;> simp)
  have hw4 : ∀ t : Fin 256, arg11.view.readAt (Elt Ideal) (Rect.unit (s := S20x16x256) (k0_off14 k) S1x1x256.size (k0_off14_inb k)).toLoadRect X_arg11 (ix3 0 0 t) = M (ix3 4 ⟨k.val, hk⟩ t) := by
    intro t; rw [hM]; exact readAt_unit arg11.view X_arg11 _ _ (ix3 4 ⟨k.val, hk⟩ t) (k0_off14_eq k) (fun a => by fin_cases a <;> simp)
  have hw5 : ∀ t : Fin 256, arg11.view.readAt (Elt Ideal) (Rect.unit (s := S20x16x256) (k0_off15 k) S1x1x256.size (k0_off15_inb k)).toLoadRect X_arg11 (ix3 0 0 t) = M (ix3 5 ⟨k.val, hk⟩ t) := by
    intro t; rw [hM]; exact readAt_unit arg11.view X_arg11 _ _ (ix3 5 ⟨k.val, hk⟩ t) (k0_off15_eq k) (fun a => by fin_cases a <;> simp)
  have hw6 : ∀ t : Fin 256, arg11.view.readAt (Elt Ideal) (Rect.unit (s := S20x16x256) (k0_off16 k) S1x1x256.size (k0_off16_inb k)).toLoadRect X_arg11 (ix3 0 0 t) = M (ix3 6 ⟨k.val, hk⟩ t) := by
    intro t; rw [hM]; exact readAt_unit arg11.view X_arg11 _ _ (ix3 6 ⟨k.val, hk⟩ t) (k0_off16_eq k) (fun a => by fin_cases a <;> simp)
  have hw7 : ∀ t : Fin 256, arg11.view.readAt (Elt Ideal) (Rect.unit (s := S20x16x256) (k0_off17 k) S1x1x256.size (k0_off17_inb k)).toLoadRect X_arg11 (ix3 0 0 t) = M (ix3 7 ⟨k.val, hk⟩ t) := by
    intro t; rw [hM]; exact readAt_unit arg11.view X_arg11 _ _ (ix3 7 ⟨k.val, hk⟩ t) (k0_off17_eq k) (fun a => by fin_cases a <;> simp)
  have hw8 : ∀ t : Fin 256, arg11.view.readAt (Elt Ideal) (Rect.unit (s := S20x16x256) (k0_off24 k) S1x1x256.size (k0_off24_inb k)).toLoadRect X_arg11 (ix3 0 0 t) = M (ix3 8 ⟨k.val, hk⟩ t) := by
    intro t; rw [hM]; exact readAt_unit arg11.view X_arg11 _ _ (ix3 8 ⟨k.val, hk⟩ t) (k0_off24_eq k) (fun a => by fin_cases a <;> simp)
  have hw9 : ∀ t : Fin 256, arg11.view.readAt (Elt Ideal) (Rect.unit (s := S20x16x256) (k0_off25 k) S1x1x256.size (k0_off25_inb k)).toLoadRect X_arg11 (ix3 0 0 t) = M (ix3 9 ⟨k.val, hk⟩ t) := by
    intro t; rw [hM]; exact readAt_unit arg11.view X_arg11 _ _ (ix3 9 ⟨k.val, hk⟩ t) (k0_off25_eq k) (fun a => by fin_cases a <;> simp)
  have hw10 : ∀ t : Fin 256, arg11.view.readAt (Elt Ideal) (Rect.unit (s := S20x16x256) (k0_off26 k) S1x1x256.size (k0_off26_inb k)).toLoadRect X_arg11 (ix3 0 0 t) = M (ix3 10 ⟨k.val, hk⟩ t) := by
    intro t; rw [hM]; exact readAt_unit arg11.view X_arg11 _ _ (ix3 10 ⟨k.val, hk⟩ t) (k0_off26_eq k) (fun a => by fin_cases a <;> simp)
  have hw11 : ∀ t : Fin 256, arg11.view.readAt (Elt Ideal) (Rect.unit (s := S20x16x256) (k0_off27 k) S1x1x256.size (k0_off27_inb k)).toLoadRect X_arg11 (ix3 0 0 t) = M (ix3 11 ⟨k.val, hk⟩ t) := by
    intro t; rw [hM]; exact readAt_unit arg11.view X_arg11 _ _ (ix3 11 ⟨k.val, hk⟩ t) (k0_off27_eq k) (fun a => by fin_cases a <;> simp)
  have hw12 : ∀ t : Fin 256, arg11.view.readAt (Elt Ideal) (Rect.unit (s := S20x16x256) (k0_off34 k) S1x1x256.size (k0_off34_inb k)).toLoadRect X_arg11 (ix3 0 0 t) = M (ix3 12 ⟨k.val, hk⟩ t) := by
    intro t; rw [hM]; exact readAt_unit arg11.view X_arg11 _ _ (ix3 12 ⟨k.val, hk⟩ t) (k0_off34_eq k) (fun a => by fin_cases a <;> simp)
  have hw13 : ∀ t : Fin 256, arg11.view.readAt (Elt Ideal) (Rect.unit (s := S20x16x256) (k0_off35 k) S1x1x256.size (k0_off35_inb k)).toLoadRect X_arg11 (ix3 0 0 t) = M (ix3 13 ⟨k.val, hk⟩ t) := by
    intro t; rw [hM]; exact readAt_unit arg11.view X_arg11 _ _ (ix3 13 ⟨k.val, hk⟩ t) (k0_off35_eq k) (fun a => by fin_cases a <;> simp)
  have hw14 : ∀ t : Fin 256, arg11.view.readAt (Elt Ideal) (Rect.unit (s := S20x16x256) (k0_off36 k) S1x1x256.size (k0_off36_inb k)).toLoadRect X_arg11 (ix3 0 0 t) = M (ix3 14 ⟨k.val, hk⟩ t) := by
    intro t; rw [hM]; exact readAt_unit arg11.view X_arg11 _ _ (ix3 14 ⟨k.val, hk⟩ t) (k0_off36_eq k) (fun a => by fin_cases a <;> simp)
  have hw15 : ∀ t : Fin 256, arg11.view.readAt (Elt Ideal) (Rect.unit (s := S20x16x256) (k0_off37 k) S1x1x256.size (k0_off37_inb k)).toLoadRect X_arg11 (ix3 0 0 t) = M (ix3 15 ⟨k.val, hk⟩ t) := by
    intro t; rw [hM]; exact readAt_unit arg11.view X_arg11 _ _ (ix3 15 ⟨k.val, hk⟩ t) (k0_off37_eq k) (fun a => by fin_cases a <;> simp)
  have hw16 : ∀ t : Fin 256, arg11.view.readAt (Elt Ideal) (Rect.unit (s := S20x16x256) (k0_off44 k) S1x1x256.size (k0_off44_inb k)).toLoadRect X_arg11 (ix3 0 0 t) = M (ix3 16 ⟨k.val, hk⟩ t) := by
    intro t; rw [hM]; exact readAt_unit arg11.view X_arg11 _ _ (ix3 16 ⟨k.val, hk⟩ t) (k0_off44_eq k) (fun a => by fin_cases a <;> simp)
  have hw17 : ∀ t : Fin 256, arg11.view.readAt (Elt Ideal) (Rect.unit (s := S20x16x256) (k0_off45 k) S1x1x256.size (k0_off45_inb k)).toLoadRect X_arg11 (ix3 0 0 t) = M (ix3 17 ⟨k.val, hk⟩ t) := by
    intro t; rw [hM]; exact readAt_unit arg11.view X_arg11 _ _ (ix3 17 ⟨k.val, hk⟩ t) (k0_off45_eq k) (fun a => by fin_cases a <;> simp)
  have hw18 : ∀ t : Fin 256, arg11.view.readAt (Elt Ideal) (Rect.unit (s := S20x16x256) (k0_off46 k) S1x1x256.size (k0_off46_inb k)).toLoadRect X_arg11 (ix3 0 0 t) = M (ix3 18 ⟨k.val, hk⟩ t) := by
    intro t; rw [hM]; exact readAt_unit arg11.view X_arg11 _ _ (ix3 18 ⟨k.val, hk⟩ t) (k0_off46_eq k) (fun a => by fin_cases a <;> simp)
  have hw19 : ∀ t : Fin 256, arg11.view.readAt (Elt Ideal) (Rect.unit (s := S20x16x256) (k0_off47 k) S1x1x256.size (k0_off47_inb k)).toLoadRect X_arg11 (ix3 0 0 t) = M (ix3 19 ⟨k.val, hk⟩ t) := by
    intro t; rw [hM]; exact readAt_unit arg11.view X_arg11 _ _ (ix3 19 ⟨k.val, hk⟩ t) (k0_off47_eq k) (fun a => by fin_cases a <;> simp)
  isplitl [HW_arg12]
  · iexists _; isplitl [HW_arg12]; · iexact HW_arg12
    ipureintro
    intro d r t hd
    rcases Nat.lt_succ_iff_lt_or_eq.mp hd with hd | hd
    · rw [wmiss (ix3 d r t) (k0_off3_eq k) 0 (by simp; omega)]
      exact h12 d r t hd
    · obtain rfl : d = ⟨k.val, hk⟩ := Fin.ext hd
      rw [wmem S16x160x256 S1x160x256.size (ix3 ⟨k.val, hk⟩ r t) (ix3 0 r t) (k0_off3_eq k) (fun a => by fin_cases a <;> simp)]
      rw [← hpt]
      pointwise [k0_pay6]
  isplitl [HW_arg13]
  · iexists _; isplitl [HW_arg13]; · iexact HW_arg13
    ipureintro
    intro g d p n hd
    rcases Nat.lt_succ_iff_lt_or_eq.mp hd with hd | hd
    · rw [wmiss (ix3 g ⟨8 * d.val + p.val, by omega⟩ n) (k0_off48_eq k) 1 (by simp; omega),
        wmiss (ix3 g ⟨8 * d.val + p.val, by omega⟩ n) (k0_off38_eq k) 1 (by simp; omega),
        wmiss (ix3 g ⟨8 * d.val + p.val, by omega⟩ n) (k0_off28_eq k) 1 (by simp; omega),
        wmiss (ix3 g ⟨8 * d.val + p.val, by omega⟩ n) (k0_off18_eq k) 1 (by simp; omega),
        wmiss (ix3 g ⟨8 * d.val + p.val, by omega⟩ n) (k0_off8_eq k) 1 (by simp; omega)]
      exact h13 g d p n hd
    · obtain rfl : d = ⟨k.val, hk⟩ := Fin.ext hd
      fin_cases g
      · show View.read (Elt Ideal) arg13.view _ (ix3 0 ⟨8 * k.val + p.val, _⟩ n) = SMv P M 0 ⟨k.val, hk⟩ p n
        rw [wmiss (ix3 0 ⟨8 * k.val + p.val, by omega⟩ n) (k0_off48_eq k) 0 (by simp),
          wmiss (ix3 0 ⟨8 * k.val + p.val, by omega⟩ n) (k0_off38_eq k) 0 (by simp),
          wmiss (ix3 0 ⟨8 * k.val + p.val, by omega⟩ n) (k0_off28_eq k) 0 (by simp),
          wmiss (ix3 0 ⟨8 * k.val + p.val, by omega⟩ n) (k0_off18_eq k) 0 (by simp),
          wmem S5x128x128 S1x8x128.size (ix3 0 ⟨8 * k.val + p.val, by omega⟩ n) (ix3 0 p n) (k0_off8_eq k) (fun a => by fin_cases a <;> simp)]
        exact sum_payload P M 0 ⟨k.val, hk⟩ _ _ _ _ _ (by decide) hpt hw0 hw1 hw2 hw3 0 p n
      · show View.read (Elt Ideal) arg13.view _ (ix3 1 ⟨8 * k.val + p.val, _⟩ n) = SMv P M 1 ⟨k.val, hk⟩ p n
        rw [wmiss (ix3 1 ⟨8 * k.val + p.val, by omega⟩ n) (k0_off48_eq k) 0 (by simp),
          wmiss (ix3 1 ⟨8 * k.val + p.val, by omega⟩ n) (k0_off38_eq k) 0 (by simp),
          wmiss (ix3 1 ⟨8 * k.val + p.val, by omega⟩ n) (k0_off28_eq k) 0 (by simp),
          wmem S5x128x128 S1x8x128.size (ix3 1 ⟨8 * k.val + p.val, by omega⟩ n) (ix3 0 p n) (k0_off18_eq k) (fun a => by fin_cases a <;> simp)]
        exact sum_payload P M 1 ⟨k.val, hk⟩ _ _ _ _ _ (by decide) hpt hw4 hw5 hw6 hw7 0 p n
      · show View.read (Elt Ideal) arg13.view _ (ix3 2 ⟨8 * k.val + p.val, _⟩ n) = SMv P M 2 ⟨k.val, hk⟩ p n
        rw [wmiss (ix3 2 ⟨8 * k.val + p.val, by omega⟩ n) (k0_off48_eq k) 0 (by simp),
          wmiss (ix3 2 ⟨8 * k.val + p.val, by omega⟩ n) (k0_off38_eq k) 0 (by simp),
          wmem S5x128x128 S1x8x128.size (ix3 2 ⟨8 * k.val + p.val, by omega⟩ n) (ix3 0 p n) (k0_off28_eq k) (fun a => by fin_cases a <;> simp)]
        exact sum_payload P M 2 ⟨k.val, hk⟩ _ _ _ _ _ (by decide) hpt hw8 hw9 hw10 hw11 0 p n
      · show View.read (Elt Ideal) arg13.view _ (ix3 3 ⟨8 * k.val + p.val, _⟩ n) = SMv P M 3 ⟨k.val, hk⟩ p n
        rw [wmiss (ix3 3 ⟨8 * k.val + p.val, by omega⟩ n) (k0_off48_eq k) 0 (by simp),
          wmem S5x128x128 S1x8x128.size (ix3 3 ⟨8 * k.val + p.val, by omega⟩ n) (ix3 0 p n) (k0_off38_eq k) (fun a => by fin_cases a <;> simp)]
        exact sum_payload P M 3 ⟨k.val, hk⟩ _ _ _ _ _ (by decide) hpt hw12 hw13 hw14 hw15 0 p n
      · show View.read (Elt Ideal) arg13.view _ (ix3 4 ⟨8 * k.val + p.val, _⟩ n) = SMv P M 4 ⟨k.val, hk⟩ p n
        rw [wmem S5x128x128 S1x8x128.size (ix3 4 ⟨8 * k.val + p.val, by omega⟩ n) (ix3 0 p n) (k0_off48_eq k) (fun a => by fin_cases a <;> simp)]
        exact sum_payload P M 4 ⟨k.val, hk⟩ _ _ _ _ _ (by decide) hpt hw16 hw17 hw18 hw19 0 p n
  iexists _; isplitl [HW_arg14]; · iexact HW_arg14
  ipureintro
  intro q g d n hd
  rcases Nat.lt_succ_iff_lt_or_eq.mp hd with hd | hd
  · rw [wmiss (ix4 q g d n) (k0_off53_eq k) 2 (by simp; omega),
      wmiss (ix4 q g d n) (k0_off52_eq k) 2 (by simp; omega),
      wmiss (ix4 q g d n) (k0_off51_eq k) 2 (by simp; omega),
      wmiss (ix4 q g d n) (k0_off50_eq k) 2 (by simp; omega),
      wmiss (ix4 q g d n) (k0_off49_eq k) 2 (by simp; omega),
      wmiss (ix4 q g d n) (k0_off43_eq k) 2 (by simp; omega),
      wmiss (ix4 q g d n) (k0_off42_eq k) 2 (by simp; omega),
      wmiss (ix4 q g d n) (k0_off41_eq k) 2 (by simp; omega),
      wmiss (ix4 q g d n) (k0_off40_eq k) 2 (by simp; omega),
      wmiss (ix4 q g d n) (k0_off39_eq k) 2 (by simp; omega),
      wmiss (ix4 q g d n) (k0_off33_eq k) 2 (by simp; omega),
      wmiss (ix4 q g d n) (k0_off32_eq k) 2 (by simp; omega),
      wmiss (ix4 q g d n) (k0_off31_eq k) 2 (by simp; omega),
      wmiss (ix4 q g d n) (k0_off30_eq k) 2 (by simp; omega),
      wmiss (ix4 q g d n) (k0_off29_eq k) 2 (by simp; omega),
      wmiss (ix4 q g d n) (k0_off23_eq k) 2 (by simp; omega),
      wmiss (ix4 q g d n) (k0_off22_eq k) 2 (by simp; omega),
      wmiss (ix4 q g d n) (k0_off21_eq k) 2 (by simp; omega),
      wmiss (ix4 q g d n) (k0_off20_eq k) 2 (by simp; omega),
      wmiss (ix4 q g d n) (k0_off19_eq k) 2 (by simp; omega),
      wmiss (ix4 q g d n) (k0_off13_eq k) 2 (by simp; omega),
      wmiss (ix4 q g d n) (k0_off12_eq k) 2 (by simp; omega),
      wmiss (ix4 q g d n) (k0_off11_eq k) 2 (by simp; omega),
      wmiss (ix4 q g d n) (k0_off10_eq k) 2 (by simp; omega),
      wmiss (ix4 q g d n) (k0_off9_eq k) 2 (by simp; omega)]
    exact h14 q g d n hd
  · obtain rfl : d = ⟨k.val, hk⟩ := Fin.ext hd
    fin_cases g <;> fin_cases q
    · show View.read (Elt Ideal) arg14.view _ (ix4 0 0 ⟨k.val, hk⟩ n) = AXv v330 M 0 0 ⟨k.val, hk⟩ n
      rw [wmiss (ix4 0 0 ⟨k.val, hk⟩ n) (k0_off53_eq k) 1 (by simp),
        wmiss (ix4 0 0 ⟨k.val, hk⟩ n) (k0_off52_eq k) 1 (by simp),
        wmiss (ix4 0 0 ⟨k.val, hk⟩ n) (k0_off51_eq k) 1 (by simp),
        wmiss (ix4 0 0 ⟨k.val, hk⟩ n) (k0_off50_eq k) 1 (by simp),
        wmiss (ix4 0 0 ⟨k.val, hk⟩ n) (k0_off49_eq k) 1 (by simp),
        wmiss (ix4 0 0 ⟨k.val, hk⟩ n) (k0_off43_eq k) 1 (by simp),
        wmiss (ix4 0 0 ⟨k.val, hk⟩ n) (k0_off42_eq k) 1 (by simp),
        wmiss (ix4 0 0 ⟨k.val, hk⟩ n) (k0_off41_eq k) 1 (by simp),
        wmiss (ix4 0 0 ⟨k.val, hk⟩ n) (k0_off40_eq k) 1 (by simp),
        wmiss (ix4 0 0 ⟨k.val, hk⟩ n) (k0_off39_eq k) 1 (by simp),
        wmiss (ix4 0 0 ⟨k.val, hk⟩ n) (k0_off33_eq k) 1 (by simp),
        wmiss (ix4 0 0 ⟨k.val, hk⟩ n) (k0_off32_eq k) 1 (by simp),
        wmiss (ix4 0 0 ⟨k.val, hk⟩ n) (k0_off31_eq k) 1 (by simp),
        wmiss (ix4 0 0 ⟨k.val, hk⟩ n) (k0_off30_eq k) 1 (by simp),
        wmiss (ix4 0 0 ⟨k.val, hk⟩ n) (k0_off29_eq k) 1 (by simp),
        wmiss (ix4 0 0 ⟨k.val, hk⟩ n) (k0_off23_eq k) 1 (by simp),
        wmiss (ix4 0 0 ⟨k.val, hk⟩ n) (k0_off22_eq k) 1 (by simp),
        wmiss (ix4 0 0 ⟨k.val, hk⟩ n) (k0_off21_eq k) 1 (by simp),
        wmiss (ix4 0 0 ⟨k.val, hk⟩ n) (k0_off20_eq k) 1 (by simp),
        wmiss (ix4 0 0 ⟨k.val, hk⟩ n) (k0_off19_eq k) 1 (by simp),
        wmiss (ix4 0 0 ⟨k.val, hk⟩ n) (k0_off13_eq k) 0 (by simp),
        wmiss (ix4 0 0 ⟨k.val, hk⟩ n) (k0_off12_eq k) 0 (by simp),
        wmiss (ix4 0 0 ⟨k.val, hk⟩ n) (k0_off11_eq k) 0 (by simp),
        wmiss (ix4 0 0 ⟨k.val, hk⟩ n) (k0_off10_eq k) 0 (by simp),
        wmem S5x5x16x128 S1x1x1x128.size (ix4 0 0 ⟨k.val, hk⟩ n) (ix4 0 0 0 n) (k0_off9_eq k) (fun a => by fin_cases a <;> simp)]
      exact aux_payload v330 M 0 0 ⟨k.val, hk⟩ _ _ _ _ (by decide) hw0 hw1 hw2 hw3 0 0 0 n
    · show View.read (Elt Ideal) arg14.view _ (ix4 1 0 ⟨k.val, hk⟩ n) = AXv v330 M 1 0 ⟨k.val, hk⟩ n
      rw [wmiss (ix4 1 0 ⟨k.val, hk⟩ n) (k0_off53_eq k) 1 (by simp),
        wmiss (ix4 1 0 ⟨k.val, hk⟩ n) (k0_off52_eq k) 1 (by simp),
        wmiss (ix4 1 0 ⟨k.val, hk⟩ n) (k0_off51_eq k) 1 (by simp),
        wmiss (ix4 1 0 ⟨k.val, hk⟩ n) (k0_off50_eq k) 1 (by simp),
        wmiss (ix4 1 0 ⟨k.val, hk⟩ n) (k0_off49_eq k) 1 (by simp),
        wmiss (ix4 1 0 ⟨k.val, hk⟩ n) (k0_off43_eq k) 1 (by simp),
        wmiss (ix4 1 0 ⟨k.val, hk⟩ n) (k0_off42_eq k) 1 (by simp),
        wmiss (ix4 1 0 ⟨k.val, hk⟩ n) (k0_off41_eq k) 1 (by simp),
        wmiss (ix4 1 0 ⟨k.val, hk⟩ n) (k0_off40_eq k) 1 (by simp),
        wmiss (ix4 1 0 ⟨k.val, hk⟩ n) (k0_off39_eq k) 1 (by simp),
        wmiss (ix4 1 0 ⟨k.val, hk⟩ n) (k0_off33_eq k) 1 (by simp),
        wmiss (ix4 1 0 ⟨k.val, hk⟩ n) (k0_off32_eq k) 1 (by simp),
        wmiss (ix4 1 0 ⟨k.val, hk⟩ n) (k0_off31_eq k) 1 (by simp),
        wmiss (ix4 1 0 ⟨k.val, hk⟩ n) (k0_off30_eq k) 1 (by simp),
        wmiss (ix4 1 0 ⟨k.val, hk⟩ n) (k0_off29_eq k) 1 (by simp),
        wmiss (ix4 1 0 ⟨k.val, hk⟩ n) (k0_off23_eq k) 1 (by simp),
        wmiss (ix4 1 0 ⟨k.val, hk⟩ n) (k0_off22_eq k) 1 (by simp),
        wmiss (ix4 1 0 ⟨k.val, hk⟩ n) (k0_off21_eq k) 1 (by simp),
        wmiss (ix4 1 0 ⟨k.val, hk⟩ n) (k0_off20_eq k) 1 (by simp),
        wmiss (ix4 1 0 ⟨k.val, hk⟩ n) (k0_off19_eq k) 1 (by simp),
        wmiss (ix4 1 0 ⟨k.val, hk⟩ n) (k0_off13_eq k) 0 (by simp),
        wmiss (ix4 1 0 ⟨k.val, hk⟩ n) (k0_off12_eq k) 0 (by simp),
        wmiss (ix4 1 0 ⟨k.val, hk⟩ n) (k0_off11_eq k) 0 (by simp),
        wmem S5x5x16x128 S1x1x1x128.size (ix4 1 0 ⟨k.val, hk⟩ n) (ix4 0 0 0 n) (k0_off10_eq k) (fun a => by fin_cases a <;> simp)]
      exact aux_payload v330 M 1 0 ⟨k.val, hk⟩ _ _ _ _ (by decide) hw0 hw1 hw2 hw3 0 0 0 n
    · show View.read (Elt Ideal) arg14.view _ (ix4 2 0 ⟨k.val, hk⟩ n) = AXv v330 M 2 0 ⟨k.val, hk⟩ n
      rw [wmiss (ix4 2 0 ⟨k.val, hk⟩ n) (k0_off53_eq k) 1 (by simp),
        wmiss (ix4 2 0 ⟨k.val, hk⟩ n) (k0_off52_eq k) 1 (by simp),
        wmiss (ix4 2 0 ⟨k.val, hk⟩ n) (k0_off51_eq k) 1 (by simp),
        wmiss (ix4 2 0 ⟨k.val, hk⟩ n) (k0_off50_eq k) 1 (by simp),
        wmiss (ix4 2 0 ⟨k.val, hk⟩ n) (k0_off49_eq k) 1 (by simp),
        wmiss (ix4 2 0 ⟨k.val, hk⟩ n) (k0_off43_eq k) 1 (by simp),
        wmiss (ix4 2 0 ⟨k.val, hk⟩ n) (k0_off42_eq k) 1 (by simp),
        wmiss (ix4 2 0 ⟨k.val, hk⟩ n) (k0_off41_eq k) 1 (by simp),
        wmiss (ix4 2 0 ⟨k.val, hk⟩ n) (k0_off40_eq k) 1 (by simp),
        wmiss (ix4 2 0 ⟨k.val, hk⟩ n) (k0_off39_eq k) 1 (by simp),
        wmiss (ix4 2 0 ⟨k.val, hk⟩ n) (k0_off33_eq k) 1 (by simp),
        wmiss (ix4 2 0 ⟨k.val, hk⟩ n) (k0_off32_eq k) 1 (by simp),
        wmiss (ix4 2 0 ⟨k.val, hk⟩ n) (k0_off31_eq k) 1 (by simp),
        wmiss (ix4 2 0 ⟨k.val, hk⟩ n) (k0_off30_eq k) 1 (by simp),
        wmiss (ix4 2 0 ⟨k.val, hk⟩ n) (k0_off29_eq k) 1 (by simp),
        wmiss (ix4 2 0 ⟨k.val, hk⟩ n) (k0_off23_eq k) 1 (by simp),
        wmiss (ix4 2 0 ⟨k.val, hk⟩ n) (k0_off22_eq k) 1 (by simp),
        wmiss (ix4 2 0 ⟨k.val, hk⟩ n) (k0_off21_eq k) 1 (by simp),
        wmiss (ix4 2 0 ⟨k.val, hk⟩ n) (k0_off20_eq k) 1 (by simp),
        wmiss (ix4 2 0 ⟨k.val, hk⟩ n) (k0_off19_eq k) 1 (by simp),
        wmiss (ix4 2 0 ⟨k.val, hk⟩ n) (k0_off13_eq k) 0 (by simp),
        wmiss (ix4 2 0 ⟨k.val, hk⟩ n) (k0_off12_eq k) 0 (by simp),
        wmem S5x5x16x128 S1x1x1x128.size (ix4 2 0 ⟨k.val, hk⟩ n) (ix4 0 0 0 n) (k0_off11_eq k) (fun a => by fin_cases a <;> simp)]
      exact aux_payload v330 M 2 0 ⟨k.val, hk⟩ _ _ _ _ (by decide) hw0 hw1 hw2 hw3 0 0 0 n
    · show View.read (Elt Ideal) arg14.view _ (ix4 3 0 ⟨k.val, hk⟩ n) = AXv v330 M 3 0 ⟨k.val, hk⟩ n
      rw [wmiss (ix4 3 0 ⟨k.val, hk⟩ n) (k0_off53_eq k) 1 (by simp),
        wmiss (ix4 3 0 ⟨k.val, hk⟩ n) (k0_off52_eq k) 1 (by simp),
        wmiss (ix4 3 0 ⟨k.val, hk⟩ n) (k0_off51_eq k) 1 (by simp),
        wmiss (ix4 3 0 ⟨k.val, hk⟩ n) (k0_off50_eq k) 1 (by simp),
        wmiss (ix4 3 0 ⟨k.val, hk⟩ n) (k0_off49_eq k) 1 (by simp),
        wmiss (ix4 3 0 ⟨k.val, hk⟩ n) (k0_off43_eq k) 1 (by simp),
        wmiss (ix4 3 0 ⟨k.val, hk⟩ n) (k0_off42_eq k) 1 (by simp),
        wmiss (ix4 3 0 ⟨k.val, hk⟩ n) (k0_off41_eq k) 1 (by simp),
        wmiss (ix4 3 0 ⟨k.val, hk⟩ n) (k0_off40_eq k) 1 (by simp),
        wmiss (ix4 3 0 ⟨k.val, hk⟩ n) (k0_off39_eq k) 1 (by simp),
        wmiss (ix4 3 0 ⟨k.val, hk⟩ n) (k0_off33_eq k) 1 (by simp),
        wmiss (ix4 3 0 ⟨k.val, hk⟩ n) (k0_off32_eq k) 1 (by simp),
        wmiss (ix4 3 0 ⟨k.val, hk⟩ n) (k0_off31_eq k) 1 (by simp),
        wmiss (ix4 3 0 ⟨k.val, hk⟩ n) (k0_off30_eq k) 1 (by simp),
        wmiss (ix4 3 0 ⟨k.val, hk⟩ n) (k0_off29_eq k) 1 (by simp),
        wmiss (ix4 3 0 ⟨k.val, hk⟩ n) (k0_off23_eq k) 1 (by simp),
        wmiss (ix4 3 0 ⟨k.val, hk⟩ n) (k0_off22_eq k) 1 (by simp),
        wmiss (ix4 3 0 ⟨k.val, hk⟩ n) (k0_off21_eq k) 1 (by simp),
        wmiss (ix4 3 0 ⟨k.val, hk⟩ n) (k0_off20_eq k) 1 (by simp),
        wmiss (ix4 3 0 ⟨k.val, hk⟩ n) (k0_off19_eq k) 1 (by simp),
        wmiss (ix4 3 0 ⟨k.val, hk⟩ n) (k0_off13_eq k) 0 (by simp),
        wmem S5x5x16x128 S1x1x1x128.size (ix4 3 0 ⟨k.val, hk⟩ n) (ix4 0 0 0 n) (k0_off12_eq k) (fun a => by fin_cases a <;> simp)]
      exact aux_payload v330 M 3 0 ⟨k.val, hk⟩ _ _ _ _ (by decide) hw0 hw1 hw2 hw3 0 0 0 n
    · show View.read (Elt Ideal) arg14.view _ (ix4 4 0 ⟨k.val, hk⟩ n) = AXv v330 M 4 0 ⟨k.val, hk⟩ n
      rw [wmiss (ix4 4 0 ⟨k.val, hk⟩ n) (k0_off53_eq k) 1 (by simp),
        wmiss (ix4 4 0 ⟨k.val, hk⟩ n) (k0_off52_eq k) 1 (by simp),
        wmiss (ix4 4 0 ⟨k.val, hk⟩ n) (k0_off51_eq k) 1 (by simp),
        wmiss (ix4 4 0 ⟨k.val, hk⟩ n) (k0_off50_eq k) 1 (by simp),
        wmiss (ix4 4 0 ⟨k.val, hk⟩ n) (k0_off49_eq k) 1 (by simp),
        wmiss (ix4 4 0 ⟨k.val, hk⟩ n) (k0_off43_eq k) 1 (by simp),
        wmiss (ix4 4 0 ⟨k.val, hk⟩ n) (k0_off42_eq k) 1 (by simp),
        wmiss (ix4 4 0 ⟨k.val, hk⟩ n) (k0_off41_eq k) 1 (by simp),
        wmiss (ix4 4 0 ⟨k.val, hk⟩ n) (k0_off40_eq k) 1 (by simp),
        wmiss (ix4 4 0 ⟨k.val, hk⟩ n) (k0_off39_eq k) 1 (by simp),
        wmiss (ix4 4 0 ⟨k.val, hk⟩ n) (k0_off33_eq k) 1 (by simp),
        wmiss (ix4 4 0 ⟨k.val, hk⟩ n) (k0_off32_eq k) 1 (by simp),
        wmiss (ix4 4 0 ⟨k.val, hk⟩ n) (k0_off31_eq k) 1 (by simp),
        wmiss (ix4 4 0 ⟨k.val, hk⟩ n) (k0_off30_eq k) 1 (by simp),
        wmiss (ix4 4 0 ⟨k.val, hk⟩ n) (k0_off29_eq k) 1 (by simp),
        wmiss (ix4 4 0 ⟨k.val, hk⟩ n) (k0_off23_eq k) 1 (by simp),
        wmiss (ix4 4 0 ⟨k.val, hk⟩ n) (k0_off22_eq k) 1 (by simp),
        wmiss (ix4 4 0 ⟨k.val, hk⟩ n) (k0_off21_eq k) 1 (by simp),
        wmiss (ix4 4 0 ⟨k.val, hk⟩ n) (k0_off20_eq k) 1 (by simp),
        wmiss (ix4 4 0 ⟨k.val, hk⟩ n) (k0_off19_eq k) 1 (by simp),
        wmem S5x5x16x128 S1x1x1x128.size (ix4 4 0 ⟨k.val, hk⟩ n) (ix4 0 0 0 n) (k0_off13_eq k) (fun a => by fin_cases a <;> simp)]
      exact aux_payload v330 M 4 0 ⟨k.val, hk⟩ _ _ _ _ (by decide) hw0 hw1 hw2 hw3 0 0 0 n
    · show View.read (Elt Ideal) arg14.view _ (ix4 0 1 ⟨k.val, hk⟩ n) = AXv v330 M 0 1 ⟨k.val, hk⟩ n
      rw [wmiss (ix4 0 1 ⟨k.val, hk⟩ n) (k0_off53_eq k) 1 (by simp),
        wmiss (ix4 0 1 ⟨k.val, hk⟩ n) (k0_off52_eq k) 1 (by simp),
        wmiss (ix4 0 1 ⟨k.val, hk⟩ n) (k0_off51_eq k) 1 (by simp),
        wmiss (ix4 0 1 ⟨k.val, hk⟩ n) (k0_off50_eq k) 1 (by simp),
        wmiss (ix4 0 1 ⟨k.val, hk⟩ n) (k0_off49_eq k) 1 (by simp),
        wmiss (ix4 0 1 ⟨k.val, hk⟩ n) (k0_off43_eq k) 1 (by simp),
        wmiss (ix4 0 1 ⟨k.val, hk⟩ n) (k0_off42_eq k) 1 (by simp),
        wmiss (ix4 0 1 ⟨k.val, hk⟩ n) (k0_off41_eq k) 1 (by simp),
        wmiss (ix4 0 1 ⟨k.val, hk⟩ n) (k0_off40_eq k) 1 (by simp),
        wmiss (ix4 0 1 ⟨k.val, hk⟩ n) (k0_off39_eq k) 1 (by simp),
        wmiss (ix4 0 1 ⟨k.val, hk⟩ n) (k0_off33_eq k) 1 (by simp),
        wmiss (ix4 0 1 ⟨k.val, hk⟩ n) (k0_off32_eq k) 1 (by simp),
        wmiss (ix4 0 1 ⟨k.val, hk⟩ n) (k0_off31_eq k) 1 (by simp),
        wmiss (ix4 0 1 ⟨k.val, hk⟩ n) (k0_off30_eq k) 1 (by simp),
        wmiss (ix4 0 1 ⟨k.val, hk⟩ n) (k0_off29_eq k) 1 (by simp),
        wmiss (ix4 0 1 ⟨k.val, hk⟩ n) (k0_off23_eq k) 0 (by simp),
        wmiss (ix4 0 1 ⟨k.val, hk⟩ n) (k0_off22_eq k) 0 (by simp),
        wmiss (ix4 0 1 ⟨k.val, hk⟩ n) (k0_off21_eq k) 0 (by simp),
        wmiss (ix4 0 1 ⟨k.val, hk⟩ n) (k0_off20_eq k) 0 (by simp),
        wmem S5x5x16x128 S1x1x1x128.size (ix4 0 1 ⟨k.val, hk⟩ n) (ix4 0 0 0 n) (k0_off19_eq k) (fun a => by fin_cases a <;> simp)]
      exact aux_payload v330 M 0 1 ⟨k.val, hk⟩ _ _ _ _ (by decide) hw4 hw5 hw6 hw7 0 0 0 n
    · show View.read (Elt Ideal) arg14.view _ (ix4 1 1 ⟨k.val, hk⟩ n) = AXv v330 M 1 1 ⟨k.val, hk⟩ n
      rw [wmiss (ix4 1 1 ⟨k.val, hk⟩ n) (k0_off53_eq k) 1 (by simp),
        wmiss (ix4 1 1 ⟨k.val, hk⟩ n) (k0_off52_eq k) 1 (by simp),
        wmiss (ix4 1 1 ⟨k.val, hk⟩ n) (k0_off51_eq k) 1 (by simp),
        wmiss (ix4 1 1 ⟨k.val, hk⟩ n) (k0_off50_eq k) 1 (by simp),
        wmiss (ix4 1 1 ⟨k.val, hk⟩ n) (k0_off49_eq k) 1 (by simp),
        wmiss (ix4 1 1 ⟨k.val, hk⟩ n) (k0_off43_eq k) 1 (by simp),
        wmiss (ix4 1 1 ⟨k.val, hk⟩ n) (k0_off42_eq k) 1 (by simp),
        wmiss (ix4 1 1 ⟨k.val, hk⟩ n) (k0_off41_eq k) 1 (by simp),
        wmiss (ix4 1 1 ⟨k.val, hk⟩ n) (k0_off40_eq k) 1 (by simp),
        wmiss (ix4 1 1 ⟨k.val, hk⟩ n) (k0_off39_eq k) 1 (by simp),
        wmiss (ix4 1 1 ⟨k.val, hk⟩ n) (k0_off33_eq k) 1 (by simp),
        wmiss (ix4 1 1 ⟨k.val, hk⟩ n) (k0_off32_eq k) 1 (by simp),
        wmiss (ix4 1 1 ⟨k.val, hk⟩ n) (k0_off31_eq k) 1 (by simp),
        wmiss (ix4 1 1 ⟨k.val, hk⟩ n) (k0_off30_eq k) 1 (by simp),
        wmiss (ix4 1 1 ⟨k.val, hk⟩ n) (k0_off29_eq k) 1 (by simp),
        wmiss (ix4 1 1 ⟨k.val, hk⟩ n) (k0_off23_eq k) 0 (by simp),
        wmiss (ix4 1 1 ⟨k.val, hk⟩ n) (k0_off22_eq k) 0 (by simp),
        wmiss (ix4 1 1 ⟨k.val, hk⟩ n) (k0_off21_eq k) 0 (by simp),
        wmem S5x5x16x128 S1x1x1x128.size (ix4 1 1 ⟨k.val, hk⟩ n) (ix4 0 0 0 n) (k0_off20_eq k) (fun a => by fin_cases a <;> simp)]
      exact aux_payload v330 M 1 1 ⟨k.val, hk⟩ _ _ _ _ (by decide) hw4 hw5 hw6 hw7 0 0 0 n
    · show View.read (Elt Ideal) arg14.view _ (ix4 2 1 ⟨k.val, hk⟩ n) = AXv v330 M 2 1 ⟨k.val, hk⟩ n
      rw [wmiss (ix4 2 1 ⟨k.val, hk⟩ n) (k0_off53_eq k) 1 (by simp),
        wmiss (ix4 2 1 ⟨k.val, hk⟩ n) (k0_off52_eq k) 1 (by simp),
        wmiss (ix4 2 1 ⟨k.val, hk⟩ n) (k0_off51_eq k) 1 (by simp),
        wmiss (ix4 2 1 ⟨k.val, hk⟩ n) (k0_off50_eq k) 1 (by simp),
        wmiss (ix4 2 1 ⟨k.val, hk⟩ n) (k0_off49_eq k) 1 (by simp),
        wmiss (ix4 2 1 ⟨k.val, hk⟩ n) (k0_off43_eq k) 1 (by simp),
        wmiss (ix4 2 1 ⟨k.val, hk⟩ n) (k0_off42_eq k) 1 (by simp),
        wmiss (ix4 2 1 ⟨k.val, hk⟩ n) (k0_off41_eq k) 1 (by simp),
        wmiss (ix4 2 1 ⟨k.val, hk⟩ n) (k0_off40_eq k) 1 (by simp),
        wmiss (ix4 2 1 ⟨k.val, hk⟩ n) (k0_off39_eq k) 1 (by simp),
        wmiss (ix4 2 1 ⟨k.val, hk⟩ n) (k0_off33_eq k) 1 (by simp),
        wmiss (ix4 2 1 ⟨k.val, hk⟩ n) (k0_off32_eq k) 1 (by simp),
        wmiss (ix4 2 1 ⟨k.val, hk⟩ n) (k0_off31_eq k) 1 (by simp),
        wmiss (ix4 2 1 ⟨k.val, hk⟩ n) (k0_off30_eq k) 1 (by simp),
        wmiss (ix4 2 1 ⟨k.val, hk⟩ n) (k0_off29_eq k) 1 (by simp),
        wmiss (ix4 2 1 ⟨k.val, hk⟩ n) (k0_off23_eq k) 0 (by simp),
        wmiss (ix4 2 1 ⟨k.val, hk⟩ n) (k0_off22_eq k) 0 (by simp),
        wmem S5x5x16x128 S1x1x1x128.size (ix4 2 1 ⟨k.val, hk⟩ n) (ix4 0 0 0 n) (k0_off21_eq k) (fun a => by fin_cases a <;> simp)]
      exact aux_payload v330 M 2 1 ⟨k.val, hk⟩ _ _ _ _ (by decide) hw4 hw5 hw6 hw7 0 0 0 n
    · show View.read (Elt Ideal) arg14.view _ (ix4 3 1 ⟨k.val, hk⟩ n) = AXv v330 M 3 1 ⟨k.val, hk⟩ n
      rw [wmiss (ix4 3 1 ⟨k.val, hk⟩ n) (k0_off53_eq k) 1 (by simp),
        wmiss (ix4 3 1 ⟨k.val, hk⟩ n) (k0_off52_eq k) 1 (by simp),
        wmiss (ix4 3 1 ⟨k.val, hk⟩ n) (k0_off51_eq k) 1 (by simp),
        wmiss (ix4 3 1 ⟨k.val, hk⟩ n) (k0_off50_eq k) 1 (by simp),
        wmiss (ix4 3 1 ⟨k.val, hk⟩ n) (k0_off49_eq k) 1 (by simp),
        wmiss (ix4 3 1 ⟨k.val, hk⟩ n) (k0_off43_eq k) 1 (by simp),
        wmiss (ix4 3 1 ⟨k.val, hk⟩ n) (k0_off42_eq k) 1 (by simp),
        wmiss (ix4 3 1 ⟨k.val, hk⟩ n) (k0_off41_eq k) 1 (by simp),
        wmiss (ix4 3 1 ⟨k.val, hk⟩ n) (k0_off40_eq k) 1 (by simp),
        wmiss (ix4 3 1 ⟨k.val, hk⟩ n) (k0_off39_eq k) 1 (by simp),
        wmiss (ix4 3 1 ⟨k.val, hk⟩ n) (k0_off33_eq k) 1 (by simp),
        wmiss (ix4 3 1 ⟨k.val, hk⟩ n) (k0_off32_eq k) 1 (by simp),
        wmiss (ix4 3 1 ⟨k.val, hk⟩ n) (k0_off31_eq k) 1 (by simp),
        wmiss (ix4 3 1 ⟨k.val, hk⟩ n) (k0_off30_eq k) 1 (by simp),
        wmiss (ix4 3 1 ⟨k.val, hk⟩ n) (k0_off29_eq k) 1 (by simp),
        wmiss (ix4 3 1 ⟨k.val, hk⟩ n) (k0_off23_eq k) 0 (by simp),
        wmem S5x5x16x128 S1x1x1x128.size (ix4 3 1 ⟨k.val, hk⟩ n) (ix4 0 0 0 n) (k0_off22_eq k) (fun a => by fin_cases a <;> simp)]
      exact aux_payload v330 M 3 1 ⟨k.val, hk⟩ _ _ _ _ (by decide) hw4 hw5 hw6 hw7 0 0 0 n
    · show View.read (Elt Ideal) arg14.view _ (ix4 4 1 ⟨k.val, hk⟩ n) = AXv v330 M 4 1 ⟨k.val, hk⟩ n
      rw [wmiss (ix4 4 1 ⟨k.val, hk⟩ n) (k0_off53_eq k) 1 (by simp),
        wmiss (ix4 4 1 ⟨k.val, hk⟩ n) (k0_off52_eq k) 1 (by simp),
        wmiss (ix4 4 1 ⟨k.val, hk⟩ n) (k0_off51_eq k) 1 (by simp),
        wmiss (ix4 4 1 ⟨k.val, hk⟩ n) (k0_off50_eq k) 1 (by simp),
        wmiss (ix4 4 1 ⟨k.val, hk⟩ n) (k0_off49_eq k) 1 (by simp),
        wmiss (ix4 4 1 ⟨k.val, hk⟩ n) (k0_off43_eq k) 1 (by simp),
        wmiss (ix4 4 1 ⟨k.val, hk⟩ n) (k0_off42_eq k) 1 (by simp),
        wmiss (ix4 4 1 ⟨k.val, hk⟩ n) (k0_off41_eq k) 1 (by simp),
        wmiss (ix4 4 1 ⟨k.val, hk⟩ n) (k0_off40_eq k) 1 (by simp),
        wmiss (ix4 4 1 ⟨k.val, hk⟩ n) (k0_off39_eq k) 1 (by simp),
        wmiss (ix4 4 1 ⟨k.val, hk⟩ n) (k0_off33_eq k) 1 (by simp),
        wmiss (ix4 4 1 ⟨k.val, hk⟩ n) (k0_off32_eq k) 1 (by simp),
        wmiss (ix4 4 1 ⟨k.val, hk⟩ n) (k0_off31_eq k) 1 (by simp),
        wmiss (ix4 4 1 ⟨k.val, hk⟩ n) (k0_off30_eq k) 1 (by simp),
        wmiss (ix4 4 1 ⟨k.val, hk⟩ n) (k0_off29_eq k) 1 (by simp),
        wmem S5x5x16x128 S1x1x1x128.size (ix4 4 1 ⟨k.val, hk⟩ n) (ix4 0 0 0 n) (k0_off23_eq k) (fun a => by fin_cases a <;> simp)]
      exact aux_payload v330 M 4 1 ⟨k.val, hk⟩ _ _ _ _ (by decide) hw4 hw5 hw6 hw7 0 0 0 n
    · show View.read (Elt Ideal) arg14.view _ (ix4 0 2 ⟨k.val, hk⟩ n) = AXv v330 M 0 2 ⟨k.val, hk⟩ n
      rw [wmiss (ix4 0 2 ⟨k.val, hk⟩ n) (k0_off53_eq k) 1 (by simp),
        wmiss (ix4 0 2 ⟨k.val, hk⟩ n) (k0_off52_eq k) 1 (by simp),
        wmiss (ix4 0 2 ⟨k.val, hk⟩ n) (k0_off51_eq k) 1 (by simp),
        wmiss (ix4 0 2 ⟨k.val, hk⟩ n) (k0_off50_eq k) 1 (by simp),
        wmiss (ix4 0 2 ⟨k.val, hk⟩ n) (k0_off49_eq k) 1 (by simp),
        wmiss (ix4 0 2 ⟨k.val, hk⟩ n) (k0_off43_eq k) 1 (by simp),
        wmiss (ix4 0 2 ⟨k.val, hk⟩ n) (k0_off42_eq k) 1 (by simp),
        wmiss (ix4 0 2 ⟨k.val, hk⟩ n) (k0_off41_eq k) 1 (by simp),
        wmiss (ix4 0 2 ⟨k.val, hk⟩ n) (k0_off40_eq k) 1 (by simp),
        wmiss (ix4 0 2 ⟨k.val, hk⟩ n) (k0_off39_eq k) 1 (by simp),
        wmiss (ix4 0 2 ⟨k.val, hk⟩ n) (k0_off33_eq k) 0 (by simp),
        wmiss (ix4 0 2 ⟨k.val, hk⟩ n) (k0_off32_eq k) 0 (by simp),
        wmiss (ix4 0 2 ⟨k.val, hk⟩ n) (k0_off31_eq k) 0 (by simp),
        wmiss (ix4 0 2 ⟨k.val, hk⟩ n) (k0_off30_eq k) 0 (by simp),
        wmem S5x5x16x128 S1x1x1x128.size (ix4 0 2 ⟨k.val, hk⟩ n) (ix4 0 0 0 n) (k0_off29_eq k) (fun a => by fin_cases a <;> simp)]
      exact aux_payload v330 M 0 2 ⟨k.val, hk⟩ _ _ _ _ (by decide) hw8 hw9 hw10 hw11 0 0 0 n
    · show View.read (Elt Ideal) arg14.view _ (ix4 1 2 ⟨k.val, hk⟩ n) = AXv v330 M 1 2 ⟨k.val, hk⟩ n
      rw [wmiss (ix4 1 2 ⟨k.val, hk⟩ n) (k0_off53_eq k) 1 (by simp),
        wmiss (ix4 1 2 ⟨k.val, hk⟩ n) (k0_off52_eq k) 1 (by simp),
        wmiss (ix4 1 2 ⟨k.val, hk⟩ n) (k0_off51_eq k) 1 (by simp),
        wmiss (ix4 1 2 ⟨k.val, hk⟩ n) (k0_off50_eq k) 1 (by simp),
        wmiss (ix4 1 2 ⟨k.val, hk⟩ n) (k0_off49_eq k) 1 (by simp),
        wmiss (ix4 1 2 ⟨k.val, hk⟩ n) (k0_off43_eq k) 1 (by simp),
        wmiss (ix4 1 2 ⟨k.val, hk⟩ n) (k0_off42_eq k) 1 (by simp),
        wmiss (ix4 1 2 ⟨k.val, hk⟩ n) (k0_off41_eq k) 1 (by simp),
        wmiss (ix4 1 2 ⟨k.val, hk⟩ n) (k0_off40_eq k) 1 (by simp),
        wmiss (ix4 1 2 ⟨k.val, hk⟩ n) (k0_off39_eq k) 1 (by simp),
        wmiss (ix4 1 2 ⟨k.val, hk⟩ n) (k0_off33_eq k) 0 (by simp),
        wmiss (ix4 1 2 ⟨k.val, hk⟩ n) (k0_off32_eq k) 0 (by simp),
        wmiss (ix4 1 2 ⟨k.val, hk⟩ n) (k0_off31_eq k) 0 (by simp),
        wmem S5x5x16x128 S1x1x1x128.size (ix4 1 2 ⟨k.val, hk⟩ n) (ix4 0 0 0 n) (k0_off30_eq k) (fun a => by fin_cases a <;> simp)]
      exact aux_payload v330 M 1 2 ⟨k.val, hk⟩ _ _ _ _ (by decide) hw8 hw9 hw10 hw11 0 0 0 n
    · show View.read (Elt Ideal) arg14.view _ (ix4 2 2 ⟨k.val, hk⟩ n) = AXv v330 M 2 2 ⟨k.val, hk⟩ n
      rw [wmiss (ix4 2 2 ⟨k.val, hk⟩ n) (k0_off53_eq k) 1 (by simp),
        wmiss (ix4 2 2 ⟨k.val, hk⟩ n) (k0_off52_eq k) 1 (by simp),
        wmiss (ix4 2 2 ⟨k.val, hk⟩ n) (k0_off51_eq k) 1 (by simp),
        wmiss (ix4 2 2 ⟨k.val, hk⟩ n) (k0_off50_eq k) 1 (by simp),
        wmiss (ix4 2 2 ⟨k.val, hk⟩ n) (k0_off49_eq k) 1 (by simp),
        wmiss (ix4 2 2 ⟨k.val, hk⟩ n) (k0_off43_eq k) 1 (by simp),
        wmiss (ix4 2 2 ⟨k.val, hk⟩ n) (k0_off42_eq k) 1 (by simp),
        wmiss (ix4 2 2 ⟨k.val, hk⟩ n) (k0_off41_eq k) 1 (by simp),
        wmiss (ix4 2 2 ⟨k.val, hk⟩ n) (k0_off40_eq k) 1 (by simp),
        wmiss (ix4 2 2 ⟨k.val, hk⟩ n) (k0_off39_eq k) 1 (by simp),
        wmiss (ix4 2 2 ⟨k.val, hk⟩ n) (k0_off33_eq k) 0 (by simp),
        wmiss (ix4 2 2 ⟨k.val, hk⟩ n) (k0_off32_eq k) 0 (by simp),
        wmem S5x5x16x128 S1x1x1x128.size (ix4 2 2 ⟨k.val, hk⟩ n) (ix4 0 0 0 n) (k0_off31_eq k) (fun a => by fin_cases a <;> simp)]
      exact aux_payload v330 M 2 2 ⟨k.val, hk⟩ _ _ _ _ (by decide) hw8 hw9 hw10 hw11 0 0 0 n
    · show View.read (Elt Ideal) arg14.view _ (ix4 3 2 ⟨k.val, hk⟩ n) = AXv v330 M 3 2 ⟨k.val, hk⟩ n
      rw [wmiss (ix4 3 2 ⟨k.val, hk⟩ n) (k0_off53_eq k) 1 (by simp),
        wmiss (ix4 3 2 ⟨k.val, hk⟩ n) (k0_off52_eq k) 1 (by simp),
        wmiss (ix4 3 2 ⟨k.val, hk⟩ n) (k0_off51_eq k) 1 (by simp),
        wmiss (ix4 3 2 ⟨k.val, hk⟩ n) (k0_off50_eq k) 1 (by simp),
        wmiss (ix4 3 2 ⟨k.val, hk⟩ n) (k0_off49_eq k) 1 (by simp),
        wmiss (ix4 3 2 ⟨k.val, hk⟩ n) (k0_off43_eq k) 1 (by simp),
        wmiss (ix4 3 2 ⟨k.val, hk⟩ n) (k0_off42_eq k) 1 (by simp),
        wmiss (ix4 3 2 ⟨k.val, hk⟩ n) (k0_off41_eq k) 1 (by simp),
        wmiss (ix4 3 2 ⟨k.val, hk⟩ n) (k0_off40_eq k) 1 (by simp),
        wmiss (ix4 3 2 ⟨k.val, hk⟩ n) (k0_off39_eq k) 1 (by simp),
        wmiss (ix4 3 2 ⟨k.val, hk⟩ n) (k0_off33_eq k) 0 (by simp),
        wmem S5x5x16x128 S1x1x1x128.size (ix4 3 2 ⟨k.val, hk⟩ n) (ix4 0 0 0 n) (k0_off32_eq k) (fun a => by fin_cases a <;> simp)]
      exact aux_payload v330 M 3 2 ⟨k.val, hk⟩ _ _ _ _ (by decide) hw8 hw9 hw10 hw11 0 0 0 n
    · show View.read (Elt Ideal) arg14.view _ (ix4 4 2 ⟨k.val, hk⟩ n) = AXv v330 M 4 2 ⟨k.val, hk⟩ n
      rw [wmiss (ix4 4 2 ⟨k.val, hk⟩ n) (k0_off53_eq k) 1 (by simp),
        wmiss (ix4 4 2 ⟨k.val, hk⟩ n) (k0_off52_eq k) 1 (by simp),
        wmiss (ix4 4 2 ⟨k.val, hk⟩ n) (k0_off51_eq k) 1 (by simp),
        wmiss (ix4 4 2 ⟨k.val, hk⟩ n) (k0_off50_eq k) 1 (by simp),
        wmiss (ix4 4 2 ⟨k.val, hk⟩ n) (k0_off49_eq k) 1 (by simp),
        wmiss (ix4 4 2 ⟨k.val, hk⟩ n) (k0_off43_eq k) 1 (by simp),
        wmiss (ix4 4 2 ⟨k.val, hk⟩ n) (k0_off42_eq k) 1 (by simp),
        wmiss (ix4 4 2 ⟨k.val, hk⟩ n) (k0_off41_eq k) 1 (by simp),
        wmiss (ix4 4 2 ⟨k.val, hk⟩ n) (k0_off40_eq k) 1 (by simp),
        wmiss (ix4 4 2 ⟨k.val, hk⟩ n) (k0_off39_eq k) 1 (by simp),
        wmem S5x5x16x128 S1x1x1x128.size (ix4 4 2 ⟨k.val, hk⟩ n) (ix4 0 0 0 n) (k0_off33_eq k) (fun a => by fin_cases a <;> simp)]
      exact aux_payload v330 M 4 2 ⟨k.val, hk⟩ _ _ _ _ (by decide) hw8 hw9 hw10 hw11 0 0 0 n
    · show View.read (Elt Ideal) arg14.view _ (ix4 0 3 ⟨k.val, hk⟩ n) = AXv v330 M 0 3 ⟨k.val, hk⟩ n
      rw [wmiss (ix4 0 3 ⟨k.val, hk⟩ n) (k0_off53_eq k) 1 (by simp),
        wmiss (ix4 0 3 ⟨k.val, hk⟩ n) (k0_off52_eq k) 1 (by simp),
        wmiss (ix4 0 3 ⟨k.val, hk⟩ n) (k0_off51_eq k) 1 (by simp),
        wmiss (ix4 0 3 ⟨k.val, hk⟩ n) (k0_off50_eq k) 1 (by simp),
        wmiss (ix4 0 3 ⟨k.val, hk⟩ n) (k0_off49_eq k) 1 (by simp),
        wmiss (ix4 0 3 ⟨k.val, hk⟩ n) (k0_off43_eq k) 0 (by simp),
        wmiss (ix4 0 3 ⟨k.val, hk⟩ n) (k0_off42_eq k) 0 (by simp),
        wmiss (ix4 0 3 ⟨k.val, hk⟩ n) (k0_off41_eq k) 0 (by simp),
        wmiss (ix4 0 3 ⟨k.val, hk⟩ n) (k0_off40_eq k) 0 (by simp),
        wmem S5x5x16x128 S1x1x1x128.size (ix4 0 3 ⟨k.val, hk⟩ n) (ix4 0 0 0 n) (k0_off39_eq k) (fun a => by fin_cases a <;> simp)]
      exact aux_payload v330 M 0 3 ⟨k.val, hk⟩ _ _ _ _ (by decide) hw12 hw13 hw14 hw15 0 0 0 n
    · show View.read (Elt Ideal) arg14.view _ (ix4 1 3 ⟨k.val, hk⟩ n) = AXv v330 M 1 3 ⟨k.val, hk⟩ n
      rw [wmiss (ix4 1 3 ⟨k.val, hk⟩ n) (k0_off53_eq k) 1 (by simp),
        wmiss (ix4 1 3 ⟨k.val, hk⟩ n) (k0_off52_eq k) 1 (by simp),
        wmiss (ix4 1 3 ⟨k.val, hk⟩ n) (k0_off51_eq k) 1 (by simp),
        wmiss (ix4 1 3 ⟨k.val, hk⟩ n) (k0_off50_eq k) 1 (by simp),
        wmiss (ix4 1 3 ⟨k.val, hk⟩ n) (k0_off49_eq k) 1 (by simp),
        wmiss (ix4 1 3 ⟨k.val, hk⟩ n) (k0_off43_eq k) 0 (by simp),
        wmiss (ix4 1 3 ⟨k.val, hk⟩ n) (k0_off42_eq k) 0 (by simp),
        wmiss (ix4 1 3 ⟨k.val, hk⟩ n) (k0_off41_eq k) 0 (by simp),
        wmem S5x5x16x128 S1x1x1x128.size (ix4 1 3 ⟨k.val, hk⟩ n) (ix4 0 0 0 n) (k0_off40_eq k) (fun a => by fin_cases a <;> simp)]
      exact aux_payload v330 M 1 3 ⟨k.val, hk⟩ _ _ _ _ (by decide) hw12 hw13 hw14 hw15 0 0 0 n
    · show View.read (Elt Ideal) arg14.view _ (ix4 2 3 ⟨k.val, hk⟩ n) = AXv v330 M 2 3 ⟨k.val, hk⟩ n
      rw [wmiss (ix4 2 3 ⟨k.val, hk⟩ n) (k0_off53_eq k) 1 (by simp),
        wmiss (ix4 2 3 ⟨k.val, hk⟩ n) (k0_off52_eq k) 1 (by simp),
        wmiss (ix4 2 3 ⟨k.val, hk⟩ n) (k0_off51_eq k) 1 (by simp),
        wmiss (ix4 2 3 ⟨k.val, hk⟩ n) (k0_off50_eq k) 1 (by simp),
        wmiss (ix4 2 3 ⟨k.val, hk⟩ n) (k0_off49_eq k) 1 (by simp),
        wmiss (ix4 2 3 ⟨k.val, hk⟩ n) (k0_off43_eq k) 0 (by simp),
        wmiss (ix4 2 3 ⟨k.val, hk⟩ n) (k0_off42_eq k) 0 (by simp),
        wmem S5x5x16x128 S1x1x1x128.size (ix4 2 3 ⟨k.val, hk⟩ n) (ix4 0 0 0 n) (k0_off41_eq k) (fun a => by fin_cases a <;> simp)]
      exact aux_payload v330 M 2 3 ⟨k.val, hk⟩ _ _ _ _ (by decide) hw12 hw13 hw14 hw15 0 0 0 n
    · show View.read (Elt Ideal) arg14.view _ (ix4 3 3 ⟨k.val, hk⟩ n) = AXv v330 M 3 3 ⟨k.val, hk⟩ n
      rw [wmiss (ix4 3 3 ⟨k.val, hk⟩ n) (k0_off53_eq k) 1 (by simp),
        wmiss (ix4 3 3 ⟨k.val, hk⟩ n) (k0_off52_eq k) 1 (by simp),
        wmiss (ix4 3 3 ⟨k.val, hk⟩ n) (k0_off51_eq k) 1 (by simp),
        wmiss (ix4 3 3 ⟨k.val, hk⟩ n) (k0_off50_eq k) 1 (by simp),
        wmiss (ix4 3 3 ⟨k.val, hk⟩ n) (k0_off49_eq k) 1 (by simp),
        wmiss (ix4 3 3 ⟨k.val, hk⟩ n) (k0_off43_eq k) 0 (by simp),
        wmem S5x5x16x128 S1x1x1x128.size (ix4 3 3 ⟨k.val, hk⟩ n) (ix4 0 0 0 n) (k0_off42_eq k) (fun a => by fin_cases a <;> simp)]
      exact aux_payload v330 M 3 3 ⟨k.val, hk⟩ _ _ _ _ (by decide) hw12 hw13 hw14 hw15 0 0 0 n
    · show View.read (Elt Ideal) arg14.view _ (ix4 4 3 ⟨k.val, hk⟩ n) = AXv v330 M 4 3 ⟨k.val, hk⟩ n
      rw [wmiss (ix4 4 3 ⟨k.val, hk⟩ n) (k0_off53_eq k) 1 (by simp),
        wmiss (ix4 4 3 ⟨k.val, hk⟩ n) (k0_off52_eq k) 1 (by simp),
        wmiss (ix4 4 3 ⟨k.val, hk⟩ n) (k0_off51_eq k) 1 (by simp),
        wmiss (ix4 4 3 ⟨k.val, hk⟩ n) (k0_off50_eq k) 1 (by simp),
        wmiss (ix4 4 3 ⟨k.val, hk⟩ n) (k0_off49_eq k) 1 (by simp),
        wmem S5x5x16x128 S1x1x1x128.size (ix4 4 3 ⟨k.val, hk⟩ n) (ix4 0 0 0 n) (k0_off43_eq k) (fun a => by fin_cases a <;> simp)]
      exact aux_payload v330 M 4 3 ⟨k.val, hk⟩ _ _ _ _ (by decide) hw12 hw13 hw14 hw15 0 0 0 n
    · show View.read (Elt Ideal) arg14.view _ (ix4 0 4 ⟨k.val, hk⟩ n) = AXv v330 M 0 4 ⟨k.val, hk⟩ n
      rw [wmiss (ix4 0 4 ⟨k.val, hk⟩ n) (k0_off53_eq k) 0 (by simp),
        wmiss (ix4 0 4 ⟨k.val, hk⟩ n) (k0_off52_eq k) 0 (by simp),
        wmiss (ix4 0 4 ⟨k.val, hk⟩ n) (k0_off51_eq k) 0 (by simp),
        wmiss (ix4 0 4 ⟨k.val, hk⟩ n) (k0_off50_eq k) 0 (by simp),
        wmem S5x5x16x128 S1x1x1x128.size (ix4 0 4 ⟨k.val, hk⟩ n) (ix4 0 0 0 n) (k0_off49_eq k) (fun a => by fin_cases a <;> simp)]
      exact aux_payload v330 M 0 4 ⟨k.val, hk⟩ _ _ _ _ (by decide) hw16 hw17 hw18 hw19 0 0 0 n
    · show View.read (Elt Ideal) arg14.view _ (ix4 1 4 ⟨k.val, hk⟩ n) = AXv v330 M 1 4 ⟨k.val, hk⟩ n
      rw [wmiss (ix4 1 4 ⟨k.val, hk⟩ n) (k0_off53_eq k) 0 (by simp),
        wmiss (ix4 1 4 ⟨k.val, hk⟩ n) (k0_off52_eq k) 0 (by simp),
        wmiss (ix4 1 4 ⟨k.val, hk⟩ n) (k0_off51_eq k) 0 (by simp),
        wmem S5x5x16x128 S1x1x1x128.size (ix4 1 4 ⟨k.val, hk⟩ n) (ix4 0 0 0 n) (k0_off50_eq k) (fun a => by fin_cases a <;> simp)]
      exact aux_payload v330 M 1 4 ⟨k.val, hk⟩ _ _ _ _ (by decide) hw16 hw17 hw18 hw19 0 0 0 n
    · show View.read (Elt Ideal) arg14.view _ (ix4 2 4 ⟨k.val, hk⟩ n) = AXv v330 M 2 4 ⟨k.val, hk⟩ n
      rw [wmiss (ix4 2 4 ⟨k.val, hk⟩ n) (k0_off53_eq k) 0 (by simp),
        wmiss (ix4 2 4 ⟨k.val, hk⟩ n) (k0_off52_eq k) 0 (by simp),
        wmem S5x5x16x128 S1x1x1x128.size (ix4 2 4 ⟨k.val, hk⟩ n) (ix4 0 0 0 n) (k0_off51_eq k) (fun a => by fin_cases a <;> simp)]
      exact aux_payload v330 M 2 4 ⟨k.val, hk⟩ _ _ _ _ (by decide) hw16 hw17 hw18 hw19 0 0 0 n
    · show View.read (Elt Ideal) arg14.view _ (ix4 3 4 ⟨k.val, hk⟩ n) = AXv v330 M 3 4 ⟨k.val, hk⟩ n
      rw [wmiss (ix4 3 4 ⟨k.val, hk⟩ n) (k0_off53_eq k) 0 (by simp),
        wmem S5x5x16x128 S1x1x1x128.size (ix4 3 4 ⟨k.val, hk⟩ n) (ix4 0 0 0 n) (k0_off52_eq k) (fun a => by fin_cases a <;> simp)]
      exact aux_payload v330 M 3 4 ⟨k.val, hk⟩ _ _ _ _ (by decide) hw16 hw17 hw18 hw19 0 0 0 n
    · show View.read (Elt Ideal) arg14.view _ (ix4 4 4 ⟨k.val, hk⟩ n) = AXv v330 M 4 4 ⟨k.val, hk⟩ n
      rw [wmem S5x5x16x128 S1x1x1x128.size (ix4 4 4 ⟨k.val, hk⟩ n) (ix4 0 0 0 n) (k0_off53_eq k) (fun a => by fin_cases a <;> simp)]
      exact aux_payload v330 M 4 4 ⟨k.val, hk⟩ _ _ _ _ (by decide) hw16 hw17 hw18 hw19 0 0 0 n
end Cert.KernelIdeal.Gen
end
-- ==== Proof.Value.Fin.lean ====
/- The values the second loop stores: a sum times a reciprocal where a segment has tokens, the projection of its nearest token where it has none. -/
module
public import proofs.«01_k».proof.Proof.Value.Loop1
@[expose] public section
set_option maxRecDepth 8192
set_option maxHeartbeats 4000000
noncomputable section
namespace Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- The factor of an empty segment's projection. -/
def PSC : EReal := Ideal.ofBits .f32 0x3EB504F3#32

/-- The lanes to gather: the low seven bits of the token. -/
def gIdx (ts : IVec S8x128 32) : IVec S8x128 32 :=
  shapeCast S8x128 (shapeCast S8x128x1 (select (cmpi .slt (andi ts (broadcast S8x128 127#32)) (broadcast S8x128 0#32))
    (addi (andi ts (broadcast S8x128 127#32)) (broadcast S8x128 128#32)) (andi ts (broadcast S8x128 127#32))) shapeCasts_S8x128_S8x128x1) shapeCasts_S8x128x1_S8x128

/-- One block of projections gathered at the tokens. -/
def gBlock (w : Vec Ideal S1x8x128 .f32) (ts : IVec S8x128 32) : FVec Ideal S8x128 .f32 :=
  dynamicGather 1 (shapeCast S8x128 w shapeCasts_S1x8x128_S8x128) (gIdx ts)

/-- The four repetitions' blocks, each on its own 32 lanes. -/
def fourBlock (v1 : IVec S8x128 32) (a b c d : FVec Ideal S8x128 .f32) : FVec Ideal S8x128 .f32 :=
  select (cmpi .eq (k0_pay24 v1) (broadcast S8x128 3#32)) d
   (select (cmpi .eq (k0_pay24 v1) (broadcast S8x128 2#32)) c
    (select (cmpi .eq (k0_pay24 v1) (broadcast S8x128 1#32)) b a))

/-- The tokens' row over eight sublanes. -/
def rowI (w : Vec Ideal S1x1x128 .i32) : IVec S8x128 32 :=
  broadcastTo S8x128 (shapeCast S1x128 (shapeCast S1x128 w shapeCasts_S1x1x128_S1x128) shapeCasts_S1x128_S1x128) broadcasts_S1x128_S8x128

/-- The reciprocals' row over eight sublanes. -/
def rowF (w : Vec Ideal S1x1x128 .f32) : FVec Ideal S8x128 .f32 :=
  broadcastTo S8x128 (shapeCast S1x128 (shapeCast S1x128 w shapeCasts_S1x1x128_S1x128) shapeCasts_S1x128_S1x128) broadcasts_S1x128_S8x128

/-- The block the second loop stores for a group. -/
def finBlock (v1 : IVec S8x128 32) (ts : Vec Ideal S1x1x128 .i32) (rec : Vec Ideal S1x1x128 .f32) (w0 w1 w2 w3 w4 w5 w6 w7 s : Vec Ideal S1x8x128 .f32) : Vec Ideal S1x8x128 .f32 :=
  shapeCast S1x8x128 (select (cmpf .ogt (rowF rec) (broadcast S8x128 (Scalar.ofBits .f32 0x00000000#32)))
    (mulf (shapeCast S8x128 s shapeCasts_S1x8x128_S8x128) (rowF rec))
    (mulf (select (cmpi .slt (rowI ts) (broadcast S8x128 128#32))
      (fourBlock v1 (gBlock w0 (rowI ts)) (gBlock w1 (rowI ts)) (gBlock w2 (rowI ts)) (gBlock w3 (rowI ts)))
      (fourBlock v1 (gBlock w4 (rowI ts)) (gBlock w5 (rowI ts)) (gBlock w6 (rowI ts)) (gBlock w7 (rowI ts))))
      (broadcast S8x128 (Scalar.ofBits .f32 0x3EB504F3#32)))) shapeCasts_S8x128_S1x8x128

/-- What the second loop leaves for column `p` at lane `n` of group `g` of document `d`. -/
def FINv (pt : S16x160x256.Idx → EReal) (ts : S5x16x128.Idx → BitVec 32) (rec : S5x16x128.Idx → EReal) (s : S5x128x128.Idx → EReal)
    (g : Fin 5) (d : Fin 16) (p : Fin 8) (n : Fin 128) : EReal :=
  if 0 < rec (ix3 g d n) then s (ix3 g ⟨8 * d.val + p.val, by omega⟩ n) * rec (ix3 g d n)
  else pt (ix3 d ⟨32 * g.val + 8 * (n.val / 32) + p.val, by omega⟩ ⟨(ts (ix3 g d n)).toNat % 256, Nat.mod_lt _ (by omega)⟩) * PSC

/-- The block of four at an index. -/
theorem fourBlock_apply (a b c d : FVec Ideal S8x128 .f32) (p : Fin 8) (n : Fin 128) :
    fourBlock lane0 a b c d (ix2 p n) = if n.val / 32 = 0 then a (ix2 p n) else if n.val / 32 = 1 then b (ix2 p n) else if n.val / 32 = 2 then c (ix2 p n) else d (ix2 p n) := by
  pointwise [fourBlock]
  rw [lq_apply]
  simp only [Scalar.select, IntOp.cmpi]
  rcases (by omega : n.val / 32 = 0 ∨ n.val / 32 = 1 ∨ n.val / 32 = 2 ∨ n.val / 32 = 3) with h | h | h | h <;> simp [h]

theorem rowI_apply (w : Vec Ideal S1x1x128 .i32) (p : Fin 8) (n : Fin 128) : rowI w (ix2 p n) = w (ix3 0 0 n) := by
  pointwise [rowI]

theorem rowF_apply (w : Vec Ideal S1x1x128 .f32) (p : Fin 8) (n : Fin 128) : rowF w (ix2 p n) = w (ix3 0 0 n) := by
  pointwise [rowF]

theorem gWord (x : BitVec 32) (h : x.toNat < 256) :
    (Scalar.select (IntOp.cmpi .slt (IntOp.andi x 127#32) 0#32) (IntOp.addi (IntOp.andi x 127#32) 128#32) (IntOp.andi x 127#32)).toNat % 128 = x.toNat % 128 := by
  obtain ⟨n, rfl⟩ : ∃ n : Fin 256, x = BitVec.ofNat 32 n.val := ⟨⟨x.toNat, h⟩, by simp⟩
  revert n; decide +kernel

theorem sltWord (x : BitVec 32) (h : x.toNat < 256) : IntOp.cmpi .slt x 128#32 = if x.toNat < 128 then 1#1 else 0#1 := by
  obtain ⟨n, rfl⟩ : ∃ n : Fin 256, x = BitVec.ofNat 32 n.val := ⟨⟨x.toNat, h⟩, by simp⟩
  revert n; decide +kernel

theorem gIdx_apply (ts : IVec S8x128 32) (p : Fin 8) (n : Fin 128) :
    gIdx ts (ix2 p n) = Scalar.select (IntOp.cmpi .slt (IntOp.andi (ts (ix2 p n)) 127#32) 0#32) (IntOp.addi (IntOp.andi (ts (ix2 p n)) 127#32) 128#32) (IntOp.andi (ts (ix2 p n)) 127#32) := by
  pointwise [gIdx]

/-- A gathered block at an index. -/
theorem gBlock_apply (w : Vec Ideal S1x8x128 .f32) (ts : IVec S8x128 32) (p : Fin 8) (n : Fin 128) (h : (ts (ix2 p n)).toNat < 256) :
    gBlock w ts (ix2 p n) = w (ix3 0 p ⟨(ts (ix2 p n)).toNat % 128, Nat.mod_lt _ (by omega)⟩) := by
  unfold gBlock dynamicGather
  have e : (fun b : Fin S8x128.rank => if b = 1 then ⟨(gIdx ts (ix2 p n)).toNat % S8x128.size b, Nat.mod_lt _ (Fin.pos (ix2 p n b))⟩ else ix2 p n b : S8x128.Idx)
      = ix2 p ⟨(ts (ix2 p n)).toNat % 128, Nat.mod_lt _ (by omega)⟩ := by
    funext b
    fin_cases b
    · rfl
    · apply Fin.ext
      show (gIdx ts (ix2 p n)).toNat % 128 = _
      rw [gIdx_apply]
      exact gWord _ h
  refine (congrArg _ e).trans ?_
  pointwise

/-- The stored block at an index. -/
theorem fin_payload (pt : S16x160x256.Idx → EReal) (ts : S5x16x128.Idx → BitVec 32) (rec : S5x16x128.Idx → EReal) (s : S5x128x128.Idx → EReal)
    (g : Fin 5) (d : Fin 16) (wt : Vec Ideal S1x1x128 .i32) (wr : Vec Ideal S1x1x128 .f32) (w0 w1 w2 w3 w4 w5 w6 w7 ws : Vec Ideal S1x8x128 .f32)
    (hts : ∀ g d n, (ts (ix3 g d n)).toNat < 256)
    (ht : ∀ n, wt (ix3 0 0 n) = ts (ix3 g d n)) (hr : ∀ n, wr (ix3 0 0 n) = rec (ix3 g d n))
    (h0 : ∀ p l, w0 (ix3 0 p l) = pt (ix3 d ⟨32 * g.val + p.val, by omega⟩ ⟨l.val, by omega⟩))
    (h1 : ∀ p l, w1 (ix3 0 p l) = pt (ix3 d ⟨32 * g.val + 8 + p.val, by omega⟩ ⟨l.val, by omega⟩))
    (h2 : ∀ p l, w2 (ix3 0 p l) = pt (ix3 d ⟨32 * g.val + 16 + p.val, by omega⟩ ⟨l.val, by omega⟩))
    (h3 : ∀ p l, w3 (ix3 0 p l) = pt (ix3 d ⟨32 * g.val + 24 + p.val, by omega⟩ ⟨l.val, by omega⟩))
    (h4 : ∀ p l, w4 (ix3 0 p l) = pt (ix3 d ⟨32 * g.val + p.val, by omega⟩ ⟨128 + l.val, by omega⟩))
    (h5 : ∀ p l, w5 (ix3 0 p l) = pt (ix3 d ⟨32 * g.val + 8 + p.val, by omega⟩ ⟨128 + l.val, by omega⟩))
    (h6 : ∀ p l, w6 (ix3 0 p l) = pt (ix3 d ⟨32 * g.val + 16 + p.val, by omega⟩ ⟨128 + l.val, by omega⟩))
    (h7 : ∀ p l, w7 (ix3 0 p l) = pt (ix3 d ⟨32 * g.val + 24 + p.val, by omega⟩ ⟨128 + l.val, by omega⟩))
    (hs : ∀ p n, ws (ix3 0 p n) = s (ix3 g ⟨8 * d.val + p.val, by omega⟩ n)) (p : Fin 8) (n : Fin 128) :
    finBlock lane0 wt wr w0 w1 w2 w3 w4 w5 w6 w7 ws (ix3 0 p n) = FINv pt ts rec s g d p n := by
  have hti : rowI wt (ix2 p n) = ts (ix3 g d n) := by rw [rowI_apply, ht]
  have htb : (rowI wt (ix2 p n)).toNat < 256 := by rw [hti]; exact hts g d n
  have hri : rowF wr (ix2 p n) = rec (ix3 g d n) := by rw [rowF_apply, hr]
  pointwise [finBlock]
  rw [fourBlock_apply, fourBlock_apply]
  simp only [gBlock_apply _ _ _ _ htb, h0, h1, h2, h3, h4, h5, h6, h7, hs, hri, hti]
  unfold FINv PSC
  have hb := hts g d n
  rw [sltWord _ hb]
  have e : ∀ (a a' : Fin 160) (b b' : Fin 256), a.val = a'.val → b.val = b'.val → pt (ix3 d a b) = pt (ix3 d a' b') := by
    intro a a' b b' ha hb
    rw [Fin.ext ha, Fin.ext hb]
  refine if_congr Iff.rfl rfl ?_
  congr 1
  have hn : n.val / 32 < 4 := by omega
  by_cases hT : (ts (ix3 g d n)).toNat < 128
  · rw [if_pos hT]
    simp only [Scalar.select]
    rw [if_pos (by decide)]
    split_ifs <;> exact e _ _ _ _ (by simp only []; omega) (by simp only []; omega)
  · rw [if_neg hT]
    simp only [Scalar.select]
    rw [if_neg (by decide)]
    split_ifs <;> exact e _ _ _ _ (by simp only []; omega) (by simp only []; omega)

end Cert.KernelIdeal.Gen
end
-- ==== Proof.Value.Out.lean ====
/- The transposition network of the output: from the rows of one half of the documents to the blocks stored, read at an index. -/
module
public import proofs.«01_k».proof.Proof.Value.Fin
@[expose] public section
set_option maxRecDepth 8192
set_option maxHeartbeats 4000000
noncomputable section
namespace Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- Where bit `s` of the lane is clear. -/
def mk (v1 : IVec S8x128 32) (s : BitVec 32) : IVec S8x128 1 := cmpi .eq (andi v1 (broadcast S8x128 s)) (broadcast S8x128 0#32)
/-- One exchange of the network, its first and its second result. -/
def bLo (v1 : IVec S8x128 32) (s : BitVec 32) (a b : FVec Ideal S8x128 .f32) : FVec Ideal S8x128 .f32 := select (mk v1 s) a (dynamicRotate 1 s none b rotates_S8x128_d1)
def bHi (v1 : IVec S8x128 32) (s s' : BitVec 32) (a b : FVec Ideal S8x128 .f32) : FVec Ideal S8x128 .f32 := select (mk v1 s) (dynamicRotate 1 s' none a rotates_S8x128_d1) b

/-- The three exchanges: the eight results, of the eight rows `v 0 … v 7`. -/
def net1 (v1 : IVec S8x128 32) (v : ℕ → FVec Ideal S8x128 .f32) : ℕ → FVec Ideal S8x128 .f32
  | 0 => bLo v1 16#32 (v 0) (v 1) | 1 => bHi v1 16#32 112#32 (v 0) (v 1)
  | 2 => bLo v1 16#32 (v 2) (v 3) | 3 => bHi v1 16#32 112#32 (v 2) (v 3)
  | 4 => bLo v1 16#32 (v 4) (v 5) | 5 => bHi v1 16#32 112#32 (v 4) (v 5)
  | 6 => bLo v1 16#32 (v 6) (v 7) | _ => bHi v1 16#32 112#32 (v 6) (v 7)
def net2 (v1 : IVec S8x128 32) (v : ℕ → FVec Ideal S8x128 .f32) : ℕ → FVec Ideal S8x128 .f32
  | 0 => bLo v1 32#32 (v 0) (v 2) | 2 => bHi v1 32#32 96#32 (v 0) (v 2)
  | 1 => bLo v1 32#32 (v 1) (v 3) | 3 => bHi v1 32#32 96#32 (v 1) (v 3)
  | 4 => bLo v1 32#32 (v 4) (v 6) | 6 => bHi v1 32#32 96#32 (v 4) (v 6)
  | 5 => bLo v1 32#32 (v 5) (v 7) | _ => bHi v1 32#32 96#32 (v 5) (v 7)
def net3 (v1 : IVec S8x128 32) (v : ℕ → FVec Ideal S8x128 .f32) : ℕ → FVec Ideal S8x128 .f32
  | 0 => bLo v1 64#32 (v 0) (v 4) | 4 => bHi v1 64#32 64#32 (v 0) (v 4)
  | 1 => bLo v1 64#32 (v 1) (v 5) | 5 => bHi v1 64#32 64#32 (v 1) (v 5)
  | 2 => bLo v1 64#32 (v 2) (v 6) | 6 => bHi v1 64#32 64#32 (v 2) (v 6)
  | 3 => bLo v1 64#32 (v 3) (v 7) | _ => bHi v1 64#32 64#32 (v 3) (v 7)

theorem mk_word (l : Fin 128) : (IntOp.cmpi .eq (IntOp.andi (BitVec.ofNat 32 l.val) 16#32) 0#32 = if l.val / 16 % 2 = 0 then 1#1 else 0#1)
    ∧ (IntOp.cmpi .eq (IntOp.andi (BitVec.ofNat 32 l.val) 32#32) 0#32 = if l.val / 32 % 2 = 0 then 1#1 else 0#1)
    ∧ (IntOp.cmpi .eq (IntOp.andi (BitVec.ofNat 32 l.val) 64#32) 0#32 = if l.val / 64 % 2 = 0 then 1#1 else 0#1) := by
  revert l; decide +kernel

theorem mk_apply (s : BitVec 32) (q : Fin 8) (l : Fin 128) : mk lane0 s (ix2 q l) = IntOp.cmpi .eq (IntOp.andi (BitVec.ofNat 32 l.val) s) 0#32 := by
  pointwise [mk]
  rw [lane0_apply]

theorem rot_apply (s : BitVec 32) (b : FVec Ideal S8x128 .f32) (q : Fin 8) (l : Fin 128) :
    dynamicRotate 1 s none b rotates_S8x128_d1 (ix2 q l) = b (ix2 q ⟨(l.val + 128 - s.toNat % 128) % 128, Nat.mod_lt _ (by omega)⟩) := by
  show b _ = b _
  congr 1
  funext a
  fin_cases a <;> apply Fin.ext <;> simp [ix2, dynamicRotate]

theorem bLo_apply (s : BitVec 32) (w : ℕ) (hw : s.toNat = w) (hw' : w < 128) (hm : ∀ l : Fin 128, IntOp.cmpi .eq (IntOp.andi (BitVec.ofNat 32 l.val) s) 0#32 = if l.val / w % 2 = 0 then 1#1 else 0#1)
    (a b : FVec Ideal S8x128 .f32) (q : Fin 8) (l : Fin 128) :
    bLo lane0 s a b (ix2 q l) = if l.val / w % 2 = 0 then a (ix2 q l) else b (ix2 q ⟨(l.val + 128 - w) % 128, Nat.mod_lt _ (by omega)⟩) := by
  show Scalar.select (mk lane0 s (ix2 q l)) (a (ix2 q l)) (dynamicRotate 1 s none b rotates_S8x128_d1 (ix2 q l)) = _
  rw [mk_apply, hm, rot_apply]
  subst hw
  simp only [Nat.mod_eq_of_lt hw']
  split <;> simp [Scalar.select]

theorem bHi_apply (s s' : BitVec 32) (w w' : ℕ) (hw' : s'.toNat = w') (hw'' : w' < 128) (hm : ∀ l : Fin 128, IntOp.cmpi .eq (IntOp.andi (BitVec.ofNat 32 l.val) s) 0#32 = if l.val / w % 2 = 0 then 1#1 else 0#1)
    (a b : FVec Ideal S8x128 .f32) (q : Fin 8) (l : Fin 128) :
    bHi lane0 s s' a b (ix2 q l) = if l.val / w % 2 = 0 then a (ix2 q ⟨(l.val + 128 - w') % 128, Nat.mod_lt _ (by omega)⟩) else b (ix2 q l) := by
  show Scalar.select (mk lane0 s (ix2 q l)) (dynamicRotate 1 s' none a rotates_S8x128_d1 (ix2 q l)) (b (ix2 q l)) = _
  rw [mk_apply, hm, rot_apply]
  subst hw'
  simp only [Nat.mod_eq_of_lt hw'']
  split <;> simp [Scalar.select]

theorem lo16 (a b : FVec Ideal S8x128 .f32) (q : Fin 8) (l : Fin 128) : bLo lane0 16#32 a b (ix2 q l) = if l.val / 16 % 2 = 0 then a (ix2 q l) else b (ix2 q ⟨(l.val + 128 - 16) % 128, Nat.mod_lt _ (by omega)⟩) :=
  bLo_apply 16#32 16 rfl (by decide) (fun l => (mk_word l).1) a b q l
theorem hi16 (a b : FVec Ideal S8x128 .f32) (q : Fin 8) (l : Fin 128) : bHi lane0 16#32 112#32 a b (ix2 q l) = if l.val / 16 % 2 = 0 then a (ix2 q ⟨(l.val + 128 - 112) % 128, Nat.mod_lt _ (by omega)⟩) else b (ix2 q l) :=
  bHi_apply 16#32 112#32 16 112 rfl (by decide) (fun l => (mk_word l).1) a b q l
theorem lo32 (a b : FVec Ideal S8x128 .f32) (q : Fin 8) (l : Fin 128) : bLo lane0 32#32 a b (ix2 q l) = if l.val / 32 % 2 = 0 then a (ix2 q l) else b (ix2 q ⟨(l.val + 128 - 32) % 128, Nat.mod_lt _ (by omega)⟩) :=
  bLo_apply 32#32 32 rfl (by decide) (fun l => (mk_word l).2.1) a b q l
theorem hi32 (a b : FVec Ideal S8x128 .f32) (q : Fin 8) (l : Fin 128) : bHi lane0 32#32 96#32 a b (ix2 q l) = if l.val / 32 % 2 = 0 then a (ix2 q ⟨(l.val + 128 - 96) % 128, Nat.mod_lt _ (by omega)⟩) else b (ix2 q l) :=
  bHi_apply 32#32 96#32 32 96 rfl (by decide) (fun l => (mk_word l).2.1) a b q l
theorem lo64 (a b : FVec Ideal S8x128 .f32) (q : Fin 8) (l : Fin 128) : bLo lane0 64#32 a b (ix2 q l) = if l.val / 64 % 2 = 0 then a (ix2 q l) else b (ix2 q ⟨(l.val + 128 - 64) % 128, Nat.mod_lt _ (by omega)⟩) :=
  bLo_apply 64#32 64 rfl (by decide) (fun l => (mk_word l).2.2) a b q l
theorem hi64 (a b : FVec Ideal S8x128 .f32) (q : Fin 8) (l : Fin 128) : bHi lane0 64#32 64#32 a b (ix2 q l) = if l.val / 64 % 2 = 0 then a (ix2 q ⟨(l.val + 128 - 64) % 128, Nat.mod_lt _ (by omega)⟩) else b (ix2 q l) :=
  bHi_apply 64#32 64#32 64 64 rfl (by decide) (fun l => (mk_word l).2.2) a b q l

/-- The network's results: row `i` holds, at lane `l`, row `l / 16`'s lane `16 i + l % 16`. -/
theorem net_apply (v : ℕ → FVec Ideal S8x128 .f32) (i : Fin 8) (q : Fin 8) (l : Fin 128) :
    net3 lane0 (net2 lane0 (net1 lane0 v)) i.val (ix2 q l) = v (l.val / 16) (ix2 q ⟨16 * i.val + l.val % 16, by omega⟩) := by
  obtain ⟨p, m, hp, hm, hl⟩ : ∃ p m : ℕ, p < 8 ∧ m < 16 ∧ l.val = 16 * p + m := ⟨l.val / 16, l.val % 16, by omega, by omega, by omega⟩
  have e1 : l.val / 16 = p := by omega
  have e2 : l.val % 16 = m := by omega
  obtain ⟨l, hl'⟩ := l
  dsimp only at hl e1 e2
  simp only [e1, e2]
  subst hl
  interval_cases p <;> fin_cases i <;>
    simp only [net3, net2, net1, lo16, hi16, lo32, hi32, lo64, hi64] <;>
    (repeat (first | rw [if_pos (by omega)] | rw [if_neg (by omega)])) <;>
    congr 2 <;> apply Fin.ext <;> dsimp only <;> omega

/-- The lanes the output gathers. -/
def perm (v1 : IVec S8x128 32) : IVec S8x128 32 :=
  addi (muli (andi v1 (broadcast S8x128 7#32)) (broadcast S8x128 16#32))
    (select (andi (cmpi .ne (subi (extui 32 (cmpi .sgt v1 (broadcast S8x128 0#32)) natLt_1_32) (extui 32 (cmpi .slt v1 (broadcast S8x128 0#32)) natLt_1_32))
        (broadcast S8x128 (Scalar.subi (Scalar.extui (Scalar.cmpi .sgt 8#32 0#32)) (Scalar.extui (Scalar.cmpi .slt 8#32 0#32)))))
        (cmpi .ne (remsi v1 (broadcast S8x128 8#32)) (broadcast S8x128 0#32)))
      (subi (divsi v1 (broadcast S8x128 8#32)) (broadcast S8x128 1#32)) (divsi v1 (broadcast S8x128 8#32)))

/-- A block gathered by those lanes, as stored. -/
def outBlock (v1 : IVec S8x128 32) (r : FVec Ideal S8x128 .f32) : FVec Ideal S8x128 .bf16 :=
  k0_pay870 (perm v1) r

theorem perm_word (l : Fin 128) : (
    let x := BitVec.ofNat 32 l.val
    let y := IntOp.addi (IntOp.muli (IntOp.andi x 7#32) 16#32) (Scalar.select (IntOp.andi (IntOp.cmpi .ne (IntOp.subi ((IntOp.cmpi .sgt x 0#32).setWidth 32) ((IntOp.cmpi .slt x 0#32).setWidth 32)) (Scalar.subi (Scalar.extui (Scalar.cmpi .sgt 8#32 0#32)) (Scalar.extui (Scalar.cmpi .slt 8#32 0#32)))) (IntOp.cmpi .ne (IntOp.remsi .vector x 8#32) 0#32)) (IntOp.subi (IntOp.divsi .vector x 8#32) 1#32) (IntOp.divsi .vector x 8#32))
    (Scalar.select (IntOp.cmpi .slt y 0#32) (IntOp.addi y 128#32) y).toNat % 128) = (l.val % 8) * 16 + l.val / 8 := by
  revert l; decide +kernel

theorem outBlock_apply (r : FVec Ideal S8x128 .f32) (q : Fin 8) (l : Fin 128) :
    outBlock lane0 r (ix2 q l) = r (ix2 q ⟨(l.val % 8) * 16 + l.val / 8, by omega⟩) := by
  have hy : ∀ (ix : IVec S8x128 32), shapeCast S8x128 (shapeCast S8x128x1 ix shapeCasts_S8x128_S8x128x1) shapeCasts_S8x128x1_S8x128 (ix2 q l) = ix (ix2 q l) := by
    intro ix
    pointwise []
  show r _ = r _
  congr 1
  funext a
  fin_cases a
  · rfl
  apply Fin.ext
  have := perm_word l
  dsimp only [ix2]
  refine Eq.trans ?_ this
  show BitVec.toNat (shapeCast S8x128 (shapeCast S8x128x1 (select (cmpi .slt (perm lane0) (broadcast S8x128 0#32)) (addi (perm lane0) (broadcast S8x128 128#32)) (perm lane0)) shapeCasts_S8x128_S8x128x1) shapeCasts_S8x128x1_S8x128 (ix2 q l)) % 128 = _
  rw [hy]
  pointwise [perm]
  rw [lane0_apply]
end Cert.KernelIdeal.Gen
end
-- ==== Proof.Value.OutRead.lean ====
/- The output block of a grid point: what the eighty stores leave, read at an index. -/
module
public import proofs.«01_k».proof.Proof.Value.Out
@[expose] public section
set_option maxRecDepth 8192
set_option maxHeartbeats 400000
noncomputable section
namespace Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- The rows of one half of the documents in one group: every eighth row, from row `p` of the half on. -/
def rowRect (g : Fin 5) (h : Fin 2) (p : Fin 8) : LoadRect S5x128x128 :=
  ⟨![g.val, 64 * h.val + p.val, 0], S1x8x128.size, ![1, 8, 1], by
    intro a
    obtain ⟨g, hg⟩ := g
    obtain ⟨h, hh⟩ := h
    obtain ⟨p, hp⟩ := p
    fin_cases a <;> simp [S1x8x128, S5x128x128] <;> omega⟩

/-- The same rows as a block. -/
def rowVec (arg13 : Memref sig .tc .vmem S5x128x128 .f32) (X : BufTy.Contents (Elt Ideal) arg13.view.ty) (g : Fin 5) (h : Fin 2) (p : Fin 8) : FVec Ideal S8x128 .f32 :=
  shapeCast S8x128 (arg13.view.readAt (Elt Ideal) (rowRect g h p) X : Vec Ideal S1x8x128 .f32) shapeCasts_S1x8x128_S8x128

theorem rowVec_apply (arg13 : Memref sig .tc .vmem S5x128x128 .f32) (X : BufTy.Contents (Elt Ideal) arg13.view.ty) (g : Fin 5) (h : Fin 2) (p : Fin 8) (q : Fin 8) (n : Fin 128) :
    rowVec arg13 X g h p (ix2 q n) = arg13.view.read (Elt Ideal) X (ix3 g ⟨8 * (8 * h.val + q.val) + p.val, by omega⟩ n) := by
  unfold rowVec
  have hs : ∀ w : Vec Ideal S1x8x128 .f32, shapeCast S8x128 w shapeCasts_S1x8x128_S8x128 (ix2 q n) = w (ix3 0 q n) := by
    intro w
    pointwise []
  refine (hs _).trans ?_
  refine (View.readAt_apply _ _ _).trans ?_
  congr 1
  funext a
  fin_cases a <;> apply Fin.ext
  · show g.val + 1 * 0 = g.val
    omega
  · show (64 * h.val + p.val) + 8 * q.val = 8 * (8 * h.val + q.val) + p.val
    omega
  · show 0 + 1 * n.val = n.val
    omega

/-- One stored block: document half `h`, group `g`, repetition-lane block `i`. -/
def oPiece (v1 : IVec S8x128 32) (arg13 : Memref sig .tc .vmem S5x128x128 .f32) (X : BufTy.Contents (Elt Ideal) arg13.view.ty) (g : Fin 5) (h : Fin 2) (i : Fin 8) :
    View.Piece (Elt Ideal) S16x5120 .bf16 :=
  ⟨Rect.unit (s := S16x5120) ![8 * h.val, 128 * (8 * g.val + i.val)] S8x128.size (by
    intro a
    obtain ⟨g, hg⟩ := g
    obtain ⟨h, hh⟩ := h
    obtain ⟨i, hi⟩ := i
    fin_cases a <;> simp [S8x128, S16x5120] <;> omega),
   outBlock v1 (net3 v1 (net2 v1 (net1 v1 (fun p => rowVec arg13 X g h ⟨p % 8, Nat.mod_lt _ (by decide)⟩))) i.val)⟩

/-- The eighty stored blocks, the last first. -/
def oPieces (v1 : IVec S8x128 32) (arg13 : Memref sig .tc .vmem S5x128x128 .f32) (X : BufTy.Contents (Elt Ideal) arg13.view.ty) : List (View.Piece (Elt Ideal) S16x5120 .bf16) :=
  ([4, 3, 2, 1, 0] : List (Fin 5)).flatMap fun g => ([1, 0] : List (Fin 2)).flatMap fun h => ([7, 6, 5, 4, 3, 2, 1, 0] : List (Fin 8)).map fun i => oPiece v1 arg13 X g h i

theorem oPieces_mem (v1 : IVec S8x128 32) (arg13 : Memref sig .tc .vmem S5x128x128 .f32) (X : BufTy.Contents (Elt Ideal) arg13.view.ty) (g : Fin 5) (h : Fin 2) (i : Fin 8) :
    oPiece v1 arg13 X g h i ∈ oPieces v1 arg13 X := by
  refine List.mem_flatMap.mpr ⟨g, by revert g; decide, List.mem_flatMap.mpr ⟨h, by revert h; decide, List.mem_map.mpr ⟨i, by revert i; decide, rfl⟩⟩⟩

/-- The entry of the output block at row `d`, column `c`. -/
def outv (f : S5x128x128.Idx → EReal) (y : S16x5120.Idx) : EReal :=
  f (ix3 (⟨(y 1).val / 1024, by have := (y 1).isLt; simp [S16x5120] at this; omega⟩ : Fin 5) (⟨8 * (y 0).val + (y 1).val % 8, by have := (y 0).isLt; simp [S16x5120] at this; omega⟩ : Fin 128)
    (⟨16 * ((y 1).val / 128 % 8) + (y 1).val % 128 / 8, by omega⟩ : Fin 128))

theorem oPiece_apply (arg13 : Memref sig .tc .vmem S5x128x128 .f32) (X : BufTy.Contents (Elt Ideal) arg13.view.ty) (g : Fin 5) (h : Fin 2) (i : Fin 8) (x : (oPiece lane0 arg13 X g h i).1.shape.Idx) :
    (oPiece lane0 arg13 X g h i).2 x = outv (arg13.view.read (Elt Ideal) X) ((oPiece lane0 arg13 X g h i).1.emb x) := by
  obtain ⟨q, l, rfl⟩ : ∃ (q : Fin 8) (l : Fin 128), x = ix2 q l := ⟨x 0, x 1, by funext a; fin_cases a <;> rfl⟩
  refine (outBlock_apply _ q l).trans ?_
  rw [net_apply, rowVec_apply]
  unfold outv
  have e0 : (((oPiece lane0 arg13 X g h i).1.emb (ix2 q l)) 0).val = 8 * h.val + q.val := by
    show 8 * h.val + 1 * q.val = _
    omega
  have e1 : (((oPiece lane0 arg13 X g h i).1.emb (ix2 q l)) 1).val = 128 * (8 * g.val + i.val) + l.val := by
    show 128 * (8 * g.val + i.val) + 1 * l.val = _
    omega
  congr 1
  funext a
  fin_cases a <;> apply Fin.ext
  · show g.val = _ / 1024
    rw [e1]; omega
  · show 8 * (8 * h.val + q.val) + (l.val % 8 * 16 + l.val / 8) / 16 % 8 = 8 * _ + _ % 8
    have a1 : (l.val % 8 * 16 + l.val / 8) / 16 = l.val % 8 := by omega
    have a2 : (128 * (8 * g.val + i.val) + l.val) % 8 = l.val % 8 := by omega
    rw [e0, e1, a1, a2]; omega
  · show 16 * i.val + (l.val % 8 * 16 + l.val / 8) % 16 = 16 * (_ / 128 % 8) + _ % 128 / 8
    have a1 : (l.val % 8 * 16 + l.val / 8) % 16 = l.val / 8 := by omega
    have a2 : (128 * (8 * g.val + i.val) + l.val) / 128 = 8 * g.val + i.val := by omega
    have a3 : (128 * (8 * g.val + i.val) + l.val) % 128 = l.val := by omega
    rw [e1, a1, a2, a3]; omega

/-- What the eighty stores leave in the block, whatever it held before. -/
theorem out_read (arg8 : Memref sig .tc .vmem S16x5120 .bf16) (f6 : BufTy.Contents (Elt Ideal) arg8.view.ty) (arg13 : Memref sig .tc .vmem S5x128x128 .f32) (X : BufTy.Contents (Elt Ideal) arg13.view.ty) (y : S16x5120.Idx) :
    arg8.view.read (Elt Ideal) (arg8.view.writes (Elt Ideal) f6 (oPieces lane0 arg13 X)) y = outv (arg13.view.read (Elt Ideal) X) y := by
  refine View.read_writes_apply_of_pieces arg8.view f6 (outv (arg13.view.read (Elt Ideal) X)) (oPieces lane0 arg13 X) ?_ y ?_
  · intro p hp x
    obtain ⟨g, -, hp⟩ := List.mem_flatMap.mp hp
    obtain ⟨h, -, hp⟩ := List.mem_flatMap.mp hp
    obtain ⟨i, -, rfl⟩ := List.mem_map.mp hp
    exact oPiece_apply arg13 X g h i x
  · have h0 : (y 0).val < 16 := (y 0).isLt
    have h1 : (y 1).val < 5120 := (y 1).isLt
    refine ⟨oPiece lane0 arg13 X ⟨(y 1).val / 1024, by omega⟩ ⟨(y 0).val / 8, by omega⟩ ⟨(y 1).val / 128 % 8, by omega⟩, oPieces_mem _ _ _ _ _ _, ?_⟩
    rw [LoadRect.mem_set]
    intro a
    fin_cases a
    · exact ⟨(y 0).val % 8, by show _ < 8; omega, by show (y 0).val = 8 * ((y 0).val / 8) + 1 * _; omega⟩
    · exact ⟨(y 1).val % 128, by show _ < 128; omega, by show (y 1).val = 128 * (8 * ((y 1).val / 1024) + (y 1).val / 128 % 8) + 1 * _; omega⟩
end Cert.KernelIdeal.Gen
end
-- ==== Proof.Value.First.lean ====
/- The first token of a segment, from the exponent of a sum of powers of two: each token's power is four times the next one's, so the largest decides the exponent. -/
module
public import proofs.«01_k».proof.Proof.Value.Blocks
@[expose] public section
set_option maxRecDepth 8192
set_option maxHeartbeats 400000
noncomputable section
namespace Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- The number with exponent field `e` and no fraction. -/
def expVal (e : ℕ) : EReal := Ideal.ofBits .f32 (IntOp.shli .vector (BitVec.ofNat 32 e) 23#32)

/-- How many of them are at most `w`. -/
def expoN (w : EReal) : ℕ := ∑ e : Fin 256, if expVal e.val ≤ w then 1 else 0

theorem expBits (e : Fin 256) : (IntOp.shli .vector (BitVec.ofNat 32 e.val) 23#32).extractLsb' 31 1 = 0#1 ∧ ((IntOp.shli .vector (BitVec.ofNat 32 e.val) 23#32).extractLsb' 23 8).toNat = e.val
    ∧ ((IntOp.shli .vector (BitVec.ofNat 32 e.val) 23#32).extractLsb' 0 23).toNat = 0 := by
  revert e; decide +kernel

theorem ieee_gen {w : ℕ} (eb m : ℕ) (b : BitVec w) (e : ℕ) (h1 : b.extractLsb' (eb + m) 1 = 0#1) (h2 : (b.extractLsb' m eb).toNat = e) (h3 : (b.extractLsb' 0 m).toNat = 0) :
    Ideal.ieee eb m b = if e = 2 ^ eb - 1 then ⊤ else if e = 0 then 0 else (((2 : ℝ) ^ m * (2 : ℝ) ^ ((e : Int) - (2 ^ (eb - 1) - 1) - m) : ℝ) : EReal) := by
  unfold Ideal.ieee
  simp only [h1, h2, h3]
  have hb : (0#1 == 1#1) = false := by decide
  simp only [hb, Bool.false_eq_true, if_false, if_true, Nat.cast_zero, mul_zero, zero_mul, EReal.coe_zero, Nat.add_zero, one_mul, Nat.cast_pow, Nat.cast_ofNat]

theorem expVal_pow (e : ℤ) : (2 : ℝ) ^ 23 * (2 : ℝ) ^ (e - (2 ^ (8 - 1) - 1) - ((23 : ℕ) : ℤ)) = (2 : ℝ) ^ (e - 127) := by
  have h : (2 : ℝ) ^ 23 = (2 : ℝ) ^ (23 : ℤ) := (zpow_natCast (2 : ℝ) 23).symm
  rw [h, ← zpow_add₀ (by norm_num)]
  congr 1
  norm_num

theorem expVal_eq (e : Fin 256) : expVal e.val = if e.val = 255 then ⊤ else if e.val = 0 then 0 else (((2 : ℝ) ^ ((e.val : ℤ) - 127) : ℝ) : EReal) := by
  obtain ⟨h1, h2, h3⟩ := expBits e
  have h := ieee_gen 8 23 _ e.val h1 h2 h3
  rw [expVal_pow] at h
  exact h

/-- The count of a number of the binade with field `E`. -/
theorem expoN_eq (w : ℝ) (E : ℕ) (h0 : 1 ≤ E) (h1 : E ≤ 253) (hl : (2 : ℝ) ^ ((E : ℤ) - 127) ≤ w) (hu : w < (2 : ℝ) ^ ((E : ℤ) - 126)) : expoN (w : EReal) = E + 1 := by
  have key : ∀ e : Fin 256, (expVal e.val ≤ (w : EReal)) ↔ e ≤ (⟨E, by omega⟩ : Fin 256) := by
    intro e
    rw [expVal_eq, Fin.le_def]
    have hpos : (0 : ℝ) < (2 : ℝ) ^ ((E : ℤ) - 127) := by positivity
    split
    · next h => simp [h]; omega
    · split
      · next h => simp [h]; exact (hpos.trans_le hl).le
      · next h h' =>
        rw [EReal.coe_le_coe_iff]
        constructor
        · intro hle
          by_contra hlt
          have : (2 : ℝ) ^ ((E : ℤ) - 126) ≤ (2 : ℝ) ^ ((e.val : ℤ) - 127) := zpow_le_zpow_right₀ (by norm_num) (by dsimp only at hlt; omega)
          linarith
        · intro hle
          have : (2 : ℝ) ^ ((e.val : ℤ) - 127) ≤ (2 : ℝ) ^ ((E : ℤ) - 127) := zpow_le_zpow_right₀ (by norm_num) (by dsimp only at hle; omega)
          linarith
  unfold expoN
  simp only [key]
  rw [Finset.sum_boole]
  have : (Finset.univ.filter fun e : Fin 256 => e ≤ (⟨E, by omega⟩ : Fin 256)) = Finset.Iic (⟨E, by omega⟩ : Fin 256) := by
    ext e; simp
  rw [this, Fin.card_Iic]
  simp

/-- `v` is the first member of `S`, or 3072 where `S` has none. -/
def IsFst (S : Fin 256 → Prop) (v : ℕ) : Prop := (v = 3072 ∧ ∀ t, ¬ S t) ∨ ∃ t, S t ∧ v = t.val ∧ ∀ t', S t' → t.val ≤ t'.val

theorem exists_isFst (S : Fin 256 → Prop) : ∃ v, IsFst S v := by
  classical
  by_cases h : ∃ t, S t
  · obtain ⟨t, ht⟩ := h
    have hne : (Finset.univ.filter S).Nonempty := ⟨t, by simpa using ht⟩
    refine ⟨((Finset.univ.filter S).min' hne).val, Or.inr ⟨_, ?_, rfl, ?_⟩⟩
    · have := Finset.min'_mem _ hne
      simpa using this
    · intro t' ht'
      exact Fin.le_def.mp (Finset.min'_le (Finset.univ.filter S) t' (by simpa using ht'))
  · exact ⟨3072, Or.inl ⟨rfl, fun t ht => h ⟨t, ht⟩⟩⟩

theorem IsFst.min {S T : Fin 256 → Prop} {v u : ℕ} (hv : IsFst S v) (hu : IsFst T u) : IsFst (fun t => S t ∨ T t) (min v u) := by
  rcases hv with ⟨rfl, hv⟩ | ⟨t, ht, rfl, hv⟩ <;> rcases hu with ⟨rfl, hu⟩ | ⟨s, hs, rfl, hu⟩
  · exact Or.inl ⟨by simp, fun t h => h.elim (hv t) (hu t)⟩
  · exact Or.inr ⟨s, Or.inr hs, by omega, fun t' h => h.elim (fun h => absurd h (hv t')) (hu t')⟩
  · exact Or.inr ⟨t, Or.inl ht, by omega, fun t' h => h.elim (hv t') (fun h => absurd h (hu t'))⟩
  · rcases le_total t.val s.val with h | h
    · exact Or.inr ⟨t, Or.inl ht, by omega, fun t' h' => h'.elim (hv t') (fun h'' => h.trans (hu t' h''))⟩
    · exact Or.inr ⟨s, Or.inr hs, by omega, fun t' h' => h'.elim (fun h'' => h.trans (hv t' h'')) (hu t')⟩

theorem IsFst.congr {S T : Fin 256 → Prop} {v : ℕ} (h : IsFst S v) (e : ∀ t, S t ↔ T t) : IsFst T v := by
  obtain rfl : S = T := funext fun t => propext (e t)
  exact h

theorem IsFst.unique {S : Fin 256 → Prop} {v u : ℕ} (hv : IsFst S v) (hu : IsFst S u) : v = u := by
  rcases hv with ⟨rfl, hv⟩ | ⟨t, ht, rfl, hv⟩ <;> rcases hu with ⟨rfl, hu⟩ | ⟨s, hs, rfl, hu⟩
  · rfl
  · exact absurd hs (hv s)
  · exact absurd ht (hu t)
  · exact le_antisymm (hv s hs) (hu t ht)

theorem IsFst.le {S : Fin 256 → Prop} {v : ℕ} (h : IsFst S v) : v < 256 ∨ v = 3072 := by
  rcases h with ⟨rfl, -⟩ | ⟨t, -, rfl, -⟩
  · exact Or.inr rfl
  · exact Or.inl t.isLt

/-- The weight of a token within its quarter, times the unit of the one-hot block. -/
def wgt (t : ℕ) : ℝ := (2 : ℝ) ^ ((53 : ℤ) - 2 * ((t % 64 : ℕ) : ℤ))

theorem tail_lt (a m : ℕ) : ∑ j ∈ Finset.range m, (2 : ℝ) ^ ((53 : ℤ) - 2 * ((a + j : ℕ) : ℤ)) < (2 : ℝ) ^ ((54 : ℤ) - 2 * (a : ℤ)) := by
  have h : ∀ m : ℕ, ∑ j ∈ Finset.range m, (2 : ℝ) ^ ((53 : ℤ) - 2 * ((a + j : ℕ) : ℤ)) = (2 / 3) * ((2 : ℝ) ^ ((54 : ℤ) - 2 * (a : ℤ)) - (2 : ℝ) ^ ((54 : ℤ) - 2 * ((a + m : ℕ) : ℤ))) := by
    intro m
    induction m with
    | zero => simp
    | succ m ih =>
      rw [Finset.sum_range_succ, ih]
      have e1 : (2 : ℝ) ^ ((54 : ℤ) - 2 * ((a + m : ℕ) : ℤ)) = 2 * (2 : ℝ) ^ ((53 : ℤ) - 2 * ((a + m : ℕ) : ℤ)) := by
        rw [← zpow_one_add₀ (by norm_num)]; congr 1; ring
      have e2 : (2 : ℝ) ^ ((53 : ℤ) - 2 * ((a + m : ℕ) : ℤ)) = 2 * (2 : ℝ) ^ ((54 : ℤ) - 2 * ((a + (m + 1) : ℕ) : ℤ)) := by
        rw [← zpow_one_add₀ (by norm_num)]; congr 1; push_cast; ring
      rw [e1, e2]; ring
  rw [h]
  have p1 : (0 : ℝ) < (2 : ℝ) ^ ((54 : ℤ) - 2 * (a : ℤ)) := by positivity
  have p2 : (0 : ℝ) < (2 : ℝ) ^ ((54 : ℤ) - 2 * ((a + m : ℕ) : ℤ)) := by positivity
  linarith

open Classical in
/-- The sum of a quarter's weights over the members of `act`. -/
def wsum (act : Fin 256 → Prop) (q : ℕ) : ℝ := ∑ t : Fin 256, if t.val / 64 = q ∧ act t then wgt t.val else 0

theorem wsum_bounds (act : Fin 256 → Prop) (q : ℕ) (t0 : Fin 256) (hq : t0.val / 64 = q) (ha : act t0) (hm : ∀ t : Fin 256, t.val / 64 = q ∧ act t → t0.val ≤ t.val) :
    wgt t0.val ≤ wsum act q ∧ wsum act q < (2 : ℝ) ^ ((54 : ℤ) - 2 * ((t0.val % 64 : ℕ) : ℤ)) := by
  classical
  have hpos : ∀ t, 0 ≤ wgt t := fun t => by unfold wgt; positivity
  constructor
  · unfold wsum
    refine le_trans (le_of_eq ?_) (Finset.single_le_sum (f := fun t : Fin 256 => if t.val / 64 = q ∧ act t then wgt t.val else 0) (fun t _ => by split; exact hpos _; exact le_rfl) (Finset.mem_univ t0))
    rw [if_pos ⟨hq, ha⟩]
  · refine lt_of_le_of_lt ?_ (tail_lt (t0.val % 64) (64 - t0.val % 64))
    unfold wsum
    rw [← Finset.sum_filter]
    refine le_trans (le_of_eq (Finset.sum_nbij' (t := (Finset.univ.filter fun t : Fin 256 => t.val / 64 = q ∧ act t).image (fun t : Fin 256 => t.val - t0.val)) (g := fun j => (2 : ℝ) ^ ((53 : ℤ) - 2 * ((t0.val % 64 + j : ℕ) : ℤ)))
      (fun t => t.val - t0.val) (fun j => (⟨(t0.val + j) % 256, Nat.mod_lt _ (by norm_num)⟩ : Fin 256)) ?_ ?_ ?_ ?_ ?_)) (Finset.sum_le_sum_of_subset_of_nonneg ?_ ?_)
    · intro t ht
      exact Finset.mem_image_of_mem _ ht
    · intro j hj
      obtain ⟨t, ht, rfl⟩ := Finset.mem_image.mp hj
      have := hm t (by simpa using ht)
      have e : (⟨(t0.val + (t.val - t0.val)) % 256, Nat.mod_lt _ (by norm_num)⟩ : Fin 256) = t := Fin.ext (by have := t.isLt; show (t0.val + (t.val - t0.val)) % 256 = t.val; omega)
      rw [e]; exact ht
    · intro t ht
      have := hm t (by simpa using ht)
      exact Fin.ext (by have := t.isLt; show (t0.val + (t.val - t0.val)) % 256 = t.val; omega)
    · intro j hj
      obtain ⟨t, ht, rfl⟩ := Finset.mem_image.mp hj
      have := hm t (by simpa using ht)
      have := t.isLt
      show (t0.val + (t.val - t0.val)) % 256 - t0.val = t.val - t0.val
      omega
    · intro t ht
      have h1 := hm t (by simpa using ht)
      have h2 : t.val / 64 = q := by simp at ht; exact ht.1
      unfold wgt
      have : t0.val % 64 + (t.val - t0.val) = t.val % 64 := by omega
      rw [this]
    · intro j hj
      obtain ⟨t, ht, rfl⟩ := Finset.mem_image.mp hj
      have h2 : t.val / 64 = q := by simp at ht; exact ht.1
      have h1 := hm t (by simpa using ht)
      rw [Finset.mem_range]
      omega
    · intro j _ _
      positivity

/-- The quarter's word: its base and half the distance of the exponent. -/
def quarterW (b : BitVec 32) (w : EReal) : BitVec 32 :=
  if 0 < w then IntOp.addi b (IntOp.shrui .vector (IntOp.subi 180#32 (IntOp.subi (BitVec.ofNat 32 (expoN w)) 1#32)) 1#32) else 3072#32

theorem quarterBits (q : Fin 4) (j : Fin 64) : IntOp.addi (BitVec.ofNat 32 (64 * q.val)) (IntOp.shrui .vector (IntOp.subi 180#32 (IntOp.subi (BitVec.ofNat 32 (180 - 2 * j.val + 1)) 1#32)) 1#32) = BitVec.ofNat 32 (64 * q.val + j.val) := by
  revert q j; decide +kernel

/-- The quarter's word is the quarter's first member. -/
theorem quarterW_isFst (act : Fin 256 → Prop) (q : Fin 4) : ∃ v, quarterW (BitVec.ofNat 32 (64 * q.val)) ((wsum act q.val : ℝ) : EReal) = BitVec.ofNat 32 v ∧ IsFst (fun t => t.val / 64 = q.val ∧ act t) v := by
  obtain ⟨v, hv⟩ := exists_isFst (fun t => t.val / 64 = q.val ∧ act t)
  refine ⟨v, ?_, hv⟩
  rcases hv with ⟨rfl, h⟩ | ⟨t, ⟨hq, ha⟩, rfl, hm⟩
  · have : wsum act q.val = 0 := by
      unfold wsum
      exact Finset.sum_eq_zero fun t _ => if_neg (h t)
    rw [this]
    simp [quarterW]
  · obtain ⟨hl, hu⟩ := wsum_bounds act q.val t hq ha hm
    have hpos : 0 < wsum act q.val := lt_of_lt_of_le (by unfold wgt; positivity) hl
    unfold quarterW
    rw [if_pos (by exact_mod_cast hpos)]
    have hj : t.val % 64 < 64 := by omega
    rw [expoN_eq (wsum act q.val) (180 - 2 * (t.val % 64)) (by omega) (by omega)]
    · rw [quarterBits q ⟨t.val % 64, hj⟩]
      congr 1
      dsimp only
      omega
    · refine le_trans (le_of_eq ?_) hl
      unfold wgt
      congr 1
      omega
    · refine lt_of_lt_of_le hu (le_of_eq ?_)
      congr 1
      omega

theorem minW (a b : ℕ) (ha : a < 2 ^ 31) (hb : b < 2 ^ 31) : IntOp.minsi (BitVec.ofNat 32 a) (BitVec.ofNat 32 b) = BitVec.ofNat 32 (min a b) := by
  have e1 : (BitVec.ofNat 32 a).toInt = a := by rw [BitVec.toInt_ofNat']; simp only [Int.bmod_def]; omega
  have e2 : (BitVec.ofNat 32 b).toInt = b := by rw [BitVec.toInt_ofNat']; simp only [Int.bmod_def]; omega
  unfold IntOp.minsi
  simp only [BitVec.sle, BitVec.slt, e1, e2]
  rcases le_total a b with h | h
  · simp [h]
    try (intro; congr 1; omega)
  · simp [h]
    try (intro; congr 1; omega)

/-- The least of the four quarters' words is the first member of all. -/
theorem first4 (act : Fin 256 → Prop) : ∃ v, IntOp.minsi (IntOp.minsi (IntOp.minsi (IntOp.minsi 3072#32 (quarterW 0#32 ((wsum act 0 : ℝ) : EReal))) (quarterW 64#32 ((wsum act 1 : ℝ) : EReal)))
    (quarterW 128#32 ((wsum act 2 : ℝ) : EReal))) (quarterW 192#32 ((wsum act 3 : ℝ) : EReal)) = BitVec.ofNat 32 v ∧ IsFst act v := by
  obtain ⟨v0, e0, h0⟩ := quarterW_isFst act 0
  obtain ⟨v1, e1, h1⟩ := quarterW_isFst act 1
  obtain ⟨v2, e2, h2⟩ := quarterW_isFst act 2
  obtain ⟨v3, e3, h3⟩ := quarterW_isFst act 3
  have hz : IsFst (fun _ => False) 3072 := Or.inl ⟨rfl, fun _ h => h⟩
  refine ⟨min (min (min (min 3072 v0) v1) v2) v3, ?_, ((((hz.min h0).min h1).min h2).min h3).congr fun t => ?_⟩
  · have b0 := h0.le
    have b1 := h1.le
    have b2 := h2.le
    have b3 := h3.le
    rw [show quarterW 0#32 ((wsum act 0 : ℝ) : EReal) = _ from e0, show quarterW 64#32 ((wsum act 1 : ℝ) : EReal) = _ from e1, show quarterW 128#32 ((wsum act 2 : ℝ) : EReal) = _ from e2, show quarterW 192#32 ((wsum act 3 : ℝ) : EReal) = _ from e3]
    rw [minW _ _ (by norm_num) (by omega), minW _ _ (by omega) (by omega), minW _ _ (by omega) (by omega), minW _ _ (by omega) (by omega)]
  · have := t.isLt
    simp only [Fin.val_zero, false_or]
    constructor
    · rintro (((h | h) | h) | h) <;> exact h.2
    · intro h
      rcases (by omega : t.val / 64 = 0 ∨ t.val / 64 = 1 ∨ t.val / 64 = 2 ∨ t.val / 64 = 3) with hh | hh | hh | hh
      · exact Or.inl (Or.inl (Or.inl ⟨hh, h⟩))
      · exact Or.inl (Or.inl (Or.inr ⟨hh, h⟩))
      · exact Or.inl (Or.inr ⟨hh, h⟩)
      · exact Or.inr ⟨hh, h⟩
end Cert.KernelIdeal.Gen
end
-- ==== Proof.Value.Hyper.lean ====
/- The least of the keys of all segments, each with its distance in bits: five steps, one for every bit of the code. -/
module
public import proofs.«01_k».proof.Proof.Value.First
@[expose] public section
set_option maxRecDepth 8192
set_option maxHeartbeats 400000
noncomputable section
namespace Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- The number of bits set. -/
def pop (m : Fin 32) : ℕ := m.val % 2 + m.val / 2 % 2 + m.val / 4 % 2 + m.val / 8 % 2 + m.val / 16

def xo (a b : Fin 32) : Fin 32 := ⟨(a.val ^^^ b.val) % 32, Nat.mod_lt _ (by norm_num)⟩

/-- One step: the lesser of the own key and the neighbour's plus 512. -/
def stepK (w : Fin 32) (K : Fin 32 → ℕ) (c : Fin 32) : ℕ := min (K c) (K (xo c w) + 512)

/-- `F` is the least of `K` plus 512 for each bit, over the codes that differ in bits below `2 ^ k`. -/
def IsMin (b : ℕ) (K F : Fin 32 → ℕ) : Prop := (∀ c m : Fin 32, m.val < b → F c ≤ K (xo c m) + 512 * pop m) ∧ ∀ c : Fin 32, ∃ m : Fin 32, m.val < b ∧ F c = K (xo c m) + 512 * pop m

theorem xo_facts (w : Fin 32) (hw : w.val = 1 ∨ w.val = 2 ∨ w.val = 4 ∨ w.val = 8 ∨ w.val = 16) : ∀ m : Fin 32, (m.val < w.val → (xo w m).val < 2 * w.val ∧ pop (xo w m) = pop m + 1)
    ∧ (m.val < 2 * w.val → ¬ m.val < w.val → (xo w m).val < w.val ∧ pop m = pop (xo w m) + 1) := by
  revert w; decide +kernel

theorem xo_assoc : ∀ c w m : Fin 32, xo (xo c w) m = xo c (xo w m) := by decide +kernel
theorem xo_self : ∀ w m : Fin 32, xo w (xo w m) = m := by decide +kernel

theorem IsMin.step {K F : Fin 32 → ℕ} (w : Fin 32) (hw : w.val = 1 ∨ w.val = 2 ∨ w.val = 4 ∨ w.val = 8 ∨ w.val = 16) (h : IsMin w.val K F) : IsMin (2 * w.val) K (stepK w F) := by
  obtain ⟨h1, h2⟩ := h
  constructor
  · intro c m hm
    by_cases hmw : m.val < w.val
    · exact (min_le_left _ _).trans (h1 c m hmw)
    · obtain ⟨ha, hb⟩ := (xo_facts w hw m).2 hm hmw
      refine (min_le_right _ _).trans ?_
      have := h1 (xo c w) (xo w m) ha
      rw [xo_assoc, xo_self] at this
      omega
  · intro c
    unfold stepK
    rcases le_total (F c) (F (xo c w) + 512) with h | h
    · obtain ⟨m, hm, e⟩ := h2 c
      exact ⟨m, by omega, by rw [min_eq_left h, e]⟩
    · obtain ⟨m, hm, e⟩ := h2 (xo c w)
      obtain ⟨ha, hb⟩ := (xo_facts w hw m).1 hm
      refine ⟨xo w m, ha, ?_⟩
      rw [min_eq_right h, e, xo_assoc, hb]
      omega

/-- All five steps. -/
def hyperK (K : Fin 32 → ℕ) : Fin 32 → ℕ := stepK 16 (stepK 8 (stepK 4 (stepK 2 (stepK 1 K))))

theorem hyperK_isMin (K : Fin 32 → ℕ) : IsMin 32 K (hyperK K) := by
  have h0 : IsMin 1 K K := by
    have x0 : ∀ c : Fin 32, xo c 0 = c := by decide +kernel
    constructor
    · intro c m hm
      obtain rfl : m = 0 := Fin.ext (by simp at hm ⊢; omega)
      rw [x0]; simp [pop]
    · intro c
      exact ⟨0, by simp, by rw [x0]; simp [pop]⟩
  exact ((((h0.step 1 (by decide)).step 2 (by decide)).step 4 (by decide)).step 8 (by decide)).step 16 (by decide)

/-- The key of a segment's nearest occupied segment. -/
theorem hyperK_spec (K : Fin 32 → ℕ) (c : Fin 32) : (∀ c' : Fin 32, hyperK K c ≤ K c' + 512 * pop (xo c c')) ∧ ∃ c' : Fin 32, hyperK K c = K c' + 512 * pop (xo c c') := by
  obtain ⟨h1, h2⟩ := hyperK_isMin K
  constructor
  · intro c'
    have := h1 c (xo c c') (xo c c').isLt
    rwa [xo_self] at this
  · obtain ⟨m, -, e⟩ := h2 c
    exact ⟨xo c m, by rw [xo_self]; exact e⟩

theorem stepK_le {K : Fin 32 → ℕ} {B : ℕ} (w : Fin 32) (h : ∀ c, K c ≤ B) (c : Fin 32) : stepK w K c ≤ B := (min_le_left _ _).trans (h c)

/-- The token: zero where the key says that there is none. -/
def tokN (k : ℕ) : ℕ := if 3072 ≤ k then 0 else k % 512

/-- The token for keys that are first members: the first member of a segment as near as any occupied one, and of the first among those. -/
theorem tok_spec (act : Fin 32 → Fin 256 → Prop) (K : Fin 32 → ℕ) (hK : ∀ c, IsFst (act c) (K c)) (c : Fin 32) :
    ((∀ c' t, ¬ act c' t) ∧ tokN (hyperK K c) = 0) ∨ ∃ c', K c' < 256 ∧ tokN (hyperK K c) = K c' ∧ ∀ c'', K c'' < 256 → pop (xo c c') * 257 + K c' ≤ pop (xo c c'') * 257 + K c'' := by
  obtain ⟨h1, c', h2⟩ := hyperK_spec K c
  have hp : ∀ m : Fin 32, pop m ≤ 5 := by decide
  by_cases ho : ∃ c0, K c0 < 256
  · obtain ⟨c0, hc0⟩ := ho
    have hlt : hyperK K c < 3072 := by
      have := h1 c0
      have := hp (xo c c0)
      omega
    have hc' : K c' < 256 := by
      rcases (hK c').le with h | h
      · exact h
      · omega
    right
    refine ⟨c', hc', ?_, ?_⟩
    · unfold tokN
      rw [if_neg (by omega), h2]
      omega
    · intro c'' hc''
      have a := h1 c''
      rw [h2] at a
      rcases lt_trichotomy (pop (xo c c')) (pop (xo c c'')) with h | h | h
      · omega
      · omega
      · omega
  · push_neg at ho
    left
    constructor
    · intro c'' t ht
      rcases hK c'' with ⟨-, h⟩ | ⟨t', -, e, -⟩
      · exact h t ht
      · have := ho c''
        have := t'.isLt
        omega
    · unfold tokN
      rw [if_pos]
      have := ho c'
      rcases (hK c').le with h | h
      · omega
      · omega
end Cert.KernelIdeal.Gen
end
-- ==== Proof.Value.Mid.lean ====
/- The middle section: the first token of every segment from the exponents of its weights' sums, and the token of the nearest occupied segment, as blocks. -/
module
public import proofs.«01_k».proof.Proof.Value.OutRead
public import proofs.«01_k».proof.Proof.Value.Hyper
public import Idealize.ShloMosaic.Lib.WordSum
@[expose] public section
set_option maxRecDepth 8192
set_option maxHeartbeats 400000
noncomputable section
namespace Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- The number of powers of two, in the order of their exponents and zero first, that are at most `w`. -/
def expoBlock (w : FVec Ideal S8x128 .f32) : IVec S8x128 32 :=
  multiReductionI .add [0] S8x128 (select (cmpf .ole (bitcastToFloat .f32 (shli (iota .tc S256x8x128 32 [0] iota_S256x8x128_d0_w32) (broadcast S256x8x128 23#32)))
    (broadcastTo S256x8x128 (shapeCast S1x8x128 w shapeCasts_S8x128_S1x8x128) broadcasts_S1x8x128_S256x8x128)) (broadcast S256x8x128 1#32) (broadcast S256x8x128 0#32)) 0#32 reduces_S256x8x128_S8x128 rfl

/-- The first token of a quarter: its base and half the exponent's distance, where there is one. -/
def quarterBlock (b : BitVec 32) (w : FVec Ideal S8x128 .f32) : IVec S8x128 32 :=
  select (cmpf .ogt w (broadcast S8x128 (Scalar.ofBits .f32 0x00000000#32 : Ideal .f32)))
    (addi (broadcast S8x128 b) (shrui (subi (broadcast S8x128 180#32) (subi (expoBlock w) (broadcast S8x128 1#32))) (broadcast S8x128 1#32))) (broadcast S8x128 3072#32)

/-- The first token of all four quarters. -/
def firstBlock (w0 w1 w2 w3 : FVec Ideal S8x128 .f32) : IVec S8x128 32 :=
  minsi (minsi (minsi (minsi (broadcast S8x128 3072#32) (quarterBlock 0#32 w0)) (quarterBlock 64#32 w1)) (quarterBlock 128#32 w2)) (quarterBlock 192#32 w3)

/-- One step over the code's bits: the lesser of a segment's own key and its neighbour's key plus the step. -/
def relaxBlock (v1 : IVec S8x128 32) (s s' : BitVec 32) (key : IVec S8x128 32) : IVec S8x128 32 :=
  minsi key (addi (select (mk v1 s) (dynamicRotate 1 s' none key rotates_S8x128_d1) (dynamicRotate 1 s none key rotates_S8x128_d1)) (broadcast S8x128 512#32))

/-- All five steps. -/
def hyperBlock (v1 : IVec S8x128 32) (key : IVec S8x128 32) : IVec S8x128 32 :=
  relaxBlock v1 16#32 112#32 (relaxBlock v1 8#32 120#32 (relaxBlock v1 4#32 124#32 (relaxBlock v1 2#32 126#32 (relaxBlock v1 1#32 127#32 key))))

/-- The token the key ends with. -/
def tokBlock (key : IVec S8x128 32) : IVec S8x128 32 :=
  andi (select (cmpi .sge key (broadcast S8x128 3072#32)) (broadcast S8x128 0#32) key) (broadcast S8x128 511#32)

def cast4 (w : Vec Ideal S1x1x8x128 .f32) : FVec Ideal S8x128 .f32 := shapeCast S8x128 w shapeCasts_S1x1x8x128_S8x128

/-- The stored block of tokens. -/
def tsBlock (v1 : IVec S8x128 32) (w0 w1 w2 w3 : Vec Ideal S1x1x8x128 .f32) : IVec S1x8x128 32 :=
  shapeCast S1x8x128 (tokBlock (hyperBlock v1 (firstBlock (cast4 w0) (cast4 w1) (cast4 w2) (cast4 w3)))) shapeCasts_S8x128_S1x8x128

/-- The stored block of reciprocals. -/
def recBlock (w : Vec Ideal S1x1x8x128 .f32) : FVec Ideal S1x8x128 .f32 := k0_pay313 (cast4 w)

/-- The reciprocal of a segment's count, with the factors left out of the sums. -/
def recW (w : EReal) : EReal := if 0 < w then Ideal.div (Ideal.ofBits .f32 0x433504F3#32) (max w 1) else 0

theorem recBlock_apply (w : Vec Ideal S1x1x8x128 .f32) (q : Fin 8) (n : Fin 128) : recBlock w (ix3 0 q n) = recW (w (ix4 0 0 q n)) := by
  pointwise [recBlock, k0_pay313, k0_pay312, cast4, recW]

theorem cast4_apply (w : Vec Ideal S1x1x8x128 .f32) (q : Fin 8) (n : Fin 128) : cast4 w (ix2 q n) = w (ix4 0 0 q n) := by
  pointwise [cast4]

theorem expo_apply (w : FVec Ideal S8x128 .f32) (e : Fin 256) (q : Fin 8) (n : Fin 128) : (select (cmpf .ole (bitcastToFloat .f32 (shli (iota .tc S256x8x128 32 [0] iota_S256x8x128_d0_w32) (broadcast S256x8x128 23#32)))
    (broadcastTo S256x8x128 (shapeCast S1x8x128 w shapeCasts_S8x128_S1x8x128) broadcasts_S1x8x128_S256x8x128)) (broadcast S256x8x128 1#32) (broadcast S256x8x128 0#32)) (ix3 e q n) = if expVal e.val ≤ w (ix2 q n) then 1#32 else 0#32 := by
  pointwise [expVal]

theorem expoN_le (w : EReal) : expoN w ≤ 256 := by
  unfold expoN
  rw [Finset.sum_boole]
  exact_mod_cast (Finset.card_le_univ _)

theorem expoBlock_apply (w : FVec Ideal S8x128 .f32) (q : Fin 8) (n : Fin 128) : expoBlock w (ix2 q n) = BitVec.ofNat 32 (expoN (w (ix2 q n))) := by
  have key : ∑ i ∈ Finset.univ.filter (fun i => reduces_S256x8x128_S8x128.drop i = ix2 q n), ((select (cmpf .ole (bitcastToFloat .f32 (shli (iota .tc S256x8x128 32 [0] iota_S256x8x128_d0_w32) (broadcast S256x8x128 23#32)))
    (broadcastTo S256x8x128 (shapeCast S1x8x128 w shapeCasts_S8x128_S1x8x128) broadcasts_S1x8x128_S256x8x128)) (broadcast S256x8x128 1#32) (broadcast S256x8x128 0#32)) i).toNat = expoN (w (ix2 q n)) := by
    unfold expoN
    refine Finset.sum_nbij' (fun i => (i 0 : Fin 256)) (fun e => ix3 e q n) ?_ ?_ ?_ ?_ ?_
    · intro i _; exact Finset.mem_univ _
    · intro e _
      refine Finset.mem_filter.mpr ⟨Finset.mem_univ _, ?_⟩
      funext a; fin_cases a <;> rfl
    · intro i hi
      have hd := (Finset.mem_filter.mp hi).2
      have h1 : i 1 = q := congrFun hd 0
      have h2 : i 2 = n := congrFun hd 1
      funext a
      fin_cases a
      · rfl
      · exact h1.symm
      · exact h2.symm
    · intro e _; rfl
    · intro i hi
      have hd := (Finset.mem_filter.mp hi).2
      have h1 : i 1 = q := congrFun hd 0
      have h2 : i 2 = n := congrFun hd 1
      obtain ⟨e, rfl⟩ : ∃ e : Fin 256, i = ix3 e q n := ⟨i 0, by
        funext a
        fin_cases a
        · rfl
        · exact h1
        · exact h2⟩
      rw [expo_apply]
      show _ = if expVal e.val ≤ w (ix2 q n) then 1 else 0
      split <;> rfl
  have hle := expoN_le (w (ix2 q n))
  have h := WordSum.toNat_multiReductionI_add (select (cmpf .ole (bitcastToFloat .f32 (shli (iota .tc S256x8x128 32 [0] iota_S256x8x128_d0_w32) (broadcast S256x8x128 23#32)))
    (broadcastTo S256x8x128 (shapeCast S1x8x128 w shapeCasts_S8x128_S1x8x128) broadcasts_S1x8x128_S256x8x128)) (broadcast S256x8x128 1#32) (broadcast S256x8x128 0#32)) reduces_S256x8x128_S8x128 rfl (ix2 q n) (by rw [key]; omega)
  rw [key] at h
  apply BitVec.eq_of_toNat_eq
  rw [BitVec.toNat_ofNat, Nat.mod_eq_of_lt (by omega)]
  exact h

theorem quarterBlock_apply (b : BitVec 32) (w : FVec Ideal S8x128 .f32) (q : Fin 8) (n : Fin 128) : quarterBlock b w (ix2 q n) = quarterW b (w (ix2 q n)) := by
  pointwise [quarterBlock, quarterW]
  rw [expoBlock_apply]

theorem firstBlock_apply (w0 w1 w2 w3 : FVec Ideal S8x128 .f32) (q : Fin 8) (n : Fin 128) : firstBlock w0 w1 w2 w3 (ix2 q n)
    = IntOp.minsi (IntOp.minsi (IntOp.minsi (IntOp.minsi 3072#32 (quarterW 0#32 (w0 (ix2 q n)))) (quarterW 64#32 (w1 (ix2 q n)))) (quarterW 128#32 (w2 (ix2 q n)))) (quarterW 192#32 (w3 (ix2 q n))) := by
  simp only [← quarterBlock_apply]
  rfl

/-- A lane by its repetition and its code. -/
def ln (a : Fin 4) (c : Fin 32) : Fin 128 := ⟨32 * a.val + c.val, by omega⟩

/-- The neighbour that the two rotations and the mask bring is the lane whose code differs in the bit. -/
def Nb (s s' : BitVec 32) (w : Fin 32) : Prop := ∀ (a : Fin 4) (c : Fin 32),
  (IntOp.cmpi .eq (IntOp.andi (BitVec.ofNat 32 (ln a c).val) s) 0#32 = 1#1 ∧ ((ln a c).val + 128 - s'.toNat % 128) % 128 = (ln a (xo c w)).val)
  ∨ (IntOp.cmpi .eq (IntOp.andi (BitVec.ofNat 32 (ln a c).val) s) 0#32 = 0#1 ∧ ((ln a c).val + 128 - s.toNat % 128) % 128 = (ln a (xo c w)).val)

theorem nb1 : Nb 1#32 127#32 1 := by unfold Nb; decide +kernel
theorem nb2 : Nb 2#32 126#32 2 := by unfold Nb; decide +kernel
theorem nb4 : Nb 4#32 124#32 4 := by unfold Nb; decide +kernel
theorem nb8 : Nb 8#32 120#32 8 := by unfold Nb; decide +kernel
theorem nb16 : Nb 16#32 112#32 16 := by unfold Nb; decide +kernel

theorem rotI_apply (s : BitVec 32) (b : IVec S8x128 32) (q : Fin 8) (l : Fin 128) :
    dynamicRotate 1 s none b rotates_S8x128_d1 (ix2 q l) = b (ix2 q ⟨(l.val + 128 - s.toNat % 128) % 128, Nat.mod_lt _ (by omega)⟩) := by
  show b _ = b _
  congr 1
  funext a
  fin_cases a <;> apply Fin.ext <;> simp [ix2, dynamicRotate]

theorem relaxBlock_apply (s s' : BitVec 32) (w : Fin 32) (h : Nb s s' w) (key : IVec S8x128 32) (q : Fin 8) (a : Fin 4) (K : Fin 32 → ℕ) (hb : ∀ c, K c ≤ 3072)
    (hk : ∀ c, key (ix2 q (ln a c)) = BitVec.ofNat 32 (K c)) (c : Fin 32) : relaxBlock lane0 s s' key (ix2 q (ln a c)) = BitVec.ofNat 32 (stepK w K c) := by
  have hc := hb c
  have hx := hb (xo c w)
  have e : Scalar.select (mk lane0 s (ix2 q (ln a c))) (dynamicRotate 1 s' none key rotates_S8x128_d1 (ix2 q (ln a c))) (dynamicRotate 1 s none key rotates_S8x128_d1 (ix2 q (ln a c))) = BitVec.ofNat 32 (K (xo c w)) := by
    rw [mk_apply, rotI_apply, rotI_apply]
    rcases h a c with ⟨h1, h2⟩ | ⟨h1, h2⟩
    · rw [h1]
      have : (⟨((ln a c).val + 128 - s'.toNat % 128) % 128, Nat.mod_lt _ (by omega)⟩ : Fin 128) = ln a (xo c w) := Fin.ext h2
      rw [this, hk]
      rfl
    · rw [h1]
      have : (⟨((ln a c).val + 128 - s.toNat % 128) % 128, Nat.mod_lt _ (by omega)⟩ : Fin 128) = ln a (xo c w) := Fin.ext h2
      rw [this, hk]
      rfl
  show IntOp.minsi (key (ix2 q (ln a c))) (IntOp.addi (Scalar.select (mk lane0 s (ix2 q (ln a c))) (dynamicRotate 1 s' none key rotates_S8x128_d1 (ix2 q (ln a c))) (dynamicRotate 1 s none key rotates_S8x128_d1 (ix2 q (ln a c)))) 512#32) = _
  rw [e, hk]
  have e2 : IntOp.addi (BitVec.ofNat 32 (K (xo c w))) 512#32 = BitVec.ofNat 32 (K (xo c w) + 512) := (BitVec.ofNat_add _ _).symm
  rw [e2, minW _ _ (by omega) (by omega)]
  rfl

theorem hyperBlock_apply (key : IVec S8x128 32) (q : Fin 8) (a : Fin 4) (K : Fin 32 → ℕ) (hb : ∀ c, K c ≤ 3072)
    (hk : ∀ c, key (ix2 q (ln a c)) = BitVec.ofNat 32 (K c)) (c : Fin 32) : hyperBlock lane0 key (ix2 q (ln a c)) = BitVec.ofNat 32 (hyperK K c) := by
  have b1 := stepK_le 1 hb
  have b2 := stepK_le 2 b1
  have b3 := stepK_le 4 b2
  have b4 := stepK_le 8 b3
  exact relaxBlock_apply _ _ 16 nb16 _ q a _ b4 (relaxBlock_apply _ _ 8 nb8 _ q a _ b3 (relaxBlock_apply _ _ 4 nb4 _ q a _ b2 (relaxBlock_apply _ _ 2 nb2 _ q a _ b1 (relaxBlock_apply _ _ 1 nb1 key q a K hb hk)))) c

theorem tokW (k : ℕ) (h : k ≤ 3072) : IntOp.andi (Scalar.select (IntOp.cmpi .sge (BitVec.ofNat 32 k) 3072#32) 0#32 (BitVec.ofNat 32 k)) 511#32 = BitVec.ofNat 32 (tokN k) := by
  have : ∀ k : Fin 3073, IntOp.andi (Scalar.select (IntOp.cmpi .sge (BitVec.ofNat 32 k.val) 3072#32) 0#32 (BitVec.ofNat 32 k.val)) 511#32 = BitVec.ofNat 32 (tokN k.val) := by decide +kernel
  exact this ⟨k, by omega⟩

/-- The stored tokens: where the loaded sums are the sums of weights over the members of `act`. -/
theorem tsBlock_apply (w0 w1 w2 w3 : Vec Ideal S1x1x8x128 .f32) (q : Fin 8) (a : Fin 4) (act : Fin 32 → Fin 256 → Prop) (h0 : ∀ c, w0 (ix4 0 0 q (ln a c)) = ((wsum (act c) 0 : ℝ) : EReal))
    (h1 : ∀ c, w1 (ix4 0 0 q (ln a c)) = ((wsum (act c) 1 : ℝ) : EReal)) (h2 : ∀ c, w2 (ix4 0 0 q (ln a c)) = ((wsum (act c) 2 : ℝ) : EReal)) (h3 : ∀ c, w3 (ix4 0 0 q (ln a c)) = ((wsum (act c) 3 : ℝ) : EReal))
    (K : Fin 32 → ℕ) (hK : ∀ c, IsFst (act c) (K c)) (c : Fin 32) : tsBlock lane0 w0 w1 w2 w3 (ix3 0 q (ln a c)) = BitVec.ofNat 32 (tokN (hyperK K c)) := by
  have hb : ∀ c, K c ≤ 3072 := fun c => by rcases (hK c).le with h | h <;> omega
  have hh := hyperBlock_apply (firstBlock (cast4 w0) (cast4 w1) (cast4 w2) (cast4 w3)) q a K hb (fun c => by
    rw [firstBlock_apply, cast4_apply, cast4_apply, cast4_apply, cast4_apply, h0, h1, h2, h3]
    obtain ⟨v, e, hv⟩ := first4 (act c)
    rw [e, hv.unique (hK c)]) c
  pointwise [tsBlock, tokBlock]
  rw [hh]
  exact tokW _ (((hyperK_spec K c).1 c).trans (by
    have : ∀ c, pop (xo c c) = 0 := by decide +kernel
    rw [this]; have := hb c; omega))
end Cert.KernelIdeal.Gen
end
-- ==== Proof.Value.MidRead.lean ====
/- The arrays of tokens and reciprocals that the middle section leaves, read at an index. -/
module
public import proofs.«01_k».proof.Proof.Value.Mid
@[expose] public section
set_option maxRecDepth 8192
set_option maxHeartbeats 400000
noncomputable section
namespace Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- The rectangle of one half of the documents of one group in the sums of weights. -/
def ldW (arg14 : Memref sig .tc .vmem S5x5x16x128 .f32) (X : BufTy.Contents (Elt Ideal) arg14.view.ty) (q : Fin 5) (g : Fin 5) (h : Fin 2) : Vec Ideal S1x1x8x128 .f32 :=
  arg14.view.readAt (Elt Ideal) (Rect.unit (s := S5x5x16x128) ![q.val, g.val, 8 * h.val, 0] S1x1x8x128.size (by
    intro a
    obtain ⟨q, hq⟩ := q
    obtain ⟨g, hg⟩ := g
    obtain ⟨h, hh⟩ := h
    fin_cases a <;> simp [S1x1x8x128, S5x5x16x128] <;> omega)).toLoadRect X

theorem ldW_apply (arg14 : Memref sig .tc .vmem S5x5x16x128 .f32) (X : BufTy.Contents (Elt Ideal) arg14.view.ty) (q : Fin 5) (g : Fin 5) (h : Fin 2) (j : Fin 8) (n : Fin 128) :
    ldW arg14 X q g h (ix4 0 0 j n) = arg14.view.read (Elt Ideal) X (ix4 q g ⟨8 * h.val + j.val, by omega⟩ n) := by
  refine readAt_unit arg14.view X _ _ _ rfl ?_
  intro a
  fin_cases a
  · show q.val = q.val + 0
    omega
  · show g.val = g.val + 0
    omega
  · rfl
  · show n.val = 0 + n.val
    omega

def tRect (g : Fin 5) (h : Fin 2) : Rect S5x16x128 :=
  Rect.unit (s := S5x16x128) ![g.val, 8 * h.val, 0] S1x8x128.size (by
    intro a
    obtain ⟨g, hg⟩ := g
    obtain ⟨h, hh⟩ := h
    fin_cases a <;> simp [S1x8x128, S5x16x128] <;> omega)

theorem tRect_emb (g : Fin 5) (h : Fin 2) (j : Fin 8) (n : Fin 128) : (tRect g h).emb (ix3 (0 : Fin 1) j n) = ix3 g (⟨8 * h.val + j.val, by omega⟩ : Fin 16) n := by
  funext a
  fin_cases a <;> apply Fin.ext
  · show g.val + 1 * 0 = g.val
    omega
  · show 8 * h.val + 1 * j.val = 8 * h.val + j.val
    omega
  · show 0 + 1 * n.val = n.val
    omega

theorem tRect_mem (y : S5x16x128.Idx) : y ∈ (tRect (y 0) ⟨(y 1).val / 8, by have : (y 1).val < 16 := (y 1).isLt; omega⟩).set := by
  rw [LoadRect.mem_set]
  intro a
  fin_cases a
  · exact ⟨0, by show 0 < 1; omega, by show (y 0).val = (y 0).val + 1 * 0; omega⟩
  · exact ⟨(y 1).val % 8, by show _ < 8; omega, by show (y 1).val = 8 * ((y 1).val / 8) + 1 * _; omega⟩
  · exact ⟨(y 2).val, (y 2).isLt, by show (y 2).val = 0 + 1 * _; omega⟩

/-- The stored blocks of tokens, the last first. -/
def tPieces (v1 : IVec S8x128 32) (arg14 : Memref sig .tc .vmem S5x5x16x128 .f32) (X : BufTy.Contents (Elt Ideal) arg14.view.ty) : List (View.Piece (Elt Ideal) S5x16x128 .i32) :=
  ([1, 0] : List (Fin 2)).flatMap fun h => ([4, 3, 2, 1, 0] : List (Fin 5)).map fun g => ⟨tRect g h, tsBlock v1 (ldW arg14 X 1 g h) (ldW arg14 X 2 g h) (ldW arg14 X 3 g h) (ldW arg14 X 4 g h)⟩

/-- The stored blocks of reciprocals, the last first. -/
def rPieces (arg14 : Memref sig .tc .vmem S5x5x16x128 .f32) (X : BufTy.Contents (Elt Ideal) arg14.view.ty) : List (View.Piece (Elt Ideal) S5x16x128 .f32) :=
  ([1, 0] : List (Fin 2)).flatMap fun h => ([4, 3, 2, 1, 0] : List (Fin 5)).map fun g => ⟨tRect g h, recBlock (ldW arg14 X 0 g h)⟩

/-- The token of a segment from the first members of its repetition's segments. -/
def tokOf (K : Fin 5 → Fin 16 → Fin 128 → ℕ) (g : Fin 5) (d : Fin 16) (n : Fin 128) : ℕ :=
  tokN (hyperK (fun c => K g d (ln ⟨n.val / 32, by omega⟩ c)) ⟨n.val % 32, by omega⟩)

theorem ln_divMod (n : Fin 128) : ln ⟨n.val / 32, by omega⟩ ⟨n.val % 32, by omega⟩ = n := by
  apply Fin.ext
  show 32 * (n.val / 32) + n.val % 32 = n.val
  omega

theorem ts_read (arg15 : Memref sig .tc .vmem S5x16x128 .i32) (f : BufTy.Contents (Elt Ideal) arg15.view.ty) (arg14 : Memref sig .tc .vmem S5x5x16x128 .f32) (X : BufTy.Contents (Elt Ideal) arg14.view.ty)
    (act : Fin 5 → Fin 16 → Fin 128 → Fin 256 → Prop) (h : ∀ (k : Fin 4) (g : Fin 5) (d : Fin 16) (n : Fin 128), arg14.view.read (Elt Ideal) X (ix4 (⟨k.val + 1, by omega⟩ : Fin 5) g d n) = ((wsum (act g d n) k.val : ℝ) : EReal))
    (K : Fin 5 → Fin 16 → Fin 128 → ℕ) (hK : ∀ g d n, IsFst (act g d n) (K g d n)) (g : Fin 5) (d : Fin 16) (n : Fin 128) :
    arg15.view.read (Elt Ideal) (arg15.view.writes (Elt Ideal) f (tPieces lane0 arg14 X)) (ix3 g d n) = BitVec.ofNat 32 (tokOf K g d n) := by
  refine View.read_writes_apply_of_pieces arg15.view f (fun y : S5x16x128.Idx => BitVec.ofNat 32 (tokOf K (y 0) (y 1) (y 2))) (tPieces lane0 arg14 X) ?_ _ ?_
  · intro p hp x
    obtain ⟨h', -, hp⟩ := List.mem_flatMap.mp hp
    obtain ⟨g', -, rfl⟩ := List.mem_map.mp hp
    obtain ⟨j, n', rfl⟩ : ∃ (j : Fin 8) (n : Fin 128), x = ix3 (0 : Fin 1) j n := ⟨x 1, x 2, by funext a; fin_cases a <;> first | rfl | (apply Subsingleton.elim (α := Fin 1))⟩
    dsimp only
    rw [tRect_emb]
    have e := tsBlock_apply (ldW arg14 X 1 g' h') (ldW arg14 X 2 g' h') (ldW arg14 X 3 g' h') (ldW arg14 X 4 g' h') j ⟨n'.val / 32, by omega⟩
      (fun c => act g' ⟨8 * h'.val + j.val, by omega⟩ (ln ⟨n'.val / 32, by omega⟩ c)) (fun c => (ldW_apply _ _ _ _ _ _ _).trans (h 0 _ _ _)) (fun c => (ldW_apply _ _ _ _ _ _ _).trans (h 1 _ _ _))
      (fun c => (ldW_apply _ _ _ _ _ _ _).trans (h 2 _ _ _)) (fun c => (ldW_apply _ _ _ _ _ _ _).trans (h 3 _ _ _)) (fun c => K g' ⟨8 * h'.val + j.val, by omega⟩ (ln ⟨n'.val / 32, by omega⟩ c)) (fun c => hK _ _ _) ⟨n'.val % 32, by omega⟩
    rw [ln_divMod] at e
    exact e
  · refine ⟨_, List.mem_flatMap.mpr ⟨⟨d.val / 8, by omega⟩, ?_, List.mem_map.mpr ⟨g, by revert g; decide, rfl⟩⟩, tRect_mem (ix3 g d n)⟩
    have hm : ∀ h : Fin 2, h ∈ ([1, 0] : List (Fin 2)) := by decide
    exact hm _

theorem rec_read (arg16 : Memref sig .tc .vmem S5x16x128 .f32) (f : BufTy.Contents (Elt Ideal) arg16.view.ty) (arg14 : Memref sig .tc .vmem S5x5x16x128 .f32) (X : BufTy.Contents (Elt Ideal) arg14.view.ty)
    (g : Fin 5) (d : Fin 16) (n : Fin 128) :
    arg16.view.read (Elt Ideal) (arg16.view.writes (Elt Ideal) f (rPieces arg14 X)) (ix3 g d n) = recW (arg14.view.read (Elt Ideal) X (ix4 (0 : Fin 5) g d n)) := by
  refine View.read_writes_apply_of_pieces arg16.view f (fun y : S5x16x128.Idx => recW (arg14.view.read (Elt Ideal) X (ix4 (0 : Fin 5) (y 0 : Fin 5) (y 1 : Fin 16) (y 2 : Fin 128)))) (rPieces arg14 X) ?_ _ ?_
  · intro p hp x
    obtain ⟨h', -, hp⟩ := List.mem_flatMap.mp hp
    obtain ⟨g', -, rfl⟩ := List.mem_map.mp hp
    obtain ⟨j, n', rfl⟩ : ∃ (j : Fin 8) (n : Fin 128), x = ix3 (0 : Fin 1) j n := ⟨x 1, x 2, by funext a; fin_cases a <;> first | rfl | (apply Subsingleton.elim (α := Fin 1))⟩
    dsimp only
    rw [tRect_emb]
    refine (recBlock_apply _ _ _).trans ?_
    rw [ldW_apply]
    rfl
  · refine ⟨_, List.mem_flatMap.mpr ⟨⟨d.val / 8, by omega⟩, ?_, List.mem_map.mpr ⟨g, by revert g; decide, rfl⟩⟩, tRect_mem (ix3 g d n)⟩
    have hm : ∀ h : Fin 2, h ∈ ([1, 0] : List (Fin 2)) := by decide
    exact hm _
end Cert.KernelIdeal.Gen
end
-- ==== Proof.Value.Prologue.lean ====
/- The words of the valid tokens: what the first twenty stores leave, read at an index. -/
module
public import proofs.«01_k».proof.Proof.Value.Sums
@[expose] public section
set_option maxRecDepth 8192
set_option maxHeartbeats 400000
noncomputable section
namespace Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- The word of a token: the bit of its code where the token is one of the document's, none where it is not. -/
def wordM (len c : BitVec 32) (t : ℕ) : BitVec 32 :=
  Scalar.select (IntOp.cmpi .slt (BitVec.ofNat 32 t) len) (IntOp.shli .vector 1#32 (IntOp.ori (IntOp.shrui .vector c 2#32) (IntOp.shli .vector (IntOp.andi c 3#32) 3#32))) 0#32

theorem mBlock_apply (lenv : Vec Ideal S16x1 .i32) (w : Vec Ideal S1x16x256 .i32) (d : Fin 16) (t : Fin 256) :
    k0_pay258 lenv w (ix3 0 d t) = wordM (lenv (ix2 d 0)) (w (ix3 0 d t)) t.val := by
  pointwise [k0_pay258, k0_pay257, wordM]

/-- One stored block of words: repetition `r`. -/
def mPiece (arg4 : Memref sig .tc .vmem S16x1 .i32) (X4 : BufTy.Contents (Elt Ideal) arg4.view.ty) (arg5 : Memref sig .tc .vmem S20x16x256 .i32) (X5 : BufTy.Contents (Elt Ideal) arg5.view.ty) (r : Fin 20) :
    View.Piece (Elt Ideal) S20x16x256 .i32 :=
  ⟨Rect.unit (s := S20x16x256) ![r.val, 0, 0] S1x16x256.size (by
    intro a
    obtain ⟨r, hr⟩ := r
    fin_cases a <;> simp [S1x16x256, S20x16x256] <;> omega),
   k0_pay258 (arg4.view.readAt (Elt Ideal) (Rect.unit (s := S16x1) ![0, 0] S16x1.size inb_S16x1_S16x1_0_0).toLoadRect X4)
    (arg5.view.readAt (Elt Ideal) (Rect.unit (s := S20x16x256) ![r.val, 0, 0] S1x16x256.size (by
    intro a
    obtain ⟨r, hr⟩ := r
    fin_cases a <;> simp [S1x16x256, S20x16x256] <;> omega)).toLoadRect X5)⟩

/-- The twenty stored blocks, the last first. -/
def mPieces (arg4 : Memref sig .tc .vmem S16x1 .i32) (X4 : BufTy.Contents (Elt Ideal) arg4.view.ty) (arg5 : Memref sig .tc .vmem S20x16x256 .i32) (X5 : BufTy.Contents (Elt Ideal) arg5.view.ty) : List (View.Piece (Elt Ideal) S20x16x256 .i32) :=
  ([19, 18, 17, 16, 15, 14, 13, 12, 11, 10, 9, 8, 7, 6, 5, 4, 3, 2, 1, 0] : List (Fin 20)).map fun r => mPiece arg4 X4 arg5 X5 r

/-- The words at an index. -/
def mWords (len : S16x1.Idx → BitVec 32) (codes : S20x16x256.Idx → BitVec 32) (y : S20x16x256.Idx) : BitVec 32 :=
  wordM (len (ix2 (y 1) 0)) (codes y) (y 2).val

theorem mPiece_apply (arg4 : Memref sig .tc .vmem S16x1 .i32) (X4 : BufTy.Contents (Elt Ideal) arg4.view.ty) (arg5 : Memref sig .tc .vmem S20x16x256 .i32) (X5 : BufTy.Contents (Elt Ideal) arg5.view.ty) (r : Fin 20) (x : (mPiece arg4 X4 arg5 X5 r).1.shape.Idx) :
    (mPiece arg4 X4 arg5 X5 r).2 x = mWords (arg4.view.read (Elt Ideal) X4) (arg5.view.read (Elt Ideal) X5) ((mPiece arg4 X4 arg5 X5 r).1.emb x) := by
  obtain ⟨d, t, rfl⟩ : ∃ (d : Fin 16) (t : Fin 256), x = ix3 (0 : Fin 1) d t := ⟨x 1, x 2, by funext a; fin_cases a <;> first | rfl | (apply Subsingleton.elim (α := Fin 1))⟩
  refine (mBlock_apply _ _ d t).trans ?_
  have e : ((mPiece arg4 X4 arg5 X5 r).1.emb (ix3 (0 : Fin 1) d t)) = ix3 r d t := by
    funext a
    fin_cases a <;> apply Fin.ext
    · show r.val + 1 * 0 = r.val
      omega
    · show 0 + 1 * d.val = d.val
      omega
    · show 0 + 1 * t.val = t.val
      omega
  rw [e]
  unfold mWords
  congr 1
  · refine readAt_unit arg4.view X4 _ _ _ rfl ?_
    intro a
    fin_cases a
    · show d.val = 0 + d.val
      omega
    · rfl
  · refine readAt_unit arg5.view X5 _ _ _ rfl ?_
    intro a
    fin_cases a
    · show r.val = r.val + 0
      omega
    · show d.val = 0 + d.val
      omega
    · show t.val = 0 + t.val
      omega

/-- What the twenty stores leave, whatever the array held before. -/
theorem m_read (arg11 : Memref sig .tc .vmem S20x16x256 .i32) (f : BufTy.Contents (Elt Ideal) arg11.view.ty) (arg4 : Memref sig .tc .vmem S16x1 .i32) (X4 : BufTy.Contents (Elt Ideal) arg4.view.ty) (arg5 : Memref sig .tc .vmem S20x16x256 .i32) (X5 : BufTy.Contents (Elt Ideal) arg5.view.ty) :
    arg11.view.read (Elt Ideal) (arg11.view.writes (Elt Ideal) f (mPieces arg4 X4 arg5 X5)) = mWords (arg4.view.read (Elt Ideal) X4) (arg5.view.read (Elt Ideal) X5) := by
  funext y
  refine View.read_writes_apply_of_pieces arg11.view f (mWords (arg4.view.read (Elt Ideal) X4) (arg5.view.read (Elt Ideal) X5)) (mPieces arg4 X4 arg5 X5) ?_ y ?_
  · intro p hp x
    obtain ⟨r, -, rfl⟩ := List.mem_map.mp hp
    exact mPiece_apply arg4 X4 arg5 X5 r x
  · have hm : ∀ r : Fin 20, r ∈ ([19, 18, 17, 16, 15, 14, 13, 12, 11, 10, 9, 8, 7, 6, 5, 4, 3, 2, 1, 0] : List (Fin 20)) := by decide
    refine ⟨mPiece arg4 X4 arg5 X5 (y 0), List.mem_map.mpr ⟨y 0, hm _, rfl⟩, ?_⟩
    rw [LoadRect.mem_set]
    intro a
    fin_cases a
    · exact ⟨0, by show 0 < 1; omega, by show (y 0).val = (y 0).val + 1 * 0; omega⟩
    · exact ⟨(y 1).val, (y 1).isLt, by show (y 1).val = 0 + 1 * _; omega⟩
    · exact ⟨(y 2).val, (y 2).isLt, by show (y 2).val = 0 + 1 * _; omega⟩

theorem bitOf (c n : Fin 32) : (IntOp.shli .vector 1#32 (IntOp.ori (IntOp.shrui .vector (BitVec.ofNat 32 c.val) 2#32) (IntOp.shli .vector (IntOp.andi (BitVec.ofNat 32 c.val) 3#32) 3#32))).getLsbD (8 * (n.val % 4) + n.val / 4) = decide (c = n) := by
  revert c n; decide +kernel

/-- The one-hot entry of a token: row `n` holds the unit where the token is the document's and its code is `n`. -/
theorem ohv_wordM (len c : BitVec 32) (t n : ℕ) (hc : c.toNat < 32) (hn : n < 32) :
    ohv (wordM len c t) n = if IntOp.cmpi .slt (BitVec.ofNat 32 t) len = 1#1 ∧ c.toNat = n then (((2 : ℝ) ^ (-9 : Int) : ℝ) : EReal) else 0 := by
  have h := bitOf ⟨c.toNat, hc⟩ ⟨n, hn⟩
  simp only [BitVec.ofNat_toNat, BitVec.setWidth_eq] at h
  unfold ohv wordM Scalar.select
  by_cases hv : IntOp.cmpi .slt (BitVec.ofNat 32 t) len = 1#1
  · simp [hv, h]
  · have hb : ∀ b : BitVec 1, b ≠ 1#1 → b = 0#1 := by decide
    rw [hb _ hv]
    simp
end Cert.KernelIdeal.Gen
end
-- ==== Proof.Value.Loop2.lean ====
/- One trip of the second loop, and the loop: it turns sums into the results' entries. -/
module
public import proofs.«01_k».proof.Proof.Value.Fin
@[expose] public section
set_option maxRecDepth 8192
set_option maxHeartbeats 4000000
noncomputable section
namespace Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- Before trip `k` the documents before `k` hold their results `R`, the others their sums `s`. -/
def J13 (R : Fin 5 → Fin 16 → Fin 8 → Fin 128 → EReal) (s : S5x128x128.Idx → EReal) (k : ℕ) (f : S5x128x128.Idx → EReal) : Prop :=
  ∀ (g : Fin 5) (d : Fin 16) (p : Fin 8) (n : Fin 128), f (ix3 g ⟨8 * d.val + p.val, by omega⟩ n) = if d.val < k then R g d p n else s (ix3 g ⟨8 * d.val + p.val, by omega⟩ n)

/-- The trip of document `k` turns its sums into its results. -/
theorem trip2 (𝒱 : Variants) (c : Dev nD) (bd : Option 𝒱.V) (i : grid0.Coords) (arg1 : Memref sig .tc .smem S2000 .i32) (harg1 : arg1.IsWhole) (arg2 : Memref sig .tc .vmem S16x256x128 .fp8e4m3) (harg2 : arg2.IsWhole) (arg3 : Memref sig .tc .vmem S16x4x256 .f32) (harg3 : arg3.IsWhole) (arg4 : Memref sig .tc .vmem S16x1 .i32) (harg4 : arg4.IsWhole) (arg5 : Memref sig .tc .vmem S20x16x256 .i32) (harg5 : arg5.IsWhole) (arg6 : Memref sig .tc .vmem S160x128 .fp8e4m3) (harg6 : arg6.IsWhole) (arg7 : Memref sig .tc .vmem S16x256 .bf16) (harg7 : arg7.IsWhole) (arg8 : Memref sig .tc .vmem S16x5120 .bf16) (harg8 : arg8.IsWhole) (arg9 : Memref sig .tc .vmem S640x128 .i32) (harg9 : arg9.IsWhole) (arg10 : Memref sig .tc .vmem S640x128 .i32) (harg10 : arg10.IsWhole) (arg11 : Memref sig .tc .vmem S20x16x256 .i32) (harg11 : arg11.IsWhole) (arg12 : Memref sig .tc .vmem S16x160x256 .f32) (harg12 : arg12.IsWhole) (arg13 : Memref sig .tc .vmem S5x128x128 .f32) (harg13 : arg13.IsWhole) (arg14 : Memref sig .tc .vmem S5x5x16x128 .f32) (harg14 : arg14.IsWhole) (arg15 : Memref sig .tc .vmem S5x16x128 .i32) (harg15 : arg15.IsWhole) (arg16 : Memref sig .tc .vmem S5x16x128 .f32) (harg16 : arg16.IsWhole) (arg17 : Memref sig .tc .vmem S5x128x128 .i32) (harg17 : arg17.IsWhole) (arg18 : Memref sig .tc .vmem S5x128x128 .i32) (harg18 : arg18.IsWhole) (v342 : BitVec 32) (v2054 : FVec Ideal S8x128 .f32) (v2209 : IVec S8x128 32) (v2211 : IVec S8x128 1) (c0_i32_1227 : BitVec 32) (X_arg12 : BufTy.Contents (Elt Ideal) arg12.view.ty) (X_arg15 : BufTy.Contents (Elt Ideal) arg15.view.ty) (X_arg16 : BufTy.Contents (Elt Ideal) arg16.view.ty) (s : S5x128x128.Idx → EReal)
    (hts : ∀ g d n, ((arg15.view.read (Elt Ideal) X_arg15) (ix3 g d n)).toNat < 256)
    (k : Fin k0_t2_loop.trips) (E : Set ℕ) (f_arg13 : BufTy.Contents (Elt Ideal) arg13.view.ty)
    (h13 : J13 (FINv (arg12.view.read (Elt Ideal) X_arg12) (arg15.view.read (Elt Ideal) X_arg15) (arg16.view.read (Elt Ideal) X_arg16) s) s k.val (arg13.view.read (Elt Ideal) f_arg13)) :
    Trip_k0_t2 (F := Ideal) c arg12 arg15 arg16 arg13 X_arg12 X_arg15 X_arg16 f_arg13
      ⊢ wp frame (wpE (defs₀ (F := Ideal)) 𝒱 (c : Thread nD τ) bd) E (k0_t2_body (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 lane0 v342 v2054 v2209 v2211 c0_i32_1227 k PUnit.unit)
          (fun _ => iprop((arg12.view.loc (c : Thread nD τ) ↦[arg12.view.set]{fullShare} X_arg12) ∗ (arg15.view.loc (c : Thread nD τ) ↦[arg15.view.set]{fullShare} X_arg15) ∗ (arg16.view.loc (c : Thread nD τ) ↦[arg16.view.set]{fullShare} X_arg16) ∗ (∃ f, (arg13.view.loc (c : Thread nD τ) ↦[arg13.view.set]{fullShare} f) ∗ ⌜J13 (FINv (arg12.view.read (Elt Ideal) X_arg12) (arg15.view.read (Elt Ideal) X_arg15) (arg16.view.read (Elt Ideal) X_arg16) s) s (k.val + 1) (arg13.view.read (Elt Ideal) f)⌝))) := by
  have hk : k.val < 16 := Nat.lt_of_lt_of_le k.isLt k0_t2_abs.2.1
  unfold k0_t2_body
  iintro ⟨HR_arg12, HR_arg15, HR_arg16, HW_arg13⟩
  sl_exec
  sl_step
  isplitl [HR_arg12]; · iexact HR_arg12
  isplitl [HR_arg15]; · iexact HR_arg15
  isplitl [HR_arg16]; · iexact HR_arg16
  iexists _; isplitl [HW_arg13]; · iexact HW_arg13
  ipureintro
  have hsum : ∀ (g : Fin 5) (p : Fin 8) (n : Fin 128), (arg13.view.read (Elt Ideal) f_arg13) (ix3 g ⟨8 * k.val + p.val, by omega⟩ n) = s (ix3 g ⟨8 * k.val + p.val, by omega⟩ n) := by
    intro g p n
    exact (h13 g ⟨k.val, hk⟩ p n).trans (if_neg (Nat.lt_irrefl _))
  have ht0 : ∀ n : Fin 128, arg15.view.readAt (Elt Ideal) (Rect.unit (s := S5x16x128) (k0_off59 k) S1x1x128.size (k0_off59_inb k)).toLoadRect X_arg15 (ix3 0 0 n) = arg15.view.read (Elt Ideal) X_arg15 (ix3 0 ⟨k.val, hk⟩ n) := by
    intro n; exact readAt_unit arg15.view X_arg15 _ _ (ix3 0 ⟨k.val, hk⟩ n) (k0_off59_eq k) (fun a => by fin_cases a <;> simp)
  have hr0 : ∀ n : Fin 128, arg16.view.readAt (Elt Ideal) (Rect.unit (s := S5x16x128) (k0_off59 k) S1x1x128.size (k0_off59_inb k)).toLoadRect X_arg16 (ix3 0 0 n) = arg16.view.read (Elt Ideal) X_arg16 (ix3 0 ⟨k.val, hk⟩ n) := by
    intro n; exact readAt_unit arg16.view X_arg16 _ _ (ix3 0 ⟨k.val, hk⟩ n) (k0_off59_eq k) (fun a => by fin_cases a <;> simp)
  have hs0 : ∀ (p : Fin 8) (n : Fin 128), arg13.view.readAt (Elt Ideal) (Rect.unit (s := S5x128x128) (k0_off68 k) S1x8x128.size (k0_off68_inb k)).toLoadRect f_arg13 (ix3 0 p n) = s (ix3 0 ⟨8 * k.val + p.val, by omega⟩ n) := by
    intro p n; rw [← hsum]; exact readAt_unit arg13.view f_arg13 _ _ (ix3 0 ⟨8 * k.val + p.val, by omega⟩ n) (k0_off68_eq k) (fun a => by fin_cases a <;> simp)
  have hp0_0 : ∀ (p : Fin 8) (l : Fin 128), arg12.view.readAt (Elt Ideal) (Rect.unit (s := S16x160x256) (k0_off60 k) S1x8x128.size (k0_off60_inb k)).toLoadRect X_arg12 (ix3 0 p l) = arg12.view.read (Elt Ideal) X_arg12 (ix3 ⟨k.val, hk⟩ ⟨0 + p.val, by omega⟩ ⟨l.val, by omega⟩) := by
    intro p l; exact readAt_unit arg12.view X_arg12 _ _ (ix3 ⟨k.val, hk⟩ ⟨0 + p.val, by omega⟩ ⟨l.val, by omega⟩) (k0_off60_eq k) (fun a => by fin_cases a <;> simp)
  have hp0_1 : ∀ (p : Fin 8) (l : Fin 128), arg12.view.readAt (Elt Ideal) (Rect.unit (s := S16x160x256) (k0_off61 k) S1x8x128.size (k0_off61_inb k)).toLoadRect X_arg12 (ix3 0 p l) = arg12.view.read (Elt Ideal) X_arg12 (ix3 ⟨k.val, hk⟩ ⟨8 + p.val, by omega⟩ ⟨l.val, by omega⟩) := by
    intro p l; exact readAt_unit arg12.view X_arg12 _ _ (ix3 ⟨k.val, hk⟩ ⟨8 + p.val, by omega⟩ ⟨l.val, by omega⟩) (k0_off61_eq k) (fun a => by fin_cases a <;> simp)
  have hp0_2 : ∀ (p : Fin 8) (l : Fin 128), arg12.view.readAt (Elt Ideal) (Rect.unit (s := S16x160x256) (k0_off62 k) S1x8x128.size (k0_off62_inb k)).toLoadRect X_arg12 (ix3 0 p l) = arg12.view.read (Elt Ideal) X_arg12 (ix3 ⟨k.val, hk⟩ ⟨16 + p.val, by omega⟩ ⟨l.val, by omega⟩) := by
    intro p l; exact readAt_unit arg12.view X_arg12 _ _ (ix3 ⟨k.val, hk⟩ ⟨16 + p.val, by omega⟩ ⟨l.val, by omega⟩) (k0_off62_eq k) (fun a => by fin_cases a <;> simp)
  have hp0_3 : ∀ (p : Fin 8) (l : Fin 128), arg12.view.readAt (Elt Ideal) (Rect.unit (s := S16x160x256) (k0_off63 k) S1x8x128.size (k0_off63_inb k)).toLoadRect X_arg12 (ix3 0 p l) = arg12.view.read (Elt Ideal) X_arg12 (ix3 ⟨k.val, hk⟩ ⟨24 + p.val, by omega⟩ ⟨l.val, by omega⟩) := by
    intro p l; exact readAt_unit arg12.view X_arg12 _ _ (ix3 ⟨k.val, hk⟩ ⟨24 + p.val, by omega⟩ ⟨l.val, by omega⟩) (k0_off63_eq k) (fun a => by fin_cases a <;> simp)
  have hp0_4 : ∀ (p : Fin 8) (l : Fin 128), arg12.view.readAt (Elt Ideal) (Rect.unit (s := S16x160x256) (k0_off64 k) S1x8x128.size (k0_off64_inb k)).toLoadRect X_arg12 (ix3 0 p l) = arg12.view.read (Elt Ideal) X_arg12 (ix3 ⟨k.val, hk⟩ ⟨0 + p.val, by omega⟩ ⟨128 + l.val, by omega⟩) := by
    intro p l; exact readAt_unit arg12.view X_arg12 _ _ (ix3 ⟨k.val, hk⟩ ⟨0 + p.val, by omega⟩ ⟨128 + l.val, by omega⟩) (k0_off64_eq k) (fun a => by fin_cases a <;> simp)
  have hp0_5 : ∀ (p : Fin 8) (l : Fin 128), arg12.view.readAt (Elt Ideal) (Rect.unit (s := S16x160x256) (k0_off65 k) S1x8x128.size (k0_off65_inb k)).toLoadRect X_arg12 (ix3 0 p l) = arg12.view.read (Elt Ideal) X_arg12 (ix3 ⟨k.val, hk⟩ ⟨8 + p.val, by omega⟩ ⟨128 + l.val, by omega⟩) := by
    intro p l; exact readAt_unit arg12.view X_arg12 _ _ (ix3 ⟨k.val, hk⟩ ⟨8 + p.val, by omega⟩ ⟨128 + l.val, by omega⟩) (k0_off65_eq k) (fun a => by fin_cases a <;> simp)
  have hp0_6 : ∀ (p : Fin 8) (l : Fin 128), arg12.view.readAt (Elt Ideal) (Rect.unit (s := S16x160x256) (k0_off66 k) S1x8x128.size (k0_off66_inb k)).toLoadRect X_arg12 (ix3 0 p l) = arg12.view.read (Elt Ideal) X_arg12 (ix3 ⟨k.val, hk⟩ ⟨16 + p.val, by omega⟩ ⟨128 + l.val, by omega⟩) := by
    intro p l; exact readAt_unit arg12.view X_arg12 _ _ (ix3 ⟨k.val, hk⟩ ⟨16 + p.val, by omega⟩ ⟨128 + l.val, by omega⟩) (k0_off66_eq k) (fun a => by fin_cases a <;> simp)
  have hp0_7 : ∀ (p : Fin 8) (l : Fin 128), arg12.view.readAt (Elt Ideal) (Rect.unit (s := S16x160x256) (k0_off67 k) S1x8x128.size (k0_off67_inb k)).toLoadRect X_arg12 (ix3 0 p l) = arg12.view.read (Elt Ideal) X_arg12 (ix3 ⟨k.val, hk⟩ ⟨24 + p.val, by omega⟩ ⟨128 + l.val, by omega⟩) := by
    intro p l; exact readAt_unit arg12.view X_arg12 _ _ (ix3 ⟨k.val, hk⟩ ⟨24 + p.val, by omega⟩ ⟨128 + l.val, by omega⟩) (k0_off67_eq k) (fun a => by fin_cases a <;> simp)
  have ht1 : ∀ n : Fin 128, arg15.view.readAt (Elt Ideal) (Rect.unit (s := S5x16x128) (k0_off69 k) S1x1x128.size (k0_off69_inb k)).toLoadRect X_arg15 (ix3 0 0 n) = arg15.view.read (Elt Ideal) X_arg15 (ix3 1 ⟨k.val, hk⟩ n) := by
    intro n; exact readAt_unit arg15.view X_arg15 _ _ (ix3 1 ⟨k.val, hk⟩ n) (k0_off69_eq k) (fun a => by fin_cases a <;> simp)
  have hr1 : ∀ n : Fin 128, arg16.view.readAt (Elt Ideal) (Rect.unit (s := S5x16x128) (k0_off69 k) S1x1x128.size (k0_off69_inb k)).toLoadRect X_arg16 (ix3 0 0 n) = arg16.view.read (Elt Ideal) X_arg16 (ix3 1 ⟨k.val, hk⟩ n) := by
    intro n; exact readAt_unit arg16.view X_arg16 _ _ (ix3 1 ⟨k.val, hk⟩ n) (k0_off69_eq k) (fun a => by fin_cases a <;> simp)
  have hs1 : ∀ (p : Fin 8) (n : Fin 128), arg13.view.readAt (Elt Ideal) (Rect.unit (s := S5x128x128) (k0_off78 k) S1x8x128.size (k0_off78_inb k)).toLoadRect f_arg13 (ix3 0 p n) = s (ix3 1 ⟨8 * k.val + p.val, by omega⟩ n) := by
    intro p n; rw [← hsum]; exact readAt_unit arg13.view f_arg13 _ _ (ix3 1 ⟨8 * k.val + p.val, by omega⟩ n) (k0_off78_eq k) (fun a => by fin_cases a <;> simp)
  have hp1_0 : ∀ (p : Fin 8) (l : Fin 128), arg12.view.readAt (Elt Ideal) (Rect.unit (s := S16x160x256) (k0_off70 k) S1x8x128.size (k0_off70_inb k)).toLoadRect X_arg12 (ix3 0 p l) = arg12.view.read (Elt Ideal) X_arg12 (ix3 ⟨k.val, hk⟩ ⟨32 + p.val, by omega⟩ ⟨l.val, by omega⟩) := by
    intro p l; exact readAt_unit arg12.view X_arg12 _ _ (ix3 ⟨k.val, hk⟩ ⟨32 + p.val, by omega⟩ ⟨l.val, by omega⟩) (k0_off70_eq k) (fun a => by fin_cases a <;> simp)
  have hp1_1 : ∀ (p : Fin 8) (l : Fin 128), arg12.view.readAt (Elt Ideal) (Rect.unit (s := S16x160x256) (k0_off71 k) S1x8x128.size (k0_off71_inb k)).toLoadRect X_arg12 (ix3 0 p l) = arg12.view.read (Elt Ideal) X_arg12 (ix3 ⟨k.val, hk⟩ ⟨40 + p.val, by omega⟩ ⟨l.val, by omega⟩) := by
    intro p l; exact readAt_unit arg12.view X_arg12 _ _ (ix3 ⟨k.val, hk⟩ ⟨40 + p.val, by omega⟩ ⟨l.val, by omega⟩) (k0_off71_eq k) (fun a => by fin_cases a <;> simp)
  have hp1_2 : ∀ (p : Fin 8) (l : Fin 128), arg12.view.readAt (Elt Ideal) (Rect.unit (s := S16x160x256) (k0_off72 k) S1x8x128.size (k0_off72_inb k)).toLoadRect X_arg12 (ix3 0 p l) = arg12.view.read (Elt Ideal) X_arg12 (ix3 ⟨k.val, hk⟩ ⟨48 + p.val, by omega⟩ ⟨l.val, by omega⟩) := by
    intro p l; exact readAt_unit arg12.view X_arg12 _ _ (ix3 ⟨k.val, hk⟩ ⟨48 + p.val, by omega⟩ ⟨l.val, by omega⟩) (k0_off72_eq k) (fun a => by fin_cases a <;> simp)
  have hp1_3 : ∀ (p : Fin 8) (l : Fin 128), arg12.view.readAt (Elt Ideal) (Rect.unit (s := S16x160x256) (k0_off73 k) S1x8x128.size (k0_off73_inb k)).toLoadRect X_arg12 (ix3 0 p l) = arg12.view.read (Elt Ideal) X_arg12 (ix3 ⟨k.val, hk⟩ ⟨56 + p.val, by omega⟩ ⟨l.val, by omega⟩) := by
    intro p l; exact readAt_unit arg12.view X_arg12 _ _ (ix3 ⟨k.val, hk⟩ ⟨56 + p.val, by omega⟩ ⟨l.val, by omega⟩) (k0_off73_eq k) (fun a => by fin_cases a <;> simp)
  have hp1_4 : ∀ (p : Fin 8) (l : Fin 128), arg12.view.readAt (Elt Ideal) (Rect.unit (s := S16x160x256) (k0_off74 k) S1x8x128.size (k0_off74_inb k)).toLoadRect X_arg12 (ix3 0 p l) = arg12.view.read (Elt Ideal) X_arg12 (ix3 ⟨k.val, hk⟩ ⟨32 + p.val, by omega⟩ ⟨128 + l.val, by omega⟩) := by
    intro p l; exact readAt_unit arg12.view X_arg12 _ _ (ix3 ⟨k.val, hk⟩ ⟨32 + p.val, by omega⟩ ⟨128 + l.val, by omega⟩) (k0_off74_eq k) (fun a => by fin_cases a <;> simp)
  have hp1_5 : ∀ (p : Fin 8) (l : Fin 128), arg12.view.readAt (Elt Ideal) (Rect.unit (s := S16x160x256) (k0_off75 k) S1x8x128.size (k0_off75_inb k)).toLoadRect X_arg12 (ix3 0 p l) = arg12.view.read (Elt Ideal) X_arg12 (ix3 ⟨k.val, hk⟩ ⟨40 + p.val, by omega⟩ ⟨128 + l.val, by omega⟩) := by
    intro p l; exact readAt_unit arg12.view X_arg12 _ _ (ix3 ⟨k.val, hk⟩ ⟨40 + p.val, by omega⟩ ⟨128 + l.val, by omega⟩) (k0_off75_eq k) (fun a => by fin_cases a <;> simp)
  have hp1_6 : ∀ (p : Fin 8) (l : Fin 128), arg12.view.readAt (Elt Ideal) (Rect.unit (s := S16x160x256) (k0_off76 k) S1x8x128.size (k0_off76_inb k)).toLoadRect X_arg12 (ix3 0 p l) = arg12.view.read (Elt Ideal) X_arg12 (ix3 ⟨k.val, hk⟩ ⟨48 + p.val, by omega⟩ ⟨128 + l.val, by omega⟩) := by
    intro p l; exact readAt_unit arg12.view X_arg12 _ _ (ix3 ⟨k.val, hk⟩ ⟨48 + p.val, by omega⟩ ⟨128 + l.val, by omega⟩) (k0_off76_eq k) (fun a => by fin_cases a <;> simp)
  have hp1_7 : ∀ (p : Fin 8) (l : Fin 128), arg12.view.readAt (Elt Ideal) (Rect.unit (s := S16x160x256) (k0_off77 k) S1x8x128.size (k0_off77_inb k)).toLoadRect X_arg12 (ix3 0 p l) = arg12.view.read (Elt Ideal) X_arg12 (ix3 ⟨k.val, hk⟩ ⟨56 + p.val, by omega⟩ ⟨128 + l.val, by omega⟩) := by
    intro p l; exact readAt_unit arg12.view X_arg12 _ _ (ix3 ⟨k.val, hk⟩ ⟨56 + p.val, by omega⟩ ⟨128 + l.val, by omega⟩) (k0_off77_eq k) (fun a => by fin_cases a <;> simp)
  have ht2 : ∀ n : Fin 128, arg15.view.readAt (Elt Ideal) (Rect.unit (s := S5x16x128) (k0_off79 k) S1x1x128.size (k0_off79_inb k)).toLoadRect X_arg15 (ix3 0 0 n) = arg15.view.read (Elt Ideal) X_arg15 (ix3 2 ⟨k.val, hk⟩ n) := by
    intro n; exact readAt_unit arg15.view X_arg15 _ _ (ix3 2 ⟨k.val, hk⟩ n) (k0_off79_eq k) (fun a => by fin_cases a <;> simp)
  have hr2 : ∀ n : Fin 128, arg16.view.readAt (Elt Ideal) (Rect.unit (s := S5x16x128) (k0_off79 k) S1x1x128.size (k0_off79_inb k)).toLoadRect X_arg16 (ix3 0 0 n) = arg16.view.read (Elt Ideal) X_arg16 (ix3 2 ⟨k.val, hk⟩ n) := by
    intro n; exact readAt_unit arg16.view X_arg16 _ _ (ix3 2 ⟨k.val, hk⟩ n) (k0_off79_eq k) (fun a => by fin_cases a <;> simp)
  have hs2 : ∀ (p : Fin 8) (n : Fin 128), arg13.view.readAt (Elt Ideal) (Rect.unit (s := S5x128x128) (k0_off88 k) S1x8x128.size (k0_off88_inb k)).toLoadRect f_arg13 (ix3 0 p n) = s (ix3 2 ⟨8 * k.val + p.val, by omega⟩ n) := by
    intro p n; rw [← hsum]; exact readAt_unit arg13.view f_arg13 _ _ (ix3 2 ⟨8 * k.val + p.val, by omega⟩ n) (k0_off88_eq k) (fun a => by fin_cases a <;> simp)
  have hp2_0 : ∀ (p : Fin 8) (l : Fin 128), arg12.view.readAt (Elt Ideal) (Rect.unit (s := S16x160x256) (k0_off80 k) S1x8x128.size (k0_off80_inb k)).toLoadRect X_arg12 (ix3 0 p l) = arg12.view.read (Elt Ideal) X_arg12 (ix3 ⟨k.val, hk⟩ ⟨64 + p.val, by omega⟩ ⟨l.val, by omega⟩) := by
    intro p l; exact readAt_unit arg12.view X_arg12 _ _ (ix3 ⟨k.val, hk⟩ ⟨64 + p.val, by omega⟩ ⟨l.val, by omega⟩) (k0_off80_eq k) (fun a => by fin_cases a <;> simp)
  have hp2_1 : ∀ (p : Fin 8) (l : Fin 128), arg12.view.readAt (Elt Ideal) (Rect.unit (s := S16x160x256) (k0_off81 k) S1x8x128.size (k0_off81_inb k)).toLoadRect X_arg12 (ix3 0 p l) = arg12.view.read (Elt Ideal) X_arg12 (ix3 ⟨k.val, hk⟩ ⟨72 + p.val, by omega⟩ ⟨l.val, by omega⟩) := by
    intro p l; exact readAt_unit arg12.view X_arg12 _ _ (ix3 ⟨k.val, hk⟩ ⟨72 + p.val, by omega⟩ ⟨l.val, by omega⟩) (k0_off81_eq k) (fun a => by fin_cases a <;> simp)
  have hp2_2 : ∀ (p : Fin 8) (l : Fin 128), arg12.view.readAt (Elt Ideal) (Rect.unit (s := S16x160x256) (k0_off82 k) S1x8x128.size (k0_off82_inb k)).toLoadRect X_arg12 (ix3 0 p l) = arg12.view.read (Elt Ideal) X_arg12 (ix3 ⟨k.val, hk⟩ ⟨80 + p.val, by omega⟩ ⟨l.val, by omega⟩) := by
    intro p l; exact readAt_unit arg12.view X_arg12 _ _ (ix3 ⟨k.val, hk⟩ ⟨80 + p.val, by omega⟩ ⟨l.val, by omega⟩) (k0_off82_eq k) (fun a => by fin_cases a <;> simp)
  have hp2_3 : ∀ (p : Fin 8) (l : Fin 128), arg12.view.readAt (Elt Ideal) (Rect.unit (s := S16x160x256) (k0_off83 k) S1x8x128.size (k0_off83_inb k)).toLoadRect X_arg12 (ix3 0 p l) = arg12.view.read (Elt Ideal) X_arg12 (ix3 ⟨k.val, hk⟩ ⟨88 + p.val, by omega⟩ ⟨l.val, by omega⟩) := by
    intro p l; exact readAt_unit arg12.view X_arg12 _ _ (ix3 ⟨k.val, hk⟩ ⟨88 + p.val, by omega⟩ ⟨l.val, by omega⟩) (k0_off83_eq k) (fun a => by fin_cases a <;> simp)
  have hp2_4 : ∀ (p : Fin 8) (l : Fin 128), arg12.view.readAt (Elt Ideal) (Rect.unit (s := S16x160x256) (k0_off84 k) S1x8x128.size (k0_off84_inb k)).toLoadRect X_arg12 (ix3 0 p l) = arg12.view.read (Elt Ideal) X_arg12 (ix3 ⟨k.val, hk⟩ ⟨64 + p.val, by omega⟩ ⟨128 + l.val, by omega⟩) := by
    intro p l; exact readAt_unit arg12.view X_arg12 _ _ (ix3 ⟨k.val, hk⟩ ⟨64 + p.val, by omega⟩ ⟨128 + l.val, by omega⟩) (k0_off84_eq k) (fun a => by fin_cases a <;> simp)
  have hp2_5 : ∀ (p : Fin 8) (l : Fin 128), arg12.view.readAt (Elt Ideal) (Rect.unit (s := S16x160x256) (k0_off85 k) S1x8x128.size (k0_off85_inb k)).toLoadRect X_arg12 (ix3 0 p l) = arg12.view.read (Elt Ideal) X_arg12 (ix3 ⟨k.val, hk⟩ ⟨72 + p.val, by omega⟩ ⟨128 + l.val, by omega⟩) := by
    intro p l; exact readAt_unit arg12.view X_arg12 _ _ (ix3 ⟨k.val, hk⟩ ⟨72 + p.val, by omega⟩ ⟨128 + l.val, by omega⟩) (k0_off85_eq k) (fun a => by fin_cases a <;> simp)
  have hp2_6 : ∀ (p : Fin 8) (l : Fin 128), arg12.view.readAt (Elt Ideal) (Rect.unit (s := S16x160x256) (k0_off86 k) S1x8x128.size (k0_off86_inb k)).toLoadRect X_arg12 (ix3 0 p l) = arg12.view.read (Elt Ideal) X_arg12 (ix3 ⟨k.val, hk⟩ ⟨80 + p.val, by omega⟩ ⟨128 + l.val, by omega⟩) := by
    intro p l; exact readAt_unit arg12.view X_arg12 _ _ (ix3 ⟨k.val, hk⟩ ⟨80 + p.val, by omega⟩ ⟨128 + l.val, by omega⟩) (k0_off86_eq k) (fun a => by fin_cases a <;> simp)
  have hp2_7 : ∀ (p : Fin 8) (l : Fin 128), arg12.view.readAt (Elt Ideal) (Rect.unit (s := S16x160x256) (k0_off87 k) S1x8x128.size (k0_off87_inb k)).toLoadRect X_arg12 (ix3 0 p l) = arg12.view.read (Elt Ideal) X_arg12 (ix3 ⟨k.val, hk⟩ ⟨88 + p.val, by omega⟩ ⟨128 + l.val, by omega⟩) := by
    intro p l; exact readAt_unit arg12.view X_arg12 _ _ (ix3 ⟨k.val, hk⟩ ⟨88 + p.val, by omega⟩ ⟨128 + l.val, by omega⟩) (k0_off87_eq k) (fun a => by fin_cases a <;> simp)
  have ht3 : ∀ n : Fin 128, arg15.view.readAt (Elt Ideal) (Rect.unit (s := S5x16x128) (k0_off89 k) S1x1x128.size (k0_off89_inb k)).toLoadRect X_arg15 (ix3 0 0 n) = arg15.view.read (Elt Ideal) X_arg15 (ix3 3 ⟨k.val, hk⟩ n) := by
    intro n; exact readAt_unit arg15.view X_arg15 _ _ (ix3 3 ⟨k.val, hk⟩ n) (k0_off89_eq k) (fun a => by fin_cases a <;> simp)
  have hr3 : ∀ n : Fin 128, arg16.view.readAt (Elt Ideal) (Rect.unit (s := S5x16x128) (k0_off89 k) S1x1x128.size (k0_off89_inb k)).toLoadRect X_arg16 (ix3 0 0 n) = arg16.view.read (Elt Ideal) X_arg16 (ix3 3 ⟨k.val, hk⟩ n) := by
    intro n; exact readAt_unit arg16.view X_arg16 _ _ (ix3 3 ⟨k.val, hk⟩ n) (k0_off89_eq k) (fun a => by fin_cases a <;> simp)
  have hs3 : ∀ (p : Fin 8) (n : Fin 128), arg13.view.readAt (Elt Ideal) (Rect.unit (s := S5x128x128) (k0_off98 k) S1x8x128.size (k0_off98_inb k)).toLoadRect f_arg13 (ix3 0 p n) = s (ix3 3 ⟨8 * k.val + p.val, by omega⟩ n) := by
    intro p n; rw [← hsum]; exact readAt_unit arg13.view f_arg13 _ _ (ix3 3 ⟨8 * k.val + p.val, by omega⟩ n) (k0_off98_eq k) (fun a => by fin_cases a <;> simp)
  have hp3_0 : ∀ (p : Fin 8) (l : Fin 128), arg12.view.readAt (Elt Ideal) (Rect.unit (s := S16x160x256) (k0_off90 k) S1x8x128.size (k0_off90_inb k)).toLoadRect X_arg12 (ix3 0 p l) = arg12.view.read (Elt Ideal) X_arg12 (ix3 ⟨k.val, hk⟩ ⟨96 + p.val, by omega⟩ ⟨l.val, by omega⟩) := by
    intro p l; exact readAt_unit arg12.view X_arg12 _ _ (ix3 ⟨k.val, hk⟩ ⟨96 + p.val, by omega⟩ ⟨l.val, by omega⟩) (k0_off90_eq k) (fun a => by fin_cases a <;> simp)
  have hp3_1 : ∀ (p : Fin 8) (l : Fin 128), arg12.view.readAt (Elt Ideal) (Rect.unit (s := S16x160x256) (k0_off91 k) S1x8x128.size (k0_off91_inb k)).toLoadRect X_arg12 (ix3 0 p l) = arg12.view.read (Elt Ideal) X_arg12 (ix3 ⟨k.val, hk⟩ ⟨104 + p.val, by omega⟩ ⟨l.val, by omega⟩) := by
    intro p l; exact readAt_unit arg12.view X_arg12 _ _ (ix3 ⟨k.val, hk⟩ ⟨104 + p.val, by omega⟩ ⟨l.val, by omega⟩) (k0_off91_eq k) (fun a => by fin_cases a <;> simp)
  have hp3_2 : ∀ (p : Fin 8) (l : Fin 128), arg12.view.readAt (Elt Ideal) (Rect.unit (s := S16x160x256) (k0_off92 k) S1x8x128.size (k0_off92_inb k)).toLoadRect X_arg12 (ix3 0 p l) = arg12.view.read (Elt Ideal) X_arg12 (ix3 ⟨k.val, hk⟩ ⟨112 + p.val, by omega⟩ ⟨l.val, by omega⟩) := by
    intro p l; exact readAt_unit arg12.view X_arg12 _ _ (ix3 ⟨k.val, hk⟩ ⟨112 + p.val, by omega⟩ ⟨l.val, by omega⟩) (k0_off92_eq k) (fun a => by fin_cases a <;> simp)
  have hp3_3 : ∀ (p : Fin 8) (l : Fin 128), arg12.view.readAt (Elt Ideal) (Rect.unit (s := S16x160x256) (k0_off93 k) S1x8x128.size (k0_off93_inb k)).toLoadRect X_arg12 (ix3 0 p l) = arg12.view.read (Elt Ideal) X_arg12 (ix3 ⟨k.val, hk⟩ ⟨120 + p.val, by omega⟩ ⟨l.val, by omega⟩) := by
    intro p l; exact readAt_unit arg12.view X_arg12 _ _ (ix3 ⟨k.val, hk⟩ ⟨120 + p.val, by omega⟩ ⟨l.val, by omega⟩) (k0_off93_eq k) (fun a => by fin_cases a <;> simp)
  have hp3_4 : ∀ (p : Fin 8) (l : Fin 128), arg12.view.readAt (Elt Ideal) (Rect.unit (s := S16x160x256) (k0_off94 k) S1x8x128.size (k0_off94_inb k)).toLoadRect X_arg12 (ix3 0 p l) = arg12.view.read (Elt Ideal) X_arg12 (ix3 ⟨k.val, hk⟩ ⟨96 + p.val, by omega⟩ ⟨128 + l.val, by omega⟩) := by
    intro p l; exact readAt_unit arg12.view X_arg12 _ _ (ix3 ⟨k.val, hk⟩ ⟨96 + p.val, by omega⟩ ⟨128 + l.val, by omega⟩) (k0_off94_eq k) (fun a => by fin_cases a <;> simp)
  have hp3_5 : ∀ (p : Fin 8) (l : Fin 128), arg12.view.readAt (Elt Ideal) (Rect.unit (s := S16x160x256) (k0_off95 k) S1x8x128.size (k0_off95_inb k)).toLoadRect X_arg12 (ix3 0 p l) = arg12.view.read (Elt Ideal) X_arg12 (ix3 ⟨k.val, hk⟩ ⟨104 + p.val, by omega⟩ ⟨128 + l.val, by omega⟩) := by
    intro p l; exact readAt_unit arg12.view X_arg12 _ _ (ix3 ⟨k.val, hk⟩ ⟨104 + p.val, by omega⟩ ⟨128 + l.val, by omega⟩) (k0_off95_eq k) (fun a => by fin_cases a <;> simp)
  have hp3_6 : ∀ (p : Fin 8) (l : Fin 128), arg12.view.readAt (Elt Ideal) (Rect.unit (s := S16x160x256) (k0_off96 k) S1x8x128.size (k0_off96_inb k)).toLoadRect X_arg12 (ix3 0 p l) = arg12.view.read (Elt Ideal) X_arg12 (ix3 ⟨k.val, hk⟩ ⟨112 + p.val, by omega⟩ ⟨128 + l.val, by omega⟩) := by
    intro p l; exact readAt_unit arg12.view X_arg12 _ _ (ix3 ⟨k.val, hk⟩ ⟨112 + p.val, by omega⟩ ⟨128 + l.val, by omega⟩) (k0_off96_eq k) (fun a => by fin_cases a <;> simp)
  have hp3_7 : ∀ (p : Fin 8) (l : Fin 128), arg12.view.readAt (Elt Ideal) (Rect.unit (s := S16x160x256) (k0_off97 k) S1x8x128.size (k0_off97_inb k)).toLoadRect X_arg12 (ix3 0 p l) = arg12.view.read (Elt Ideal) X_arg12 (ix3 ⟨k.val, hk⟩ ⟨120 + p.val, by omega⟩ ⟨128 + l.val, by omega⟩) := by
    intro p l; exact readAt_unit arg12.view X_arg12 _ _ (ix3 ⟨k.val, hk⟩ ⟨120 + p.val, by omega⟩ ⟨128 + l.val, by omega⟩) (k0_off97_eq k) (fun a => by fin_cases a <;> simp)
  have ht4 : ∀ n : Fin 128, arg15.view.readAt (Elt Ideal) (Rect.unit (s := S5x16x128) (k0_off99 k) S1x1x128.size (k0_off99_inb k)).toLoadRect X_arg15 (ix3 0 0 n) = arg15.view.read (Elt Ideal) X_arg15 (ix3 4 ⟨k.val, hk⟩ n) := by
    intro n; exact readAt_unit arg15.view X_arg15 _ _ (ix3 4 ⟨k.val, hk⟩ n) (k0_off99_eq k) (fun a => by fin_cases a <;> simp)
  have hr4 : ∀ n : Fin 128, arg16.view.readAt (Elt Ideal) (Rect.unit (s := S5x16x128) (k0_off99 k) S1x1x128.size (k0_off99_inb k)).toLoadRect X_arg16 (ix3 0 0 n) = arg16.view.read (Elt Ideal) X_arg16 (ix3 4 ⟨k.val, hk⟩ n) := by
    intro n; exact readAt_unit arg16.view X_arg16 _ _ (ix3 4 ⟨k.val, hk⟩ n) (k0_off99_eq k) (fun a => by fin_cases a <;> simp)
  have hs4 : ∀ (p : Fin 8) (n : Fin 128), arg13.view.readAt (Elt Ideal) (Rect.unit (s := S5x128x128) (k0_off108 k) S1x8x128.size (k0_off108_inb k)).toLoadRect f_arg13 (ix3 0 p n) = s (ix3 4 ⟨8 * k.val + p.val, by omega⟩ n) := by
    intro p n; rw [← hsum]; exact readAt_unit arg13.view f_arg13 _ _ (ix3 4 ⟨8 * k.val + p.val, by omega⟩ n) (k0_off108_eq k) (fun a => by fin_cases a <;> simp)
  have hp4_0 : ∀ (p : Fin 8) (l : Fin 128), arg12.view.readAt (Elt Ideal) (Rect.unit (s := S16x160x256) (k0_off100 k) S1x8x128.size (k0_off100_inb k)).toLoadRect X_arg12 (ix3 0 p l) = arg12.view.read (Elt Ideal) X_arg12 (ix3 ⟨k.val, hk⟩ ⟨128 + p.val, by omega⟩ ⟨l.val, by omega⟩) := by
    intro p l; exact readAt_unit arg12.view X_arg12 _ _ (ix3 ⟨k.val, hk⟩ ⟨128 + p.val, by omega⟩ ⟨l.val, by omega⟩) (k0_off100_eq k) (fun a => by fin_cases a <;> simp)
  have hp4_1 : ∀ (p : Fin 8) (l : Fin 128), arg12.view.readAt (Elt Ideal) (Rect.unit (s := S16x160x256) (k0_off101 k) S1x8x128.size (k0_off101_inb k)).toLoadRect X_arg12 (ix3 0 p l) = arg12.view.read (Elt Ideal) X_arg12 (ix3 ⟨k.val, hk⟩ ⟨136 + p.val, by omega⟩ ⟨l.val, by omega⟩) := by
    intro p l; exact readAt_unit arg12.view X_arg12 _ _ (ix3 ⟨k.val, hk⟩ ⟨136 + p.val, by omega⟩ ⟨l.val, by omega⟩) (k0_off101_eq k) (fun a => by fin_cases a <;> simp)
  have hp4_2 : ∀ (p : Fin 8) (l : Fin 128), arg12.view.readAt (Elt Ideal) (Rect.unit (s := S16x160x256) (k0_off102 k) S1x8x128.size (k0_off102_inb k)).toLoadRect X_arg12 (ix3 0 p l) = arg12.view.read (Elt Ideal) X_arg12 (ix3 ⟨k.val, hk⟩ ⟨144 + p.val, by omega⟩ ⟨l.val, by omega⟩) := by
    intro p l; exact readAt_unit arg12.view X_arg12 _ _ (ix3 ⟨k.val, hk⟩ ⟨144 + p.val, by omega⟩ ⟨l.val, by omega⟩) (k0_off102_eq k) (fun a => by fin_cases a <;> simp)
  have hp4_3 : ∀ (p : Fin 8) (l : Fin 128), arg12.view.readAt (Elt Ideal) (Rect.unit (s := S16x160x256) (k0_off103 k) S1x8x128.size (k0_off103_inb k)).toLoadRect X_arg12 (ix3 0 p l) = arg12.view.read (Elt Ideal) X_arg12 (ix3 ⟨k.val, hk⟩ ⟨152 + p.val, by omega⟩ ⟨l.val, by omega⟩) := by
    intro p l; exact readAt_unit arg12.view X_arg12 _ _ (ix3 ⟨k.val, hk⟩ ⟨152 + p.val, by omega⟩ ⟨l.val, by omega⟩) (k0_off103_eq k) (fun a => by fin_cases a <;> simp)
  have hp4_4 : ∀ (p : Fin 8) (l : Fin 128), arg12.view.readAt (Elt Ideal) (Rect.unit (s := S16x160x256) (k0_off104 k) S1x8x128.size (k0_off104_inb k)).toLoadRect X_arg12 (ix3 0 p l) = arg12.view.read (Elt Ideal) X_arg12 (ix3 ⟨k.val, hk⟩ ⟨128 + p.val, by omega⟩ ⟨128 + l.val, by omega⟩) := by
    intro p l; exact readAt_unit arg12.view X_arg12 _ _ (ix3 ⟨k.val, hk⟩ ⟨128 + p.val, by omega⟩ ⟨128 + l.val, by omega⟩) (k0_off104_eq k) (fun a => by fin_cases a <;> simp)
  have hp4_5 : ∀ (p : Fin 8) (l : Fin 128), arg12.view.readAt (Elt Ideal) (Rect.unit (s := S16x160x256) (k0_off105 k) S1x8x128.size (k0_off105_inb k)).toLoadRect X_arg12 (ix3 0 p l) = arg12.view.read (Elt Ideal) X_arg12 (ix3 ⟨k.val, hk⟩ ⟨136 + p.val, by omega⟩ ⟨128 + l.val, by omega⟩) := by
    intro p l; exact readAt_unit arg12.view X_arg12 _ _ (ix3 ⟨k.val, hk⟩ ⟨136 + p.val, by omega⟩ ⟨128 + l.val, by omega⟩) (k0_off105_eq k) (fun a => by fin_cases a <;> simp)
  have hp4_6 : ∀ (p : Fin 8) (l : Fin 128), arg12.view.readAt (Elt Ideal) (Rect.unit (s := S16x160x256) (k0_off106 k) S1x8x128.size (k0_off106_inb k)).toLoadRect X_arg12 (ix3 0 p l) = arg12.view.read (Elt Ideal) X_arg12 (ix3 ⟨k.val, hk⟩ ⟨144 + p.val, by omega⟩ ⟨128 + l.val, by omega⟩) := by
    intro p l; exact readAt_unit arg12.view X_arg12 _ _ (ix3 ⟨k.val, hk⟩ ⟨144 + p.val, by omega⟩ ⟨128 + l.val, by omega⟩) (k0_off106_eq k) (fun a => by fin_cases a <;> simp)
  have hp4_7 : ∀ (p : Fin 8) (l : Fin 128), arg12.view.readAt (Elt Ideal) (Rect.unit (s := S16x160x256) (k0_off107 k) S1x8x128.size (k0_off107_inb k)).toLoadRect X_arg12 (ix3 0 p l) = arg12.view.read (Elt Ideal) X_arg12 (ix3 ⟨k.val, hk⟩ ⟨152 + p.val, by omega⟩ ⟨128 + l.val, by omega⟩) := by
    intro p l; exact readAt_unit arg12.view X_arg12 _ _ (ix3 ⟨k.val, hk⟩ ⟨152 + p.val, by omega⟩ ⟨128 + l.val, by omega⟩) (k0_off107_eq k) (fun a => by fin_cases a <;> simp)
  intro g d p n
  by_cases hd : d.val = k.val
  · obtain rfl : d = ⟨k.val, hk⟩ := Fin.ext hd
    rw [if_pos (Nat.lt_succ_self _)]
    fin_cases g
    · show View.read (Elt Ideal) arg13.view _ (ix3 0 ⟨8 * k.val + p.val, _⟩ n) = FINv _ _ _ s 0 ⟨k.val, hk⟩ p n
      rw [wmiss (ix3 0 ⟨8 * k.val + p.val, by omega⟩ n) (k0_off108_eq k) 0 (by simp),
        wmiss (ix3 0 ⟨8 * k.val + p.val, by omega⟩ n) (k0_off98_eq k) 0 (by simp),
        wmiss (ix3 0 ⟨8 * k.val + p.val, by omega⟩ n) (k0_off88_eq k) 0 (by simp),
        wmiss (ix3 0 ⟨8 * k.val + p.val, by omega⟩ n) (k0_off78_eq k) 0 (by simp),
        wmem S5x128x128 S1x8x128.size (ix3 0 ⟨8 * k.val + p.val, by omega⟩ n) (ix3 0 p n) (k0_off68_eq k) (fun a => by fin_cases a <;> simp)]
      exact fin_payload _ _ _ s 0 ⟨k.val, hk⟩ _ _ _ _ _ _ _ _ _ _ _ hts ht0 hr0 hp0_0 hp0_1 hp0_2 hp0_3 hp0_4 hp0_5 hp0_6 hp0_7 hs0 p n
    · show View.read (Elt Ideal) arg13.view _ (ix3 1 ⟨8 * k.val + p.val, _⟩ n) = FINv _ _ _ s 1 ⟨k.val, hk⟩ p n
      rw [wmiss (ix3 1 ⟨8 * k.val + p.val, by omega⟩ n) (k0_off108_eq k) 0 (by simp),
        wmiss (ix3 1 ⟨8 * k.val + p.val, by omega⟩ n) (k0_off98_eq k) 0 (by simp),
        wmiss (ix3 1 ⟨8 * k.val + p.val, by omega⟩ n) (k0_off88_eq k) 0 (by simp),
        wmem S5x128x128 S1x8x128.size (ix3 1 ⟨8 * k.val + p.val, by omega⟩ n) (ix3 0 p n) (k0_off78_eq k) (fun a => by fin_cases a <;> simp)]
      exact fin_payload _ _ _ s 1 ⟨k.val, hk⟩ _ _ _ _ _ _ _ _ _ _ _ hts ht1 hr1 hp1_0 hp1_1 hp1_2 hp1_3 hp1_4 hp1_5 hp1_6 hp1_7 hs1 p n
    · show View.read (Elt Ideal) arg13.view _ (ix3 2 ⟨8 * k.val + p.val, _⟩ n) = FINv _ _ _ s 2 ⟨k.val, hk⟩ p n
      rw [wmiss (ix3 2 ⟨8 * k.val + p.val, by omega⟩ n) (k0_off108_eq k) 0 (by simp),
        wmiss (ix3 2 ⟨8 * k.val + p.val, by omega⟩ n) (k0_off98_eq k) 0 (by simp),
        wmem S5x128x128 S1x8x128.size (ix3 2 ⟨8 * k.val + p.val, by omega⟩ n) (ix3 0 p n) (k0_off88_eq k) (fun a => by fin_cases a <;> simp)]
      exact fin_payload _ _ _ s 2 ⟨k.val, hk⟩ _ _ _ _ _ _ _ _ _ _ _ hts ht2 hr2 hp2_0 hp2_1 hp2_2 hp2_3 hp2_4 hp2_5 hp2_6 hp2_7 hs2 p n
    · show View.read (Elt Ideal) arg13.view _ (ix3 3 ⟨8 * k.val + p.val, _⟩ n) = FINv _ _ _ s 3 ⟨k.val, hk⟩ p n
      rw [wmiss (ix3 3 ⟨8 * k.val + p.val, by omega⟩ n) (k0_off108_eq k) 0 (by simp),
        wmem S5x128x128 S1x8x128.size (ix3 3 ⟨8 * k.val + p.val, by omega⟩ n) (ix3 0 p n) (k0_off98_eq k) (fun a => by fin_cases a <;> simp)]
      exact fin_payload _ _ _ s 3 ⟨k.val, hk⟩ _ _ _ _ _ _ _ _ _ _ _ hts ht3 hr3 hp3_0 hp3_1 hp3_2 hp3_3 hp3_4 hp3_5 hp3_6 hp3_7 hs3 p n
    · show View.read (Elt Ideal) arg13.view _ (ix3 4 ⟨8 * k.val + p.val, _⟩ n) = FINv _ _ _ s 4 ⟨k.val, hk⟩ p n
      rw [wmem S5x128x128 S1x8x128.size (ix3 4 ⟨8 * k.val + p.val, by omega⟩ n) (ix3 0 p n) (k0_off108_eq k) (fun a => by fin_cases a <;> simp)]
      exact fin_payload _ _ _ s 4 ⟨k.val, hk⟩ _ _ _ _ _ _ _ _ _ _ _ hts ht4 hr4 hp4_0 hp4_1 hp4_2 hp4_3 hp4_4 hp4_5 hp4_6 hp4_7 hs4 p n
  · rw [wmiss (ix3 g ⟨8 * d.val + p.val, by omega⟩ n) (k0_off108_eq k) 1 (by simp; omega),
      wmiss (ix3 g ⟨8 * d.val + p.val, by omega⟩ n) (k0_off98_eq k) 1 (by simp; omega),
      wmiss (ix3 g ⟨8 * d.val + p.val, by omega⟩ n) (k0_off88_eq k) 1 (by simp; omega),
      wmiss (ix3 g ⟨8 * d.val + p.val, by omega⟩ n) (k0_off78_eq k) 1 (by simp; omega),
      wmiss (ix3 g ⟨8 * d.val + p.val, by omega⟩ n) (k0_off68_eq k) 1 (by simp; omega)]
    refine (h13 g d p n).trans (if_congr ?_ rfl rfl)
    omega

/-- What the second loop has left before trip `k`. -/
def Inv2 (v1 : IVec S8x128 32) (pt : S16x160x256.Idx → EReal) (ts : S5x16x128.Idx → BitVec 32) (rec : S5x16x128.Idx → EReal) (s : S5x128x128.Idx → EReal)
    (k : ℕ) (f : S5x128x128.Idx → EReal) : Prop :=
  v1 = lane0 → (∀ g d n, (ts (ix3 g d n)).toNat < 256) → J13 (FINv pt ts rec s) s k f

/-- The contents at entry before the first trip, and anything after it. -/
def entry {α : Type} : ℕ → α → α → α
  | 0, f, _ => f
  | _ + 1, _, G => G

/-- The contents at entry. -/
def held {α : Type} (G : α) : α := G

set_option warn.classDefReducibility false in
/-- The second loop by its invariant. -/
@[sl_loop] def loop2 (𝒱 : Variants) (c : Dev nD) (bd : Option 𝒱.V) (E : Set ℕ) (i : grid0.Coords) (arg1 : Memref sig .tc .smem S2000 .i32) (harg1 : arg1.IsWhole) (arg2 : Memref sig .tc .vmem S16x256x128 .fp8e4m3) (harg2 : arg2.IsWhole) (arg3 : Memref sig .tc .vmem S16x4x256 .f32) (harg3 : arg3.IsWhole) (arg4 : Memref sig .tc .vmem S16x1 .i32) (harg4 : arg4.IsWhole) (arg5 : Memref sig .tc .vmem S20x16x256 .i32) (harg5 : arg5.IsWhole) (arg6 : Memref sig .tc .vmem S160x128 .fp8e4m3) (harg6 : arg6.IsWhole) (arg7 : Memref sig .tc .vmem S16x256 .bf16) (harg7 : arg7.IsWhole) (arg8 : Memref sig .tc .vmem S16x5120 .bf16) (harg8 : arg8.IsWhole) (arg9 : Memref sig .tc .vmem S640x128 .i32) (harg9 : arg9.IsWhole) (arg10 : Memref sig .tc .vmem S640x128 .i32) (harg10 : arg10.IsWhole) (arg11 : Memref sig .tc .vmem S20x16x256 .i32) (harg11 : arg11.IsWhole) (arg12 : Memref sig .tc .vmem S16x160x256 .f32) (harg12 : arg12.IsWhole) (arg13 : Memref sig .tc .vmem S5x128x128 .f32) (harg13 : arg13.IsWhole) (arg14 : Memref sig .tc .vmem S5x5x16x128 .f32) (harg14 : arg14.IsWhole) (arg15 : Memref sig .tc .vmem S5x16x128 .i32) (harg15 : arg15.IsWhole) (arg16 : Memref sig .tc .vmem S5x16x128 .f32) (harg16 : arg16.IsWhole) (arg17 : Memref sig .tc .vmem S5x128x128 .i32) (harg17 : arg17.IsWhole) (arg18 : Memref sig .tc .vmem S5x128x128 .i32) (harg18 : arg18.IsWhole) (v1 : IVec S8x128 32) (v342 : BitVec 32) (v2054 : FVec Ideal S8x128 .f32) (v2209 : IVec S8x128 32) (v2211 : IVec S8x128 1) (c0_i32_1227 : BitVec 32) (X_arg12 : BufTy.Contents (Elt Ideal) arg12.view.ty) (X_arg15 : BufTy.Contents (Elt Ideal) arg15.view.ty) (X_arg16 : BufTy.Contents (Elt Ideal) arg16.view.ty) (G : BufTy.Contents (Elt Ideal) arg13.view.ty) :
    LoopInvTy_k0_t2 (F := Ideal) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 v342 v2054 v2209 v2211 c0_i32_1227 where
  inv k _ := iprop((arg12.view.loc (c : Thread nD τ) ↦[arg12.view.set]{fullShare} X_arg12) ∗ (arg15.view.loc (c : Thread nD τ) ↦[arg15.view.set]{fullShare} X_arg15) ∗ (arg16.view.loc (c : Thread nD τ) ↦[arg16.view.set]{fullShare} X_arg16)
    ∗ (∃ f, (arg13.view.loc (c : Thread nD τ) ↦[arg13.view.set]{fullShare} f)
      ∗ ⌜entry k f G = held G⌝ ∗ ⌜k = 0 ∨ Inv2 v1 (arg12.view.read (Elt Ideal) X_arg12) (arg15.view.read (Elt Ideal) X_arg15) (arg16.view.read (Elt Ideal) X_arg16) (arg13.view.read (Elt Ideal) G) k (arg13.view.read (Elt Ideal) f)⌝))
  step k acc := by
    iintro ⟨HR_arg12, HR_arg15, HR_arg16, ⟨%f, HW_arg13, %he, %h⟩⟩
    by_cases hv : v1 = lane0 ∧ (∀ g d n, ((arg15.view.read (Elt Ideal) X_arg15) (ix3 g d n)).toNat < 256)
    · obtain ⟨rfl, hts⟩ := hv
      have h' : J13 (FINv (arg12.view.read (Elt Ideal) X_arg12) (arg15.view.read (Elt Ideal) X_arg15) (arg16.view.read (Elt Ideal) X_arg16) (arg13.view.read (Elt Ideal) G)) (arg13.view.read (Elt Ideal) G) k.val (arg13.view.read (Elt Ideal) f) := by
        rcases h with h | h
        · intro g d p n
          rw [h] at he ⊢
          obtain rfl : f = G := he
          exact (if_neg (Nat.not_lt_zero _)).symm
        · exact h rfl hts
      iapply (wp_wand_r Idealize.ShloMosaic.frame (wpE (defs₀ (F := Ideal)) 𝒱 (c : Thread nD τ) bd) E)
      isplitl [HR_arg12 HR_arg15 HR_arg16 HW_arg13]
      · iapply (trip2 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v342 v2054 v2209 v2211 c0_i32_1227 X_arg12 X_arg15 X_arg16 _ hts k E f h')
        isplitl [HR_arg12]; · iexact HR_arg12
        isplitl [HR_arg15]; · iexact HR_arg15
        isplitl [HR_arg16]; · iexact HR_arg16
        iexact HW_arg13
      · iintro %_ ⟨HR_arg12, HR_arg15, HR_arg16, ⟨%g13, HW_arg13, %h13⟩⟩
        isplitl [HR_arg12]; · iexact HR_arg12
        isplitl [HR_arg15]; · iexact HR_arg15
        isplitl [HR_arg16]; · iexact HR_arg16
        iexists g13
        isplitl [HW_arg13]; · iexact HW_arg13
        isplitr
        · ipureintro; rfl
        ipureintro
        exact Or.inr fun _ _ => h13
    · iapply (wp_wand_r Idealize.ShloMosaic.frame (wpE (defs₀ (F := Ideal)) 𝒱 (c : Thread nD τ) bd) E)
      isplitl [HR_arg12 HR_arg15 HR_arg16 HW_arg13]
      · iapply ((trip_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 v342 v2054 v2209 v2211 c0_i32_1227 X_arg12 X_arg15 X_arg16 k).2 E f)
        isplitl [HR_arg12]; · iexact HR_arg12
        isplitl [HR_arg15]; · iexact HR_arg15
        isplitl [HR_arg16]; · iexact HR_arg16
        iexact HW_arg13
      · iintro %_ ⟨HR_arg12, HR_arg15, HR_arg16, HW_arg13⟩
        isplitl [HR_arg12]; · iexact HR_arg12
        isplitl [HR_arg15]; · iexact HR_arg15
        isplitl [HR_arg16]; · iexact HR_arg16
        iexists _
        isplitl [HW_arg13]; · iexact HW_arg13
        isplitr
        · ipureintro; rfl
        ipureintro
        exact Or.inr fun a b => absurd ⟨a, b⟩ hv
end Cert.KernelIdeal.Gen
end
-- ==== Proof.Value.Point.lean ====
/- The value of a grid point's output block, from the blocks of its inputs. -/
module
public import proofs.«01_k».proof.Proof.Value.MidRead
public import proofs.«01_k».proof.Proof.Value.Prologue
public import proofs.«01_k».proof.Proof.Value.Loop2
@[expose] public section
set_option maxRecDepth 8192
set_option maxHeartbeats 400000
noncomputable section
namespace Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- The rows of weights: the counts' weight, and for each quarter of the tokens the powers of two, each a fourth of the one before. -/
def StdAux (aux : S16x256.Idx → EReal) : Prop := (∀ t : Fin 256, aux (ix2 (0 : Fin 16) t) = (((2 : ℝ) ^ (9 : ℤ) : ℝ) : EReal))
  ∧ ∀ (k : Fin 4) (t : Fin 256), aux (ix2 (⟨k.val + 1, by omega⟩ : Fin 16) t) = (((if t.val / 64 = k.val then (2 : ℝ) ^ ((62 : ℤ) - 2 * ((t.val % 64 : ℕ) : ℤ)) else 0) : ℝ) : EReal)

/-- Whether token `t` of document `d` belongs to the segment of lane `n` of group `g`. -/
def mem (M : S20x16x256.Idx → BitVec 32) (g : Fin 5) (d : Fin 16) (n : Fin 128) (t : Fin 256) : Prop :=
  (M (ix3 ⟨4 * g.val + n.val / 32, by omega⟩ d t)).getLsbD (8 * (n.val % 32 % 4) + n.val % 32 / 4) = true

open Classical in
theorem OHv_eq (M : S20x16x256.Idx → BitVec 32) (g : Fin 5) (d : Fin 16) (n : Fin 128) (t : Fin 256) :
    OHv M g d n t = (((if mem M g d n t then (2 : ℝ) ^ (-9 : ℤ) else 0) : ℝ) : EReal) := by
  unfold OHv ohv mem
  split <;> simp_all

theorem coe_sum' {ι : Type} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

theorem AXv_wsum (aux : S16x256.Idx → EReal) (ha : StdAux aux) (M : S20x16x256.Idx → BitVec 32) (k : Fin 4) (g : Fin 5) (d : Fin 16) (n : Fin 128) :
    AXv aux M (⟨k.val + 1, by omega⟩ : Fin 5) g d n = ((wsum (mem M g d n) k.val : ℝ) : EReal) := by
  classical
  unfold AXv wsum
  rw [coe_sum']
  refine Finset.sum_congr rfl fun t _ => ?_
  rw [OHv_eq, ha.2 k t, ← EReal.coe_mul]
  congr 1
  by_cases h1 : t.val / 64 = k.val
  · by_cases h2 : mem M g d n t
    · rw [if_pos h1, if_pos h2, if_pos ⟨h1, h2⟩, ← zpow_add₀ (by norm_num)]
      unfold wgt
      congr 1
      ring
    · rw [if_neg h2, mul_zero, if_neg (show ¬ (t.val / 64 = k.val ∧ mem M g d n t) from fun h => h2 h.2)]
  · rw [if_neg h1, zero_mul, if_neg (show ¬ (t.val / 64 = k.val ∧ mem M g d n t) from fun h => h1 h.1)]

/-- The first member. -/
def firstTok (S : Fin 256 → Prop) : ℕ := Classical.choose (exists_isFst S)
theorem firstTok_isFst (S : Fin 256 → Prop) : IsFst S (firstTok S) := Classical.choose_spec (exists_isFst S)

/-- The token of the nearest occupied segment. -/
def starTok (M : S20x16x256.Idx → BitVec 32) (g : Fin 5) (d : Fin 16) (n : Fin 128) : ℕ := tokOf (fun g d n => firstTok (mem M g d n)) g d n

theorem starTok_lt (M : S20x16x256.Idx → BitVec 32) (g : Fin 5) (d : Fin 16) (n : Fin 128) : starTok M g d n < 256 := by
  unfold starTok tokOf
  rcases tok_spec (fun c => mem M g d (ln ⟨n.val / 32, by omega⟩ c)) (fun c => firstTok (mem M g d (ln ⟨n.val / 32, by omega⟩ c))) (fun c => firstTok_isFst _) ⟨n.val % 32, by omega⟩ with ⟨-, h⟩ | ⟨c', h, e, -⟩
  · rw [h]; norm_num
  · rw [e]; exact h

/-- The result of column `p` of the segment of lane `n` of group `g` of document `d`. -/
def VALv (P : Fin 16 → Fin 160 → Fin 256 → EReal) (aux : S16x256.Idx → EReal) (M : S20x16x256.Idx → BitVec 32) (g : Fin 5) (d : Fin 16) (p : Fin 8) (n : Fin 128) : EReal :=
  if 0 < recW (AXv aux M 0 g d n) then SMv P M g d p n * recW (AXv aux M 0 g d n)
  else P d ⟨32 * g.val + 8 * (n.val / 32) + p.val, by omega⟩ ⟨starTok M g d n, starTok_lt M g d n⟩ * PSC

/-- All results of a point, rows of documents and columns together. -/
def VALa (P : Fin 16 → Fin 160 → Fin 256 → EReal) (aux : S16x256.Idx → EReal) (M : S20x16x256.Idx → BitVec 32) (j : S5x128x128.Idx) : EReal :=
  VALv P aux M (j 0) ⟨(j 1).val / 8, by have : (j 1).val < 128 := (j 1).isLt; omega⟩ ⟨(j 1).val % 8, by omega⟩ (j 2)

/-- What the two loops and the middle section leave in the array of sums. -/
theorem point_value (P : Fin 16 → Fin 160 → Fin 256 → EReal) (aux : S16x256.Idx → EReal) (ha : StdAux aux) (M : S20x16x256.Idx → BitVec 32)
    (pt : S16x160x256.Idx → EReal) (s out : S5x128x128.Idx → EReal) (arg14 : Memref sig .tc .vmem S5x5x16x128 .f32) (X : BufTy.Contents (Elt Ideal) arg14.view.ty)
    (arg15 : Memref sig .tc .vmem S5x16x128 .i32) (f15 : BufTy.Contents (Elt Ideal) arg15.view.ty) (arg16 : Memref sig .tc .vmem S5x16x128 .f32) (f16 : BufTy.Contents (Elt Ideal) arg16.view.ty)
    (h12 : I12 P 16 pt) (h13 : I13 P M 16 s) (h14 : I14 aux M 16 (arg14.view.read (Elt Ideal) X))
    (h2 : Inv2 lane0 pt (arg15.view.read (Elt Ideal) (arg15.view.writes (Elt Ideal) f15 (tPieces lane0 arg14 X))) (arg16.view.read (Elt Ideal) (arg16.view.writes (Elt Ideal) f16 (rPieces arg14 X))) s 16 out) :
    out = VALa P aux M := by
  have hts : ∀ g d n, (arg15.view.read (Elt Ideal) (arg15.view.writes (Elt Ideal) f15 (tPieces lane0 arg14 X))) (ix3 g d n) = BitVec.ofNat 32 (starTok M g d n) := fun g d n =>
    ts_read arg15 f15 arg14 X (mem M) (fun k g d n => (h14 _ g d n d.isLt).trans (AXv_wsum aux ha M k g d n)) (fun g d n => firstTok (mem M g d n)) (fun g d n => firstTok_isFst _) g d n
  have hn : ∀ g d n, ((arg15.view.read (Elt Ideal) (arg15.view.writes (Elt Ideal) f15 (tPieces lane0 arg14 X))) (ix3 g d n)).toNat = starTok M g d n := fun g d n => by
    have := starTok_lt M g d n
    rw [hts, BitVec.toNat_ofNat, Nat.mod_eq_of_lt (by omega)]
  have hrec : ∀ g d n, (arg16.view.read (Elt Ideal) (arg16.view.writes (Elt Ideal) f16 (rPieces arg14 X))) (ix3 g d n) = recW (AXv aux M 0 g d n) := fun g d n => by
    rw [rec_read, h14 _ g d n d.isLt]
  have h := h2 rfl (fun g d n => by rw [hn]; exact starTok_lt M g d n)
  funext j
  obtain ⟨g, d, p, n, rfl⟩ : ∃ (g : Fin 5) (d : Fin 16) (p : Fin 8) (n : Fin 128), j = ix3 g (⟨8 * d.val + p.val, by omega⟩ : Fin 128) n :=
    ⟨j 0, ⟨(j 1).val / 8, by have : (j 1).val < 128 := (j 1).isLt; omega⟩, ⟨(j 1).val % 8, by omega⟩, j 2, by
      funext a
      fin_cases a
      · rfl
      · apply Fin.ext
        show (j 1).val = 8 * ((j 1).val / 8) + (j 1).val % 8
        omega
      · rfl⟩
  rw [h g d p n, if_pos d.isLt]
  have e : VALa P aux M (ix3 g (⟨8 * d.val + p.val, by omega⟩ : Fin 128) n) = VALv P aux M g d p n := by
    unfold VALa
    have e1 : (8 * d.val + p.val) / 8 = d.val := by omega
    have e2 : (8 * d.val + p.val) % 8 = p.val := by omega
    show VALv P aux M g ⟨(8 * d.val + p.val) / 8, _⟩ ⟨(8 * d.val + p.val) % 8, _⟩ n = _
    simp only [e1, e2]
  rw [e]
  unfold FINv VALv
  rw [hrec]
  split
  · rw [h13 g d p n d.isLt]
  · rw [h12 _ _ _ d.isLt]
    have e3 : (⟨((arg15.view.read (Elt Ideal) (arg15.view.writes (Elt Ideal) f15 (tPieces lane0 arg14 X))) (ix3 g d n)).toNat % 256, Nat.mod_lt _ (by omega)⟩ : Fin 256) = ⟨starTok M g d n, starTok_lt M g d n⟩ := by
      apply Fin.ext
      show _ % 256 = _
      rw [hn]
      exact Nat.mod_eq_of_lt (starTok_lt M g d n)
    rw [e3]
end Cert.KernelIdeal.Gen
end
-- ==== Proof.Value.Enc.lean ====
/- The encoding of one segment: the kernel's form and the reference's, and their equality over the extended reals. -/
module

public import proofs.«01_k».proof.Proof.Value.Point
@[expose] public section
set_option maxRecDepth 8192
set_option maxHeartbeats 400000
noncomputable section
namespace Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- The scale of the projections, a positive real. -/
def psc : ℝ := 11863283 * (2 : ℝ) ^ (-25 : ℤ)

theorem psc_pos : 0 < psc := by unfold psc; positivity

theorem PSC_eq : PSC = ((psc : ℝ) : EReal) := by
  unfold PSC psc Ideal.ofBits
  simp [Ideal.ieee]

theorem rc_eq : Ideal.ofBits .f32 0x433504F3#32 = ((psc * (2 : ℝ) ^ (9 : ℤ) : ℝ) : EReal) := by
  unfold psc Ideal.ofBits
  simp [Ideal.ieee]
  rw [← EReal.coe_pow, ← EReal.coe_mul, ← EReal.coe_mul, ← EReal.coe_mul]
  congr 1
  norm_num

open Classical in
/-- How many tokens a segment has. -/
def cnt (S : Fin 256 → Prop) : ℕ := (Finset.univ.filter S).card

/-- The token that stands for segment `c` where it is empty. -/
def tstar (S : Fin 32 → Fin 256 → Prop) (c : Fin 32) : ℕ := tokN (hyperK (fun c' => firstTok (S c')) c)

theorem tstar_lt (S : Fin 32 → Fin 256 → Prop) (c : Fin 32) : tstar S c < 256 := by
  unfold tstar
  rcases tok_spec S (fun c => firstTok (S c)) (fun c => firstTok_isFst _) c with ⟨-, h⟩ | ⟨c', h, e, -⟩
  · rw [h]; norm_num
  · rw [e]; exact h

open Classical in
/-- Zero or one. -/
def ind (p : Prop) : EReal := if p then 1 else 0

open Classical in
/-- A number, or minus infinity where it is infinite. -/
def guard (x : EReal) : EReal := if max x (-x) < ⊤ then x else ⊥

open Classical in
/-- The mean of the members' projections; for an empty segment the projection at the token of the nearest. -/
def encR (A : Fin 256 → EReal) (S : Fin 32 → Fin 256 → Prop) (c : Fin 32) : EReal :=
  if 0 < cnt (S c) then Ideal.div (∑ t, ind (S c t) * guard (A t * PSC)) ((cnt (S c) : ℝ) : EReal)
  else ∑ t : Fin 256, ind (t.val = tstar S c) * (A t * PSC)

open Classical in
/-- The one-hot weight of a member. -/
def ohm (S : Fin 256 → Prop) (t : Fin 256) : EReal := (((if S t then (2 : ℝ) ^ (-9 : ℤ) else 0) : ℝ) : EReal)

open Classical in
/-- The same in the form that multiplies three sums by a reciprocal. -/
def encK (A : Fin 256 → EReal) (S : Fin 32 → Fin 256 → Prop) (c : Fin 32) : EReal :=
  if 0 < recW (∑ t, (((2 : ℝ) ^ (9 : ℤ) : ℝ) : EReal) * ohm (S c) t) then
    (∑ t, A t * ohm (S c) t + ∑ t, (A t - A t) * ohm (S c) t + ∑ t, (A t - A t - (A t - A t)) * ohm (S c) t) * recW (∑ t, (((2 : ℝ) ^ (9 : ℤ) : ℝ) : EReal) * ohm (S c) t)
  else A ⟨tstar S c, tstar_lt S c⟩ * PSC

theorem count_sum (S : Fin 256 → Prop) : ∑ t, (((2 : ℝ) ^ (9 : ℤ) : ℝ) : EReal) * ohm S t = ((cnt S : ℝ) : EReal) := by
  classical
  have h : ∀ t, (((2 : ℝ) ^ (9 : ℤ) : ℝ) : EReal) * ohm S t = (((if S t then (1 : ℝ) else 0) : ℝ) : EReal) := by
    intro t
    unfold ohm
    rw [← EReal.coe_mul]
    congr 1
    split <;> norm_num
  rw [Finset.sum_congr rfl fun t _ => h t, ← coe_sum', Finset.sum_boole]
  rfl

theorem recW_pos (n : ℕ) (h : 0 < n) : recW ((n : ℝ) : EReal) = ((psc * (2 : ℝ) ^ (9 : ℤ) / n : ℝ) : EReal) := by
  have hn : (0 : ℝ) < n := by exact_mod_cast h
  have h1 : (1 : ℝ) ≤ n := by exact_mod_cast h
  unfold recW
  rw [if_pos (by exact_mod_cast hn), rc_eq]
  rw [max_eq_left (by exact_mod_cast h1)]
  unfold Ideal.div
  rw [if_neg (by exact_mod_cast hn.ne'), ← EReal.coe_inv, ← EReal.coe_mul, div_eq_mul_inv]

theorem recW_zero : recW (((0 : ℕ) : ℝ) : EReal) = 0 := by
  unfold recW
  rw [if_neg (by simp)]

/-- A sum with a term at minus infinity. -/
theorem sum_bot {ι : Type} (s : Finset ι) (f : ι → EReal) (i : ι) (hi : i ∈ s) (h : f i = ⊥) : ∑ j ∈ s, f j = ⊥ := by
  classical
  rw [← Finset.add_sum_erase s f hi, h, EReal.bot_add]

theorem sub_self_inf (x : EReal) (h : ¬ max x (-x) < ⊤) : x - x = ⊥ := by
  induction x with
  | bot => rfl
  | top => rfl
  | coe r => exact absurd (by rw [← EReal.coe_neg]; exact max_lt (EReal.coe_lt_top _) (EReal.coe_lt_top _)) h

theorem psc_inf (x : EReal) : max (x * PSC) (-(x * PSC)) < ⊤ ↔ max x (-x) < ⊤ := by
  rw [PSC_eq]
  induction x with
  | bot => rw [EReal.bot_mul_coe_of_pos psc_pos]
  | top => rw [EReal.top_mul_coe_of_pos psc_pos]
  | coe r =>
    rw [← EReal.coe_mul, ← EReal.coe_neg, ← EReal.coe_neg]
    exact ⟨fun _ => max_lt (EReal.coe_lt_top _) (EReal.coe_lt_top _), fun _ => max_lt (EReal.coe_lt_top _) (EReal.coe_lt_top _)⟩

/-- The two forms agree, infinite projections included. -/
theorem encK_eq (A : Fin 256 → EReal) (S : Fin 32 → Fin 256 → Prop) (c : Fin 32) : encK A S c = encR A S c := by
  classical
  unfold encK encR
  rw [count_sum]
  by_cases h0 : 0 < cnt (S c)
  · have hn : (0 : ℝ) < cnt (S c) := by exact_mod_cast h0
    have hr : (0 : ℝ) < psc * (2 : ℝ) ^ (9 : ℤ) / cnt (S c) := by have := psc_pos; positivity
    rw [recW_pos _ h0, if_pos (by exact_mod_cast hr), if_pos h0]
    unfold Ideal.div
    rw [if_neg (by exact_mod_cast hn.ne'), ← EReal.coe_inv]
    by_cases hi : ∃ t, S c t ∧ ¬ max (A t) (-(A t)) < ⊤
    · obtain ⟨t, hs, ht⟩ := hi
      have e1 : ∑ t, (A t - A t) * ohm (S c) t = ⊥ := by
        refine sum_bot _ _ t (Finset.mem_univ _) ?_
        rw [sub_self_inf _ ht]
        unfold ohm
        rw [if_pos hs]
        exact EReal.bot_mul_coe_of_pos (by positivity)
      have e2 : ∑ t, ind (S c t) * guard (A t * PSC) = ⊥ := by
        refine sum_bot _ _ t (Finset.mem_univ _) ?_
        unfold ind guard
        rw [if_pos hs, if_neg (by rw [psc_inf]; exact ht), one_mul]
      rw [e1, e2, EReal.add_bot, EReal.bot_add, EReal.bot_mul_coe_of_pos hr, EReal.bot_mul_coe_of_pos (by positivity)]
    · have hi' : ∀ t, S c t → max (A t) (-(A t)) < ⊤ := fun t hs => by by_contra h; exact hi ⟨t, hs, h⟩
      have hc : ∀ t, S c t → A t = (((A t).toReal : ℝ) : EReal) := by
        intro t hs
        have h := hi' t hs
        refine (EReal.coe_toReal ?_ ?_).symm
        · intro e; rw [e] at h; simp at h
        · intro e; rw [e] at h; simp at h
      have s1 : ∑ t, A t * ohm (S c) t = ((∑ t, (if S c t then (A t).toReal else 0) * (2 : ℝ) ^ (-9 : ℤ) : ℝ) : EReal) := by
        rw [coe_sum']
        refine Finset.sum_congr rfl fun t _ => ?_
        unfold ohm
        by_cases hs : S c t
        · rw [if_pos hs, if_pos hs, EReal.coe_mul, ← hc t hs]
        · rw [if_neg hs, if_neg hs, EReal.coe_zero, mul_zero, zero_mul, EReal.coe_zero]
      have s2 : ∑ t, (A t - A t) * ohm (S c) t = 0 := by
        refine Finset.sum_eq_zero fun t _ => ?_
        unfold ohm
        by_cases hs : S c t
        · rw [hc t hs, ← EReal.coe_sub, sub_self, EReal.coe_zero, zero_mul]
        · rw [if_neg hs, EReal.coe_zero, mul_zero]
      have s3 : ∑ t, (A t - A t - (A t - A t)) * ohm (S c) t = 0 := by
        refine Finset.sum_eq_zero fun t _ => ?_
        unfold ohm
        by_cases hs : S c t
        · rw [hc t hs, ← EReal.coe_sub, sub_self, ← EReal.coe_sub, sub_self, EReal.coe_zero, zero_mul]
        · rw [if_neg hs, EReal.coe_zero, mul_zero]
      have s4 : ∑ t, ind (S c t) * guard (A t * PSC) = ((∑ t, (if S c t then (A t).toReal else 0) * psc : ℝ) : EReal) := by
        rw [coe_sum']
        refine Finset.sum_congr rfl fun t _ => ?_
        unfold ind guard
        by_cases hs : S c t
        · rw [if_pos hs, if_pos hs, if_pos (by rw [psc_inf]; exact hi' t hs), one_mul, EReal.coe_mul, ← hc t hs, PSC_eq]
        · rw [if_neg hs, if_neg hs, zero_mul, zero_mul, EReal.coe_zero]
      rw [s1, s2, s3, s4, add_zero, add_zero, ← EReal.coe_mul, ← EReal.coe_mul, ← Finset.sum_mul, ← Finset.sum_mul]
      congr 1
      have : (2 : ℝ) ^ (-9 : ℤ) * (2 : ℝ) ^ (9 : ℤ) = 1 := by norm_num
      rw [div_eq_mul_inv]
      linear_combination (∑ t, (if S c t then (A t).toReal else 0)) * psc * (cnt (S c) : ℝ)⁻¹ * this
  · have h0' : cnt (S c) = 0 := by omega
    rw [if_neg h0, h0', recW_zero, if_neg (lt_irrefl _)]
    rw [Finset.sum_eq_single (⟨tstar S c, tstar_lt S c⟩ : Fin 256)]
    · unfold ind; rw [if_pos rfl, one_mul]
    · intro t _ hne
      unfold ind
      rw [if_neg (fun e => hne (Fin.ext e)), zero_mul]
    · intro h; exact absurd (Finset.mem_univ _) h

end Cert.KernelIdeal.Gen
end
-- ==== Proof.Value.Weights.lean ====
/- The rows of weights that the host hands the kernel. -/
module
public import proofs.«01_k».proof.Proof.Value.Point
@[expose] public section
set_option maxRecDepth 8192
set_option maxHeartbeats 400000
noncomputable section
namespace Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- The pattern of an entry of the first five rows: `2^9` in the counts' row, and in the row of quarter `q` the powers `2^(62 - 2 j)` at its tokens. -/
def auxBits (i : ℕ) : ℕ :=
  if i < 256 then 136 * 128 else if i % 256 / 64 + 1 = i / 256 then (189 - 2 * (i % 64)) * 128 else 0

set_option maxRecDepth 100000 in
theorem lit0_eq : ∀ i < 1280, lit0t i = BitVec.ofNat 16 (auxBits i) := by
  have h : (List.range 1280).all (fun i => lit0t i == BitVec.ofNat 16 (auxBits i)) = true := by decide +kernel
  intro i hi
  have := List.all_eq_true.mp h i (List.mem_range.mpr hi)
  exact eq_of_beq this

/-- A bfloat16 pattern with a zero fraction and a positive sign. -/
theorem bf16_pow (n : ℕ) (h : n < 255) : Ideal.ofBits .bf16 (BitVec.ofNat 16 (n * 128)) = if n = 0 then 0 else (((2 : ℝ) ^ ((n : ℤ) - 127) : ℝ) : EReal) := by
  have hb : ∀ n < 255, (BitVec.ofNat 16 (n * 128)).extractLsb' 15 1 = 0#1 ∧ ((BitVec.ofNat 16 (n * 128)).extractLsb' 7 8).toNat = n ∧ ((BitVec.ofNat 16 (n * 128)).extractLsb' 0 7).toNat = 0 := by decide +kernel
  obtain ⟨h1, h2, h3⟩ := hb n h
  refine (ieee_gen 8 7 (BitVec.ofNat 16 (n * 128)) n h1 h2 h3).trans ?_
  rw [if_neg (by norm_num; omega)]
  split
  · rfl
  · rw [← zpow_natCast, ← zpow_add₀ (by norm_num)]
    congr 2
    push_cast
    ring

/-- The host's constant is the rows of weights that the kernel's sums need. -/
theorem std_lit : StdAux (fun i => Ideal.ofBits .bf16 (lit0 (S16x256.rowMajor i))) := by
  have key : ∀ (q : Fin 16) (t : Fin 256), q.val < 5 → Ideal.ofBits .bf16 (lit0 (S16x256.rowMajor (ix2 q t))) = Ideal.ofBits .bf16 (BitVec.ofNat 16 (auxBits (q.val * 256 + t.val))) := by
    intro q t hq
    have e : (S16x256.rowMajor (ix2 q t)).val = q.val * 256 + t.val := Shape.rowMajor_val_two (ix2 q t)
    have e2 : lit0 (S16x256.rowMajor (ix2 q t)) = lit0t (S16x256.rowMajor (ix2 q t)).val := rfl
    rw [e2, e, lit0_eq _ (by omega)]
  constructor
  · intro t
    refine (key 0 t (by decide)).trans ?_
    unfold auxBits
    have e : (0 : Fin 16).val * 256 + t.val = t.val := by simp
    rw [e, if_pos t.isLt, bf16_pow _ (by norm_num)]
    norm_num
  · intro k t
    refine (key ⟨k.val + 1, by omega⟩ t (by show k.val + 1 < 5; omega)).trans ?_
    unfold auxBits
    show Ideal.ofBits .bf16 (BitVec.ofNat 16 (if (k.val + 1) * 256 + t.val < 256 then _ else if ((k.val + 1) * 256 + t.val) % 256 / 64 + 1 = ((k.val + 1) * 256 + t.val) / 256 then (189 - 2 * (((k.val + 1) * 256 + t.val) % 64)) * 128 else 0)) = _
    rw [if_neg (by omega)]
    have e1 : ((k.val + 1) * 256 + t.val) % 256 = t.val := by omega
    have e2 : ((k.val + 1) * 256 + t.val) / 256 = k.val + 1 := by omega
    have e3 : ((k.val + 1) * 256 + t.val) % 64 = t.val % 64 := by omega
    rw [e1, e2, e3]
    by_cases h : t.val / 64 = k.val
    · rw [if_pos (by omega), if_pos h, bf16_pow _ (by omega), if_neg (by omega)]
      congr 2
      omega
    · rw [if_neg (by omega), if_neg h]
      refine (bf16_pow 0 (by norm_num)).trans ?_
      rw [if_pos rfl, EReal.coe_zero]
end Cert.KernelIdeal.Gen
end
-- ==== Proof.KernelIdeal.Points.lean ====
/- The schedule of the call: at which points each window is fetched and written back, the staging buffer a
   window is on at a point, the body at a point, and where a point's rows lie in the two accumulators. -/
module

public import proofs.«01_k».proof.Proof.Gen.KernelIdeal
public import Idealize.ShloMosaic.Lib.Pipeline.Kit

@[expose] public section

noncomputable section

namespace Cert.KernelIdeal.Gen

open Idealize.ShloMosaic Idealize.ShloMosaic.TcCoe
open Idealize.SL Idealize.SL.Sem

variable {F : FTy → Type} [FloatOps F]
/-- Where a point's rows of group 0 lie in the two accumulators: row block `i % 8`, half `r`. -/
theorem off54_eq : ∀ i : grid0.Coords, ∀ (r : Fin 2), k0_off54 i (BitVec.ofNat 32 (8 * r.val)) = ![0, 16 * ((i 0).val % 8) + 8 * r.val, 0] := by decide +kernel
instance closedOff54_0 (i : grid0.Coords) : ClosedOff (k0_off54 i (BitVec.ofNat 32 0)) := ⟨![0, 16 * ((i 0).val % 8) + 8 * 0, 0], off54_eq i ⟨0, by decide⟩⟩
instance closedOff54_1 (i : grid0.Coords) : ClosedOff (k0_off54 i (BitVec.ofNat 32 8)) := ⟨![0, 16 * ((i 0).val % 8) + 8 * 1, 0], off54_eq i ⟨1, by decide⟩⟩
/-- Where a point's rows of group 1 lie in the two accumulators: row block `i % 8`, half `r`. -/
theorem off55_eq : ∀ i : grid0.Coords, ∀ (r : Fin 2), k0_off55 i (BitVec.ofNat 32 (8 * r.val)) = ![1, 16 * ((i 0).val % 8) + 8 * r.val, 0] := by decide +kernel
instance closedOff55_0 (i : grid0.Coords) : ClosedOff (k0_off55 i (BitVec.ofNat 32 0)) := ⟨![1, 16 * ((i 0).val % 8) + 8 * 0, 0], off55_eq i ⟨0, by decide⟩⟩
instance closedOff55_1 (i : grid0.Coords) : ClosedOff (k0_off55 i (BitVec.ofNat 32 8)) := ⟨![1, 16 * ((i 0).val % 8) + 8 * 1, 0], off55_eq i ⟨1, by decide⟩⟩
/-- Where a point's rows of group 2 lie in the two accumulators: row block `i % 8`, half `r`. -/
theorem off56_eq : ∀ i : grid0.Coords, ∀ (r : Fin 2), k0_off56 i (BitVec.ofNat 32 (8 * r.val)) = ![2, 16 * ((i 0).val % 8) + 8 * r.val, 0] := by decide +kernel
instance closedOff56_0 (i : grid0.Coords) : ClosedOff (k0_off56 i (BitVec.ofNat 32 0)) := ⟨![2, 16 * ((i 0).val % 8) + 8 * 0, 0], off56_eq i ⟨0, by decide⟩⟩
instance closedOff56_1 (i : grid0.Coords) : ClosedOff (k0_off56 i (BitVec.ofNat 32 8)) := ⟨![2, 16 * ((i 0).val % 8) + 8 * 1, 0], off56_eq i ⟨1, by decide⟩⟩
/-- Where a point's rows of group 3 lie in the two accumulators: row block `i % 8`, half `r`. -/
theorem off57_eq : ∀ i : grid0.Coords, ∀ (r : Fin 2), k0_off57 i (BitVec.ofNat 32 (8 * r.val)) = ![3, 16 * ((i 0).val % 8) + 8 * r.val, 0] := by decide +kernel
instance closedOff57_0 (i : grid0.Coords) : ClosedOff (k0_off57 i (BitVec.ofNat 32 0)) := ⟨![3, 16 * ((i 0).val % 8) + 8 * 0, 0], off57_eq i ⟨0, by decide⟩⟩
instance closedOff57_1 (i : grid0.Coords) : ClosedOff (k0_off57 i (BitVec.ofNat 32 8)) := ⟨![3, 16 * ((i 0).val % 8) + 8 * 1, 0], off57_eq i ⟨1, by decide⟩⟩
/-- Where a point's rows of group 4 lie in the two accumulators: row block `i % 8`, half `r`. -/
theorem off58_eq : ∀ i : grid0.Coords, ∀ (r : Fin 2), k0_off58 i (BitVec.ofNat 32 (8 * r.val)) = ![4, 16 * ((i 0).val % 8) + 8 * r.val, 0] := by decide +kernel
instance closedOff58_0 (i : grid0.Coords) : ClosedOff (k0_off58 i (BitVec.ofNat 32 0)) := ⟨![4, 16 * ((i 0).val % 8) + 8 * 0, 0], off58_eq i ⟨0, by decide⟩⟩
instance closedOff58_1 (i : grid0.Coords) : ClosedOff (k0_off58 i (BitVec.ofNat 32 8)) := ⟨![4, 16 * ((i 0).val % 8) + 8 * 1, 0], off58_eq i ⟨1, by decide⟩⟩

/-! ## custom_call 0 -/

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

/-- Window 0 (operand 1 (%arg0)) is fetched at every point, at any contents of the tables (its index map reads none). -/
theorem fetch0_0 (a : (pcfg0 (F := F)).Adm) : ∀ t : Fin (cfg0 a).N, ((cfg0 a).win 0).fetch t = true :=
  (fun t => (Pipeline.Window.fetchOf_reads cc0_transform_0 reads0_0 hreads0_0 0 (by decide) (by decide) (Pipeline.Window.sep_of_coord cc0_transform_0 0 0 (fun _ => rfl) (by decide)) (P := 1) (by decide) t).mpr (Nat.mod_one _) : ∀ t : Fin grid0.N, Pipeline.Window.fetchOf grid0 false cc0_transform_0 t = true)
/-- Window 1 (operand 2 (%0)) is fetched at every point, at any contents of the tables (its index map reads none). -/
theorem fetch0_1 (a : (pcfg0 (F := F)).Adm) : ∀ t : Fin (cfg0 a).N, ((cfg0 a).win 1).fetch t = true :=
  (fun t => (Pipeline.Window.fetchOf_reads cc0_transform_1 reads0_1 hreads0_1 0 (by decide) (by decide) (Pipeline.Window.sep_of_coord cc0_transform_1 0 0 (fun _ => rfl) (by decide)) (P := 1) (by decide) t).mpr (Nat.mod_one _) : ∀ t : Fin grid0.N, Pipeline.Window.fetchOf grid0 false cc0_transform_1 t = true)
/-- Window 2 (operand 3 (%4)) is fetched at every point, at any contents of the tables (its index map reads none). -/
theorem fetch0_2 (a : (pcfg0 (F := F)).Adm) : ∀ t : Fin (cfg0 a).N, ((cfg0 a).win 2).fetch t = true :=
  (fun t => (Pipeline.Window.fetchOf_reads cc0_transform_2 reads0_2 hreads0_2 0 (by decide) (by decide) (Pipeline.Window.sep_of_coord cc0_transform_2 0 0 (fun _ => rfl) (by decide)) (P := 1) (by decide) t).mpr (Nat.mod_one _) : ∀ t : Fin grid0.N, Pipeline.Window.fetchOf grid0 false cc0_transform_2 t = true)
/-- Window 3 (operand 4 (%1)) is fetched at every point, at any contents of the tables (its index map reads none). -/
theorem fetch0_3 (a : (pcfg0 (F := F)).Adm) : ∀ t : Fin (cfg0 a).N, ((cfg0 a).win 3).fetch t = true :=
  (fun t => (Pipeline.Window.fetchOf_reads cc0_transform_3 reads0_3 hreads0_3 0 (by decide) (by decide) (Pipeline.Window.sep_of_coord cc0_transform_3 0 1 (fun _ => rfl) (by decide)) (P := 1) (by decide) t).mpr (Nat.mod_one _) : ∀ t : Fin grid0.N, Pipeline.Window.fetchOf grid0 false cc0_transform_3 t = true)
/-- Window 4 (operand 5 (%3)) is fetched at the first point only, at any contents of the tables (its index map reads none). -/
theorem fetch0_4 (a : (pcfg0 (F := F)).Adm) : ∀ t : Fin (cfg0 a).N, ((cfg0 a).win 4).fetch t = true ↔ t.val % 125 = 0 :=
  (fun t => Pipeline.Window.fetchOf_const cc0_transform_4 (fun _ _ => rfl) (n := 125) (by decide) t : ∀ t : Fin grid0.N, Pipeline.Window.fetchOf grid0 false cc0_transform_4 t = true ↔ t.val % 125 = 0)
/-- Window 5 (operand 6 (%cst)) is fetched at the first point only, at any contents of the tables (its index map reads none). -/
theorem fetch0_5 (a : (pcfg0 (F := F)).Adm) : ∀ t : Fin (cfg0 a).N, ((cfg0 a).win 5).fetch t = true ↔ t.val % 125 = 0 :=
  (fun t => Pipeline.Window.fetchOf_const cc0_transform_5 (fun _ _ => rfl) (n := 125) (by decide) t : ∀ t : Fin grid0.N, Pipeline.Window.fetchOf grid0 false cc0_transform_5 t = true ↔ t.val % 125 = 0)
/-- Window 6 (result 0 (%5#0)) is written back at every point, at any contents of the tables (its index map reads none). -/
theorem flush0_6 (a : (pcfg0 (F := F)).Adm) : ∀ t : Fin (cfg0 a).N, ((cfg0 a).win 6).flush t = true :=
  (fun t => (Pipeline.Window.flushOf_reads cc0_transform_6 reads0_6 hreads0_6 0 (by decide) (by decide) (Pipeline.Window.sep_of_coord cc0_transform_6 0 0 (fun _ => rfl) (by decide)) (P := 1) (m := 0) (by decide) rfl t).mpr (Nat.mod_one _) : ∀ t : Fin grid0.N, Pipeline.Window.flushOf grid0 true cc0_transform_6 t = true)
-- window 7 is written back at points [7, 15, 23, 31, 39, 47, 55, 63, 71, 79, 87, 95]…: no closed form stated
-- window 8 is written back at points [7, 15, 23, 31, 39, 47, 55, 63, 71, 79, 87, 95]…: no closed form stated

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)
abbrev st0_7 (a : (pcfg0 (F := F)).Adm) (t : Fin (cfg0 a).N) := ((cfg0 a).win 7).stage ((cfg0 a).slots t 7)
abbrev st0_8 (a : (pcfg0 (F := F)).Adm) (t : Fin (cfg0 a).N) := ((cfg0 a).win 8).stage ((cfg0 a).slots t 8)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_muvera_fde (grid0.coords t) (Memref.whole main_arg2) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _)

end Cert.KernelIdeal.Gen

end
-- ==== Proof.KernelIdeal.Frame.Runs.lean ====
/- What the runs of the body share: the grid, the tests of the body, the tables. -/
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.KernelIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S2000 .i32 := Memref.whole main_arg2
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_KernelIdeal`, Defs.lean, at any `F`). -/
theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(Pipeline.RDat.FramePost.arr_in h c 0 rfl).trans ((hA c 0).trans (V_main_arg0 m c)),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).2 main_arg4 (by decide : main_arg4 ∈ Pipeline.restRefs sig spec0)).trans (V_main_arg4 m c)⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at points 7, 15, 23, 31, 39, 47, 55, 63, 71, 79, 87, 95, 103, 111, 119 and 124 only — decided over the grid. -/
theorem hcond0_0 : ∀ t : Fin grid0.N, cond0_0 (grid0.coords t) ↔ (t.val % 125 = 7 ∨ t.val % 125 = 15 ∨ t.val % 125 = 23 ∨ t.val % 125 = 31 ∨ t.val % 125 = 39 ∨ t.val % 125 = 47 ∨ t.val % 125 = 55 ∨ t.val % 125 = 63 ∨ t.val % 125 = 71 ∨ t.val % 125 = 79 ∨ t.val % 125 = 87 ∨ t.val % 125 = 95 ∨ t.val % 125 = 103 ∨ t.val % 125 = 111 ∨ t.val % 125 = 119 ∨ t.val % 125 = 124) :=
  (by decide +kernel : ∀ t : Fin grid0.N, cond0_0 (grid0.coords t) ↔ (t.val % 125 = 7 ∨ t.val % 125 = 15 ∨ t.val % 125 = 23 ∨ t.val % 125 = 31 ∨ t.val % 125 = 39 ∨ t.val % 125 = 47 ∨ t.val % 125 = 55 ∨ t.val % 125 = 63 ∨ t.val % 125 = 71 ∨ t.val % 125 = 79 ∨ t.val % 125 = 87 ∨ t.val % 125 = 95 ∨ t.val % 125 = 103 ∨ t.val % 125 = 111 ∨ t.val % 125 = 119 ∨ t.val % 125 = 124))

/-! ## Where the windows are idle (the printed configuration's table `Cfg.idle`) -/

/-- Window 0 is never idle (an input). -/
theorem liveAt0_0 (hO : Ok m) : ∀ t : Fin (cfgM m hO).N, (cfgM m hO).idle 0 (grid0.coords t) = false :=
  (fun _ => rfl : ∀ t : Fin grid0.N, idle0 0 (grid0.coords t) = false)
/-- Window 1 is never idle (an input). -/
theorem liveAt0_1 (hO : Ok m) : ∀ t : Fin (cfgM m hO).N, (cfgM m hO).idle 1 (grid0.coords t) = false :=
  (fun _ => rfl : ∀ t : Fin grid0.N, idle0 1 (grid0.coords t) = false)
/-- Window 2 is never idle (an input). -/
theorem liveAt0_2 (hO : Ok m) : ∀ t : Fin (cfgM m hO).N, (cfgM m hO).idle 2 (grid0.coords t) = false :=
  (fun _ => rfl : ∀ t : Fin grid0.N, idle0 2 (grid0.coords t) = false)
/-- Window 3 is never idle (an input). -/
theorem liveAt0_3 (hO : Ok m) : ∀ t : Fin (cfgM m hO).N, (cfgM m hO).idle 3 (grid0.coords t) = false :=
  (fun _ => rfl : ∀ t : Fin grid0.N, idle0 3 (grid0.coords t) = false)
/-- Window 4 is never idle (an input). -/
theorem liveAt0_4 (hO : Ok m) : ∀ t : Fin (cfgM m hO).N, (cfgM m hO).idle 4 (grid0.coords t) = false :=
  (fun _ => rfl : ∀ t : Fin grid0.N, idle0 4 (grid0.coords t) = false)
/-- Window 5 is never idle (an input). -/
theorem liveAt0_5 (hO : Ok m) : ∀ t : Fin (cfgM m hO).N, (cfgM m hO).idle 5 (grid0.coords t) = false :=
  (fun _ => rfl : ∀ t : Fin grid0.N, idle0 5 (grid0.coords t) = false)
/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .vmem S16x256x128 .fp8e4m3 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S16x4x256 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S16x1 .i32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S20x16x256 .i32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S160x128 .fp8e4m3 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S16x256 .bf16 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S16x5120 .bf16 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S640x128 .i32 := spec0_7.stage ((cfgM m hO).slots t 7)
abbrev hs0_7 (hO : Ok m) (t : Fin (cfgM m hO).N) : (ms0_7 m hO t).IsWhole := hstage0_7 (((cfgM m hO).slots t 7).cast nbuf0_7)
abbrev ms0_8 (hO : Ok m) (t : Fin (cfgM m hO).N) : Memref sig .tc .vmem S640x128 .i32 := spec0_8.stage ((cfgM m hO).slots t 8)
abbrev hs0_8 (hO : Ok m) (t : Fin (cfgM m hO).N) : (ms0_8 m hO t).IsWhole := hstage0_8 (((cfgM m hO).slots t 8).cast nbuf0_8)
/-- The scratch operands: whole scoped buffers of the kernel's own, passed beside the windows. -/
abbrev scM0_0 : Memref sig .tc .vmem S20x16x256 .i32 := Memref.whole cc0_scratch0
abbrev scM0_1 : Memref sig .tc .vmem S16x160x256 .f32 := Memref.whole cc0_scratch1
abbrev scM0_2 : Memref sig .tc .vmem S5x128x128 .f32 := Memref.whole cc0_scratch2
abbrev scM0_3 : Memref sig .tc .vmem S5x5x16x128 .f32 := Memref.whole cc0_scratch3
abbrev scM0_4 : Memref sig .tc .vmem S5x16x128 .i32 := Memref.whole cc0_scratch4
abbrev scM0_5 : Memref sig .tc .vmem S5x16x128 .f32 := Memref.whole cc0_scratch5
abbrev scM0_6 : Memref sig .tc .vmem S5x128x128 .i32 := Memref.whole cc0_scratch6
abbrev scM0_7 : Memref sig .tc .vmem S5x128x128 .i32 := Memref.whole cc0_scratch7

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d)) ∗ (∃ r, prngReg c r)) := by
  unfold Pipeline.ΦA; rw [scopedRest0_eq]; simp only [scM0_0, scM0_1, scM0_2, scM0_3, scM0_4, scM0_5, scM0_6, scM0_7, owns_whole]; try rfl

end Cert.KernelIdeal.Gen

end
-- ==== Proof.Value.Host.lean ====
/- The blocks of the inputs at a grid point, from the arguments of the program. -/
module
public import proofs.«01_k».proof.Proof.Value.Weights
public import proofs.«01_k».proof.Proof.KernelIdeal.Frame.Runs
public import Idealize.ShloMosaic.Lib.Claim
public import Idealize.ShloMosaic.Lib.Pipeline.Value
@[expose] public section
set_option maxRecDepth 8192
set_option maxHeartbeats 400000
noncomputable section
namespace Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable (m : (ℓ : Loc nD τ sig) → Buf (Elt Ideal) ℓ) (ρ : Dev nD → PrngReg)

/-- The scales, transposed by the host. -/
theorem V_main_v0 (c : Dev nD) : V m c main_v0 = transpose S2000x4x256 [0, 2, 1] (m ((c : Thread nD τ).loc main_arg1)) transposes_S2000x256x4_S2000x4x256_0_2_1 := by
  show StableHlo.after hostOps0 _ (Proc.devRef .tc main_v0) = _
  after_results
/-- The codes, transposed by the host. -/
theorem V_main_v1 (c : Dev nD) : V m c main_v1 = transpose S20x2000x256 [2, 0, 1] (m ((c : Thread nD τ).loc main_arg3)) transposes_S2000x256x20_S20x2000x256_2_0_1 := by
  show StableHlo.after hostOps0 _ (Proc.devRef .tc main_v1) = _
  after_results
/-- The projections, transposed and stacked by the host. -/
theorem V_main_v3 (c : Dev nD) : V m c main_v3 = shapeCast S160x128 (transpose S20x8x128 [0, 2, 1] (m ((c : Thread nD τ).loc main_arg4)) transposes_S20x128x8_S20x8x128_0_2_1) shapeCasts_S20x8x128_S160x128 := by
  show StableHlo.after hostOps0 _ (Proc.devRef .tc main_v3) = _
  after_results
  rfl
/-- The lengths, as a column. -/
theorem V_main_v4 (c : Dev nD) : V m c main_v4 = shapeCast S2000x1 (m ((c : Thread nD τ).loc main_arg2)) shapeCasts_S2000_S2000x1 := by
  show StableHlo.after hostOps0 _ (Proc.devRef .tc main_v4) = _
  after_results
  rfl
/-- The weights. -/
theorem V_main_cst (c : Dev nD) : V m c main_cst = (fun i => Ideal.ofBits .bf16 (lit0 (S16x256.rowMajor i)) : S16x256.Idx → EReal) := by
  show StableHlo.after hostOps0 _ (Proc.devRef .tc main_cst) = _
  after_results
  rfl

/-- The word of a grid coordinate. -/
theorem coord_word (t : Fin grid0.N) : (BitVec.ofNat 32 (grid0.coords t 0).val).toNat = t.val := by
  have h : t.val < 125 := t.isLt
  rw [Pipeline.Grid.coords_val t 0 (S := 1) (B := 125) rfl rfl, BitVec.toNat_ofNat]
  omega

theorem idx0 (t : Fin grid0.N) : cc0_transform_0 (grid0.coords t) 0 = t.val ∧ cc0_transform_0 (grid0.coords t) 1 = 0 ∧ cc0_transform_0 (grid0.coords t) 2 = 0 := ⟨coord_word t, rfl, rfl⟩
theorem idx1 (t : Fin grid0.N) : cc0_transform_1 (grid0.coords t) 0 = t.val ∧ cc0_transform_1 (grid0.coords t) 1 = 0 ∧ cc0_transform_1 (grid0.coords t) 2 = 0 := ⟨coord_word t, rfl, rfl⟩
theorem idx2 (t : Fin grid0.N) : cc0_transform_2 (grid0.coords t) 0 = t.val ∧ cc0_transform_2 (grid0.coords t) 1 = 0 := ⟨coord_word t, rfl⟩
theorem idx3 (t : Fin grid0.N) : cc0_transform_3 (grid0.coords t) 0 = 0 ∧ cc0_transform_3 (grid0.coords t) 1 = t.val ∧ cc0_transform_3 (grid0.coords t) 2 = 0 := ⟨rfl, coord_word t, rfl⟩
theorem idx6 (t : Fin grid0.N) : cc0_transform_6 (grid0.coords t) 0 = t.val ∧ cc0_transform_6 (grid0.coords t) 1 = 0 := ⟨coord_word t, rfl⟩

/-- Document `d` of the block of point `t`. -/
def doc (t : Fin grid0.N) (d : Fin 16) : Fin 2000 := ⟨16 * t.val + d.val, by have : t.val < 125 := t.isLt; omega⟩

theorem blk0 (hO : Ok m) (c : Dev nD) (t : Fin (cfgM m hO).N) (d : Fin 16) (s : Fin 256) (k : Fin 128) :
    (iblk m hO c 0 t : S16x256x128.Idx → EReal) (ix3 d s k) = (m ((c : Thread nD τ).loc main_arg0) : S2000x256x128.Idx → EReal) (ix3 (doc t d) s k) := by
  unfold iblk
  refine (View.read_apply ..).trans ?_
  show V m c main_arg0 _ = _
  rw [V_main_arg0]
  congr 1
  funext a
  apply Fin.ext
  match a with
  | ⟨0, _⟩ => show cc0_transform_0 (grid0.coords t) 0 * 16 + 1 * d.val = 16 * t.val + d.val; rw [(idx0 t).1]; omega
  | ⟨1, _⟩ => show cc0_transform_0 (grid0.coords t) 1 * 256 + 1 * s.val = s.val; rw [(idx0 t).2.1]; omega
  | ⟨2, _⟩ => show cc0_transform_0 (grid0.coords t) 2 * 128 + 1 * k.val = k.val; rw [(idx0 t).2.2]; omega

theorem blk1 (hO : Ok m) (c : Dev nD) (t : Fin (cfgM m hO).N) (d : Fin 16) (q : Fin 4) (s : Fin 256) :
    (iblk m hO c 1 t : S16x4x256.Idx → EReal) (ix3 d q s) = (m ((c : Thread nD τ).loc main_arg1) : S2000x256x4.Idx → EReal) (ix3 (doc t d) s q) := by
  unfold iblk
  refine (View.read_apply ..).trans ?_
  show V m c main_v0 _ = _
  rw [V_main_v0]
  refine transpose_apply _ _ _ _ (ix3 (doc t d) s q) fun b => ?_
  match b with
  | ⟨0, _⟩ => show 16 * t.val + d.val = cc0_transform_1 (grid0.coords t) 0 * 16 + 1 * d.val; rw [(idx1 t).1]; omega
  | ⟨1, _⟩ => show q.val = cc0_transform_1 (grid0.coords t) 1 * 4 + 1 * q.val; rw [(idx1 t).2.1]; omega
  | ⟨2, _⟩ => show s.val = cc0_transform_1 (grid0.coords t) 2 * 256 + 1 * s.val; rw [(idx1 t).2.2]; omega

theorem blk3 (hO : Ok m) (c : Dev nD) (t : Fin (cfgM m hO).N) (r : Fin 20) (d : Fin 16) (s : Fin 256) :
    (iblk m hO c 3 t : S20x16x256.Idx → BitVec 32) (ix3 r d s) = (m ((c : Thread nD τ).loc main_arg3) : S2000x256x20.Idx → BitVec 32) (ix3 (doc t d) s r) := by
  unfold iblk
  refine (View.read_apply ..).trans ?_
  show V m c main_v1 _ = _
  rw [V_main_v1]
  refine transpose_apply _ _ _ _ (ix3 (doc t d) s r) fun b => ?_
  match b with
  | ⟨0, _⟩ => show r.val = cc0_transform_3 (grid0.coords t) 0 * 20 + 1 * r.val; rw [(idx3 t).1]; omega
  | ⟨1, _⟩ => show 16 * t.val + d.val = cc0_transform_3 (grid0.coords t) 1 * 16 + 1 * d.val; rw [(idx3 t).2.1]; omega
  | ⟨2, _⟩ => show s.val = cc0_transform_3 (grid0.coords t) 2 * 256 + 1 * s.val; rw [(idx3 t).2.2]; omega

theorem blk2 (hO : Ok m) (c : Dev nD) (t : Fin (cfgM m hO).N) (d : Fin 16) :
    (iblk m hO c 2 t : S16x1.Idx → BitVec 32) (ix2 d 0) = (m ((c : Thread nD τ).loc main_arg2) : S2000.Idx → BitVec 32) (ix1 (doc t d)) := by
  unfold iblk
  refine (View.read_apply ..).trans ?_
  show V m c main_v4 _ = _
  rw [V_main_v4]
  unfold shapeCast
  congr 1
  apply Shape.reshapeEquiv_eq_of_rowMajor
  refine (Shape.rowMajor_val_one (ix1 (doc t d))).trans (Eq.trans ?_ (Shape.rowMajor_val_two _).symm)
  show 16 * t.val + d.val = (cc0_transform_2 (grid0.coords t) 0 * 16 + 1 * d.val) * 1 + (cc0_transform_2 (grid0.coords t) 1 * 1 + 1 * 0)
  rw [(idx2 t).1, (idx2 t).2]
  omega

theorem blk4 (hO : Ok m) (c : Dev nD) (t : Fin (cfgM m hO).N) (r : Fin 20) (p : Fin 8) (k : Fin 128) :
    (iblk m hO c 4 t : S160x128.Idx → EReal) (ix2 (⟨8 * r.val + p.val, by omega⟩ : Fin 160) k) = (m ((c : Thread nD τ).loc main_arg4) : S20x128x8.Idx → EReal) (ix3 r k p) := by
  unfold iblk
  refine (View.read_apply ..).trans ?_
  show V m c main_v3 _ = _
  rw [V_main_v3]
  unfold shapeCast
  refine (congrArg _ (Shape.reshapeEquiv_eq_of_rowMajor _ (y := ix3 r p k) ?_)).trans (transpose_apply _ _ _ _ (ix3 r k p) fun b => ?_)
  · refine (Shape.rowMajor_val_three (ix3 r p k)).trans (Eq.trans ?_ (Shape.rowMajor_val_two _).symm)
    show (r.val * 8 + p.val) * 128 + k.val = (0 * 160 + 1 * (8 * r.val + p.val)) * 128 + (0 * 128 + 1 * k.val)
    omega
  · match b with
    | ⟨0, _⟩ => rfl
    | ⟨1, _⟩ => rfl
    | ⟨2, _⟩ => rfl

theorem blk5 (hO : Ok m) (c : Dev nD) (t : Fin (cfgM m hO).N) : StdAux (iblk m hO c 5 t : S16x256.Idx → EReal) := by
  have e : (iblk m hO c 5 t : S16x256.Idx → EReal) = fun i => Ideal.ofBits .bf16 (lit0 (S16x256.rowMajor i)) := by
    refine funext fun (y : S16x256.Idx) => ?_
    unfold iblk
    refine (View.read_apply ..).trans ?_
    show V m c main_cst _ = _
    rw [V_main_cst]
    show Ideal.ofBits .bf16 (lit0 (S16x256.rowMajor _)) = _
    congr 3
    funext a
    apply Fin.ext
    match a with
    | ⟨0, _⟩ => show 0 * 16 + 1 * (y 0).val = (y 0).val; omega
    | ⟨1, _⟩ => show 0 * 256 + 1 * (y 1).val = (y 1).val; omega
  rw [e]
  exact std_lit

end Cert.KernelIdeal.Gen
end
-- ==== Proof.Value.Loop1Inv.lean ====
/- The first loop by its invariant: before trip `k` the scratch arrays hold the results of the documents before `k`. -/
module
public import proofs.«01_k».proof.Proof.Value.Loop1
@[expose] public section
set_option maxRecDepth 8192
set_option maxHeartbeats 4000000
noncomputable section
namespace Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- What the first loop has left in the three scratch arrays before trip `k`. -/
def Inv1 (v0 v1 : IVec S8x128 32) (xs : S16x256x128.Idx → EReal) (ss : S16x4x256.Idx → EReal) (pj : S160x128.Idx → EReal) (aux : S16x256.Idx → EReal) (M : S20x16x256.Idx → BitVec 32)
    (k : ℕ) (f12 : S16x160x256.Idx → EReal) (f13 : S5x128x128.Idx → EReal) (f14 : S5x5x16x128.Idx → EReal) : Prop :=
  v0 = sub0 → v1 = lane0 → I12 (PTv xs ss pj) k f12 ∧ I13 (PTv xs ss pj) M k f13 ∧ I14 aux M k f14

set_option warn.classDefReducibility false in
/-- The first loop by its invariant. -/
@[sl_loop] def loop1 (𝒱 : Variants) (c : Dev nD) (bd : Option 𝒱.V) (E : Set ℕ) (i : grid0.Coords) (arg1 : Memref sig .tc .smem S2000 .i32) (harg1 : arg1.IsWhole) (arg2 : Memref sig .tc .vmem S16x256x128 .fp8e4m3) (harg2 : arg2.IsWhole) (arg3 : Memref sig .tc .vmem S16x4x256 .f32) (harg3 : arg3.IsWhole) (arg4 : Memref sig .tc .vmem S16x1 .i32) (harg4 : arg4.IsWhole) (arg5 : Memref sig .tc .vmem S20x16x256 .i32) (harg5 : arg5.IsWhole) (arg6 : Memref sig .tc .vmem S160x128 .fp8e4m3) (harg6 : arg6.IsWhole) (arg7 : Memref sig .tc .vmem S16x256 .bf16) (harg7 : arg7.IsWhole) (arg8 : Memref sig .tc .vmem S16x5120 .bf16) (harg8 : arg8.IsWhole) (arg9 : Memref sig .tc .vmem S640x128 .i32) (harg9 : arg9.IsWhole) (arg10 : Memref sig .tc .vmem S640x128 .i32) (harg10 : arg10.IsWhole) (arg11 : Memref sig .tc .vmem S20x16x256 .i32) (harg11 : arg11.IsWhole) (arg12 : Memref sig .tc .vmem S16x160x256 .f32) (harg12 : arg12.IsWhole) (arg13 : Memref sig .tc .vmem S5x128x128 .f32) (harg13 : arg13.IsWhole) (arg14 : Memref sig .tc .vmem S5x5x16x128 .f32) (harg14 : arg14.IsWhole) (arg15 : Memref sig .tc .vmem S5x16x128 .i32) (harg15 : arg15.IsWhole) (arg16 : Memref sig .tc .vmem S5x16x128 .f32) (harg16 : arg16.IsWhole) (arg17 : Memref sig .tc .vmem S5x128x128 .i32) (harg17 : arg17.IsWhole) (arg18 : Memref sig .tc .vmem S5x128x128 .i32) (harg18 : arg18.IsWhole) (arg0 : BitVec 32) (v0 v1 : IVec S8x128 32) (v6 : IVec S16x256 1) (v307 : IVec S16x256 32) (v327 : Vec Ideal S160x128 .fp8e4m3) (v330 : Vec Ideal S16x256 .bf16) (X_arg2 : BufTy.Contents (Elt Ideal) arg2.view.ty) (X_arg3 : BufTy.Contents (Elt Ideal) arg3.view.ty) (X_arg11 : BufTy.Contents (Elt Ideal) arg11.view.ty) :
    LoopInvTy_k0_t1 (F := Ideal) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v0 v1 v6 v307 v327 v330 where
  inv k _ := iprop((arg2.view.loc (c : Thread nD τ) ↦[arg2.view.set]{fullShare} X_arg2) ∗ (arg3.view.loc (c : Thread nD τ) ↦[arg3.view.set]{fullShare} X_arg3) ∗ (arg11.view.loc (c : Thread nD τ) ↦[arg11.view.set]{fullShare} X_arg11)
    ∗ (∃ f12 f13 f14, (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14)
      ∗ ⌜k = 0 ∨ Inv1 v0 v1 (arg2.view.read (Elt Ideal) X_arg2) (arg3.view.read (Elt Ideal) X_arg3) v327 v330 (arg11.view.read (Elt Ideal) X_arg11) k (arg12.view.read (Elt Ideal) f12) (arg13.view.read (Elt Ideal) f13) (arg14.view.read (Elt Ideal) f14)⌝))
  step k acc := by
    iintro ⟨HR_arg2, HR_arg3, HR_arg11, ⟨%f12, %f13, %f14, HW_arg12, HW_arg13, HW_arg14, %h⟩⟩
    by_cases hv : v0 = sub0 ∧ v1 = lane0
    · obtain ⟨rfl, rfl⟩ := hv
      have h' : I12 (PTv (arg2.view.read (Elt Ideal) X_arg2) (arg3.view.read (Elt Ideal) X_arg3) v327) k.val (arg12.view.read (Elt Ideal) f12)
          ∧ I13 (PTv (arg2.view.read (Elt Ideal) X_arg2) (arg3.view.read (Elt Ideal) X_arg3) v327) (arg11.view.read (Elt Ideal) X_arg11) k.val (arg13.view.read (Elt Ideal) f13)
          ∧ I14 v330 (arg11.view.read (Elt Ideal) X_arg11) k.val (arg14.view.read (Elt Ideal) f14) := by
        rcases h with h | h
        · rw [h]
          exact ⟨fun _ _ _ hd => absurd hd (Nat.not_lt_zero _), fun _ _ _ _ hd => absurd hd (Nat.not_lt_zero _), fun _ _ _ _ hd => absurd hd (Nat.not_lt_zero _)⟩
        · exact h rfl rfl
      iapply (wp_wand_r Idealize.ShloMosaic.frame (wpE (defs₀ (F := Ideal)) 𝒱 (c : Thread nD τ) bd) E)
      isplitl [HR_arg2 HR_arg3 HR_arg11 HW_arg12 HW_arg13 HW_arg14]
      · iapply (trip1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v6 v307 v327 v330 X_arg2 X_arg3 X_arg11 _ _ rfl rfl k E f12 f13 f14 h'.1 h'.2.1 h'.2.2)
        isplitl [HR_arg2]; · iexact HR_arg2
        isplitl [HR_arg3]; · iexact HR_arg3
        isplitl [HR_arg11]; · iexact HR_arg11
        isplitl [HW_arg12]; · iexact HW_arg12
        isplitl [HW_arg13]; · iexact HW_arg13
        iexact HW_arg14
      · iintro %_ ⟨HR_arg2, HR_arg3, HR_arg11, ⟨%g12, HW_arg12, %h12⟩, ⟨%g13, HW_arg13, %h13⟩, ⟨%g14, HW_arg14, %h14⟩⟩
        isplitl [HR_arg2]; · iexact HR_arg2
        isplitl [HR_arg3]; · iexact HR_arg3
        isplitl [HR_arg11]; · iexact HR_arg11
        iexists g12; iexists g13; iexists g14
        isplitl [HW_arg12]; · iexact HW_arg12
        isplitl [HW_arg13]; · iexact HW_arg13
        isplitl [HW_arg14]; · iexact HW_arg14
        ipureintro
        exact Or.inr fun _ _ => ⟨h12, h13, h14⟩
    · iapply (wp_wand_r Idealize.ShloMosaic.frame (wpE (defs₀ (F := Ideal)) 𝒱 (c : Thread nD τ) bd) E)
      isplitl [HR_arg2 HR_arg3 HR_arg11 HW_arg12 HW_arg13 HW_arg14]
      · iapply ((trip_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v0 v1 v6 v307 v327 v330 X_arg2 X_arg3 X_arg11 k).2.2.2 E f12 f13 f14)
        isplitl [HR_arg2]; · iexact HR_arg2
        isplitl [HR_arg3]; · iexact HR_arg3
        isplitl [HR_arg11]; · iexact HR_arg11
        isplitl [HW_arg12]; · iexact HW_arg12
        isplitl [HW_arg13]; · iexact HW_arg13
        iexact HW_arg14
      · iintro %_ ⟨HR_arg2, HR_arg3, HR_arg11, HW_arg12, HW_arg13, HW_arg14⟩
        isplitl [HR_arg2]; · iexact HR_arg2
        isplitl [HR_arg3]; · iexact HR_arg3
        isplitl [HR_arg11]; · iexact HR_arg11
        iexists _; iexists _; iexists _
        isplitl [HW_arg12]; · iexact HW_arg12
        isplitl [HW_arg13]; · iexact HW_arg13
        isplitl [HW_arg14]; · iexact HW_arg14
        ipureintro
        exact Or.inr fun a b => absurd ⟨a, b⟩ hv
end Cert.KernelIdeal.Gen
end
-- ==== Proof.Value.PointRun.lean ====
/- The value of a grid point's output block from what the run of the body leaves. -/
module
public import proofs.«01_k».proof.Proof.Value.Point
public import proofs.«01_k».proof.Proof.Value.OutRead
public import proofs.«01_k».proof.Proof.Value.Loop1Inv
@[expose] public section
set_option maxRecDepth 8192
set_option maxHeartbeats 400000
noncomputable section
namespace Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- A load of a whole array. -/
theorem readAt_proj (v : View sig .tc .vmem S160x128 .fp8e4m3) (X : v.ty.Contents (Elt Ideal)) (inb : ∀ j, (![0, 0] : Fin 2 → ℕ) j + S160x128.size j ≤ S160x128.size j) :
    v.readAt (Elt Ideal) (Rect.unit (s := S160x128) ![0, 0] S160x128.size inb).toLoadRect X = v.read (Elt Ideal) X := by
  funext y
  refine readAt_unit v X inb y y (off' := fun _ => 0) ?_ fun j => ?_
  · funext j; fin_cases j <;> rfl
  · show (y j).val = 0 + (y j).val
    omega

/-- A load of a whole array. -/
theorem readAt_aux (v : View sig .tc .vmem S16x256 .bf16) (X : v.ty.Contents (Elt Ideal)) (inb : ∀ j, (![0, 0] : Fin 2 → ℕ) j + S16x256.size j ≤ S16x256.size j) :
    v.readAt (Elt Ideal) (Rect.unit (s := S16x256) ![0, 0] S16x256.size inb).toLoadRect X = v.read (Elt Ideal) X := by
  funext y
  refine readAt_unit v X inb y y (off' := fun _ => 0) ?_ fun j => ?_
  · funext j; fin_cases j <;> rfl
  · show (y j).val = 0 + (y j).val
    omega

/-- The output block of a point from the blocks of its inputs. -/
def blockOut (x0 : S16x256x128.Idx → EReal) (x1 : S16x4x256.Idx → EReal) (x2 : S16x1.Idx → BitVec 32) (x3 : S20x16x256.Idx → BitVec 32) (x4 : S160x128.Idx → EReal) (x5 : S16x256.Idx → EReal) : S16x5120.Idx → EReal :=
  outv (VALa (PTv x0 x1 x4) x5 (mWords x2 x3))

/-- The run's facts on its loops and the stores of its middle section give the output block. -/
theorem block_run (x0 : S16x256x128.Idx → EReal) (x1 : S16x4x256.Idx → EReal) (x2 : S16x1.Idx → BitVec 32) (x3 : S20x16x256.Idx → BitVec 32) (x4 : S160x128.Idx → EReal) (x5 : S16x256.Idx → EReal) (hx5 : StdAux x5)
    {xs : S16x256x128.Idx → EReal} {ss : S16x4x256.Idx → EReal} {pj : S160x128.Idx → EReal} {aux : S16x256.Idx → EReal} {M : S20x16x256.Idx → BitVec 32}
    (e0 : xs = x0) (e1 : ss = x1) (e4 : pj = x4) (e5 : aux = x5) (eM : M = mWords x2 x3)
    {trips trips2 : ℕ} (ht : trips = 16) (ht2 : trips2 = 16) {v0 : IVec S8x128 32} {v1 : IVec S8x128 32} (hv0 : v0 = sub0) (hv1 : v1 = lane0)
    {pt : S16x160x256.Idx → EReal} {s : S5x128x128.Idx → EReal} (arg8 : Memref sig .tc .vmem S16x5120 .bf16) (f6 : BufTy.Contents (Elt Ideal) arg8.view.ty)
    (arg13 : Memref sig .tc .vmem S5x128x128 .f32) (X13 : BufTy.Contents (Elt Ideal) arg13.view.ty) (arg14 : Memref sig .tc .vmem S5x5x16x128 .f32) (X : BufTy.Contents (Elt Ideal) arg14.view.ty)
    (arg15 : Memref sig .tc .vmem S5x16x128 .i32) (f15 : BufTy.Contents (Elt Ideal) arg15.view.ty) (arg16 : Memref sig .tc .vmem S5x16x128 .f32) (f16 : BufTy.Contents (Elt Ideal) arg16.view.ty)
    (h1 : trips = 0 ∨ Inv1 v0 v1 xs ss pj aux M trips pt s (arg14.view.read (Elt Ideal) X))
    (h2 : trips2 = 0 ∨ Inv2 v1 pt (arg15.view.read (Elt Ideal) (arg15.view.writes (Elt Ideal) f15 (tPieces lane0 arg14 X))) (arg16.view.read (Elt Ideal) (arg16.view.writes (Elt Ideal) f16 (rPieces arg14 X))) s trips2 (arg13.view.read (Elt Ideal) X13)) :
    arg8.view.read (Elt Ideal) (arg8.view.writes (Elt Ideal) f6 (oPieces lane0 arg13 X13)) = blockOut x0 x1 x2 x3 x4 x5 := by
  subst e0 e1 e4 e5 eM ht ht2 hv0 hv1
  obtain ⟨a, b, d⟩ := h1.resolve_left (by decide) rfl rfl
  have e := point_value _ _ hx5 _ _ _ _ arg14 X arg15 f15 arg16 f16 a b d (h2.resolve_left (by decide))
  funext y
  rw [out_read, e]
  rfl
end Cert.KernelIdeal.Gen
end
-- ==== Proof.Value.KernelEnc.lean ====
/- The value of a lane as the encoding of a segment. -/
module

public import proofs.«01_k».proof.Proof.Value.Enc
public import proofs.«01_k».proof.Proof.Value.Host
public import proofs.«01_k».proof.Proof.Value.PointRun
@[expose] public section
set_option maxRecDepth 8192
set_option maxHeartbeats 400000
noncomputable section
namespace Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable (m : (ℓ : Loc nD τ sig) → Buf (Elt Ideal) ℓ)

/-- The projection of token `t` of document `b` for repetition `r` and column `p`, before the scale. -/
def projA (x : S2000x256x128.Idx → EReal) (s : S2000x256x4.Idx → EReal) (w : S20x128x8.Idx → EReal) (b : Fin 2000) (r : Fin 20) (p : Fin 8) (t : Fin 256) : EReal :=
  ∑ k : Fin 128, w (ix3 r k p) * (x (ix3 b t k) * s (ix3 b t ⟨k.val / 32, by omega⟩))

/-- Whether token `t` of document `b` is valid and has code `c` in repetition `r`. -/
def seg (len : S2000.Idx → BitVec 32) (codes : S2000x256x20.Idx → BitVec 32) (b : Fin 2000) (r : Fin 20) (c : Fin 32) (t : Fin 256) : Prop :=
  IntOp.cmpi .slt (BitVec.ofNat 32 t.val) (len (ix1 b)) = 1#1 ∧ (codes (ix3 b t r)).toNat = c.val

/-- The encoding of document `b`, column `p` of segment `c` of repetition `r`. -/
def encA (x : S2000x256x128.Idx → EReal) (s : S2000x256x4.Idx → EReal) (len : S2000.Idx → BitVec 32) (codes : S2000x256x20.Idx → BitVec 32) (w : S20x128x8.Idx → EReal)
    (b : Fin 2000) (r : Fin 20) (c : Fin 32) (p : Fin 8) : EReal :=
  encR (projA x s w b r p) (seg len codes b r) c

/-- A bit of the mask word is set exactly when the token is valid and has the lane's code. -/
theorem mem_iff (len : S16x1.Idx → BitVec 32) (codes : S20x16x256.Idx → BitVec 32) (g : Fin 5) (d : Fin 16) (n : Fin 128) (t : Fin 256)
    (hc : (codes (ix3 (⟨4 * g.val + n.val / 32, by omega⟩ : Fin 20) d t)).toNat < 32) :
    mem (mWords len codes) g d n t ↔ IntOp.cmpi .slt (BitVec.ofNat 32 t.val) (len (ix2 d 0)) = 1#1 ∧ (codes (ix3 (⟨4 * g.val + n.val / 32, by omega⟩ : Fin 20) d t)).toNat = n.val % 32 := by
  classical
  have h1 := OHv_eq (mWords len codes) g d n t
  have h2 : OHv (mWords len codes) g d n t = _ := ohv_wordM (len (ix2 d 0)) (codes (ix3 (⟨4 * g.val + n.val / 32, by omega⟩ : Fin 20) d t)) t.val (n.val % 32) hc (by omega)
  rw [h1] at h2
  have hne : (((2 : ℝ) ^ (-9 : ℤ) : ℝ) : EReal) ≠ 0 := by
    intro h
    have : ((2 : ℝ) ^ (-9 : ℤ)) = 0 := by exact_mod_cast h
    norm_num at this
  constructor
  · intro hm
    by_contra hn
    rw [if_pos hm, if_neg hn] at h2
    exact hne h2
  · intro hq
    by_contra hn
    rw [if_neg hn, if_pos hq, EReal.coe_zero] at h2
    exact hne h2.symm

/-- The value at a lane is the kernel's form of the encoding of the lane's segment. -/
theorem VALv_encK (P : Fin 16 → Fin 160 → Fin 256 → EReal) (aux : S16x256.Idx → EReal) (ha : StdAux aux) (M : S20x16x256.Idx → BitVec 32) (g : Fin 5) (d : Fin 16) (p : Fin 8) (n : Fin 128) :
    VALv P aux M g d p n = encK (P d ⟨32 * g.val + 8 * (n.val / 32) + p.val, by omega⟩) (fun c' t => mem M g d (ln ⟨n.val / 32, by omega⟩ c') t) ⟨n.val % 32, by omega⟩ := by
  classical
  have ho : ∀ t, OHv M g d n t = ohm (fun t => mem M g d (ln ⟨n.val / 32, by omega⟩ ⟨n.val % 32, by omega⟩) t) t := by
    intro t
    rw [OHv_eq]
    unfold ohm
    rw [ln_divMod]
  have hx : AXv aux M 0 g d n = ∑ t, (((2 : ℝ) ^ (9 : ℤ) : ℝ) : EReal) * ohm (fun t => mem M g d (ln ⟨n.val / 32, by omega⟩ ⟨n.val % 32, by omega⟩) t) t := by
    unfold AXv
    refine Finset.sum_congr rfl fun t _ => ?_
    rw [ho]
    exact congrArg (· * _) (ha.1 t)
  unfold VALv encK SMv
  rw [hx]
  simp only [ho]
  rfl

end Cert.KernelIdeal.Gen
end
-- ==== Proof.Value.RunA.lean ====
/- The run of the body at the points that do not store the count and fill blocks. -/
module

public import proofs.«01_k».proof.Proof.KernelIdeal.Frame.Runs
public import proofs.«01_k».proof.Proof.Value.Loop2
public import proofs.«01_k».proof.Proof.Value.PointRun

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

-- (the run's proof term is large: checking it walks past the default budget)
set_option maxHeartbeats 3604000 in
/-- The body's triple IN CASE A (`scf.if` 0 not taken: points 0, 1, … 123: 109 of 125): on whole staging memrefs — the inputs' at their contents,
    the outputs' at anything, the first handed back at the block of the inputs' values, the others at some contents nothing names —
    the body runs to the continuation holding the inputs' as they were, the scratch at some contents: the printed functions are their skeletons (`Gen.*_eq_skeleton`),
    which `sl_exec` runs (Lib/Exec.lean) — each `scf.if` decided by the case's hypotheses `hc·`. -/
theorem vrun0_A (c : Dev nD) (i : grid0.Coords) (arg2 : Memref sig .tc .vmem S16x256x128 .fp8e4m3) (harg2 : arg2.IsWhole) (arg3 : Memref sig .tc .vmem S16x4x256 .f32) (harg3 : arg3.IsWhole) (arg4 : Memref sig .tc .vmem S16x1 .i32) (harg4 : arg4.IsWhole) (arg5 : Memref sig .tc .vmem S20x16x256 .i32) (harg5 : arg5.IsWhole) (arg6 : Memref sig .tc .vmem S160x128 .fp8e4m3) (harg6 : arg6.IsWhole) (arg7 : Memref sig .tc .vmem S16x256 .bf16) (harg7 : arg7.IsWhole) (arg8 : Memref sig .tc .vmem S16x5120 .bf16) (harg8 : arg8.IsWhole) (arg9 : Memref sig .tc .vmem S640x128 .i32) (harg9 : arg9.IsWhole) (arg10 : Memref sig .tc .vmem S640x128 .i32) (harg10 : arg10.IsWhole) (arg11 : Memref sig .tc .vmem S20x16x256 .i32) (harg11 : arg11.IsWhole) (arg12 : Memref sig .tc .vmem S16x160x256 .f32) (harg12 : arg12.IsWhole) (arg13 : Memref sig .tc .vmem S5x128x128 .f32) (harg13 : arg13.IsWhole) (arg14 : Memref sig .tc .vmem S5x5x16x128 .f32) (harg14 : arg14.IsWhole) (arg15 : Memref sig .tc .vmem S5x16x128 .i32) (harg15 : arg15.IsWhole) (arg16 : Memref sig .tc .vmem S5x16x128 .f32) (harg16 : arg16.IsWhole) (arg17 : Memref sig .tc .vmem S5x128x128 .i32) (harg17 : arg17.IsWhole) (arg18 : Memref sig .tc .vmem S5x128x128 .i32) (harg18 : arg18.IsWhole) (hc0 : ¬cond0_0 i)
    (x0 : Vec Ideal S16x256x128 .fp8e4m3) (x1 : Vec Ideal S16x4x256 .f32) (x2 : Vec Ideal S16x1 .i32) (x3 : Vec Ideal S20x16x256 .i32) (x4 : Vec Ideal S160x128 .fp8e4m3) (x5 : Vec Ideal S16x256 .bf16) (hx5 : StdAux x5) (xt0 : TbBuf0 (F := Ideal) c tbM0_0) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ tbPt0 c tbM0_0 xt0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (blockOut x0 x1 x2 x3 x4 x5) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ tbPt0 c tbM0_0 xt0) -∗ K ⟨⟩))
          ⊢ wp frame (wpE (defs₀ (F := Ideal)) Variants.none c none) E (cc0_muvera_fde i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
    intro E K
    simp only [cc0_muvera_fde_eq_skeleton]; unfold cc0_muvera_fde_skel
    simp only [k0_part158_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part159_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, HT0, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; swap; · iexact H6
      ipureintro
      exact block_run x0 x1 x2 x3 x4 x5 hx5 hf0 hf1 ((readAt_proj _ _ _).trans hf4) ((readAt_aux _ _ _).trans hf5)
        ((m_read arg11 _ arg4 (harg4.unread x2) arg5 (harg5.unread x3)).trans (by rw [hf2, hf3]))
        rfl rfl rfl rfl arg8 f6 arg13 _ arg14 _ arg15 _ arg16 _ hL6 hL12
    isplitl [H7]
    · iexists _, _; isplitr; swap; · iexact H7
      ipureintro; rfl
    isplitl [H8]
    · iexists _, _; isplitr; swap; · iexact H8
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    isplitl [HS6]
    · iexists _, _; isplitr; swap; · iexact HS6
      ipureintro; rfl
    isplitl [HS7]
    · iexists _, _; isplitr; swap; · iexact HS7
      ipureintro; rfl
    iexact HT0

end Cert.KernelIdeal.Gen

end
-- ==== Proof.Value.RunB.lean ====
/- The run of the body at the points that store the count and fill blocks. -/
module

public import proofs.«01_k».proof.Proof.KernelIdeal.Frame.Runs
public import proofs.«01_k».proof.Proof.Value.Loop2
public import proofs.«01_k».proof.Proof.Value.PointRun

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

-- (the run's proof term is large: checking it walks past the default budget)
set_option maxHeartbeats 3732000 in
/-- The body's triple IN CASE B (`scf.if` 0 taken: points 7, 15, … 124: 16 of 125): on whole staging memrefs — the inputs' at their contents,
    the outputs' at anything, the first handed back at the block of the inputs' values, the others at some contents nothing names —
    the body runs to the continuation holding the inputs' as they were, the scratch at some contents: the printed functions are their skeletons (`Gen.*_eq_skeleton`),
    which `sl_exec` runs (Lib/Exec.lean) — each `scf.if` decided by the case's hypotheses `hc·`. -/
theorem vrun0_B (c : Dev nD) (i : grid0.Coords) (arg2 : Memref sig .tc .vmem S16x256x128 .fp8e4m3) (harg2 : arg2.IsWhole) (arg3 : Memref sig .tc .vmem S16x4x256 .f32) (harg3 : arg3.IsWhole) (arg4 : Memref sig .tc .vmem S16x1 .i32) (harg4 : arg4.IsWhole) (arg5 : Memref sig .tc .vmem S20x16x256 .i32) (harg5 : arg5.IsWhole) (arg6 : Memref sig .tc .vmem S160x128 .fp8e4m3) (harg6 : arg6.IsWhole) (arg7 : Memref sig .tc .vmem S16x256 .bf16) (harg7 : arg7.IsWhole) (arg8 : Memref sig .tc .vmem S16x5120 .bf16) (harg8 : arg8.IsWhole) (arg9 : Memref sig .tc .vmem S640x128 .i32) (harg9 : arg9.IsWhole) (arg10 : Memref sig .tc .vmem S640x128 .i32) (harg10 : arg10.IsWhole) (arg11 : Memref sig .tc .vmem S20x16x256 .i32) (harg11 : arg11.IsWhole) (arg12 : Memref sig .tc .vmem S16x160x256 .f32) (harg12 : arg12.IsWhole) (arg13 : Memref sig .tc .vmem S5x128x128 .f32) (harg13 : arg13.IsWhole) (arg14 : Memref sig .tc .vmem S5x5x16x128 .f32) (harg14 : arg14.IsWhole) (arg15 : Memref sig .tc .vmem S5x16x128 .i32) (harg15 : arg15.IsWhole) (arg16 : Memref sig .tc .vmem S5x16x128 .f32) (harg16 : arg16.IsWhole) (arg17 : Memref sig .tc .vmem S5x128x128 .i32) (harg17 : arg17.IsWhole) (arg18 : Memref sig .tc .vmem S5x128x128 .i32) (harg18 : arg18.IsWhole) (hc0 : cond0_0 i)
    (x0 : Vec Ideal S16x256x128 .fp8e4m3) (x1 : Vec Ideal S16x4x256 .f32) (x2 : Vec Ideal S16x1 .i32) (x3 : Vec Ideal S20x16x256 .i32) (x4 : Vec Ideal S160x128 .fp8e4m3) (x5 : Vec Ideal S16x256 .bf16) (hx5 : StdAux x5) (xt0 : TbBuf0 (F := Ideal) c tbM0_0) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ tbPt0 c tbM0_0 xt0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (blockOut x0 x1 x2 x3 x4 x5) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ tbPt0 c tbM0_0 xt0) -∗ K ⟨⟩))
          ⊢ wp frame (wpE (defs₀ (F := Ideal)) Variants.none c none) E (cc0_muvera_fde i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
    intro E K
    simp only [cc0_muvera_fde_eq_skeleton]; unfold cc0_muvera_fde_skel
    simp only [k0_part158_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part159_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part55_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, HT0, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; swap; · iexact H6
      ipureintro
      exact block_run x0 x1 x2 x3 x4 x5 hx5 hf0 hf1 ((readAt_proj _ _ _).trans hf4) ((readAt_aux _ _ _).trans hf5)
        ((m_read arg11 _ arg4 (harg4.unread x2) arg5 (harg5.unread x3)).trans (by rw [hf2, hf3]))
        rfl rfl rfl rfl arg8 f6 arg13 _ arg14 _ arg15 _ arg16 _ hL6 hL12
    isplitl [H7]
    · iexists _, _; isplitr; swap; · iexact H7
      ipureintro; rfl
    isplitl [H8]
    · iexists _, _; isplitr; swap; · iexact H8
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    isplitl [HS6]
    · iexists _, _; isplitr; swap; · iexact HS6
      ipureintro; rfl
    isplitl [HS7]
    · iexists _, _; isplitr; swap; · iexact HS7
      ipureintro; rfl
    iexact HT0

end Cert.KernelIdeal.Gen

end
-- ==== Proof.Value.Frame.lean ====
/- The run with the first result named: at each point its block holds the value of the blocks of the inputs.
   The contents of the other two results are not stated here. -/
module

public import proofs.«01_k».proof.Proof.Value.RunA
public import proofs.«01_k».proof.Proof.Value.RunB
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)
/-! ## The pipeline's proof data -/

/-- The output windows this certificate FORGETS (7, 8): nothing reads what the kernel leaves in them, so nothing
    of it is named (Lib/Pipeline/Dat.lean `Dat.toRForget`). -/
def vforgets0 : Fin 9 → Bool := fun w => w.val == 7 || w.val == 8

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register) and the tables' halves (`ΦT`); nothing owed;
    full shares. -/
def vdats (hO : Ok m) (_ : Fin 1) (c : Dev nD) : Dat τ (Elt Ideal) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, h⟩ => blockOut (iblk m hO c 0 t) (iblk m hO c 1 t) (iblk m hO c 2 t) (iblk m hO c 3 t) (iblk m hO c 4 t) (iblk m hO c 5 t)
    | ⟨7, h⟩ => Pipeline.Dat.unnamed (cfg := (cfgM m hO)) ⟨7, h⟩ t
    | ⟨8, h⟩ => Pipeline.Dat.unnamed (cfg := (cfgM m hO)) ⟨8, h⟩ t
  Φ _ := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem vA_eq (hO : Ok m) (c : Dev nD) (w : Fin (cfgM m hO).W) : (vdats m hO 0 c).A w = V m c (Pipeline.arrRef spec0 w) := by
  dsimp only [vdats]

/-- What the body leaves, window by window (the proof data's `match` reduced by `dsimp`). -/
theorem vafter0_0 (hO : Ok m) (c : Dev nD) (t : Fin (cfgM m hO).N) : (vdats m hO 0 c).after 0 t = iblk m hO c 0 t := by dsimp only [vdats]; try rfl
theorem vafter0_1 (hO : Ok m) (c : Dev nD) (t : Fin (cfgM m hO).N) : (vdats m hO 0 c).after 1 t = iblk m hO c 1 t := by dsimp only [vdats]; try rfl
theorem vafter0_2 (hO : Ok m) (c : Dev nD) (t : Fin (cfgM m hO).N) : (vdats m hO 0 c).after 2 t = iblk m hO c 2 t := by dsimp only [vdats]; try rfl
theorem vafter0_3 (hO : Ok m) (c : Dev nD) (t : Fin (cfgM m hO).N) : (vdats m hO 0 c).after 3 t = iblk m hO c 3 t := by dsimp only [vdats]; try rfl
theorem vafter0_4 (hO : Ok m) (c : Dev nD) (t : Fin (cfgM m hO).N) : (vdats m hO 0 c).after 4 t = iblk m hO c 4 t := by dsimp only [vdats]; try rfl
theorem vafter0_5 (hO : Ok m) (c : Dev nD) (t : Fin (cfgM m hO).N) : (vdats m hO 0 c).after 5 t = iblk m hO c 5 t := by dsimp only [vdats]; try rfl

theorem vafter0_6 (hO : Ok m) (c : Dev nD) (t : Fin (cfgM m hO).N) : (vdats m hO 0 c).after 6 t = blockOut (iblk m hO c 0 t) (iblk m hO c 1 t) (iblk m hO c 2 t) (iblk m hO c 3 t) (iblk m hO c 4 t) (iblk m hO c 5 t) := by dsimp only [vdats]; try rfl

/-- The output of the result is never idle. -/
theorem vliveAt0_6 (hO : Ok m) : ∀ t : Fin (cfgM m hO).N, (cfgM m hO).idle 6 (grid0.coords t) = false :=
  (fun _ => rfl : ∀ t : Fin grid0.N, idle0 6 (grid0.coords t) = false)

/-- Each input's current staging buffer holds its block at every point, fetched there or not (`beforeK_W_of`). -/
theorem vbefore0_0 (hO : Ok m) (c : Dev nD) (t : Fin (cfgM m hO).N) (d) : (vdats m hO 0 c).before 0 t d = iblk m hO c 0 t :=
  before0_0_of m hO (vdats m hO 0 c) (vA_eq m hO c 0) (vafter0_0 m hO c) t d
theorem vbefore0_1 (hO : Ok m) (c : Dev nD) (t : Fin (cfgM m hO).N) (d) : (vdats m hO 0 c).before 1 t d = iblk m hO c 1 t :=
  before0_1_of m hO (vdats m hO 0 c) (vA_eq m hO c 1) (vafter0_1 m hO c) t d
theorem vbefore0_2 (hO : Ok m) (c : Dev nD) (t : Fin (cfgM m hO).N) (d) : (vdats m hO 0 c).before 2 t d = iblk m hO c 2 t :=
  before0_2_of m hO (vdats m hO 0 c) (vA_eq m hO c 2) (vafter0_2 m hO c) t d
theorem vbefore0_3 (hO : Ok m) (c : Dev nD) (t : Fin (cfgM m hO).N) (d) : (vdats m hO 0 c).before 3 t d = iblk m hO c 3 t :=
  before0_3_of m hO (vdats m hO 0 c) (vA_eq m hO c 3) (vafter0_3 m hO c) t d
theorem vbefore0_4 (hO : Ok m) (c : Dev nD) (t : Fin (cfgM m hO).N) (d) : (vdats m hO 0 c).before 4 t d = iblk m hO c 4 t :=
  before0_4_of m hO (vdats m hO 0 c) (vA_eq m hO c 4) (vafter0_4 m hO c) t d
theorem vbefore0_5 (hO : Ok m) (c : Dev nD) (t : Fin (cfgM m hO).N) (d) : (vdats m hO 0 c).before 5 t d = iblk m hO c 5 t :=
  before0_5_of m hO (vdats m hO 0 c) (vA_eq m hO c 5) (vafter0_5 m hO c) t d

/-! ## The body obligation, at a generic point -/

/-- What the body is called with at point `t` (Lib/Pipeline.lean `BodyObligation`'s precondition, the windows one by one), -/
def vbodyPre (hO : Ok m) (c : Dev nD) (t : Fin (cfgM m hO).N) : sProp 𝕄 :=
  iprop((vdats m hO 0 c).Φ t.castSucc ∗ (vdats m hO 0 c).owesAt () t.castSucc
    ∗ (∃ d, owns (c : Thread nD τ) (ms0_0 m hO t) fullShare ((vdats m hO 0 c).before 0 t d))
    ∗ (∃ d, owns (c : Thread nD τ) (ms0_1 m hO t) fullShare ((vdats m hO 0 c).before 1 t d))
    ∗ (∃ d, owns (c : Thread nD τ) (ms0_2 m hO t) fullShare ((vdats m hO 0 c).before 2 t d))
    ∗ (∃ d, owns (c : Thread nD τ) (ms0_3 m hO t) fullShare ((vdats m hO 0 c).before 3 t d))
    ∗ (∃ d, owns (c : Thread nD τ) (ms0_4 m hO t) fullShare ((vdats m hO 0 c).before 4 t d))
    ∗ (∃ d, owns (c : Thread nD τ) (ms0_5 m hO t) fullShare ((vdats m hO 0 c).before 5 t d))
    ∗ (∃ d, owns (c : Thread nD τ) (ms0_6 m hO t) fullShare ((vdats m hO 0 c).before 6 t d))
    ∗ (∃ d, owns (c : Thread nD τ) (ms0_7 m hO t) fullShare d)
    ∗ (∃ d, owns (c : Thread nD τ) (ms0_8 m hO t) fullShare d))

/-- and what it returns. -/
def vbodyPost (hO : Ok m) (c : Dev nD) (t : Fin (cfgM m hO).N) : sProp 𝕄 :=
  iprop((vdats m hO 0 c).Φ t.succ ∗ (vdats m hO 0 c).owesAt () t.succ
    ∗ (vdats m hO 0 c).leavesExact 0 t
    ∗ (vdats m hO 0 c).leavesExact 1 t
    ∗ (vdats m hO 0 c).leavesExact 2 t
    ∗ (vdats m hO 0 c).leavesExact 3 t
    ∗ (vdats m hO 0 c).leavesExact 4 t
    ∗ (vdats m hO 0 c).leavesExact 5 t
    ∗ (vdats m hO 0 c).leavesExact 6 t
    ∗ (∃ d, owns (c : Thread nD τ) (ms0_7 m hO t) fullShare d)
    ∗ (∃ d, owns (c : Thread nD τ) (ms0_8 m hO t) fullShare d))

set_option maxHeartbeats 3200000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem vsound_body (hO : Ok m) (haux : ∀ (c : Dev nD) (t : Fin (cfgM m hO).N), StdAux (iblk m hO c 5 t)) (c : Dev nD) (t : Fin (cfgM m hO).N) :
    vbodyPre m hO c t ⊢ wp frame (wpE (defs₀ (F := Ideal)) Variants.none c none) Set.univ (bodyAt0 (adm m hO) t) (fun _ => vbodyPost m hO c t) := by
  unfold vbodyPre vbodyPost bodyAt0
  simp only [vbefore0_0, vbefore0_1, vbefore0_2, vbefore0_3, vbefore0_4, vbefore0_5]
  rw [show (vdats m hO 0 c).Φ t.succ = (vdats m hO 0 c).Φ t.castSucc from rfl,
    show (vdats m hO 0 c).owesAt () t.succ = (vdats m hO 0 c).owesAt () t.castSucc from rfl]
  rw [show (vdats m hO 0 c).Φ t.castSucc = iprop(Pipeline.ΦA spec0 c ∗ Pipeline.ΦT pre0 (tbl m) c) from rfl, PhiT0_eq, PhiA0_eq]
  have hN : t.val < 125 := lt_of_lt_of_eq t.isLt (show (cfgM m hO).N = 125 from N_0)
  by_cases h0 : (t.val % 125 = 7 ∨ t.val % 125 = 15 ∨ t.val % 125 = 23 ∨ t.val % 125 = 31 ∨ t.val % 125 = 39 ∨ t.val % 125 = 47 ∨ t.val % 125 = 55 ∨ t.val % 125 = 63 ∨ t.val % 125 = 71 ∨ t.val % 125 = 79 ∨ t.val % 125 = 87 ∨ t.val % 125 = 95 ∨ t.val % 125 = 103 ∨ t.val % 125 = 111 ∨ t.val % 125 = 119 ∨ t.val % 125 = 124)
  · rw [show (vdats m hO 0 c).leavesExact 0 t = owns (c : Thread nD τ) (ms0_0 m hO t) fullShare ((vdats m hO 0 c).after 0 t) from by
      unfold Dat.leavesExact; rw [liveAt0_0 m hO t]; try rfl, vafter0_0]
    rw [show (vdats m hO 0 c).leavesExact 1 t = owns (c : Thread nD τ) (ms0_1 m hO t) fullShare ((vdats m hO 0 c).after 1 t) from by
      unfold Dat.leavesExact; rw [liveAt0_1 m hO t]; try rfl, vafter0_1]
    rw [show (vdats m hO 0 c).leavesExact 2 t = owns (c : Thread nD τ) (ms0_2 m hO t) fullShare ((vdats m hO 0 c).after 2 t) from by
      unfold Dat.leavesExact; rw [liveAt0_2 m hO t]; try rfl, vafter0_2]
    rw [show (vdats m hO 0 c).leavesExact 3 t = owns (c : Thread nD τ) (ms0_3 m hO t) fullShare ((vdats m hO 0 c).after 3 t) from by
      unfold Dat.leavesExact; rw [liveAt0_3 m hO t]; try rfl, vafter0_3]
    rw [show (vdats m hO 0 c).leavesExact 4 t = owns (c : Thread nD τ) (ms0_4 m hO t) fullShare ((vdats m hO 0 c).after 4 t) from by
      unfold Dat.leavesExact; rw [liveAt0_4 m hO t]; try rfl, vafter0_4]
    rw [show (vdats m hO 0 c).leavesExact 5 t = owns (c : Thread nD τ) (ms0_5 m hO t) fullShare ((vdats m hO 0 c).after 5 t) from by
      unfold Dat.leavesExact; rw [liveAt0_5 m hO t]; try rfl, vafter0_5]
    rw [show (vdats m hO 0 c).leavesExact 6 t = owns (c : Thread nD τ) (ms0_6 m hO t) fullShare ((vdats m hO 0 c).after 6 t) from by
      unfold Dat.leavesExact; rw [vliveAt0_6 m hO t]; try rfl, vafter0_6]
    iintro ⟨⟨⟨⟨HS0, HS1, HS2, HS3, HS4, HS5, HS6, HS7⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((vrun0_B c (grid0.coords t) _ _ _ _ _ _ _ _ _ _ _ _ _ _ _ _ _ _ _ _ _ _ _ _ _ _ _ _ _ _ _ _ _ _ ((hcond0_0 t).mpr h0) (iblk m hO c 0 t) (iblk m hO c 1 t) (iblk m hO c 2 t) (iblk m hO c 3 t) (iblk m hO c 4 t) (iblk m hO c 5 t) (haux c t) (tbl m 0)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    isplitl [HT0]; · iexact HT0
    iintro ⟨H0, H1, H2, H3, H4, H5, H6, H7, H8, HS0, HS1, HS2, HS3, HS4, HS5, HS6, HS7, HT0⟩
    isplitl [HS0 HS1 HS2 HS3 HS4 HS5 HS6 HS7 Hg HT0]
    · isplitl [HS0 HS1 HS2 HS3 HS4 HS5 HS6 HS7 Hg]
      · isplitl [HS0 HS1 HS2 HS3 HS4 HS5 HS6 HS7]
        · isplitl [HS0]
          · iexact HS0
          isplitl [HS1]
          · iexact HS1
          isplitl [HS2]
          · iexact HS2
          isplitl [HS3]
          · iexact HS3
          isplitl [HS4]
          · iexact HS4
          isplitl [HS5]
          · iexact HS5
          isplitl [HS6]
          · iexact HS6
          iexact HS7
        iexact Hg
      iexact HT0
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · rw [show (vdats m hO 0 c).leavesExact 0 t = owns (c : Thread nD τ) (ms0_0 m hO t) fullShare ((vdats m hO 0 c).after 0 t) from by
      unfold Dat.leavesExact; rw [liveAt0_0 m hO t]; try rfl, vafter0_0]
    rw [show (vdats m hO 0 c).leavesExact 1 t = owns (c : Thread nD τ) (ms0_1 m hO t) fullShare ((vdats m hO 0 c).after 1 t) from by
      unfold Dat.leavesExact; rw [liveAt0_1 m hO t]; try rfl, vafter0_1]
    rw [show (vdats m hO 0 c).leavesExact 2 t = owns (c : Thread nD τ) (ms0_2 m hO t) fullShare ((vdats m hO 0 c).after 2 t) from by
      unfold Dat.leavesExact; rw [liveAt0_2 m hO t]; try rfl, vafter0_2]
    rw [show (vdats m hO 0 c).leavesExact 3 t = owns (c : Thread nD τ) (ms0_3 m hO t) fullShare ((vdats m hO 0 c).after 3 t) from by
      unfold Dat.leavesExact; rw [liveAt0_3 m hO t]; try rfl, vafter0_3]
    rw [show (vdats m hO 0 c).leavesExact 4 t = owns (c : Thread nD τ) (ms0_4 m hO t) fullShare ((vdats m hO 0 c).after 4 t) from by
      unfold Dat.leavesExact; rw [liveAt0_4 m hO t]; try rfl, vafter0_4]
    rw [show (vdats m hO 0 c).leavesExact 5 t = owns (c : Thread nD τ) (ms0_5 m hO t) fullShare ((vdats m hO 0 c).after 5 t) from by
      unfold Dat.leavesExact; rw [liveAt0_5 m hO t]; try rfl, vafter0_5]
    rw [show (vdats m hO 0 c).leavesExact 6 t = owns (c : Thread nD τ) (ms0_6 m hO t) fullShare ((vdats m hO 0 c).after 6 t) from by
      unfold Dat.leavesExact; rw [vliveAt0_6 m hO t]; try rfl, vafter0_6]
    iintro ⟨⟨⟨⟨HS0, HS1, HS2, HS3, HS4, HS5, HS6, HS7⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((vrun0_A c (grid0.coords t) _ _ _ _ _ _ _ _ _ _ _ _ _ _ _ _ _ _ _ _ _ _ _ _ _ _ _ _ _ _ _ _ _ _ (fun h => h0 ((hcond0_0 t).mp h)) (iblk m hO c 0 t) (iblk m hO c 1 t) (iblk m hO c 2 t) (iblk m hO c 3 t) (iblk m hO c 4 t) (iblk m hO c 5 t) (haux c t) (tbl m 0)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    isplitl [HT0]; · iexact HT0
    iintro ⟨H0, H1, H2, H3, H4, H5, H6, H7, H8, HS0, HS1, HS2, HS3, HS4, HS5, HS6, HS7, HT0⟩
    isplitl [HS0 HS1 HS2 HS3 HS4 HS5 HS6 HS7 Hg HT0]
    · isplitl [HS0 HS1 HS2 HS3 HS4 HS5 HS6 HS7 Hg]
      · isplitl [HS0 HS1 HS2 HS3 HS4 HS5 HS6 HS7]
        · isplitl [HS0]
          · iexact HS0
          isplitl [HS1]
          · iexact HS1
          isplitl [HS2]
          · iexact HS2
          isplitl [HS3]
          · iexact HS3
          isplitl [HS4]
          · iexact HS4
          isplitl [HS5]
          · iexact HS5
          isplitl [HS6]
          · iexact HS6
          iexact HS7
        iexact Hg
      iexact HT0
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

/-- The body table's row at point `t`'s slots is the body as `bodyAt0` spells it. -/
theorem vdefs₀_row (hO : Ok m) (t : Fin (cfgM m hO).N) :
    defs₀ (F := Ideal) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem vbody_obligation (hO : Ok m) (haux : ∀ (c : Dev nD) (t : Fin (cfgM m hO).N), StdAux (iblk m hO c 5 t)) (c : Dev nD) : BodyObligation (vdats m hO 0 c) (defs₀ (F := Ideal)) Variants.none () Set.univ vforgets0 := fun t => by
  rw [bigSep_W0, bigSep_W0, vdefs₀_row m hO]
  exact triple_restated (vsound_body m hO haux c t) rfl .rfl fun _ => .rfl

/-! ## The run and the frame -/

-- `θ_run_frameP_forget`'s implicit arguments are found by unifying its conclusion with this one, which takes unfolding plain
-- definitions in a metavariable's type
set_option backward.isDefEq.respectTransparency.types false in
/-- THE LAUNCH: `vrun_main`'s statement, and every semaphore counter of the machine at zero at every final state. -/
theorem vrun_main_quiescent (hO : Ok m) (haux : ∀ (c : Dev nD) (t : Fin (cfgM m hO).N), StdAux (iblk m hO c 5 t)) : θ_run defs (onTc (τ := τ) (main (F := Ideal))) (s₀ m ρ) (fun r => (Pipeline.RDat.FramePost ((Pipeline.pin pcfgs fun _ => adm m hO) 0) (fun c => (vdats m hO 0 c).toRForget vforgets0) (V m)) r ∧ r.2.sem = fun _ => 0) :=
  Pipeline.θ_run_frameP_forget (Q' := _) pcfgs (fun _ => adm m hO) (vdats m hO) (0 : Fin 1) launch0 defs₀ Variants.none vforgets0 m ρ main
    (hbody := fun c => (vbody_obligation m hO haux c).loose) (hshare := fun c => (vdats m hO 0 c).share_full fun _ => rfl)
    (howed := fun _ _ => rfl) (V := V m) (hmain := hmain m Variants.none) (hA := vA_eq m hO) (hpf := V_pre m) (hΦ := fun _ _ => rfl)

/-- At the compiled mesh, for any values, from any memory with zero counters: every weakly fair execution of @main on the
    TensorCores terminates, and every final state has every INPUT array of the pipeline unchanged, nothing stated of the
    FORGOTTEN outputs (windows 7, 8) (Lib/Pipeline/Frame.lean `RDat.FramePost` over the proof data with those windows
    forgotten, Dat.lean `Dat.toRForget`), and every other unscoped buffer at its region-entry contents. -/
theorem vrun_main (hO : Ok m) (haux : ∀ (c : Dev nD) (t : Fin (cfgM m hO).N), StdAux (iblk m hO c 5 t)) : θ_run defs (onTc (τ := τ) (main (F := Ideal))) (s₀ m ρ) (Pipeline.RDat.FramePost ((Pipeline.pin pcfgs fun _ => adm m hO) 0) (fun c => (vdats m hO 0 c).toRForget vforgets0) (V m)) :=
  (θ_run defs _ _).mono (fun _ h => h.1) (vrun_main_quiescent m ρ hO haux)

end Cert.KernelIdeal.Gen

end
-- ==== Proof.Value.KernelValue.lean ====
/- The array of encodings that the kernel leaves, from its arguments. -/
module

public import proofs.«01_k».proof.Proof.Value.KernelEnc
public import proofs.«01_k».proof.Proof.Value.Frame
@[expose] public section
set_option maxRecDepth 8192
set_option maxHeartbeats 400000
noncomputable section
namespace Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable (m : (ℓ : Loc nD τ sig) → Buf (Elt Ideal) ℓ) (ρ : Dev nD → PrngReg)

/-- The encoding as a whole array, from the arguments on core `c`. -/
def fdeOf (c : Dev nD) (y : S2000x5120.Idx) : EReal :=
  encA (m ((c : Thread nD τ).loc main_arg0)) (m ((c : Thread nD τ).loc main_arg1)) (m ((c : Thread nD τ).loc main_arg2)) (m ((c : Thread nD τ).loc main_arg3)) (m ((c : Thread nD τ).loc main_arg4))
    (y 0) ⟨(y 1).val / 256, by have : (y 1).val < 5120 := (y 1).isLt; omega⟩ ⟨(y 1).val / 8 % 32, by omega⟩ ⟨(y 1).val % 8, by omega⟩

theorem VALv_block (hO : Ok m) (c : Dev nD) (t : Fin (cfgM m hO).N) (hcodes : ∀ y, ((m ((c : Thread nD τ).loc main_arg3) : S2000x256x20.Idx → BitVec 32) y).toNat < 32) (g : Fin 5) (d : Fin 16) (p : Fin 8) (n : Fin 128) :
    VALv (PTv (iblk m hO c 0 t) (iblk m hO c 1 t) (iblk m hO c 4 t)) (iblk m hO c 5 t) (mWords (iblk m hO c 2 t) (iblk m hO c 3 t)) g d p n
      = encA (m ((c : Thread nD τ).loc main_arg0)) (m ((c : Thread nD τ).loc main_arg1)) (m ((c : Thread nD τ).loc main_arg2)) (m ((c : Thread nD τ).loc main_arg3)) (m ((c : Thread nD τ).loc main_arg4))
        (doc t d) ⟨4 * g.val + n.val / 32, by omega⟩ ⟨n.val % 32, by omega⟩ p := by
  rw [VALv_encK _ _ (blk5 m hO c t), encK_eq]
  unfold encA
  congr 1
  · funext s
    have e : (⟨32 * g.val + 8 * (n.val / 32) + p.val, by omega⟩ : Fin 160) = ⟨8 * (⟨4 * g.val + n.val / 32, by omega⟩ : Fin 20).val + p.val, by have := p.isLt; have := g.isLt; have := n.isLt; show 8 * (4 * g.val + n.val / 32) + p.val < 160; omega⟩ := by
      apply Fin.ext; show 32 * g.val + 8 * (n.val / 32) + p.val = 8 * (4 * g.val + n.val / 32) + p.val; omega
    rw [e]
    unfold PTv projA
    refine Finset.sum_congr rfl fun k _ => ?_
    rw [blk0, blk1]
    exact congrArg (· * _) (blk4 m hO c t ⟨4 * g.val + n.val / 32, by omega⟩ p k)
  · funext c' s
    have hn : (ln ⟨n.val / 32, by omega⟩ c').val / 32 = n.val / 32 := by
      show (32 * (n.val / 32) + c'.val) / 32 = n.val / 32; omega
    have hm : (ln ⟨n.val / 32, by omega⟩ c').val % 32 = c'.val := by
      show (32 * (n.val / 32) + c'.val) % 32 = c'.val; omega
    have hr : (⟨4 * g.val + (ln ⟨n.val / 32, by omega⟩ c').val / 32, by have := (ln ⟨n.val / 32, by omega⟩ c').isLt; omega⟩ : Fin 20) = ⟨4 * g.val + n.val / 32, by omega⟩ := by
      apply Fin.ext; show 4 * g.val + (ln ⟨n.val / 32, by omega⟩ c').val / 32 = _; rw [hn]
    have hb : (iblk m hO c 3 t : S20x16x256.Idx → BitVec 32) (ix3 (⟨4 * g.val + n.val / 32, by omega⟩ : Fin 20) d s) = (m ((c : Thread nD τ).loc main_arg3) : S2000x256x20.Idx → BitVec 32) (ix3 (doc t d) s ⟨4 * g.val + n.val / 32, by omega⟩) := blk3 m hO c t _ d s
    have hl : (iblk m hO c 2 t : S16x1.Idx → BitVec 32) (ix2 d 0) = (m ((c : Thread nD τ).loc main_arg2) : S2000.Idx → BitVec 32) (ix1 (doc t d)) := blk2 m hO c t d
    have h := mem_iff (iblk m hO c 2 t) (iblk m hO c 3 t) g d (ln ⟨n.val / 32, by omega⟩ c') s (by rw [hr]; exact lt_of_eq_of_lt (congrArg BitVec.toNat hb) (hcodes _))
    rw [hr, hm] at h
    refine propext (h.trans ?_)
    unfold seg
    exact Iff.of_eq (congrArg₂ (fun (u v : BitVec 32) => IntOp.cmpi .slt (BitVec.ofNat 32 s.val) u = 1#1 ∧ v.toNat = c'.val) hl hb)

theorem blockOut_eq (hO : Ok m) (c : Dev nD) (t : Fin (cfgM m hO).N) (hcodes : ∀ y, ((m ((c : Thread nD τ).loc main_arg3) : S2000x256x20.Idx → BitVec 32) y).toNat < 32) (d : Fin 16) (q : Fin 5120) :
    blockOut (iblk m hO c 0 t) (iblk m hO c 1 t) (iblk m hO c 2 t) (iblk m hO c 3 t) (iblk m hO c 4 t) (iblk m hO c 5 t) (ix2 d q) = fdeOf m c (ix2 (doc t d) q) := by
  refine (VALv_block m hO c t hcodes _ _ _ _).trans ?_
  unfold fdeOf
  have hd := d.isLt
  have hq := q.isLt
  congr 1
  · congr 1
    apply Fin.ext
    show (8 * d.val + q.val % 8) / 8 = d.val
    omega
  · apply Fin.ext
    show 4 * (q.val / 1024) + (16 * (q.val / 128 % 8) + q.val % 128 / 8) / 32 = q.val / 256
    omega
  · apply Fin.ext
    show (16 * (q.val / 128 % 8) + q.val % 128 / 8) % 32 = q.val / 8 % 32
    omega
  · apply Fin.ext
    show (8 * d.val + q.val % 8) % 8 = q.val % 8
    omega

theorem vflushed_6 (hO : Ok m) (c : Dev nD) (hcodes : ∀ y, ((m ((c : Thread nD τ).loc main_arg3) : S2000x256x20.Idx → BitVec 32) y).toNat < 32) (t : Fin (cfgM m hO).N) (hf : ((cfgM m hO).win 6).flush t = true) :
    (vdats m hO 0 c).flushed 6 t = (((cfgM m hO).win 6).blk t).view.read (Elt Ideal) (fdeOf m c) := by
  show ((cfgM m hO).win 6).cut (grid0.coords t) ((vdats m hO 0 c).after 6 t) = _
  rw [vafter0_6]
  refine funext fun (y : S16x5120.Idx) => ?_
  refine Eq.trans ?_ (View.read_apply ..).symm
  obtain ⟨d, q, rfl⟩ : ∃ (d : Fin 16) (q : Fin 5120), y = ix2 d q := ⟨y 0, y 1, by funext a; fin_cases a <;> rfl⟩
  refine (blockOut_eq m hO c t hcodes d q).trans ?_
  show fdeOf m c _ = fdeOf m c _
  congr 1
  funext a
  apply Fin.ext
  match a with
  | ⟨0, _⟩ => show 16 * t.val + d.val = cc0_transform_6 (grid0.coords t) 0 * 16 + 1 * d.val; rw [(idx6 t).1]; omega
  | ⟨1, _⟩ => show q.val = cc0_transform_6 (grid0.coords t) 1 * 5120 + 1 * q.val; rw [(idx6 t).2]; omega

/-- Every entry lies in the block of the point of its document. -/
theorem cover_6 (hO : Ok m) (t : Fin (cfgM m hO).N) (i : S2000x5120.Idx) (htv : t.val = (i 0 : Nat) / 16) :
    i ∈ ((View.whole main_v5_0).slice (((cfgM m hO).win 6).rect t)).set := by
  rw [show ((View.whole main_v5_0).slice (((cfgM m hO).win 6).rect t)).set = (((cfgM m hO).win 6).rect t).set from View.set_slice_whole main_v5_0 _]
  refine Rect.mem_set_unit.mpr ?_
  have h0 : (i 0 : Nat) < 2000 := (i 0).isLt
  have h1 : (i 1 : Nat) < 5120 := (i 1).isLt
  intro a
  match a with
  | ⟨0, _⟩ => show cc0_transform_6 (grid0.coords t) 0 * 16 ≤ (i 0 : Nat) ∧ (i 0 : Nat) < cc0_transform_6 (grid0.coords t) 0 * 16 + 16
              rw [(idx6 t).1, htv]; omega
  | ⟨1, _⟩ => show cc0_transform_6 (grid0.coords t) 1 * 5120 ≤ (i 1 : Nat) ∧ (i 1 : Nat) < cc0_transform_6 (grid0.coords t) 1 * 5120 + 5120
              rw [(idx6 t).2]; omega

/-- The point of an entry's document. -/
def ptOf (i : S2000x5120.Idx) : Fin grid0.N := ⟨(i 0 : Nat) / 16, by have h0 : (i 0 : Nat) < 2000 := (i 0).isLt; show (i 0 : Nat) / 16 < 125; omega⟩

/-- The array of encodings after the run. -/
theorem vfinal_6 (hO : Ok m) (c : Dev nD) (hcodes : ∀ y, ((m ((c : Thread nD τ).loc main_arg3) : S2000x256x20.Idx → BitVec 32) y).toNat < 32) :
    (vdats m hO 0 c).arrAt 6 (cfgM m hO).N = fdeOf m c :=
  (vdats m hO 0 c).arrAt_eq_of_cover 6 (fdeOf m c) (vflushed_6 m hO c hcodes) fun i => ⟨ptOf i, flush0_6 _ _, cover_6 m hO (ptOf i) i rfl⟩

end Cert.KernelIdeal.Gen
end
-- ==== Proof.Value.KernelRun.lean ====
/- The run of the kernel: its arguments unchanged, its semaphores at zero, its first result. -/
module

public import proofs.«01_k».proof.Proof.Value.KernelValue
@[expose] public section
set_option maxRecDepth 8192
set_option maxHeartbeats 400000
noncomputable section
namespace Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable (m : (ℓ : Loc nD τ sig) → Buf (Elt Ideal) ℓ) (ρ : Dev nD → PrngReg)

/-- The kernel runs and its arguments end as they were. -/
theorem vunchanged (hO : Ok m) : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ hO (fun c => (vdats m hO 0 c).toRForget vforgets0) (vA_eq m hO) (vrun_main m ρ hO fun c t => blk5 m hO c t)

/-- The same, with every semaphore at zero in the end. -/
theorem vframe (hO : Ok m) : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (vunchanged m ρ hO) ((θ_run defs _ _).mono (fun _ h => h.2) (vrun_main_quiescent m ρ hO fun c t => blk5 m hO c t))

/-- With every code below 32 the run leaves the encodings in the first result. -/
theorem vresult (hO : Ok m) (hcodes : ∀ (c : Dev nD) y, ((m ((c : Thread nD τ).loc main_arg3) : S2000x256x20.Idx → BitVec 32) y).toNat < 32) :
    θ_run defs (onTc (τ := τ) (main (F := Ideal))) ⟨m, fun _ => 0, ρ⟩ (fun r => ∀ c : Dev nD, r.2.mem ((c.tc : Thread nD τ).loc main_v5_0) = fdeOf m c) :=
  (θ_run defs _ _).mono (fun r h c => by
    have h6 := (h c).1 6
    exact ((Pipeline.Dat.toRForget_arrAt_iff (vdats m hO 0 c) (fgt := vforgets0) (w := 6) rfl _ _).mp h6).trans (vfinal_6 m hO c (hcodes c)))
    (vrun_main m ρ hO fun c t => blk5 m hO c t)

end Cert.KernelIdeal.Gen
end
-- ==== Proof.Value.RefWords.lean ====
/- The reference's integer reductions: the count of a segment, its first member, and the token that stands for an empty segment. -/
module

public import proofs.«01_k».proof.Proof.Value.Enc
@[expose] public section
set_option maxRecDepth 8192
set_option maxHeartbeats 400000
noncomputable section
namespace Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- The signed minimum of words whose sign bit is clear is one of them and at most each. -/
theorem fold_minsi {ι : Type} [DecidableEq ι] (s : Finset ι) (f : ι → BitVec 32) (hf : ∀ x, (f x).toNat < 2147483647) :
    (s.fold IntOp.minsi (2147483647#32) f = 2147483647#32 ∧ s = ∅ ∨ ∃ i ∈ s, s.fold IntOp.minsi (2147483647#32) f = f i) ∧ ∀ x ∈ s, (s.fold IntOp.minsi (2147483647#32) f).toNat ≤ (f x).toNat := by
  have key : ∀ a b : BitVec 32, a.toNat ≤ 2147483647 → b.toNat ≤ 2147483647 → a.slt b = decide (a.toNat < b.toNat) := by
    intro a b ha hb
    rw [BitVec.slt_eq_decide, BitVec.toInt_eq_toNat_of_lt (by omega), BitVec.toInt_eq_toNat_of_lt (by omega)]
    simp
  induction s using Finset.induction_on with
  | empty => exact ⟨Or.inl ⟨rfl, rfl⟩, fun x hx => absurd hx (Finset.notMem_empty x)⟩
  | insert a s ha ih =>
    rw [Finset.fold_insert ha]
    have hle : (s.fold IntOp.minsi (2147483647#32) f).toNat ≤ 2147483647 := by
      rcases ih.1 with ⟨h, -⟩ | ⟨i, -, h⟩
      · rw [h]; decide
      · rw [h]; exact (hf i).le
    generalize s.fold IntOp.minsi (2147483647#32) f = F at *
    have hmin : IntOp.minsi (f a) F = if decide ((f a).toNat < F.toNat) then f a else F := by
      unfold IntOp.minsi
      rw [key _ _ (hf a).le hle]
    rw [hmin]
    by_cases hlt : (f a).toNat < F.toNat
    · have e : decide ((f a).toNat < F.toNat) = true := decide_eq_true hlt
      rw [e, if_pos rfl]
      refine ⟨Or.inr ⟨a, Finset.mem_insert_self a s, rfl⟩, fun x hx => ?_⟩
      rcases Finset.mem_insert.mp hx with rfl | hx
      · exact le_rfl
      · exact hlt.le.trans (ih.2 x hx)
    · have e : decide ((f a).toNat < F.toNat) = false := decide_eq_false hlt
      rw [e, if_neg (by decide)]
      refine ⟨Or.inr ?_, fun x hx => ?_⟩
      · rcases ih.1 with ⟨h, hs⟩ | ⟨i, hi, h⟩
        · rw [h] at hlt
          have := hf a
          exact absurd this (by simpa using hlt)
        · exact ⟨i, Finset.mem_insert_of_mem hi, h⟩
      · rcases Finset.mem_insert.mp hx with rfl | hx
        · omega
        · exact ih.2 x hx

/-- Bits added up as words count the set ones. -/
theorem fold_addi (f : Fin 256 → BitVec 1) (S : Fin 256 → Prop) (hS : ∀ x, f x = 1#1 ↔ S x) :
    (Finset.univ : Finset (Fin 256)).fold IntOp.addi (0#32) (fun x => BitVec.setWidth 32 (f x)) = BitVec.ofNat 32 (cnt S) := by
  classical
  have key : ∀ s : Finset (Fin 256), s.fold IntOp.addi (0#32) (fun x => BitVec.setWidth 32 (f x)) = BitVec.ofNat 32 (s.filter S).card := by
    intro s
    induction s using Finset.induction_on with
    | empty => rfl
    | insert a s ha ih =>
      rw [Finset.fold_insert ha, ih, Finset.filter_insert]
      have hb : f a = 1#1 ∨ f a = 0#1 := by
        have : ∀ b : BitVec 1, b = 1#1 ∨ b = 0#1 := by decide
        exact this _
      by_cases h : S a
      · rw [if_pos h, (hS a).mpr h, Finset.card_insert_of_notMem (fun h' => ha (Finset.mem_of_mem_filter a h'))]
        show (1#32) + BitVec.ofNat 32 _ = _
        rw [BitVec.add_comm, BitVec.ofNat_add]
      · rw [if_neg h]
        rcases hb with hb | hb
        · exact absurd ((hS a).mp hb) h
        · rw [hb]
          show (0#32) + BitVec.ofNat 32 _ = _
          rw [BitVec.zero_add]
  unfold cnt
  convert key Finset.univ

theorem cnt_le (S : Fin 256 → Prop) : cnt S ≤ 256 := by
  classical
  unfold cnt
  exact (Finset.card_filter_le _ _).trans (by simp)

theorem cnt_pos (S : Fin 256 → Prop) : 0 < cnt S ↔ ∃ t, S t := by
  classical
  unfold cnt
  rw [Finset.card_pos]
  constructor
  · rintro ⟨t, h⟩; exact ⟨t, by simpa using h⟩
  · rintro ⟨t, h⟩; exact ⟨t, by simpa using h⟩

/-- The word test for an occupied segment. -/
theorem occ_iff (S : Fin 256 → Prop) : IntOp.cmpi .sgt (BitVec.ofNat 32 (cnt S)) (0#32) = 1#1 ↔ 0 < cnt S := by
  have h : ∀ n : Fin 257, IntOp.cmpi .sgt (BitVec.ofNat 32 n.val) (0#32) = 1#1 ↔ 0 < n.val := by decide +kernel
  exact h ⟨cnt S, by have := cnt_le S; omega⟩

theorem sel_eq {α : Type} (b : BitVec 1) (x y : α) : Scalar.select b x y = if b = 1#1 then x else y := rfl

/-- The least member's word, or 256. -/
def firstW (mb : Fin 256 → BitVec 1) : BitVec 32 :=
  (Finset.univ : Finset (Fin 256)).fold IntOp.minsi (2147483647#32) fun x => Scalar.select (mb x) (BitVec.ofNat 32 x.val) (256#32)

theorem firstW_occ (mb : Fin 256 → BitVec 1) (S : Fin 256 → Prop) (hS : ∀ x, mb x = 1#1 ↔ S x) (h : ∃ t, S t) :
    (firstW mb).toNat = firstTok S ∧ firstTok S < 256 := by
  have hv : ∀ x : Fin 256, (Scalar.select (mb x) (BitVec.ofNat 32 x.val) (256#32)).toNat = if mb x = 1#1 then x.val else 256 := by
    intro x
    rw [sel_eq]
    split
    · rw [BitVec.toNat_ofNat]; have := x.isLt; exact Nat.mod_eq_of_lt (by omega)
    · rfl
  obtain ⟨h1, h2⟩ := fold_minsi (Finset.univ : Finset (Fin 256)) (fun x => Scalar.select (mb x) (BitVec.ofNat 32 x.val) (256#32)) (fun x => by rw [hv]; split <;> omega)
  have hF : IsFst S (firstW mb).toNat := by
    right
    obtain ⟨t0, ht0⟩ := h
    rcases h1 with ⟨-, h1⟩ | ⟨i, -, h1⟩
    · exact absurd h1 (Finset.univ_nonempty.ne_empty)
    · have h3 := h2 t0 (Finset.mem_univ _)
      rw [h1] at h3 h2
      rw [hv, hv, if_pos ((hS t0).mpr ht0)] at h3
      have hi : mb i = 1#1 := by
        by_contra hn
        rw [if_neg hn] at h3
        omega
      refine ⟨i, (hS i).mp hi, ?_, fun t' ht' => ?_⟩
      · unfold firstW; rw [h1, hv, if_pos hi]
      · have h4 := h2 t' (Finset.mem_univ _)
        rwa [hv, hv, if_pos hi, if_pos ((hS t').mpr ht')] at h4
  have e := hF.unique (firstTok_isFst S)
  refine ⟨e, ?_⟩
  rcases firstTok_isFst S with ⟨-, hn⟩ | ⟨t, -, ht, -⟩
  · obtain ⟨t, ht⟩ := h; exact absurd ht (hn t)
  · rw [ht]; exact t.isLt

/-- The remainder by 257 as the host computes it, with the sign of the divisor. -/
def modW (z : BitVec 32) : BitVec 32 :=
  Scalar.select (IntOp.andi (IntOp.cmpi .ne (IntOp.cmpi .slt (IntOp.remsi .host z (Scalar.select (IntOp.cmpi .eq (257#32) (0#32)) (1#32) (257#32))) (0#32))
      (IntOp.cmpi .slt (Scalar.select (IntOp.cmpi .eq (257#32) (0#32)) (1#32) (257#32)) (0#32)))
      (IntOp.cmpi .ne (IntOp.remsi .host z (Scalar.select (IntOp.cmpi .eq (257#32) (0#32)) (1#32) (257#32))) (0#32)))
    (IntOp.addi (IntOp.remsi .host z (Scalar.select (IntOp.cmpi .eq (257#32) (0#32)) (1#32) (257#32))) (Scalar.select (IntOp.cmpi .eq (257#32) (0#32)) (1#32) (257#32)))
    (IntOp.remsi .host z (Scalar.select (IntOp.cmpi .eq (257#32) (0#32)) (1#32) (257#32)))

theorem modW_eq (z : BitVec 32) (h : z.toNat ≤ 1542) : modW z = BitVec.ofNat 32 (z.toNat % 257) := by
  have hs : Scalar.select (IntOp.cmpi .eq (257#32) (0#32)) (1#32) (257#32) = (257#32) := by decide
  have hr : ∀ n : Fin 1543, (BitVec.ofNat 32 n.val).srem (257#32) = BitVec.ofNat 32 (n.val % 257) := by decide +kernel
  have hc : ¬ IntOp.SDivCorner z (257#32) := by
    unfold IntOp.SDivCorner
    rintro (h | ⟨-, h⟩)
    · exact absurd h (by decide)
    · exact absurd h (by decide)
  have hz : IntOp.remsi .host z (257#32) = BitVec.ofNat 32 (z.toNat % 257) := by
    unfold IntOp.remsi
    rw [if_neg hc]
    have := hr ⟨z.toNat, by omega⟩
    rwa [show BitVec.ofNat 32 (⟨z.toNat, by omega⟩ : Fin 1543).val = z from by simp] at this
  have hl : ∀ n : Fin 257, IntOp.cmpi .slt (BitVec.ofNat 32 n.val) (0#32) = 0#1 := by decide +kernel
  unfold modW
  rw [hs, hz, hl ⟨z.toNat % 257, Nat.mod_lt _ (by norm_num)⟩]
  have : IntOp.cmpi .ne (0#1) (IntOp.cmpi .slt (257#32) (0#32)) = 0#1 := by decide
  rw [this]
  have h0 : ∀ b : BitVec 1, IntOp.andi (0#1) b = 0#1 := by decide
  rw [h0]
  rfl

/-- The set bits of the exclusive or of two segment numbers. -/
theorem hpopW : ∀ a b : Fin 32, IntOp.ctpop (IntOp.xori (BitVec.ofNat 32 a.val) (BitVec.ofNat 32 b.val)) = BitVec.ofNat 32 (pop (xo a b)) := by decide +kernel
theorem pop_le5 : ∀ m : Fin 32, pop m ≤ 5 := by decide +kernel

/-- The key of an occupied segment: its distance times 257 plus its first member; of an empty one 1542. -/
def keyW (n : ℕ) (f : BitVec 32) (c c' : Fin 32) : BitVec 32 :=
  Scalar.select (IntOp.cmpi .sgt (BitVec.ofNat 32 n) (0#32))
    (IntOp.addi (IntOp.muli (IntOp.ctpop (IntOp.xori (BitVec.ofNat 32 c.val) (BitVec.ofNat 32 c'.val))) (257#32)) f) (1542#32)

theorem keyW_toNat (mb : Fin 256 → BitVec 1) (S : Fin 256 → Prop) (hS : ∀ x, mb x = 1#1 ↔ S x) (c c' : Fin 32) :
    (keyW (cnt S) (firstW mb) c c').toNat = if firstTok S < 256 then pop (xo c c') * 257 + firstTok S else 1542 := by
  have hp := pop_le5 (xo c c')
  unfold keyW
  rw [sel_eq, hpopW]
  generalize pop (xo c c') = q at hp
  by_cases h : 0 < cnt S
  · obtain ⟨h1, h2⟩ := firstW_occ mb S hS ((cnt_pos _).mp h)
    rw [if_pos ((occ_iff _).mpr h), if_pos h2]
    generalize firstTok S = v at h1 h2
    generalize firstW mb = fw at h1
    unfold IntOp.addi IntOp.muli
    rw [BitVec.toNat_add, BitVec.toNat_mul, h1, BitVec.toNat_ofNat, show (257#32).toNat = 257 from rfl, Nat.mod_eq_of_lt (show q < 2 ^ 32 by omega), Nat.mod_eq_of_lt (show q * 257 < 2 ^ 32 by omega), Nat.mod_eq_of_lt (show q * 257 + v < 2 ^ 32 by omega)]
  · rw [if_neg (fun h' => h ((occ_iff _).mp h')), if_neg]
    · rfl
    · intro h'
      rcases firstTok_isFst S with ⟨h3, -⟩ | ⟨t, ht, -⟩
      · omega
      · exact h ((cnt_pos _).mpr ⟨t, ht⟩)

/-- The token that stands for an empty segment: the least key modulo 257. -/
theorem tstar_word (mb : Fin 32 → Fin 256 → BitVec 1) (S : Fin 32 → Fin 256 → Prop) (hS : ∀ c x, mb c x = 1#1 ↔ S c x) (c : Fin 32) :
    modW ((Finset.univ : Finset (Fin 32)).fold IntOp.minsi (2147483647#32) fun c' => keyW (cnt (S c')) (firstW (mb c')) c c') = BitVec.ofNat 32 (tstar S c) := by
  have hv : ∀ c', (keyW (cnt (S c')) (firstW (mb c')) c c').toNat = if firstTok (S c') < 256 then pop (xo c c') * 257 + firstTok (S c') else 1542 :=
    fun c' => keyW_toNat (mb c') (S c') (hS c') c c'
  generalize hk : (fun c' => keyW (cnt (S c')) (firstW (mb c')) c c') = k
  have hv' : ∀ c', (k c').toNat = if firstTok (S c') < 256 then pop (xo c c') * 257 + firstTok (S c') else 1542 := by
    intro c'; rw [← hk]; exact hv c'
  have hb : ∀ c', (k c').toNat ≤ 1542 := by
    intro c'
    have h5 := pop_le5 (xo c c')
    rw [hv']
    split
    · omega
    · exact le_rfl
  obtain ⟨h1, h2⟩ := fold_minsi (Finset.univ : Finset (Fin 32)) k (fun x => (hb x).trans_lt (by norm_num))
  generalize (Finset.univ : Finset (Fin 32)).fold IntOp.minsi (2147483647#32) k = F at h1 h2
  rcases h1 with ⟨-, h1⟩ | ⟨i, -, h1⟩
  · exact absurd h1 (Finset.univ_nonempty.ne_empty)
  rw [h1] at h2 ⊢
  have hpi := pop_le5 (xo c i)
  rw [modW_eq _ (hb i), hv']
  unfold tstar
  rcases tok_spec S (fun c => firstTok (S c)) (fun c => firstTok_isFst _) c with ⟨hn, h⟩ | ⟨c', h, e, hm⟩
  · rw [h, if_neg]
    intro h'
    rcases firstTok_isFst (S i) with ⟨h3, -⟩ | ⟨t, ht, -⟩
    · omega
    · exact hn i t ht
  · rw [e]
    have h3 := h2 c' (Finset.mem_univ _)
    have hpc := pop_le5 (xo c c')
    rw [hv', hv', if_pos h] at h3
    by_cases hi : firstTok (S i) < 256
    · have h4 := hm i hi
      rw [if_pos hi] at h3 ⊢
      congr 1
      generalize firstTok (S i) = fi at *
      generalize firstTok (S c') = fc at *
      generalize pop (xo c i) = pi at *
      generalize pop (xo c c') = pc at *
      omega
    · rw [if_neg hi] at h3
      exfalso
      generalize firstTok (S c') = fc at *
      generalize pop (xo c c') = pc at *
      omega

end Cert.KernelIdeal.Gen
end
-- ==== Proof.Value.RefMath.lean ====
/- The reference's formula for one encoded entry, in numbers. -/
module

public import proofs.«01_k».proof.Proof.Value.RefWords
@[expose] public section
set_option maxRecDepth 8192
set_option maxHeartbeats 400000
noncomputable section
namespace Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

theorem uitofp_bit (b : BitVec 1) : FloatOps.uitofp (F := Ideal) .f32 b = ind (b = 1#1) := by
  have h : b = 1#1 ∨ b = 0#1 := by
    have : ∀ b : BitVec 1, b = 1#1 ∨ b = 0#1 := by decide
    exact this b
  show (((b.toNat : ℝ) : EReal)) = ind (b = 1#1)
  unfold ind
  rcases h with rfl | rfl
  · rw [if_pos rfl]; simp
  · rw [if_neg (by decide)]; simp

theorem guard_eq (x : EReal) : Scalar.select (BitVec.ofBool (decide (max x (-x) < Ideal.ofBits .f32 0x7F800000#32))) x (Ideal.ofBits .f32 0xFF800000#32) = guard x := by
  have hi : Ideal.ofBits .f32 0x7F800000#32 = ⊤ := by simp [Ideal.ofBits, Ideal.ieee]
  have hn : Ideal.ofBits .f32 0xFF800000#32 = ⊥ := by simp [Ideal.ofBits, Ideal.ieee]
  rw [sel_eq, hi, hn]
  unfold guard
  by_cases h : max x (-x) < ⊤
  · rw [if_pos h, if_pos]; rw [decide_eq_true h]; rfl
  · rw [if_neg h, if_neg]; rw [decide_eq_false h]; decide

theorem count_real (n : ℕ) (h : 0 < n) (h' : n ≤ 256) : FloatOps.sitofp (F := Ideal) .f32 (IntOp.maxsi (BitVec.ofNat 32 n) (1#32)) = ((n : ℝ) : EReal) := by
  have hm : ∀ n : Fin 257, 0 < n.val → (IntOp.maxsi (BitVec.ofNat 32 n.val) (1#32)).toInt = (n.val : ℤ) := by decide +kernel
  show ((((IntOp.maxsi (BitVec.ofNat 32 n) (1#32)).toInt : ℝ)) : EReal) = _
  rw [hm ⟨n, by omega⟩ h]
  simp

theorem pick_iff (n : ℕ) (h : n < 256) (x : Fin 256) : IntOp.cmpi .eq (BitVec.ofNat 32 n) (BitVec.ofNat 32 x.val) = 1#1 ↔ x.val = n := by
  have hx := x.isLt
  have e : IntOp.cmpi .eq (BitVec.ofNat 32 n) (BitVec.ofNat 32 x.val) = BitVec.ofBool (decide (BitVec.ofNat 32 n = BitVec.ofNat 32 x.val)) := by
    unfold IntOp.cmpi; congr 1
  have hq : BitVec.ofNat 32 n = BitVec.ofNat 32 x.val ↔ x.val = n := by
    constructor
    · intro h'
      have := congrArg BitVec.toNat h'
      rw [BitVec.toNat_ofNat, BitVec.toNat_ofNat, Nat.mod_eq_of_lt (by omega), Nat.mod_eq_of_lt (by omega)] at this
      exact this.symm
    · intro h'; rw [h']
  rw [e, ← hq]
  by_cases hh : BitVec.ofNat 32 n = BitVec.ofNat 32 x.val
  · rw [decide_eq_true hh]; exact ⟨fun _ => hh, fun _ => rfl⟩
  · rw [decide_eq_false hh]; exact ⟨fun h' => absurd h' (by decide), fun h' => absurd h' hh⟩

/-- The reference's formula for one encoded entry is the mean of the segment, or the projection at the nearest token. -/
theorem ref_value (A : Fin 256 → EReal) (mb : Fin 32 → Fin 256 → BitVec 1) (c : Fin 32) (n : Fin 32 → BitVec 32)
    (hn : ∀ c', n c' = Finset.fold IntOp.addi (0#32) (fun x : Fin 256 => BitVec.setWidth 32 (mb c' x)) Finset.univ) :
    Scalar.select (α := EReal) (IntOp.cmpi .sgt (n c) (0#32))
      (Ideal.div (∑ x : Fin 256, FloatOps.uitofp (F := Ideal) .f32 (mb c x) * Scalar.select (BitVec.ofBool (decide (max (A x * Ideal.ofBits .f32 1052050675#32) (-(A x * Ideal.ofBits .f32 1052050675#32)) < Ideal.ofBits .f32 0x7F800000#32)))
          (A x * Ideal.ofBits .f32 1052050675#32) (Ideal.ofBits .f32 0xFF800000#32)) (FloatOps.sitofp (F := Ideal) .f32 (IntOp.maxsi (n c) (1#32))))
      (∑ x : Fin 256, FloatOps.uitofp (F := Ideal) .f32 (IntOp.cmpi .eq (modW (Finset.fold IntOp.minsi (2147483647#32) (fun c' : Fin 32 =>
          Scalar.select (IntOp.cmpi .sgt (n c') (0#32)) (IntOp.addi (IntOp.muli (IntOp.ctpop (IntOp.xori (BitVec.ofNat 32 c.val) (BitVec.ofNat 32 c'.val))) (257#32))
            (Finset.fold IntOp.minsi (2147483647#32) (fun x : Fin 256 => Scalar.select (mb c' x) (BitVec.ofNat 32 x.val) (256#32)) Finset.univ)) (1542#32)) Finset.univ)) (BitVec.ofNat 32 x.val)) * (A x * Ideal.ofBits .f32 1052050675#32))
      = encR A (fun c t => mb c t = 1#1) c := by
  have hn' : ∀ c', n c' = BitVec.ofNat 32 (cnt (fun t => mb c' t = 1#1)) := fun c' => (hn c').trans (fold_addi _ _ fun x => Iff.rfl)
  have ht := tstar_word mb (fun c t => mb c t = 1#1) (fun _ _ => Iff.rfl) c
  unfold keyW firstW at ht
  have hP : Ideal.ofBits .f32 1052050675#32 = PSC := rfl
  rw [hP]
  simp only [hn', ht]
  unfold encR
  rw [sel_eq]
  by_cases h : 0 < cnt (fun t => mb c t = 1#1)
  · rw [if_pos ((occ_iff _).mpr h), if_pos h, count_real _ h (cnt_le _)]
    congr 1
    exact Finset.sum_congr rfl fun x _ => by rw [uitofp_bit, guard_eq]
  · rw [if_neg (fun h' => h ((occ_iff _).mp h')), if_neg h]
    refine Finset.sum_congr rfl fun x _ => ?_
    rw [uitofp_bit]
    congr 2
    exact propext (pick_iff _ (tstar_lt _ _) x)

end Cert.KernelIdeal.Gen
end
-- ==== Proof.Value.RefRead.lean ====
/- The reference's arrays read entry by entry, one stretch of host operations at a time. -/
module

public import proofs.«01_k».proof.Proof.Value.RefWords
public import proofs.«01_k».proof.Proof.Gen.ReferenceIdeal.Frame
public import Idealize.ShloMosaic.Lib.StableHlo.ReadAt
public import Idealize.ShloMosaic.Lib.Pointwise
@[expose] public section
set_option maxRecDepth 8192
set_option maxHeartbeats 400000
noncomputable section
namespace Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable (W : Valuation τ sig (Elt Ideal))

/-- The projection of token `t` of document `b` in repetition `r`, entry `p`, before its scale. -/
def rA (b : Fin 2000) (r : Fin 20) (p : Fin 8) (t : Fin 256) : EReal :=
  ∑ x : Fin 128, @id EReal ((W (Proc.devRef .tc main_v0_0) : S2000x256x128.Idx → EReal) (ix3 b t ⟨x.val / 32 * 32 + x.val % 32, by omega⟩)) * @id EReal ((W (Proc.devRef .tc main_arg1) : S2000x256x4.Idx → EReal) (ix3 b t ⟨x.val / 32, by omega⟩))
    * @id EReal ((W (Proc.devRef .tc main_v0_1) : S20x128x8.Idx → EReal) (ix3 r x p))

/-- Whether token `t` of document `b` is a member of segment `c` in repetition `r`. -/
def rmb (b : Fin 2000) (r : Fin 20) (c : Fin 32) (t : Fin 256) : BitVec 1 :=
  IntOp.andi (IntOp.cmpi .slt (BitVec.ofNat 32 t.val) ((W (Proc.devRef .tc main_arg2) : S2000.Idx → BitVec 32) (ix1 b)))
    (IntOp.cmpi .eq ((W (Proc.devRef .tc main_arg3) : S2000x256x20.Idx → BitVec 32) (ix3 b t r)) (BitVec.ofNat 32 c.val))

theorem read_v24 (b : Fin 2000) (t : Fin 256) (r : Fin 20) (c : Fin 32) :
    (StableHlo.after hostOps1 W (Proc.devRef .tc main_v24) : S2000x256x20x32.Idx → BitVec 1) (ix4 b t r c) = rmb W b r c t := by
  unfold rmb
  after_reads_at

theorem read_v9 (b : Fin 2000) (t : Fin 256) (r : Fin 20) (p : Fin 8) :
    (StableHlo.after hostOps1 W (Proc.devRef .tc main_v9) : S2000x256x20x8.Idx → EReal) (ix4 b t r p) = rA W b r p t * Ideal.ofBits .f32 1052050675#32 := by
  unfold rA
  after_reads_at
  try rfl

theorem read_v27 (b : Fin 2000) (t : Fin 256) (r : Fin 20) (p : Fin 8) :
    (StableHlo.after hostOps1 W (Proc.devRef .tc main_v27) : S2000x256x20x8.Idx → BitVec 1) (ix4 b t r p)
      = BitVec.ofBool (decide (max (rA W b r p t * Ideal.ofBits .f32 1052050675#32) (-(rA W b r p t * Ideal.ofBits .f32 1052050675#32)) < Ideal.ofBits .f32 0x7F800000#32)) := by
  unfold rA
  after_reads_at
  try rfl

theorem read_cst1 : (StableHlo.after hostOps1 W (Proc.devRef .tc main_cst_1) : S_.Idx → EReal) ix0 = Ideal.ofBits .f32 0xFF800000#32 := by
  after_reads_at
  try rfl

theorem read_v16 (c : Fin 32) : (StableHlo.after hostOps1 W (Proc.devRef .tc main_v16) : S32.Idx → BitVec 32) (ix1 c) = BitVec.ofNat 32 c.val := by
  after_reads_at
  try rfl

theorem read_v28 (b : Fin 2000) (t : Fin 256) (r : Fin 20) (p : Fin 8) :
    (StableHlo.after hostOps1_1 W (Proc.devRef .tc main_v28) : S2000x256x20x8.Idx → EReal) (ix4 b t r p)
      = Scalar.select ((W (Proc.devRef .tc main_v27) : S2000x256x20x8.Idx → BitVec 1) (ix4 b t r p)) ((W (Proc.devRef .tc main_v9) : S2000x256x20x8.Idx → EReal) (ix4 b t r p)) ((W (Proc.devRef .tc main_cst_1) : S_.Idx → EReal) ix0) := by
  after_reads_at
  try rfl

theorem read_v32 (b : Fin 2000) (r : Fin 20) (c : Fin 32) :
    (StableHlo.after hostOps1_2 W (Proc.devRef .tc main_v32) : S2000x20x32.Idx → BitVec 32) (ix3 b r c)
      = Finset.fold IntOp.addi (0#32) (fun x : Fin 256 => BitVec.setWidth 32 ((W (Proc.devRef .tc main_v24) : S2000x256x20x32.Idx → BitVec 1) (ix4 b x r c))) Finset.univ := by
  after_reads_at
  try rfl

theorem read_v34 (b : Fin 2000) (r : Fin 20) (c : Fin 32) :
    (StableHlo.after hostOps1_2 W (Proc.devRef .tc main_v34) : S2000x20x32.Idx → BitVec 1) (ix3 b r c)
      = IntOp.cmpi .sgt (Finset.fold IntOp.addi (0#32) (fun x : Fin 256 => BitVec.setWidth 32 ((W (Proc.devRef .tc main_v24) : S2000x256x20x32.Idx → BitVec 1) (ix4 b x r c))) Finset.univ) (0#32) := by
  after_reads_at
  try rfl

theorem read_v40 (b : Fin 2000) (r : Fin 20) (c : Fin 32) (p : Fin 8) :
    (StableHlo.after hostOps1_2 W (Proc.devRef .tc main_v40) : S2000x20x32x8.Idx → EReal) (ix4 b r c p)
      = Ideal.div (∑ x : Fin 256, FloatOps.uitofp (F := Ideal) .f32 ((W (Proc.devRef .tc main_v24) : S2000x256x20x32.Idx → BitVec 1) (ix4 b x r c)) * (W (Proc.devRef .tc main_v28) : S2000x256x20x8.Idx → EReal) (ix4 b x r p))
          (FloatOps.sitofp (F := Ideal) .f32 (IntOp.maxsi (Finset.fold IntOp.addi (0#32) (fun x : Fin 256 => BitVec.setWidth 32 ((W (Proc.devRef .tc main_v24) : S2000x256x20x32.Idx → BitVec 1) (ix4 b x r c))) Finset.univ) (1#32))) := by
  after_reads_at
  try rfl

theorem read_v41 (t : Fin 256) : (StableHlo.after hostOps1_2 W (Proc.devRef .tc main_v41) : S256.Idx → BitVec 32) (ix1 t) = BitVec.ofNat 32 t.val := by
  after_reads_at
  try rfl

theorem read_v42 (x : Fin 256) : (StableHlo.after hostOps1_2 W (Proc.devRef .tc main_v42) : S1x256x1x1.Idx → BitVec 32) (ix4 0 x 0 0) = BitVec.ofNat 32 x.val := by
  after_reads_at
  try rfl

theorem read_c4 : (StableHlo.after hostOps1_2 W (Proc.devRef .tc main_c_4) : S_.Idx → BitVec 32) ix0 = 256#32 := by
  after_reads_at
  try rfl

theorem read_v43 (b : Fin 2000) (x : Fin 256) (r : Fin 20) (c : Fin 32) :
    (StableHlo.after hostOps1_3 W (Proc.devRef .tc main_v43) : S2000x256x20x32.Idx → BitVec 32) (ix4 b x r c)
      = Scalar.select ((W (Proc.devRef .tc main_v24) : S2000x256x20x32.Idx → BitVec 1) (ix4 b x r c)) ((W (Proc.devRef .tc main_v42) : S1x256x1x1.Idx → BitVec 32) (ix4 0 x 0 0)) ((W (Proc.devRef .tc main_c_4) : S_.Idx → BitVec 32) ix0) := by
  after_reads_at
  try rfl

theorem read_v59 (b : Fin 2000) (r : Fin 20) (c c' : Fin 32) :
    (StableHlo.after hostOps1_5 (StableHlo.after hostOps1_4 W) (Proc.devRef .tc main_v59) : S2000x20x32x32.Idx → BitVec 32) (ix4 b r c c')
      = Scalar.select ((W (Proc.devRef .tc main_v34) : S2000x20x32.Idx → BitVec 1) (ix3 b r c'))
          (IntOp.addi (IntOp.muli (IntOp.ctpop (IntOp.xori ((W (Proc.devRef .tc main_v16) : S32.Idx → BitVec 32) (ix1 c)) ((W (Proc.devRef .tc main_v16) : S32.Idx → BitVec 32) (ix1 c')))) (257#32))
            (Finset.fold IntOp.minsi (2147483647#32) (fun x : Fin 256 => (W (Proc.devRef .tc main_v43) : S2000x256x20x32.Idx → BitVec 32) (ix4 b x r c')) Finset.univ)) (1542#32) := by
  after_reads_at
  try rfl

theorem read_v61 (b : Fin 2000) (r : Fin 20) (c : Fin 32) :
    (StableHlo.after hostOps1_7 (StableHlo.after hostOps1_6 W) (Proc.devRef .tc main_v61) : S2000x20x32.Idx → BitVec 32) (ix3 b r c)
      = Cert.KernelIdeal.Gen.modW (Finset.fold IntOp.minsi (2147483647#32) (fun x : Fin 32 => (W (Proc.devRef .tc main_v59) : S2000x20x32x32.Idx → BitVec 32) (ix4 b r c x)) Finset.univ) := by
  unfold Cert.KernelIdeal.Gen.modW
  after_reads_at
  try rfl

theorem read_v70 (b : Fin 2000) (r : Fin 20) (c : Fin 32) (p : Fin 8) :
    (StableHlo.after hostOps1_9 (StableHlo.after hostOps1_8 W) (Proc.devRef .tc main_v70) : S2000x20x32x8.Idx → EReal) (ix4 b r c p)
      = Scalar.select (α := EReal) ((W (Proc.devRef .tc main_v34) : S2000x20x32.Idx → BitVec 1) (ix3 b r c)) ((W (Proc.devRef .tc main_v40) : S2000x20x32x8.Idx → EReal) (ix4 b r c p))
          (∑ x : Fin 256, FloatOps.uitofp (F := Ideal) .f32 (IntOp.cmpi .eq ((W (Proc.devRef .tc main_v61) : S2000x20x32.Idx → BitVec 32) (ix3 b r c)) ((W (Proc.devRef .tc main_v41) : S256.Idx → BitVec 32) (ix1 x))) * (W (Proc.devRef .tc main_v9) : S2000x256x20x8.Idx → EReal) (ix4 b x r p)) := by
  after_reads_at
  try rfl

theorem read_v73 (b : Fin 2000) (y : Fin 5120) :
    (StableHlo.after hostOps1_12 W (Proc.devRef .tc main_v73) : S2000x5120.Idx → EReal) (ix2 b y) = (W (Proc.devRef .tc main_v70) : S2000x20x32x8.Idx → EReal) (ix4 b ⟨y.val / 256, by omega⟩ ⟨y.val / 8 % 32, by omega⟩ ⟨y.val % 8, by omega⟩) := by
  after_reads_at
  try rfl

end Cert.ReferenceIdeal.Gen
end
-- ==== Proof.Value.RefChain.lean ====
/- The reference's stretches of host operations put together: its encoding as a formula of the arrays after its region. -/
module

public import proofs.«01_k».proof.Proof.Value.RefMath
public import proofs.«01_k».proof.Proof.Value.RefRead
@[expose] public section
set_option maxRecDepth 8192
set_option maxHeartbeats 400000
noncomputable section
namespace Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable (W : Valuation τ sig (Elt Ideal))

/-- The encoding the reference computes after its region, entry by entry. -/
theorem ref_fde (b : Fin 2000) (y : Fin 5120) :
    (StableHlo.after (List.flatten [hostOps1, hostOps1_1, hostOps1_2, hostOps1_3, hostOps1_4, hostOps1_5, hostOps1_6, hostOps1_7, hostOps1_8, hostOps1_9, hostOps1_10, hostOps1_11, hostOps1_12]) W (Proc.devRef .tc main_v73) : S2000x5120.Idx → EReal) (ix2 b y)
      = Cert.KernelIdeal.Gen.encR (rA W b ⟨y.val / 256, by omega⟩ ⟨y.val % 8, by omega⟩) (fun c t => rmb W b ⟨y.val / 256, by omega⟩ c t = 1#1) ⟨y.val / 8 % 32, by omega⟩ := by
  generalize hr : (⟨y.val / 256, by omega⟩ : Fin 20) = r
  generalize hp : (⟨y.val % 8, by omega⟩ : Fin 8) = p
  generalize hc : (⟨y.val / 8 % 32, by omega⟩ : Fin 32) = c
  rw [List.flatten_cons, List.flatten_cons, List.flatten_cons, List.flatten_cons, List.flatten_cons, List.flatten_cons, List.flatten_cons, List.flatten_cons, List.flatten_cons, List.flatten_cons, List.flatten_cons, List.flatten_cons, List.flatten_cons, List.flatten_nil, List.append_nil, StableHlo.after_append, StableHlo.after_append, StableHlo.after_append, StableHlo.after_append, StableHlo.after_append, StableHlo.after_append, StableHlo.after_append, StableHlo.after_append, StableHlo.after_append, StableHlo.after_append, StableHlo.after_append, StableHlo.after_append]
  obtain ⟨W1, h1⟩ : ∃ V, V = StableHlo.after hostOps1 W := ⟨_, rfl⟩
  rw [← h1]
  obtain ⟨W2, h2⟩ : ∃ V, V = StableHlo.after hostOps1_1 W1 := ⟨_, rfl⟩
  rw [← h2]
  obtain ⟨W3, h3⟩ : ∃ V, V = StableHlo.after hostOps1_2 W2 := ⟨_, rfl⟩
  rw [← h3]
  obtain ⟨W4, h4⟩ : ∃ V, V = StableHlo.after hostOps1_3 W3 := ⟨_, rfl⟩
  rw [← h4]
  obtain ⟨W5, h5⟩ : ∃ V, V = StableHlo.after hostOps1_4 W4 := ⟨_, rfl⟩
  rw [← h5]
  obtain ⟨W6, h6⟩ : ∃ V, V = StableHlo.after hostOps1_5 W5 := ⟨_, rfl⟩
  rw [← h6]
  obtain ⟨W7, h7⟩ : ∃ V, V = StableHlo.after hostOps1_6 W6 := ⟨_, rfl⟩
  rw [← h7]
  obtain ⟨W8, h8⟩ : ∃ V, V = StableHlo.after hostOps1_7 W7 := ⟨_, rfl⟩
  rw [← h8]
  obtain ⟨W9, h9⟩ : ∃ V, V = StableHlo.after hostOps1_8 W8 := ⟨_, rfl⟩
  rw [← h9]
  obtain ⟨W10, h10⟩ : ∃ V, V = StableHlo.after hostOps1_9 W9 := ⟨_, rfl⟩
  rw [← h10]
  obtain ⟨W11, h11⟩ : ∃ V, V = StableHlo.after hostOps1_10 W10 := ⟨_, rfl⟩
  rw [← h11]
  obtain ⟨W12, h12⟩ : ∃ V, V = StableHlo.after hostOps1_11 W11 := ⟨_, rfl⟩
  rw [← h12]
  obtain ⟨W13, h13⟩ : ∃ V, V = StableHlo.after hostOps1_12 W12 := ⟨_, rfl⟩
  rw [← h13]
  have k_v70_12 : W12 (Proc.devRef .tc main_v70) = W10 (Proc.devRef .tc main_v70) := by rw [h12, StableHlo.after_of_writes_sub (r := main_v70) hostOps1_11 _ hostOps1_11_writes (by decide +kernel), h11, StableHlo.after_of_writes_sub (r := main_v70) hostOps1_10 _ hostOps1_10_writes (by decide +kernel)]
  have k_v24_2 : W2 (Proc.devRef .tc main_v24) = W1 (Proc.devRef .tc main_v24) := by rw [h2, StableHlo.after_of_writes_sub (r := main_v24) hostOps1_1 _ hostOps1_1_writes (by decide +kernel)]
  have k_v24_3 : W3 (Proc.devRef .tc main_v24) = W1 (Proc.devRef .tc main_v24) := by rw [h3, StableHlo.after_of_writes_sub (r := main_v24) hostOps1_2 _ hostOps1_2_writes (by decide +kernel), h2, StableHlo.after_of_writes_sub (r := main_v24) hostOps1_1 _ hostOps1_1_writes (by decide +kernel)]
  have k_v34_4 : W4 (Proc.devRef .tc main_v34) = W3 (Proc.devRef .tc main_v34) := by rw [h4, StableHlo.after_of_writes_sub (r := main_v34) hostOps1_3 _ hostOps1_3_writes (by decide +kernel)]
  have k_v34_8 : W8 (Proc.devRef .tc main_v34) = W3 (Proc.devRef .tc main_v34) := by rw [h8, StableHlo.after_of_writes_sub (r := main_v34) hostOps1_7 _ hostOps1_7_writes (by decide +kernel), h7, StableHlo.after_of_writes_sub (r := main_v34) hostOps1_6 _ hostOps1_6_writes (by decide +kernel), h6, StableHlo.after_of_writes_sub (r := main_v34) hostOps1_5 _ hostOps1_5_writes (by decide +kernel), h5, StableHlo.after_of_writes_sub (r := main_v34) hostOps1_4 _ hostOps1_4_writes (by decide +kernel), h4, StableHlo.after_of_writes_sub (r := main_v34) hostOps1_3 _ hostOps1_3_writes (by decide +kernel)]
  have k_v16_4 : W4 (Proc.devRef .tc main_v16) = W1 (Proc.devRef .tc main_v16) := by rw [h4, StableHlo.after_of_writes_sub (r := main_v16) hostOps1_3 _ hostOps1_3_writes (by decide +kernel), h3, StableHlo.after_of_writes_sub (r := main_v16) hostOps1_2 _ hostOps1_2_writes (by decide +kernel), h2, StableHlo.after_of_writes_sub (r := main_v16) hostOps1_1 _ hostOps1_1_writes (by decide +kernel)]
  have k_v40_8 : W8 (Proc.devRef .tc main_v40) = W3 (Proc.devRef .tc main_v40) := by rw [h8, StableHlo.after_of_writes_sub (r := main_v40) hostOps1_7 _ hostOps1_7_writes (by decide +kernel), h7, StableHlo.after_of_writes_sub (r := main_v40) hostOps1_6 _ hostOps1_6_writes (by decide +kernel), h6, StableHlo.after_of_writes_sub (r := main_v40) hostOps1_5 _ hostOps1_5_writes (by decide +kernel), h5, StableHlo.after_of_writes_sub (r := main_v40) hostOps1_4 _ hostOps1_4_writes (by decide +kernel), h4, StableHlo.after_of_writes_sub (r := main_v40) hostOps1_3 _ hostOps1_3_writes (by decide +kernel)]
  have k_v41_8 : W8 (Proc.devRef .tc main_v41) = W3 (Proc.devRef .tc main_v41) := by rw [h8, StableHlo.after_of_writes_sub (r := main_v41) hostOps1_7 _ hostOps1_7_writes (by decide +kernel), h7, StableHlo.after_of_writes_sub (r := main_v41) hostOps1_6 _ hostOps1_6_writes (by decide +kernel), h6, StableHlo.after_of_writes_sub (r := main_v41) hostOps1_5 _ hostOps1_5_writes (by decide +kernel), h5, StableHlo.after_of_writes_sub (r := main_v41) hostOps1_4 _ hostOps1_4_writes (by decide +kernel), h4, StableHlo.after_of_writes_sub (r := main_v41) hostOps1_3 _ hostOps1_3_writes (by decide +kernel)]
  have k_v9_8 : W8 (Proc.devRef .tc main_v9) = W1 (Proc.devRef .tc main_v9) := by rw [h8, StableHlo.after_of_writes_sub (r := main_v9) hostOps1_7 _ hostOps1_7_writes (by decide +kernel), h7, StableHlo.after_of_writes_sub (r := main_v9) hostOps1_6 _ hostOps1_6_writes (by decide +kernel), h6, StableHlo.after_of_writes_sub (r := main_v9) hostOps1_5 _ hostOps1_5_writes (by decide +kernel), h5, StableHlo.after_of_writes_sub (r := main_v9) hostOps1_4 _ hostOps1_4_writes (by decide +kernel), h4, StableHlo.after_of_writes_sub (r := main_v9) hostOps1_3 _ hostOps1_3_writes (by decide +kernel), h3, StableHlo.after_of_writes_sub (r := main_v9) hostOps1_2 _ hostOps1_2_writes (by decide +kernel), h2, StableHlo.after_of_writes_sub (r := main_v9) hostOps1_1 _ hostOps1_1_writes (by decide +kernel)]
  have e24 : ∀ x c', (W1 (Proc.devRef .tc main_v24) : S2000x256x20x32.Idx → BitVec 1) (ix4 b x r c') = rmb W b r c' x := fun x c' => by rw [h1]; exact read_v24 W b x r c'
  have e9 : ∀ x, (W1 (Proc.devRef .tc main_v9) : S2000x256x20x8.Idx → EReal) (ix4 b x r p) = rA W b r p x * Ideal.ofBits .f32 1052050675#32 := fun x => by rw [h1]; exact read_v9 W b x r p
  have e28 : ∀ x, (W2 (Proc.devRef .tc main_v28) : S2000x256x20x8.Idx → EReal) (ix4 b x r p) = _ := fun x => by rw [h2, read_v28, h1, read_v27, read_cst1, read_v9]
  obtain ⟨n, hn⟩ : ∃ n : Fin 32 → BitVec 32, ∀ c', n c' = Finset.fold IntOp.addi (0#32) (fun x : Fin 256 => BitVec.setWidth 32 (rmb W b r c' x)) Finset.univ := ⟨_, fun _ => rfl⟩
  have e34 : ∀ c', (W3 (Proc.devRef .tc main_v34) : S2000x20x32.Idx → BitVec 1) (ix3 b r c') = IntOp.cmpi .sgt (n c') (0#32) := fun c' => by rw [h3, read_v34, hn c', k_v24_2]; simp only [e24]
  have e40 : (W3 (Proc.devRef .tc main_v40) : S2000x20x32x8.Idx → EReal) (ix4 b r c p) = Ideal.div (∑ x : Fin 256, FloatOps.uitofp (F := Ideal) .f32 (rmb W b r c x) * Scalar.select (BitVec.ofBool (decide (max (rA W b r p x * Ideal.ofBits .f32 1052050675#32) (-(rA W b r p x * Ideal.ofBits .f32 1052050675#32)) < Ideal.ofBits .f32 0x7F800000#32))) (rA W b r p x * Ideal.ofBits .f32 1052050675#32) (Ideal.ofBits .f32 0xFF800000#32)) (FloatOps.sitofp (F := Ideal) .f32 (IntOp.maxsi (n c) (1#32))) := by rw [h3, read_v40, k_v24_2, hn c]; simp only [e24, e28]
  have e41 : ∀ x, (W3 (Proc.devRef .tc main_v41) : S256.Idx → BitVec 32) (ix1 x) = BitVec.ofNat 32 x.val := fun x => by rw [h3]; exact read_v41 W2 x
  have e43 : ∀ x c', (W4 (Proc.devRef .tc main_v43) : S2000x256x20x32.Idx → BitVec 32) (ix4 b x r c') = Scalar.select (rmb W b r c' x) (BitVec.ofNat 32 x.val) (256#32) := fun x c' => by rw [h4, read_v43, k_v24_3, e24, h3, read_v42, read_c4]
  have e16 : ∀ c', (W1 (Proc.devRef .tc main_v16) : S32.Idx → BitVec 32) (ix1 c') = BitVec.ofNat 32 c'.val := fun c' => by rw [h1]; exact read_v16 W c'
  have e59 : ∀ c', (W6 (Proc.devRef .tc main_v59) : S2000x20x32x32.Idx → BitVec 32) (ix4 b r c c') = Scalar.select (IntOp.cmpi .sgt (n c') (0#32)) (IntOp.addi (IntOp.muli (IntOp.ctpop (IntOp.xori (BitVec.ofNat 32 c.val) (BitVec.ofNat 32 c'.val))) (257#32)) (Finset.fold IntOp.minsi (2147483647#32) (fun x : Fin 256 => Scalar.select (rmb W b r c' x) (BitVec.ofNat 32 x.val) (256#32)) Finset.univ)) (1542#32) := fun c' => by rw [h6, h5, read_v59, k_v34_4, k_v16_4, e34, e16, e16]; simp only [e43]
  have e61 : (W8 (Proc.devRef .tc main_v61) : S2000x20x32.Idx → BitVec 32) (ix3 b r c) = Cert.KernelIdeal.Gen.modW (Finset.fold IntOp.minsi (2147483647#32) (fun c' : Fin 32 => Scalar.select (IntOp.cmpi .sgt (n c') (0#32)) (IntOp.addi (IntOp.muli (IntOp.ctpop (IntOp.xori (BitVec.ofNat 32 c.val) (BitVec.ofNat 32 c'.val))) (257#32)) (Finset.fold IntOp.minsi (2147483647#32) (fun x : Fin 256 => Scalar.select (rmb W b r c' x) (BitVec.ofNat 32 x.val) (256#32)) Finset.univ)) (1542#32)) Finset.univ) := by rw [h8, h7, read_v61]; simp only [e59]
  rw [h13, read_v73, hr, hp, hc, k_v70_12, h10, h9, read_v70, e61, k_v34_8, e34, k_v40_8, e40, k_v41_8, k_v9_8]
  simp only [e41, e9]
  exact Cert.KernelIdeal.Gen.ref_value (rA W b r p) (rmb W b r) c n hn

end Cert.ReferenceIdeal.Gen
end
-- ==== Proof.Value.RefRegion.lean ====
/- What the reference's one region leaves: its operands, widened, which in numbers changes nothing. -/
module

public import proofs.«01_k».proof.Proof.Value.RefRead
public import Idealize.ShloMosaic.Lib.Claim
public import Idealize.ShloMosaic.Lib.Pipeline.Value
@[expose] public section
set_option maxRecDepth 8192
set_option maxHeartbeats 400000
noncomputable section
namespace Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable (m : (ℓ : Loc nD τ sig) → Buf (Elt Ideal) ℓ) (ρ : Dev nD → PrngReg)

theorem out2_id (x0 : S2000x256x128.Idx → EReal) (x1 : S20x128x8.Idx → EReal) : (out0_2 (F := Ideal) x0 x1 : S2000x256x128.Idx → EReal) = x0 := by
  refine funext fun (y : S2000x256x128.Idx) => ?_
  unfold out0_2
  have hy : y = r0_0.emb y := by
    funext a; apply Fin.ext
    match a with
    | ⟨0, _⟩ => show (y 0).val = 0 + 1 * (y 0).val; omega
    | ⟨1, _⟩ => show (y 1).val = 0 + 1 * (y 1).val; omega
    | ⟨2, _⟩ => show (y 2).val = 0 + 1 * (y 2).val; omega
  conv_lhs => rw [hy]
  refine (View.canon_cons_emb r0_0 _ [] y).trans ?_
  show x0 (r0_0.emb y) = x0 y
  rw [← hy]

theorem out3_id (x0 : S2000x256x128.Idx → EReal) (x1 : S20x128x8.Idx → EReal) : (out0_3 (F := Ideal) x0 x1 : S20x128x8.Idx → EReal) = x1 := by
  refine funext fun (y : S20x128x8.Idx) => ?_
  unfold out0_3
  have hy : y = r0_1.emb y := by
    funext a; apply Fin.ext
    match a with
    | ⟨0, _⟩ => show (y 0).val = 0 + 1 * (y 0).val; omega
    | ⟨1, _⟩ => show (y 1).val = 0 + 1 * (y 1).val; omega
    | ⟨2, _⟩ => show (y 2).val = 0 + 1 * (y 2).val; omega
  conv_lhs => rw [hy]
  refine (View.canon_cons_emb r0_1 _ [] y).trans ?_
  show x1 (r0_1.emb y) = x1 y
  rw [← hy]

theorem blkr0 (c : Dev nD) (t : Fin cfg0.N) : (iblk m c 0 t : S2000x256x128.Idx → EReal) = m ((c : Thread nD τ).loc main_arg0) := by
  refine funext fun (y : S2000x256x128.Idx) => ?_
  unfold iblk
  refine (View.read_apply ..).trans ?_
  show V m c main_arg0 _ = _
  rw [V_main_arg0]
  congr 1
  funext a
  apply Fin.ext
  match a with
  | ⟨0, _⟩ => show 0 * 2000 + 1 * (y 0).val = (y 0).val; omega
  | ⟨1, _⟩ => show 0 * 256 + 1 * (y 1).val = (y 1).val; omega
  | ⟨2, _⟩ => show 0 * 128 + 1 * (y 2).val = (y 2).val; omega

theorem blkr1 (c : Dev nD) (t : Fin cfg0.N) : (iblk m c 1 t : S20x128x8.Idx → EReal) = m ((c : Thread nD τ).loc main_arg4) := by
  refine funext fun (y : S20x128x8.Idx) => ?_
  unfold iblk
  refine (View.read_apply ..).trans ?_
  show V m c main_arg4 _ = _
  rw [V_main_arg4]
  congr 1
  funext a
  apply Fin.ext
  match a with
  | ⟨0, _⟩ => show 0 * 20 + 1 * (y 0).val = (y 0).val; omega
  | ⟨1, _⟩ => show 0 * 128 + 1 * (y 1).val = (y 1).val; omega
  | ⟨2, _⟩ => show 0 * 8 + 1 * (y 2).val = (y 2).val; omega

/-- The reference's region has one point. -/
def rt0 : Fin grid0.N := ⟨0, by decide⟩

/-- The widened tokens are the tokens. -/
theorem rfinal_2 (c : Dev nD) : (dats m 0 c).arrAt 2 cfg0.N = (m ((c : Thread nD τ).loc main_arg0) : S2000x256x128.Idx → EReal) :=
  (dats m 0 c).arrAt_eq_of_cover 2 (m ((c : Thread nD τ).loc main_arg0) : S2000x256x128.Idx → EReal) (fun t hf => by
    show (cfg0.win 2).cut (grid0.coords t) ((dats m 0 c).after 2 t) = _
    rw [after0_2, out2_id, blkr0]
    refine funext fun (y : S2000x256x128.Idx) => ?_
    refine Eq.trans ?_ (View.read_apply ..).symm
    show (m ((c : Thread nD τ).loc main_arg0) : S2000x256x128.Idx → EReal) _ = (m ((c : Thread nD τ).loc main_arg0) : S2000x256x128.Idx → EReal) _
    congr 1
    funext a
    apply Fin.ext
    match a with
    | ⟨0, _⟩ => show (y 0).val = 0 * 2000 + 1 * (y 0).val; omega
    | ⟨1, _⟩ => show (y 1).val = 0 * 256 + 1 * (y 1).val; omega
    | ⟨2, _⟩ => show (y 2).val = 0 * 128 + 1 * (y 2).val; omega) fun i => by
    refine ⟨rt0, flush0_2 _, ?_⟩
    show i ∈ ((View.whole main_v0_0).slice (win0_2.rect rt0)).set
    rw [View.set_slice_whole, Rect.mem_set_unit]
    have h0 : (i 0 : Nat) < 2000 := (i 0).isLt
    have h1 : (i 1 : Nat) < 256 := (i 1).isLt
    have h2 : (i 2 : Nat) < 128 := (i 2).isLt
    intro a
    match a with
    | ⟨0, _⟩ => show 0 * 2000 ≤ (i 0 : Nat) ∧ (i 0 : Nat) < 0 * 2000 + 2000; omega
    | ⟨1, _⟩ => show 0 * 256 ≤ (i 1 : Nat) ∧ (i 1 : Nat) < 0 * 256 + 256; omega
    | ⟨2, _⟩ => show 0 * 128 ≤ (i 2 : Nat) ∧ (i 2 : Nat) < 0 * 128 + 128; omega

/-- The widened projections are the projections. -/
theorem rfinal_3 (c : Dev nD) : (dats m 0 c).arrAt 3 cfg0.N = (m ((c : Thread nD τ).loc main_arg4) : S20x128x8.Idx → EReal) :=
  (dats m 0 c).arrAt_eq_of_cover 3 (m ((c : Thread nD τ).loc main_arg4) : S20x128x8.Idx → EReal) (fun t hf => by
    show (cfg0.win 3).cut (grid0.coords t) ((dats m 0 c).after 3 t) = _
    rw [after0_3, out3_id, blkr1]
    refine funext fun (y : S20x128x8.Idx) => ?_
    refine Eq.trans ?_ (View.read_apply ..).symm
    show (m ((c : Thread nD τ).loc main_arg4) : S20x128x8.Idx → EReal) _ = (m ((c : Thread nD τ).loc main_arg4) : S20x128x8.Idx → EReal) _
    congr 1
    funext a
    apply Fin.ext
    match a with
    | ⟨0, _⟩ => show (y 0).val = 0 * 20 + 1 * (y 0).val; omega
    | ⟨1, _⟩ => show (y 1).val = 0 * 128 + 1 * (y 1).val; omega
    | ⟨2, _⟩ => show (y 2).val = 0 * 8 + 1 * (y 2).val; omega) fun i => by
    refine ⟨rt0, flush0_3 _, ?_⟩
    show i ∈ ((View.whole main_v0_1).slice (win0_3.rect rt0)).set
    rw [View.set_slice_whole, Rect.mem_set_unit]
    have h0 : (i 0 : Nat) < 20 := (i 0).isLt
    have h1 : (i 1 : Nat) < 128 := (i 1).isLt
    have h2 : (i 2 : Nat) < 8 := (i 2).isLt
    intro a
    match a with
    | ⟨0, _⟩ => show 0 * 20 ≤ (i 0 : Nat) ∧ (i 0 : Nat) < 0 * 20 + 20; omega
    | ⟨1, _⟩ => show 0 * 128 ≤ (i 1 : Nat) ∧ (i 1 : Nat) < 0 * 128 + 128; omega
    | ⟨2, _⟩ => show 0 * 8 ≤ (i 2 : Nat) ∧ (i 2 : Nat) < 0 * 8 + 8; omega

end Cert.ReferenceIdeal.Gen
end
-- ==== Proof.Value.RefRun.lean ====
/- The run of the reference: its first result from its arguments. -/
module

public import proofs.«01_k».proof.Proof.Value.RefChain
public import proofs.«01_k».proof.Proof.Value.RefRegion
public import proofs.«01_k».proof.Proof.Value.KernelEnc
@[expose] public section
set_option maxRecDepth 8192
set_option maxHeartbeats 400000
noncomputable section
namespace Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable (m : (ℓ : Loc nD τ sig) → Buf (Elt Ideal) ℓ) (ρ : Dev nD → PrngReg)

/-- The encoding as a whole array, from the reference's arguments on core `c`. -/
def rfdeOf (c : Dev nD) (y : S2000x5120.Idx) : EReal :=
  Cert.KernelIdeal.Gen.encA (m ((c : Thread nD τ).loc main_arg0)) (m ((c : Thread nD τ).loc main_arg1)) (m ((c : Thread nD τ).loc main_arg2)) (m ((c : Thread nD τ).loc main_arg3)) (m ((c : Thread nD τ).loc main_arg4))
    (y 0) ⟨(y 1).val / 256, by have : (y 1).val < 5120 := (y 1).isLt; omega⟩ ⟨(y 1).val / 8 % 32, by omega⟩ ⟨(y 1).val % 8, by omega⟩

theorem andi_one (a b : BitVec 1) : IntOp.andi a b = 1#1 ↔ a = 1#1 ∧ b = 1#1 := by
  revert a b; decide

theorem eq_code (a : BitVec 32) (c : Fin 32) : IntOp.cmpi .eq a (BitVec.ofNat 32 c.val) = 1#1 ↔ a.toNat = c.val := by
  have hc := c.isLt
  have e : IntOp.cmpi .eq a (BitVec.ofNat 32 c.val) = BitVec.ofBool (decide (a = BitVec.ofNat 32 c.val)) := by
    unfold IntOp.cmpi; congr 1
  have hq : a = BitVec.ofNat 32 c.val ↔ a.toNat = c.val := by
    constructor
    · intro h; rw [h, BitVec.toNat_ofNat]; exact Nat.mod_eq_of_lt (by omega)
    · intro h; rw [← h, BitVec.ofNat_toNat, BitVec.setWidth_eq]
  rw [e, ← hq]
  by_cases hh : a = BitVec.ofNat 32 c.val
  · rw [decide_eq_true hh]; exact ⟨fun _ => hh, fun _ => rfl⟩
  · rw [decide_eq_false hh]; exact ⟨fun h' => absurd h' (by decide), fun h' => absurd h' hh⟩

/-- What the reference's host operations read after its region. -/
theorem rA_eq (W : Valuation τ sig (Elt Ideal)) (x : S2000x256x128.Idx → EReal) (s : S2000x256x4.Idx → EReal) (w : S20x128x8.Idx → EReal)
    (h0 : W (Proc.devRef .tc main_v0_0) = x) (h1 : W (Proc.devRef .tc main_arg1) = s) (h2 : W (Proc.devRef .tc main_v0_1) = w) (b : Fin 2000) (r : Fin 20) (p : Fin 8) :
    rA W b r p = Cert.KernelIdeal.Gen.projA x s w b r p := by
  funext t
  unfold rA Cert.KernelIdeal.Gen.projA
  refine Finset.sum_congr rfl fun k _ => ?_
  rw [h0, h1, h2]
  have e : (⟨k.val / 32 * 32 + k.val % 32, by omega⟩ : Fin 128) = k := Fin.ext (by show k.val / 32 * 32 + k.val % 32 = k.val; omega)
  rw [e]
  exact mul_comm _ _

theorem rmb_eq (W : Valuation τ sig (Elt Ideal)) (len : S2000.Idx → BitVec 32) (codes : S2000x256x20.Idx → BitVec 32)
    (h2 : W (Proc.devRef .tc main_arg2) = len) (h3 : W (Proc.devRef .tc main_arg3) = codes) (b : Fin 2000) (r : Fin 20) :
    (fun (c : Fin 32) (t : Fin 256) => rmb W b r c t = 1#1) = Cert.KernelIdeal.Gen.seg len codes b r := by
  funext c t
  unfold rmb Cert.KernelIdeal.Gen.seg
  rw [h2, h3]
  exact propext ((andi_one _ _).trans (and_congr Iff.rfl (eq_code _ c)))

/-- The reference's first result. -/
theorem rtail (c : Dev nD) : Pipeline.afterTail₀ cfgs (dats m) 0 (V0 m) [hostOps1, hostOps1_1, hostOps1_2, hostOps1_3, hostOps1_4, hostOps1_5, hostOps1_6, hostOps1_7, hostOps1_8, hostOps1_9, hostOps1_10, hostOps1_11, hostOps1_12] c main_v73 = rfdeOf m c := by
  refine funext fun (y : S2000x5120.Idx) => ?_
  unfold Pipeline.afterTail₀
  obtain ⟨b, q, rfl⟩ : ∃ (b : Fin 2000) (q : Fin 5120), y = ix2 b q := ⟨y 0, y 1, by funext a; fin_cases a <;> rfl⟩
  generalize hW : Pipeline.withArrays (cfgs 0).spec c (V0 m c) (fun w => (dats m 0 c).arrAt w (cfgs 0).N) = W
  have h0 : W (Proc.devRef .tc main_v0_0) = (m ((c : Thread nD τ).loc main_arg0) : S2000x256x128.Idx → EReal) := by
    rw [← hW]; exact (Pipeline.withArrays_arr _ (by exact (by decide : Function.Injective (Pipeline.arrRef spec0))) c (V0 m c) (fun w => (dats m 0 c).arrAt w (cfgs 0).N) 2).trans (rfinal_2 m c)
  have h4 : W (Proc.devRef .tc main_v0_1) = (m ((c : Thread nD τ).loc main_arg4) : S20x128x8.Idx → EReal) := by
    rw [← hW]; exact (Pipeline.withArrays_arr _ (by exact (by decide : Function.Injective (Pipeline.arrRef spec0))) c (V0 m c) (fun w => (dats m 0 c).arrAt w (cfgs 0).N) 3).trans (rfinal_3 m c)
  have h1 : W (Proc.devRef .tc main_arg1) = (m ((c : Thread nD τ).loc main_arg1) : S2000x256x4.Idx → EReal) := by
    rw [← hW]; exact (Pipeline.withArrays_of_ne _ c (V0 m c) _ main_arg1 (by exact (by decide : ∀ w, Pipeline.arrRef spec0 w ≠ main_arg1))).trans (V_main_arg1 m c)
  have h2 : W (Proc.devRef .tc main_arg2) = (m ((c : Thread nD τ).loc main_arg2) : S2000.Idx → BitVec 32) := by
    rw [← hW]; exact (Pipeline.withArrays_of_ne _ c (V0 m c) _ main_arg2 (by exact (by decide : ∀ w, Pipeline.arrRef spec0 w ≠ main_arg2))).trans (V_main_arg2 m c)
  have h3 : W (Proc.devRef .tc main_arg3) = (m ((c : Thread nD τ).loc main_arg3) : S2000x256x20.Idx → BitVec 32) := by
    rw [← hW]; exact (Pipeline.withArrays_of_ne _ c (V0 m c) _ main_arg3 (by exact (by decide : ∀ w, Pipeline.arrRef spec0 w ≠ main_arg3))).trans (V_main_arg3 m c)
  refine (ref_fde W b q).trans ?_
  rw [rA_eq W _ _ _ h0 h1 h4, rmb_eq W _ _ h2 h3]
  rfl

/-- The run of the reference leaves the encodings in its first result. -/
theorem rresult : θ_run defs (onTc (τ := τ) (main (F := Ideal))) ⟨m, fun _ => 0, ρ⟩ (fun r => ∀ c : Dev nD, r.2.mem ((c.tc : Thread nD τ).loc main_v73) = rfdeOf m c) :=
  (θ_run defs _ _).mono (fun _ h c => ((h c).2 main_v73 (Pipeline.mem_restRefs_of main_v73 (by decide) (by decide))).trans (rtail m c)) (run_main m ρ)

end Cert.ReferenceIdeal.Gen
end
-- ==== Proof.lean ====
module

public import proofs.«01_k».proof.Defs
public import proofs.«01_k».proof.Proof.Gen.Kernel
public import proofs.«01_k».proof.Proof.Gen.KernelIdeal
public import proofs.«01_k».proof.Proof.Kernel.Frame
public import proofs.«01_k».proof.Proof.Gen.ReferenceIdeal
public import proofs.«01_k».proof.Proof.Gen.ReferenceIdeal.Frame
public import proofs.«01_k».proof.Proof.Gen.On_fde_only
public import proofs.«01_k».proof.Proof.Gen.Pre_codes_in_range
public import proofs.«01_k».proof.Proof.Value.KernelRun
public import proofs.«01_k».proof.Proof.Value.RefRun
public import Idealize.ShloMosaic.Lib.ReduceAll
public import Idealize.ShloMosaic.Adequacy
public import Idealize.ShloMosaic.Init

@[expose] public section

noncomputable section

namespace Cert.Proof

open Idealize.ShloMosaic Idealize.SL.Sem Cert.Kernel

/-- A word that is at least 0 and below 32, as a signed number, is below 32 as a natural number. -/
theorem code_lt (x : BitVec 32) (h : IntOp.andi (IntOp.cmpi .sge x 0#32) (IntOp.cmpi .slt x 32#32) = 1#1) : x.toNat < 32 := by
  obtain ⟨h1, h2⟩ := (Cert.ReferenceIdeal.Gen.andi_one _ _).mp h
  have e : ∀ b : Bool, BitVec.ofBool b = 1#1 → b = true := by decide
  have h1' : (0#32 : BitVec 32).sle x = true := e _ h1
  have h2' : x.slt 32#32 = true := e _ h2
  rw [BitVec.sle_eq_decide, decide_eq_true_iff] at h1'
  rw [BitVec.slt_eq_decide, decide_eq_true_iff] at h2'
  have h3 : (0#32 : BitVec 32).toInt = 0 := rfl
  have h4 : (32#32 : BitVec 32).toInt = 32 := rfl
  rw [h3] at h1'
  rw [h4] at h2'
  rw [BitVec.toInt_eq_toNat_cond] at h1' h2'
  have := x.isLt
  split at h1' <;> omega

/-- The precondition gives codes below 32. -/
theorem codes_of_pre (m : (ℓ : Loc Cert.KernelIdeal.nD Cert.KernelIdeal.τ Cert.KernelIdeal.sig) → Buf (Elt Ideal) ℓ)
    (h : Pre_KernelIdeal_codes_in_range (hPre_codes_in_range := Cert.Pre_codes_in_range.Gen.facts) m) (c : Dev Cert.KernelIdeal.nD) (y : Cert.KernelIdeal.S2000x256x20.Idx) :
    ((m ((c.tc : Thread Cert.KernelIdeal.nD Cert.KernelIdeal.τ).loc Cert.KernelIdeal.main_arg3) : Cert.KernelIdeal.S2000x256x20.Idx → BitVec 32) y).toNat < 32 := by
  have h1 := congrFun (h c) (fun a => a.elim0)
  haveI : Subsingleton Cert.Pre_codes_in_range.S_.Idx := ⟨fun a b => funext fun j => j.elim0⟩
  exact code_lt _ (Host.reduce_andi_all _ _ _ _ _ h1 y)

/-- The two programs leave the same encodings. -/
theorem algebraic : algebraic_KernelIdeal_ReferenceIdeal_on_fde_only_pre_codes_in_range (hKernelIdeal := Cert.KernelIdeal.Gen.facts) (hReferenceIdeal := Cert.ReferenceIdeal.Gen.facts)
    (hPre_codes_in_range := Cert.Pre_codes_in_range.Gen.facts) (hOn_fde_only := Cert.On_fde_only.Gen.facts) := by
  intro m g m' g' hpre hargs
  have none : ∀ b : BitVec 1, b = 0#1 → b = 1#1 → False := by decide
  refine ⟨fun c => Cert.KernelIdeal.Gen.fdeOf m c, fun c => m ((c.tc : Thread Cert.KernelIdeal.nD Cert.KernelIdeal.τ).loc Cert.KernelIdeal.main_v5_1), fun c => m ((c.tc : Thread Cert.KernelIdeal.nD Cert.KernelIdeal.τ).loc Cert.KernelIdeal.main_v5_2), ?_, ?_⟩
  · refine (θ_run _ _ _).mono (fun r h c => ?_) (θ_run_and (Cert.KernelIdeal.Gen.vresult m g trivial (codes_of_pre m hpre)) (Cert.KernelIdeal.Gen.vunchanged m g trivial))
    exact ⟨fun i _ => congrFun (h.1 c) i, fun i hi => (none _ rfl hi).elim, fun i hi => (none _ rfl hi).elim, h.2 c⟩
  · refine (θ_run _ _ _).mono (fun r h c => ?_) (θ_run_and (Cert.ReferenceIdeal.Gen.rresult m' g') (Cert.ReferenceIdeal.Gen.frame m' g'))
    have e : Cert.ReferenceIdeal.Gen.rfdeOf m' c = Cert.KernelIdeal.Gen.fdeOf m c := by
      obtain ⟨h0, h1, h2, h3, h4⟩ := hargs c
      unfold Cert.ReferenceIdeal.Gen.rfdeOf Cert.KernelIdeal.Gen.fdeOf
      rw [h0, h1, h2, h3, h4]
    exact ⟨fun i _ => congrFun ((h.1 c).trans e) i, fun i hi => (none _ rfl hi).elim, fun i hi => (none _ rfl hi).elim, h.2.1 c⟩

theorem claim : Cert.Claim := ⟨Cert.Kernel.Gen.facts, Cert.KernelIdeal.Gen.facts, Cert.ReferenceIdeal.Gen.facts, Cert.Pre_codes_in_range.Gen.facts, Cert.On_fde_only.Gen.facts,
  fun m ρ _ => Cert.Kernel.Gen.frame m ρ trivial,
  fun m ρ _ => Cert.KernelIdeal.Gen.vframe m ρ trivial,
  fun m ρ _ => Cert.KernelIdeal.Gen.vframe m ρ trivial,
  fun m ρ _ => Cert.ReferenceIdeal.Gen.frame m ρ,
  fun m ρ _ => Cert.ReferenceIdeal.Gen.frame m ρ,
  IdealRules.bf16_pack.statement _,
  algebraic⟩

end Cert.Proof

end
